-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_grouped : Cert.Pre_grouped.Facts] (m : (ℓ : Loc Cert.Kernel2.nD Cert.Kernel2.τ Cert.Kernel2.sig) → Buf (Elt Bits) ℓ) : Prop :=
  ∀ c : Dev Cert.Kernel2.nD,
    (Cert.Pre_grouped.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_grouped : Cert.Pre_grouped.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_grouped.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_grouped [hPre_grouped : Cert.Pre_grouped.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_grouped.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_grouped : Cert.Pre_grouped.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_grouped : Cert.Pre_grouped.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_grouped [hReference2Ideal : Cert.Reference2Ideal.Facts] [hPre_grouped : Cert.Pre_grouped.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_grouped m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_grouped : Cert.Pre_grouped.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_v40) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v60)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v60) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_grouped : Cert.Pre_grouped.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_grouped := hPre_grouped)
    ∧ quiescent_Kernel2Ideal (hKernel2Ideal := hKernel2Ideal) (hPre_grouped := hPre_grouped)
    ∧ quiescent_Reference2Ideal (hReference2Ideal := hReference2Ideal)
    ∧ quiescent_Reference2Ideal_pre_grouped (hReference2Ideal := hReference2Ideal) (hPre_grouped := hPre_grouped)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_grouped := hPre_grouped)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16x2048x256 : Shape := ⟨3, ![16, 2048, 256]⟩
abbrev S_ : Shape := ⟨0, ![]⟩

class Facts : Prop where
  bcast_S_S16x2048x256 : S_.BroadcastsInDim S16x2048x256 (![] : Fin 0 → Fin S16x2048x256.rank)

variable [Facts]

def fn {F : FTy → Type} [FloatOps F] (main_arg0 : FVec F S16x2048x256 .f32) (main_arg1 : FVec F S16x2048x256 .f32) (main_arg2 : FVec F S16x2048x256 .f32) : IVec S16x2048x256 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_v3 : FVec F S16x2048x256 .f32 := Host.absf main_arg1
  let main_cst_0 : FVec F S_ .f32 := constant S_ .f32 0x7F800000#32
  let main_v4 : FVec F S16x2048x256 .f32 := broadcastInDim S16x2048x256 ![] bcast_S_S16x2048x256 main_cst_0
  let main_v5 : IVec S16x2048x256 1 := cmpf .olt main_v3 main_v4
  let main_v6 : IVec S16x2048x256 1 := andi main_v2 main_v5
  let main_v7 : FVec F S16x2048x256 .f32 := Host.absf main_arg2
  let main_cst_1 : FVec F S_ .f32 := constant S_ .f32 0x7F800000#32
  let main_v8 : FVec F S16x2048x256 .f32 := broadcastInDim S16x2048x256 ![] bcast_S_S16x2048x256 main_cst_1
  let main_v9 : IVec S16x2048x256 1 := cmpf .olt main_v7 main_v8
  let main_v10 : IVec S16x2048x256 1 := andi main_v6 main_v9
  main_v10
-- ==== Pre_finite4.lean ====
abbrev S16x2048x384 : Shape := ⟨3, ![16, 2048, 384]⟩
abbrev S16x2048x6 : Shape := ⟨3, ![16, 2048, 6]⟩
abbrev S_ : Shape := ⟨0, ![]⟩
abbrev S16x2048x6x64 : Shape := ⟨4, ![16, 2048, 6, 64]⟩

class Facts : Prop where
  bcast_S_S16x2048x384 : S_.BroadcastsInDim S16x2048x384 (![] : Fin 0 → Fin S16x2048x384.rank)
  bcast_S16x2048x6_S16x2048x6x64_0_1_2 : S16x2048x6.BroadcastsInDim S16x2048x6x64 (![0, 1, 2] : Fin 3 → Fin S16x2048x6x64.rank)
  shapeCasts_S16x2048x6x64_S16x2048x384 : S16x2048x6x64.ShapeCasts S16x2048x384

variable [Facts]

def fn {F : FTy → Type} [FloatOps F] (main_arg0 : FVec F S16x2048x384 .f32) (main_arg1 : FVec F S16x2048x384 .f32) (main_arg2 : FVec F S16x2048x384 .f32) (main_arg3 : FVec F S16x2048x6 .f32) : IVec S16x2048x384 1 :=
  let main_v0 : FVec F S16x2048x384 .f32 := Host.absf main_arg0
  let main_cst : FVec F S_ .f32 := constant S_ .f32 0x7F800000#32
  let main_v1 : FVec F S16x2048x384 .f32 := broadcastInDim S16x2048x384 ![] bcast_S_S16x2048x384 main_cst
  let main_v2 : IVec S16x2048x384 1 := cmpf .olt main_v0 main_v1
  let main_v3 : FVec F S16x2048x384 .f32 := Host.absf main_arg1
  let main_cst_0 : FVec F S_ .f32 := constant S_ .f32 0x7F800000#32
  let main_v4 : FVec F S16x2048x384 .f32 := broadcastInDim S16x2048x384 ![] bcast_S_S16x2048x384 main_cst_0
  let main_v5 : IVec S16x2048x384 1 := cmpf .olt main_v3 main_v4
  let main_v6 : IVec S16x2048x384 1 := andi main_v2 main_v5
  let main_v7 : FVec F S16x2048x384 .f32 := Host.absf main_arg2
  let main_cst_1 : FVec F S_ .f32 := constant S_ .f32 0x7F800000#32
  let main_v8 : FVec F S16x2048x384 .f32 := broadcastInDim S16x2048x384 ![] bcast_S_S16x2048x384 main_cst_1
  let main_v9 : IVec S16x2048x384 1 := cmpf .olt main_v7 main_v8
  let main_v10 : IVec S16x2048x384 1 := andi main_v6 main_v9
  let main_v11 : FVec F S16x2048x6x64 .f32 := broadcastInDim S16x2048x6x64 ![0, 1, 2] bcast_S16x2048x6_S16x2048x6x64_0_1_2 main_arg3
  let main_v12 : FVec F S16x2048x384 .f32 := shapeCast S16x2048x384 main_v11 shapeCasts_S16x2048x6x64_S16x2048x384
  let main_v13 : FVec F S16x2048x384 .f32 := Host.absf main_v12
  let main_cst_2 : FVec F S_ .f32 := constant S_ .f32 0x7F800000#32
  let main_v14 : FVec F S16x2048x384 .f32 := broadcastInDim S16x2048x384 ![] bcast_S_S16x2048x384 main_cst_2
  let main_v15 : IVec S16x2048x384 1 := cmpf .olt main_v13 main_v14
  let main_v16 : IVec S16x2048x384 1 := andi main_v10 main_v15
  main_v16
-- ==== Pre_grouped.lean ====
abbrev S316 : Shape := ⟨1, ![316]⟩
abbrev S1 : Shape := ⟨1, ![1]⟩
abbrev S161792x1024 : Shape := ⟨2, ![161792, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S316 : S_.BroadcastsInDim S316 (![] : Fin 0 → Fin S316.rank)
  bcast_S_S1 : S_.BroadcastsInDim S1 (![] : Fin 0 → Fin S1.rank)
  bcast_S1_S316_0 : S1.BroadcastsInDim S316 (![0] : Fin 1 → Fin S316.rank)

variable [Facts]

def fn {F : FTy → Type} [FloatOps F] (main_arg0 : IVec S316 32) (main_arg1 : IVec S1 32) (main_arg2 : FVec F S161792x1024 .f32) (main_arg3 : FVec F S4x32x1024x2048 .f32) (main_arg4 : FVec F S4x32x2048 .f32) (main_arg5 : FVec F S4x32x1024x1024 .f32) (main_arg6 : FVec F S4x32x1024 .f32) : IVec S316 1 :=
  let main_c : IVec S_ 32 := constantI S_ 32 0#32
  let main_v0 : IVec S316 32 := broadcastInDim S316 ![] bcast_S_S316 main_c
  let main_v1 : IVec S316 1 := cmpi .sge main_arg0 main_v0
  let main_c_0 : IVec S_ 32 := constantI S_ 32 32#32
  let main_v2 : IVec S316 32 := broadcastInDim S316 ![] bcast_S_S316 main_c_0
  let main_v3 : IVec S316 1 := cmpi .slt main_arg0 main_v2
  let main_v4 : IVec S316 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S316 1 := broadcastInDim S316 ![0] bcast_S1_S316_0 main_v6
  let main_v8 : IVec S316 1 := andi main_v4 main_v7
  main_v8
-- ==== Kernel.lean ====
abbrev S16x2048x256 : Shape := ⟨3, ![16, 2048, 256]⟩
abbrev S_ : Shape := ⟨0, ![]⟩
abbrev S16x2048x768 : Shape := ⟨3, ![16, 2048, 768]⟩
abbrev S1x256x256 : Shape := ⟨3, ![1, 256, 256]⟩
abbrev S1x2048x256 : Shape := ⟨3, ![1, 2048, 256]⟩
abbrev S256x256 : Shape := ⟨2, ![256, 256]⟩
abbrev S1x256x128 : Shape := ⟨3, ![1, 256, 128]⟩
abbrev S256x128 : Shape := ⟨2, ![256, 128]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S_, .f32⟩
  | .hbm, ⟨4, _⟩ => ⟨S16x2048x256, .f32⟩
  | .hbm, ⟨5, _⟩ => ⟨S16x2048x256, .f32⟩
  | .hbm, ⟨6, _⟩ => ⟨S16x2048x768, .f32⟩
  | .hbm, ⟨7, _⟩ => ⟨S16x2048x768, .bf16⟩
  | .hbm, ⟨8, _⟩ => ⟨S16x2048x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x256, .bf16⟩
  | .local _ .vmem, ⟨7, _⟩ => ⟨S1x256x256, .bf16⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v51 : BitVec 32 := Scalar.muli arg1 c256_i32
  v51
def k0_off1 (i : grid0.Coords) : Fin 3 → Nat :=
  let c0_24 : Index := 0#32
  let arg1 : BitVec 32 := BitVec.ofNat 32 (i 1).val
  let c256_i32 : BitVec 32 := 256#32
  let v51 : BitVec 32 := Scalar.muli arg1 c256_i32
  let v52 : BitVec 32 := v51
  let v53 : Index := Scalar.indexCast v52
  let c0_25 : Index := 0#32
  ![0, v53.toNat, 0]
def k0_off2 (i : grid0.Coords) : Fin 3 → Nat :=
  let c0_30 : Index := 0#32
  let arg1 : BitVec 32 := BitVec.ofNat 32 (i 1).val
  let c256_i32 : BitVec 32 := 256#32
  let v51 : BitVec 32 := Scalar.muli arg1 c256_i32
  let v52 : BitVec 32 := v51
  let v61 : Index := Scalar.indexCast v52
  let c128_31 : Index := 128#32
  ![0, v61.toNat, 128]
@[reducible] def k0_t1_loop (i : grid0.Coords) : Scf.Loop 32 :=
  let c0_i32 : BitVec 32 := 0#32
  let arg1 : BitVec 32 := BitVec.ofNat 32 (i 1).val
  let v201 : BitVec 32 := Scalar.subi arg1 c0_i32
  let c1_i32 : BitVec 32 := 1#32
  let v203 : BitVec 32 := Scalar.divsi v201 c1_i32
  let v204 : BitVec 32 := Scalar.muli v203 c1_i32
  let v205 : BitVec 32 := Scalar.addi c0_i32 v204
  let c1_i32_76 : BitVec 32 := 1#32
  ⟨c0_i32, v205, c1_i32_76⟩
def k0_mult2 (i : grid0.Coords) (k0_t1 : Fin (k0_t1_loop i).trips) : BitVec 32 :=
  let arg1 : BitVec 32 := BitVec.ofNat 32 (i 1).val
  let c1_i32_83 : BitVec 32 := 1#32
  let v221 : BitVec 32 := Scalar.subi arg1 c1_i32_83
  let c0_i32 : BitVec 32 := 0#32
  let c1_i32_76 : BitVec 32 := 1#32
  let arg6 : BitVec 32 := Scf.iv c0_i32 c1_i32_76 k0_t1
  let v222 : BitVec 32 := Scalar.subi v221 arg6
  let c256_i32_84 : BitVec 32 := 256#32
  let v223 : BitVec 32 := Scalar.muli v222 c256_i32_84
  v223
def k0_off3 (i : grid0.Coords) (k0_t1 : Fin (k0_t1_loop i).trips) : Fin 3 → Nat :=
  let c0_85 : Index := 0#32
  let arg1 : BitVec 32 := BitVec.ofNat 32 (i 1).val
  let c1_i32_83 : BitVec 32 := 1#32
  let v221 : BitVec 32 := Scalar.subi arg1 c1_i32_83
  let c0_i32 : BitVec 32 := 0#32
  let c1_i32_76 : BitVec 32 := 1#32
  let arg6 : BitVec 32 := Scf.iv c0_i32 c1_i32_76 k0_t1
  let v222 : BitVec 32 := Scalar.subi v221 arg6
  let c256_i32_84 : BitVec 32 := 256#32
  let v223 : BitVec 32 := Scalar.muli v222 c256_i32_84
  let v224 : BitVec 32 := v223
  let v225 : Index := Scalar.indexCast v224
  let c0_86 : Index := 0#32
  ![0, v225.toNat, 0]
def k0_off4 (i : grid0.Coords) (k0_t1 : Fin (k0_t1_loop i).trips) : Fin 3 → Nat :=
  let c0_91 : Index := 0#32
  let arg1 : BitVec 32 := BitVec.ofNat 32 (i 1).val
  let c1_i32_83 : BitVec 32 := 1#32
  let v221 : BitVec 32 := Scalar.subi arg1 c1_i32_83
  let c0_i32 : BitVec 32 := 0#32
  let c1_i32_76 : BitVec 32 := 1#32
  let arg6 : BitVec 32 := Scf.iv c0_i32 c1_i32_76 k0_t1
  let v222 : BitVec 32 := Scalar.subi v221 arg6
  let c256_i32_84 : BitVec 32 := 256#32
  let v223 : BitVec 32 := Scalar.muli v222 c256_i32_84
  let v224 : BitVec 32 := v223
  let v233 : Index := Scalar.indexCast v224
  let c128_92 : Index := 128#32
  ![0, v233.toNat, 128]
@[reducible] def k0_t2_loop (i : grid0.Coords) : Scf.Loop 32 :=
  let c0_i32 : BitVec 32 := 0#32
  let arg1 : BitVec 32 := BitVec.ofNat 32 (i 1).val
  let v201 : BitVec 32 := Scalar.subi arg1 c0_i32
  let c1_i32 : BitVec 32 := 1#32
  let v203 : BitVec 32 := Scalar.divsi v201 c1_i32
  let v204 : BitVec 32 := Scalar.muli v203 c1_i32
  let v205 : BitVec 32 := Scalar.addi c0_i32 v204
  let v202 : BitVec 32 := Scalar.addi c0_i32 v201
  let c1_i32_77 : BitVec 32 := 1#32
  ⟨v205, v202, c1_i32_77⟩
def k0_mult3 (i : grid0.Coords) (k0_t2 : Fin (k0_t2_loop i).trips) : BitVec 32 :=
  let arg1 : BitVec 32 := BitVec.ofNat 32 (i 1).val
  let c1_i32_83 : BitVec 32 := 1#32
  let v221 : BitVec 32 := Scalar.subi arg1 c1_i32_83
  let c0_i32 : BitVec 32 := 0#32
  let v201 : BitVec 32 := Scalar.subi arg1 c0_i32
  let c1_i32 : BitVec 32 := 1#32
  let v203 : BitVec 32 := Scalar.divsi v201 c1_i32
  let v204 : BitVec 32 := Scalar.muli v203 c1_i32
  let v205 : BitVec 32 := Scalar.addi c0_i32 v204
  let c1_i32_77 : BitVec 32 := 1#32
  let arg6 : BitVec 32 := Scf.iv v205 c1_i32_77 k0_t2
  let v222 : BitVec 32 := Scalar.subi v221 arg6
  let c256_i32_84 : BitVec 32 := 256#32
  let v223 : BitVec 32 := Scalar.muli v222 c256_i32_84
  v223
def k0_off5 (i : grid0.Coords) (k0_t2 : Fin (k0_t2_loop i).trips) : Fin 3 → Nat :=
  let c0_85 : Index := 0#32
  let arg1 : BitVec 32 := BitVec.ofNat 32 (i 1).val
  let c1_i32_83 : BitVec 32 := 1#32
  let v221 : BitVec 32 := Scalar.subi arg1 c1_i32_83
  let c0_i32 : BitVec 32 := 0#32
  let v201 : BitVec 32 := Scalar.subi arg1 c0_i32
  let c1_i32 : BitVec 32 := 1#32
  let v203 : BitVec 32 := Scalar.divsi v201 c1_i32
  let v204 : BitVec 32 := Scalar.muli v203 c1_i32
  let v205 : BitVec 32 := Scalar.addi c0_i32 v204
  let c1_i32_77 : BitVec 32 := 1#32
  let arg6 : BitVec 32 := Scf.iv v205 c1_i32_77 k0_t2
  let v222 : BitVec 32 := Scalar.subi v221 arg6
  let c256_i32_84 : BitVec 32 := 256#32
  let v223 : BitVec 32 := Scalar.muli v222 c256_i32_84
  let v224 : BitVec 32 := v223
  let v225 : Index := Scalar.indexCast v224
  let c0_86 : Index := 0#32
  ![0, v225.toNat, 0]
def k0_off6 (i : grid0.Coords) (k0_t2 : Fin (k0_t2_loop i).trips) : Fin 3 → Nat :=
  let c0_91 : Index := 0#32
  let arg1 : BitVec 32 := BitVec.ofNat 32 (i 1).val
  let c1_i32_83 : BitVec 32 := 1#32
  let v221 : BitVec 32 := Scalar.subi arg1 c1_i32_83
  let c0_i32 : BitVec 32 := 0#32
  let v201 : BitVec 32 := Scalar.subi arg1 c0_i32
  let c1_i32 : BitVec 32 := 1#32
  let v203 : BitVec 32 := Scalar.divsi v201 c1_i32
  let v204 : BitVec 32 := Scalar.muli v203 c1_i32
  let v205 : BitVec 32 := Scalar.addi c0_i32 v204
  let c1_i32_77 : BitVec 32 := 1#32
  let arg6 : BitVec 32 := Scf.iv v205 c1_i32_77 k0_t2
  let v222 : BitVec 32 := Scalar.subi v221 arg6
  let c256_i32_84 : BitVec 32 := 256#32
  let v223 : BitVec 32 := Scalar.muli v222 c256_i32_84
  let v224 : BitVec 32 := v223
  let v233 : Index := Scalar.indexCast v224
  let c128_92 : Index := 128#32
  ![0, v233.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2048x256 : Shape := ⟨3, ![16, 2048, 256]⟩
abbrev S16x2048x4x64 : Shape := ⟨4, ![16, 2048, 4, 64]⟩
abbrev S16x4x2048x64 : Shape := ⟨4, ![16, 4, 2048, 64]⟩
abbrev S2048 : Shape := ⟨1, ![2048]⟩
abbrev S16x4x2048x2048 : Shape := ⟨4, ![16, 4, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x4x64, .f32⟩
  | .hbm, ⟨4, _⟩ => ⟨S16x4x2048x64, .f32⟩
  | .hbm, ⟨5, _⟩ => ⟨S16x2048x4x64, .f32⟩
  | .hbm, ⟨6, _⟩ => ⟨S16x4x2048x64, .f32⟩
  | .hbm, ⟨7, _⟩ => ⟨S16x2048x4x64, .f32⟩
  | .hbm, ⟨8, _⟩ => ⟨S16x4x2048x64, .f32⟩
  | .hbm, ⟨9, _⟩ => ⟨S2048, .i32⟩
  | .hbm, ⟨10, _⟩ => ⟨S16x4x2048x2048, .f32⟩
  | .hbm, ⟨11, _⟩ => ⟨S_, .f32⟩
  | .hbm, ⟨12, _⟩ => ⟨S16x4x2048x2048, .f32⟩
  | .hbm, ⟨13, _⟩ => ⟨S16x4x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S16x4x2048x2048, .f32⟩
  | .hbm, ⟨20, _⟩ => ⟨S16x4x2048x2048, .f32⟩
  | .hbm, ⟨21, _⟩ => ⟨S_, .f32⟩
  | .hbm, ⟨22, _⟩ => ⟨S16x4x2048x2048, .f32⟩
  | .hbm, ⟨23, _⟩ => ⟨S16x4x2048x2048, .f32⟩
  | .hbm, ⟨24, _⟩ => ⟨S16x4x2048x2048, .f32⟩
  | .hbm, ⟨25, _⟩ => ⟨S16x4x2048x2048, .f32⟩
  | .hbm, ⟨26, _⟩ => ⟨S16x4x2048x2048, .i1⟩
  | .hbm, ⟨27, _⟩ => ⟨S16x4x2048x2048, .f32⟩
  | .hbm, ⟨28, _⟩ => ⟨S16x4x2048x2048, .f32⟩
  | .hbm, ⟨29, _⟩ => ⟨S16x4x2048x2048, .f32⟩
  | .hbm, ⟨30, _⟩ => ⟨S16x4x2048x2048, .f32⟩
  | .hbm, ⟨31, _⟩ => ⟨S16x4x2048x2048, .f32⟩
  | .hbm, ⟨32, _⟩ => ⟨S16x4x2048x2048, .f32⟩
  | .hbm, ⟨33, _⟩ => ⟨S16x4x2048x2048, .f32⟩
  | .hbm, ⟨34, _⟩ => ⟨S16x4x2048x2048, .f32⟩
  | .hbm, ⟨35, _⟩ => ⟨S16x4x2048x2048, .f32⟩
  | .hbm, ⟨36, _⟩ => ⟨S_, .f32⟩
  | .hbm, ⟨37, _⟩ => ⟨S_, .f32⟩
  | .hbm, ⟨38, _⟩ => ⟨S16x4x2048x2048, .i1⟩
  | .hbm, ⟨39, _⟩ => ⟨S16x4x2048x2048, .f32⟩
  | .hbm, ⟨40, _⟩ => ⟨S16x4x2048x2048, .f32⟩
  | .hbm, ⟨41, _⟩ => ⟨S_, .f32⟩
  | .hbm, ⟨42, _⟩ => ⟨S_, .f32⟩
  | .hbm, ⟨43, _⟩ => ⟨S16x4x2048x2048, .f32⟩
  | .hbm, ⟨44, _⟩ => ⟨S16x4x2048x2048, .f32⟩
  | .hbm, ⟨45, _⟩ => ⟨S16x4x2048x2048, .f32⟩
  | .hbm, ⟨46, _⟩ => ⟨S_, .f32⟩
  | .hbm, ⟨47, _⟩ => ⟨S16x4x2048x2048, .f32⟩
  | .hbm, ⟨48, _⟩ => ⟨S16x4x2048x2048, .f32⟩
  | .hbm, ⟨49, _⟩ => ⟨S16x4x2048x2048, .f32⟩
  | .hbm, ⟨50, _⟩ => ⟨S16x4x2048x2048, .f32⟩
  | .hbm, ⟨51, _⟩ => ⟨S16x4x2048x2048, .i1⟩
  | .hbm, ⟨52, _⟩ => ⟨S16x4x2048x2048, .f32⟩
  | .hbm, ⟨53, _⟩ => ⟨S16x4x2048x2048, .f32⟩
  | .hbm, ⟨54, _⟩ => ⟨S16x4x2048x2048, .f32⟩
  | .hbm, ⟨55, _⟩ => ⟨S16x4x2048x2048, .f32⟩
  | .hbm, ⟨56, _⟩ => ⟨S16x4x2048x2048, .f32⟩
  | .hbm, ⟨57, _⟩ => ⟨S16x4x2048x2048, .f32⟩
  | .hbm, ⟨58, _⟩ => ⟨S16x4x2048x2048, .f32⟩
  | .hbm, ⟨59, _⟩ => ⟨S16x4x2048x2048, .f32⟩
  | .hbm, ⟨60, _⟩ => ⟨S16x4x2048x2048, .f32⟩
  | .hbm, ⟨61, _⟩ => ⟨S16x4x2048x2048, .f32⟩
  | .hbm, ⟨62, _⟩ => ⟨S16x4x2048x2048, .f32⟩
  | .hbm, ⟨63, _⟩ => ⟨S_, .f32⟩
  | .hbm, ⟨64, _⟩ => ⟨S_, .f32⟩
  | .hbm, ⟨65, _⟩ => ⟨S16x4x2048x2048, .i1⟩
  | .hbm, ⟨66, _⟩ => ⟨S16x4x2048x2048, .f32⟩
  | .hbm, ⟨67, _⟩ => ⟨S16x4x2048x2048, .f32⟩
  | .hbm, ⟨68, _⟩ => ⟨S16x4x2048x64, .f32⟩
  | .hbm, ⟨69, _⟩ => ⟨S16x2048x4x64, .f32⟩
  | .hbm, ⟨70, _⟩ => ⟨S16x2048x256, .f32⟩
  | .hbm, ⟨71, _⟩ => ⟨S16x2048x256, .bf16⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Kernel2.lean ====
abbrev S316 : Shape := ⟨1, ![316]⟩
abbrev S1 : Shape := ⟨1, ![1]⟩
abbrev S161792x1024 : Shape := ⟨2, ![161792, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x1x2048 : Shape := ⟨4, ![4, 32, 1, 2048]⟩
abbrev S4x32x1x1024 : Shape := ⟨4, ![4, 32, 1, 1024]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S161792x1024, .f32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S4x32x1x2048, .f32⟩
  | .hbm, ⟨6, _⟩ => ⟨S4x32x1x1024, .f32⟩
  | .hbm, ⟨7, _⟩ => ⟨S161792x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S316, .i32⟩
  | .local _ .smem, ⟨1, _⟩ => ⟨S1, .i32⟩
  | _, _ => ⟨S161792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![316], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_1 : BitVec 32 := 0#32
  let v9 : BitVec 32 := Scalar.maxsi v8 c0_i32_1
  let v10 : Index := Scalar.indexCast v9
  ![v10.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond3 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S316.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S316.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S316.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S316.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S316 : Shape := ⟨1, ![316]⟩
abbrev S1 : Shape := ⟨1, ![1]⟩
abbrev S161792x1024 : Shape := ⟨2, ![161792, 1024]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S316x512x1024 : Shape := ⟨3, ![316, 512, 1024]⟩
abbrev S1x32x1024x2048 : Shape := ⟨4, ![1, 32, 1024, 2048]⟩
abbrev S32x1024x2048 : Shape := ⟨3, ![32, 1024, 2048]⟩
abbrev S316x1 : Shape := ⟨2, ![316, 1]⟩
abbrev S316x1024x2048 : Shape := ⟨3, ![316, 1024, 2048]⟩
abbrev S316x512x2048 : Shape := ⟨3, ![316, 512, 2048]⟩
abbrev S1x32x2048 : Shape := ⟨3, ![1, 32, 2048]⟩
abbrev S32x2048 : Shape := ⟨2, ![32, 2048]⟩
abbrev S316x2048 : Shape := ⟨2, ![316, 2048]⟩
abbrev S316x1x2048 : Shape := ⟨3, ![316, 1, 2048]⟩
abbrev S_ : Shape := ⟨0, ![]⟩
abbrev S1x32x1024x1024 : Shape := ⟨4, ![1, 32, 1024, 1024]⟩
abbrev S32x1024x1024 : Shape := ⟨3, ![32, 1024, 1024]⟩
abbrev S316x1024x1024 : Shape := ⟨3, ![316, 1024, 1024]⟩
abbrev S1x32x1024 : Shape := ⟨3, ![1, 32, 1024]⟩
abbrev S32x1024 : Shape := ⟨2, ![32, 1024]⟩
abbrev S316x1024 : Shape := ⟨2, ![316, 1024]⟩
abbrev S316x1x1024 : Shape := ⟨3, ![316, 1, 1024]⟩
abbrev S316x1x1 : Shape := ⟨3, ![316, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S316, .i32⟩
  | .hbm, ⟨1, _⟩ => ⟨S1, .i32⟩
  | .hbm, ⟨2, _⟩ => ⟨S161792x1024, .f32⟩
  | .hbm, ⟨3, _⟩ => ⟨S4x32x1024x2048, .f32⟩
  | .hbm, ⟨4, _⟩ => ⟨S4x32x2048, .f32⟩
  | .hbm, ⟨5, _⟩ => ⟨S4x32x1024x1024, .f32⟩
  | .hbm, ⟨6, _⟩ => ⟨S4x32x1024, .f32⟩
  | .hbm, ⟨7, _⟩ => ⟨S316x512x1024, .f32⟩
  | .hbm, ⟨8, _⟩ => ⟨S1x32x1024x2048, .f32⟩
  | .hbm, ⟨9, _⟩ => ⟨S32x1024x2048, .f32⟩
  | .hbm, ⟨10, _⟩ => ⟨S316x1, .i32⟩
  | .hbm, ⟨11, _⟩ => ⟨S316x1024x2048, .f32⟩
  | .hbm, ⟨12, _⟩ => ⟨S316x512x2048, .f32⟩
  | .hbm, ⟨13, _⟩ => ⟨S1x32x2048, .f32⟩
  | .hbm, ⟨14, _⟩ => ⟨S32x2048, .f32⟩
  | .hbm, ⟨15, _⟩ => ⟨S316x1, .i32⟩
  | .hbm, ⟨16, _⟩ => ⟨S316x2048, .f32⟩
  | .hbm, ⟨17, _⟩ => ⟨S316x1x2048, .f32⟩
  | .hbm, ⟨18, _⟩ => ⟨S316x512x2048, .f32⟩
  | .hbm, ⟨19, _⟩ => ⟨S316x512x2048, .f32⟩
  | .hbm, ⟨20, _⟩ => ⟨S316x512x1024, .f32⟩
  | .hbm, ⟨21, _⟩ => ⟨S316x512x1024, .f32⟩
  | .hbm, ⟨22, _⟩ => ⟨S_, .f32⟩
  | .hbm, ⟨23, _⟩ => ⟨S316x512x1024, .f32⟩
  | .hbm, ⟨24, _⟩ => ⟨S316x512x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S316x512x1024, .f32⟩
  | .hbm, ⟨29, _⟩ => ⟨S316x512x1024, .f32⟩
  | .hbm, ⟨30, _⟩ => ⟨S_, .f32⟩
  | .hbm, ⟨31, _⟩ => ⟨S316x512x1024, .f32⟩
  | .hbm, ⟨32, _⟩ => ⟨S316x512x1024, .f32⟩
  | .hbm, ⟨33, _⟩ => ⟨S_, .f32⟩
  | .hbm, ⟨34, _⟩ => ⟨S316x512x1024, .f32⟩
  | .hbm, ⟨35, _⟩ => ⟨S316x512x1024, .f32⟩
  | .hbm, ⟨36, _⟩ => ⟨S_, .f32⟩
  | .hbm, ⟨37, _⟩ => ⟨S316x512x1024, .f32⟩
  | .hbm, ⟨38, _⟩ => ⟨S316x512x1024, .f32⟩
  | .hbm, ⟨39, _⟩ => ⟨S316x512x1024, .f32⟩
  | .hbm, ⟨40, _⟩ => ⟨S316x512x1024, .f32⟩
  | .hbm, ⟨41, _⟩ => ⟨S_, .f32⟩
  | .hbm, ⟨42, _⟩ => ⟨S316x512x1024, .f32⟩
  | .hbm, ⟨43, _⟩ => ⟨S316x512x1024, .f32⟩
  | .hbm, ⟨44, _⟩ => ⟨S_, .f32⟩
  | .hbm, ⟨45, _⟩ => ⟨S316x512x1024, .f32⟩
  | .hbm, ⟨46, _⟩ => ⟨S316x512x1024, .f32⟩
  | .hbm, ⟨47, _⟩ => ⟨S316x512x1024, .f32⟩
  | .hbm, ⟨48, _⟩ => ⟨S316x512x1024, .f32⟩
  | .hbm, ⟨49, _⟩ => ⟨S1x32x1024x1024, .f32⟩
  | .hbm, ⟨50, _⟩ => ⟨S32x1024x1024, .f32⟩
  | .hbm, ⟨51, _⟩ => ⟨S316x1, .i32⟩
  | .hbm, ⟨52, _⟩ => ⟨S316x1024x1024, .f32⟩
  | .hbm, ⟨53, _⟩ => ⟨S316x512x1024, .f32⟩
  | .hbm, ⟨54, _⟩ => ⟨S1x32x1024, .f32⟩
  | .hbm, ⟨55, _⟩ => ⟨S32x1024, .f32⟩
  | .hbm, ⟨56, _⟩ => ⟨S316x1, .i32⟩
  | .hbm, ⟨57, _⟩ => ⟨S316x1024, .f32⟩
  | .hbm, ⟨58, _⟩ => ⟨S316x1x1024, .f32⟩
  | .hbm, ⟨59, _⟩ => ⟨S316x512x1024, .f32⟩
  | .hbm, ⟨60, _⟩ => ⟨S316x512x1024, .f32⟩
  | .hbm, ⟨61, _⟩ => ⟨S316, .i32⟩
  | .hbm, ⟨62, _⟩ => ⟨S_, .i32⟩
  | .hbm, ⟨63, _⟩ => ⟨S316, .i32⟩
  | .hbm, ⟨64, _⟩ => ⟨S316, .i1⟩
  | .hbm, ⟨65, _⟩ => ⟨S316x1x1, .i1⟩
  | .hbm, ⟨66, _⟩ => ⟨S_, .f32⟩
  | .hbm, ⟨67, _⟩ => ⟨S_, .f32⟩
  | .hbm, ⟨68, _⟩ => ⟨S316x512x1024, .i1⟩
  | .hbm, ⟨69, _⟩ => ⟨S316x512x1024, .f32⟩
  | .hbm, ⟨70, _⟩ => ⟨S316x512x1024, .f32⟩
  | .hbm, ⟨71, _⟩ => ⟨S161792x1024, .f32⟩
  | _, _ => ⟨S316, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_cst_1 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call3_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call4_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x6144 : Shape := ⟨2, ![16, 6144]⟩
abbrev S4x1024 : Shape := ⟨2, ![4, 1024]⟩
abbrev S4x1024x3078 : Shape := ⟨3, ![4, 1024, 3078]⟩
abbrev S4x6 : Shape := ⟨2, ![4, 6]⟩
abbrev S1x1024x3078 : Shape := ⟨3, ![1, 1024, 3078]⟩
abbrev S1024x3078 : Shape := ⟨2, ![1024, 3078]⟩
abbrev S1024x1024 : Shape := ⟨2, ![1024, 1024]⟩
abbrev S_ : Shape := ⟨0, ![]⟩
abbrev S1024x256 : Shape := ⟨2, ![1024, 256]⟩
abbrev S1024x384 : Shape := ⟨2, ![1024, 384]⟩
abbrev S1024x3072 : Shape := ⟨2, ![1024, 3072]⟩
abbrev S1x1024x6 : Shape := ⟨3, ![1, 1024, 6]⟩
abbrev S1024x6 : Shape := ⟨2, ![1024, 6]⟩
abbrev S1024x128 : Shape := ⟨2, ![1024, 128]⟩
abbrev S1x6 : Shape := ⟨2, ![1, 6]⟩
abbrev S6 : Shape := ⟨1, ![6]⟩
abbrev S1x128 : Shape := ⟨2, ![1, 128]⟩
abbrev S16x1x6144 : Shape := ⟨3, ![16, 1, 6144]⟩
abbrev S1x1024 : Shape := ⟨2, ![1, 1024]⟩
abbrev S1024 : Shape := ⟨1, ![1024]⟩
abbrev S16x2048x768 : Shape := ⟨3, ![16, 2048, 768]⟩
abbrev S16x2048x1152 : Shape := ⟨3, ![16, 2048, 1152]⟩
abbrev S16x2048x128 : Shape := ⟨3, ![16, 2048, 128]⟩
abbrev S1x512x1024 : Shape := ⟨3, ![1, 512, 1024]⟩
abbrev S1x1x1024 : Shape := ⟨3, ![1, 1, 1024]⟩
abbrev S1x512x768 : Shape := ⟨3, ![1, 512, 768]⟩
abbrev S1x512x1152 : Shape := ⟨3, ![1, 512, 1152]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1024x1152 : Shape := ⟨2, ![1024, 1152]⟩
abbrev S512x1152 : Shape := ⟨2, ![512, 1152]⟩
abbrev S512x128 : Shape := ⟨2, ![512, 128]⟩

abbrev nBuf : Space → Nat
  | .hbm => 44
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S4x1024, .f32⟩
  | .hbm, ⟨3, _⟩ => ⟨S4x1024x3078, .f32⟩
  | .hbm, ⟨4, _⟩ => ⟨S4x6, .f32⟩
  | .hbm, ⟨5, _⟩ => ⟨S1x1024x3078, .f32⟩
  | .hbm, ⟨6, _⟩ => ⟨S1024x3078, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S1024x3072, .f32⟩
  | .hbm, ⟨23, _⟩ => ⟨S1024x3072, .bf16⟩
  | .hbm, ⟨24, _⟩ => ⟨S1x1024x6, .f32⟩
  | .hbm, ⟨25, _⟩ => ⟨S1024x6, .f32⟩
  | .hbm, ⟨26, _⟩ => ⟨S_, .f32⟩
  | .hbm, ⟨27, _⟩ => ⟨S_, .f32⟩
  | .hbm, ⟨28, _⟩ => ⟨S1024x128, .f32⟩
  | .hbm, ⟨29, _⟩ => ⟨S1024x128, .bf16⟩
  | .hbm, ⟨30, _⟩ => ⟨S1x6, .f32⟩
  | .hbm, ⟨31, _⟩ => ⟨S6, .f32⟩
  | .hbm, ⟨32, _⟩ => ⟨S1x6, .f32⟩
  | .hbm, ⟨33, _⟩ => ⟨S_, .f32⟩
  | .hbm, ⟨34, _⟩ => ⟨S_, .f32⟩
  | .hbm, ⟨35, _⟩ => ⟨S1x128, .f32⟩
  | .hbm, ⟨36, _⟩ => ⟨S16x1x6144, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S16x2048x768, .bf16⟩
  | .hbm, ⟨41, _⟩ => ⟨S16x2048x1152, .bf16⟩
  | .hbm, ⟨42, _⟩ => ⟨S16x2048x1152, .bf16⟩
  | .hbm, ⟨43, _⟩ => ⟨S16x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1024x128, .bf16⟩
  | .local _ .vmem, ⟨9, _⟩ => ⟨S1x128, .f32⟩
  | .local _ .vmem, ⟨10, _⟩ => ⟨S1x512x768, .bf16⟩
  | .local _ .vmem, ⟨11, _⟩ => ⟨S1x512x768, .bf16⟩
  | .local _ .vmem, ⟨12, _⟩ => ⟨S1x512x1152, .bf16⟩
  | .local _ .vmem, ⟨13, _⟩ => ⟨S1x512x1152, .bf16⟩
  | .local _ .vmem, ⟨14, _⟩ => ⟨S1x512x1152, .bf16⟩
  | .local _ .vmem, ⟨15, _⟩ => ⟨S1x512x1152, .bf16⟩
  | .local _ .vmem, ⟨16, _⟩ => ⟨S1x512x128, .f32⟩
  | .local _ .vmem, ⟨17, _⟩ => ⟨S1x512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_call1_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1152 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16x2048x1024 : Shape := ⟨3, ![16, 2048, 1024]⟩
abbrev S16x6144 : Shape := ⟨2, ![16, 6144]⟩
abbrev S4x1024 : Shape := ⟨2, ![4, 1024]⟩
abbrev S4x1024x3078 : Shape := ⟨3, ![4, 1024, 3078]⟩
abbrev S4x6 : Shape := ⟨2, ![4, 6]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩
abbrev S1x1024x3078 : Shape := ⟨3, ![1, 1024, 3078]⟩
abbrev S1024x3078 : Shape := ⟨2, ![1024, 3078]⟩
abbrev S16x2048x3078 : Shape := ⟨3, ![16, 2048, 3078]⟩
abbrev S16x2048x6 : Shape := ⟨3, ![16, 2048, 6]⟩
abbrev S1x6 : Shape := ⟨2, ![1, 6]⟩
abbrev S6 : Shape := ⟨1, ![6]⟩
abbrev S1x1x6 : Shape := ⟨3, ![1, 1, 6]⟩
abbrev S16x2048x128 : Shape := ⟨3, ![16, 2048, 128]⟩
abbrev S16x2048x256 : Shape := ⟨3, ![16, 2048, 256]⟩
abbrev S16x2048x768 : Shape := ⟨3, ![16, 2048, 768]⟩
abbrev S16x2048x384 : Shape := ⟨3, ![16, 2048, 384]⟩
abbrev S16x2048x1152 : Shape := ⟨3, ![16, 2048, 1152]⟩

abbrev nBuf : Space → Nat
  | .hbm => 83
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S4x1024, .f32⟩
  | .hbm, ⟨3, _⟩ => ⟨S4x1024x3078, .f32⟩
  | .hbm, ⟨4, _⟩ => ⟨S4x6, .f32⟩
  | .hbm, ⟨5, _⟩ => ⟨S16x1024, .f32⟩
  | .hbm, ⟨6, _⟩ => ⟨S16x1x1024, .f32⟩
  | .hbm, ⟨7, _⟩ => ⟨S16x1024, .f32⟩
  | .hbm, ⟨8, _⟩ => ⟨S16x1x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S1x1024x3078, .f32⟩
  | .hbm, ⟨35, _⟩ => ⟨S1024x3078, .f32⟩
  | .hbm, ⟨36, _⟩ => ⟨S16x2048x3078, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x6, .f32⟩
  | .hbm, ⟨44, _⟩ => ⟨S1x6, .f32⟩
  | .hbm, ⟨45, _⟩ => ⟨S6, .f32⟩
  | .hbm, ⟨46, _⟩ => ⟨S1x1x6, .f32⟩
  | .hbm, ⟨47, _⟩ => ⟨S16x2048x6, .f32⟩
  | .hbm, ⟨48, _⟩ => ⟨S16x2048x6, .f32⟩
  | .hbm, ⟨49, _⟩ => ⟨S_, .i32⟩
  | .hbm, ⟨50, _⟩ => ⟨S_, .f32⟩
  | .hbm, ⟨51, _⟩ => ⟨S16x2048x128, .f32⟩
  | .hbm, ⟨52, _⟩ => ⟨S16x2048x128, .f32⟩
  | .hbm, ⟨53, _⟩ => ⟨S_, .f32⟩
  | .hbm, ⟨54, _⟩ => ⟨S16x2048x128, .f32⟩
  | .hbm, ⟨55, _⟩ => ⟨S16x2048x128, .f32⟩
  | .hbm, ⟨56, _⟩ => ⟨S16x2048x128, .f32⟩
  | .hbm, ⟨57, _⟩ => ⟨S16x2048x128, .f32⟩
  | .hbm, ⟨58, _⟩ => ⟨S16x2048x128, .i1⟩
  | .hbm, ⟨59, _⟩ => ⟨S16x2048x128, .f32⟩
  | .hbm, ⟨60, _⟩ => ⟨S16x2048x128, .f32⟩
  | .hbm, ⟨61, _⟩ => ⟨S16x2048x128, .f32⟩
  | .hbm, ⟨62, _⟩ => ⟨S16x2048x128, .f32⟩
  | .hbm, ⟨63, _⟩ => ⟨S16x2048x128, .f32⟩
  | .hbm, ⟨64, _⟩ => ⟨S16x2048x128, .f32⟩
  | .hbm, ⟨65, _⟩ => ⟨S16x2048x128, .f32⟩
  | .hbm, ⟨66, _⟩ => ⟨S16x2048x128, .f32⟩
  | .hbm, ⟨67, _⟩ => ⟨S16x2048x128, .f32⟩
  | .hbm, ⟨68, _⟩ => ⟨S16x2048x256, .f32⟩
  | .hbm, ⟨69, _⟩ => ⟨S16x2048x256, .f32⟩
  | .hbm, ⟨70, _⟩ => ⟨S16x2048x256, .f32⟩
  | .hbm, ⟨71, _⟩ => ⟨S16x2048x768, .f32⟩
  | .hbm, ⟨72, _⟩ => ⟨S16x2048x768, .bf16⟩
  | .hbm, ⟨73, _⟩ => ⟨S16x2048x384, .f32⟩
  | .hbm, ⟨74, _⟩ => ⟨S16x2048x384, .f32⟩
  | .hbm, ⟨75, _⟩ => ⟨S16x2048x384, .f32⟩
  | .hbm, ⟨76, _⟩ => ⟨S16x2048x1152, .f32⟩
  | .hbm, ⟨77, _⟩ => ⟨S16x2048x1152, .bf16⟩
  | .hbm, ⟨78, _⟩ => ⟨S16x2048x384, .f32⟩
  | .hbm, ⟨79, _⟩ => ⟨S16x2048x384, .f32⟩
  | .hbm, ⟨80, _⟩ => ⟨S16x2048x384, .f32⟩
  | .hbm, ⟨81, _⟩ => ⟨S16x2048x1152, .f32⟩
  | .hbm, ⟨82, _⟩ => ⟨S16x2048x1152, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c : Ref sig .tc := ⟨.hbm, 49, rfl⟩
abbrev main_call0_v0 : Ref sig .tc := ⟨.hbm, 50, rfl⟩
abbrev main_v39 : Ref sig .tc := ⟨.hbm, 51, rfl⟩
abbrev main_call1_v0 : Ref sig .tc := ⟨.hbm, 52, rfl⟩
abbrev main_call1_call0_cst : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_v8 : Ref sig .tc := ⟨.hbm, 62, rfl⟩
abbrev main_call1_call0_v9 : Ref sig .tc := ⟨.hbm, 63, rfl⟩
abbrev main_call1_call0_v10 : Ref sig .tc := ⟨.hbm, 64, rfl⟩
abbrev main_call1_call0_v11 : Ref sig .tc := ⟨.hbm, 65, rfl⟩
abbrev main_call1_v1 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Kernel4.lean ====
abbrev S16x2048x384 : Shape := ⟨3, ![16, 2048, 384]⟩
abbrev S16x2048x6 : Shape := ⟨3, ![16, 2048, 6]⟩
abbrev S_ : Shape := ⟨0, ![]⟩
abbrev S16x2048x1152 : Shape := ⟨3, ![16, 2048, 1152]⟩
abbrev S16x2048x6x128 : Shape := ⟨4, ![16, 2048, 6, 128]⟩
abbrev S16x2048x768 : Shape := ⟨3, ![16, 2048, 768]⟩
abbrev S1x512x384 : Shape := ⟨3, ![1, 512, 384]⟩
abbrev S1x2048x384 : Shape := ⟨3, ![1, 2048, 384]⟩
abbrev S1x512x768 : Shape := ⟨3, ![1, 512, 768]⟩
abbrev S1x2048x768 : Shape := ⟨3, ![1, 2048, 768]⟩
abbrev S2048x768 : Shape := ⟨2, ![2048, 768]⟩
abbrev S512x512 : Shape := ⟨2, ![512, 512]⟩
abbrev S1x2048x128 : Shape := ⟨3, ![1, 2048, 128]⟩
abbrev S2048x128 : Shape := ⟨2, ![2048, 128]⟩
abbrev S1x512x128 : Shape := ⟨3, ![1, 512, 128]⟩
abbrev S512x128 : Shape := ⟨2, ![512, 128]⟩
abbrev S512x1 : Shape := ⟨2, ![512, 1]⟩
abbrev S512 : Shape := ⟨1, ![512]⟩
abbrev S512x384 : Shape := ⟨2, ![512, 384]⟩

abbrev nBuf : Space → Nat
  | .hbm => 92
  | .vmem => 14
  | .smem => 0
  | _ => 0

abbrev bufTy : (tb : Table) → Fin (tcTables nBuf tb) → BufTy
  | .hbm, ⟨0, _⟩ => ⟨S16x2048x384, .f32⟩
  | .hbm, ⟨1, _⟩ => ⟨S16x2048x384, .f32⟩
  | .hbm, ⟨2, _⟩ => ⟨S16x2048x384, .f32⟩
  | .hbm, ⟨3, _⟩ => ⟨S16x2048x6, .f32⟩
  | .hbm, ⟨4, _⟩ => ⟨S_, .f32⟩
  | .hbm, ⟨5, _⟩ => ⟨S16x2048x384, .f32⟩
  | .hbm, ⟨6, _⟩ => ⟨S16x2048x384, .f32⟩
  | .hbm, ⟨7, _⟩ => ⟨S16x2048x1152, .f32⟩
  | .hbm, ⟨8, _⟩ => ⟨S16x2048x1152, .bf16⟩
  | .hbm, ⟨9, _⟩ => ⟨S16x2048x6x128, .i32⟩
  | .hbm, ⟨10, _⟩ => ⟨S16x2048x6x128, .i32⟩
  | .hbm, ⟨11, _⟩ => ⟨S_, .i32⟩
  | .hbm, ⟨12, _⟩ => ⟨S16x2048x6x128, .i32⟩
  | .hbm, ⟨13, _⟩ => ⟨S16x2048x6x128, .i32⟩
  | .hbm, ⟨14, _⟩ => ⟨S_, .i32⟩
  | .hbm, ⟨15, _⟩ => ⟨S16x2048x6x128, .i32⟩
  | .hbm, ⟨16, _⟩ => ⟨S16x2048x6x128, .i1⟩
  | .hbm, ⟨17, _⟩ => ⟨S_, .i32⟩
  | .hbm, ⟨18, _⟩ => ⟨S_, .i32⟩
  | .hbm, ⟨19, _⟩ => ⟨S16x2048x6x128, .i32⟩
  | .hbm, ⟨20, _⟩ => ⟨S16x2048x6x128, .i32⟩
  | .hbm, ⟨21, _⟩ => ⟨S16x2048x6x128, .i32⟩
  | .hbm, ⟨22, _⟩ => ⟨S16x2048x6x128, .i32⟩
  | .hbm, ⟨23, _⟩ => ⟨S16x2048x6x128, .i32⟩
  | .hbm, ⟨24, _⟩ => ⟨S16x2048x6x128, .f32⟩
  | .hbm, ⟨25, _⟩ => ⟨S16x2048x6x128, .bf16⟩
  | .hbm, ⟨26, _⟩ => ⟨S16x2048x6x128, .f32⟩
  | .hbm, ⟨27, _⟩ => ⟨S16x2048x6x128, .f32⟩
  | .hbm, ⟨28, _⟩ => ⟨S16x2048x6x128, .bf16⟩
  | .hbm, ⟨29, _⟩ => ⟨S16x2048x6x128, .f32⟩
  | .hbm, ⟨30, _⟩ => ⟨S16x2048x6x128, .f32⟩
  | .hbm, ⟨31, _⟩ => ⟨S16x2048x6x128, .bf16⟩
  | .hbm, ⟨32, _⟩ => ⟨S16x2048x6x128, .f32⟩
  | .hbm, ⟨33, _⟩ => ⟨S16x2048x6x128, .f32⟩
  | .hbm, ⟨34, _⟩ => ⟨S_, .i32⟩
  | .hbm, ⟨35, _⟩ => ⟨S16x2048x6x128, .i32⟩
  | .hbm, ⟨36, _⟩ => ⟨S16x2048x6x128, .i1⟩
  | .hbm, ⟨37, _⟩ => ⟨S_, .i32⟩
  | .hbm, ⟨38, _⟩ => ⟨S16x2048x6x128, .i32⟩
  | .hbm, ⟨39, _⟩ => ⟨S16x2048x6x128, .i1⟩
  | .hbm, ⟨40, _⟩ => ⟨S16x2048x6x128, .i1⟩
  | .hbm, ⟨41, _⟩ => ⟨S_, .f32⟩
  | .hbm, ⟨42, _⟩ => ⟨S_, .f32⟩
  | .hbm, ⟨43, _⟩ => ⟨S16x2048x6x128, .f32⟩
  | .hbm, ⟨44, _⟩ => ⟨S16x2048x6x128, .f32⟩
  | .hbm, ⟨45, _⟩ => ⟨S16x2048x6x128, .f32⟩
  | .hbm, ⟨46, _⟩ => ⟨S_, .i32⟩
  | .hbm, ⟨47, _⟩ => ⟨S16x2048x6x128, .i32⟩
  | .hbm, ⟨48, _⟩ => ⟨S16x2048x6x128, .i1⟩
  | .hbm, ⟨49, _⟩ => ⟨S_, .i32⟩
  | .hbm, ⟨50, _⟩ => ⟨S16x2048x6x128, .i32⟩
  | .hbm, ⟨51, _⟩ => ⟨S16x2048x6x128, .i1⟩
  | .hbm, ⟨52, _⟩ => ⟨S16x2048x6x128, .i1⟩
  | .hbm, ⟨53, _⟩ => ⟨S_, .f32⟩
  | .hbm, ⟨54, _⟩ => ⟨S_, .f32⟩
  | .hbm, ⟨55, _⟩ => ⟨S16x2048x6x128, .f32⟩
  | .hbm, ⟨56, _⟩ => ⟨S16x2048x6x128, .f32⟩
  | .hbm, ⟨57, _⟩ => ⟨S16x2048x6x128, .f32⟩
  | .hbm, ⟨58, _⟩ => ⟨S_, .i32⟩
  | .hbm, ⟨59, _⟩ => ⟨S16x2048x6x128, .i32⟩
  | .hbm, ⟨60, _⟩ => ⟨S16x2048x6x128, .i1⟩
  | .hbm, ⟨61, _⟩ => ⟨S16x2048x6x128, .f32⟩
  | .hbm, ⟨62, _⟩ => ⟨S16x2048x6x128, .f32⟩
  | .hbm, ⟨63, _⟩ => ⟨S_, .i32⟩
  | .hbm, ⟨64, _⟩ => ⟨S16x2048x6x128, .i32⟩
  | .hbm, ⟨65, _⟩ => ⟨S16x2048x6x128, .i1⟩
  | .hbm, ⟨66, _⟩ => ⟨S16x2048x6x128, .f32⟩
  | .hbm, ⟨67, _⟩ => ⟨S16x2048x6x128, .f32⟩
  | .hbm, ⟨68, _⟩ => ⟨S16x2048x6x128, .f32⟩
  | .hbm, ⟨69, _⟩ => ⟨S_, .i32⟩
  | .hbm, ⟨70, _⟩ => ⟨S16x2048x6x128, .i32⟩
  | .hbm, ⟨71, _⟩ => ⟨S16x2048x6x128, .i1⟩
  | .hbm, ⟨72, _⟩ => ⟨S16x2048x6x128, .f32⟩
  | .hbm, ⟨73, _⟩ => ⟨S_, .i32⟩
  | .hbm, ⟨74, _⟩ => ⟨S16x2048x6x128, .i32⟩
  | .hbm, ⟨75, _⟩ => ⟨S16x2048x6x128, .i1⟩
  | .hbm, ⟨76, _⟩ => ⟨S16x2048x6x128, .f32⟩
  | .hbm, ⟨77, _⟩ => ⟨S16x2048x6x128, .f32⟩
  | .hbm, ⟨78, _⟩ => ⟨S_, .i32⟩
  | .hbm, ⟨79, _⟩ => ⟨S16x2048x6x128, .i32⟩
  | .hbm, ⟨80, _⟩ => ⟨S16x2048x6x128, .i1⟩
  | .hbm, ⟨81, _⟩ => ⟨S16x2048x6x128, .f32⟩
  | .hbm, ⟨82, _⟩ => ⟨S_, .i32⟩
  | .hbm, ⟨83, _⟩ => ⟨S16x2048x6x128, .i32⟩
  | .hbm, ⟨84, _⟩ => ⟨S16x2048x6x128, .i1⟩
  | .hbm, ⟨85, _⟩ => ⟨S16x2048x6x128, .f32⟩
  | .hbm, ⟨86, _⟩ => ⟨S16x2048x6x128, .f32⟩
  | .hbm, ⟨87, _⟩ => ⟨S16x2048x6x128, .bf16⟩
  | .hbm, ⟨88, _⟩ => ⟨S16x2048x768, .bf16⟩
  | .hbm, ⟨89, _⟩ => ⟨S16x2048x6x128, .bf16⟩
  | .hbm, ⟨90, _⟩ => ⟨S16x2048x768, .bf16⟩
  | .hbm, ⟨91, _⟩ => ⟨S16x2048x384, .bf16⟩
  | .local _ .vmem, ⟨0, _⟩ => ⟨S1x512x384, .bf16⟩
  | .local _ .vmem, ⟨1, _⟩ => ⟨S1x512x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S1x2048x384, .bf16⟩
  | .local _ .vmem, ⟨5, _⟩ => ⟨S1x2048x384, .bf16⟩
  | .local _ .vmem, ⟨6, _⟩ => ⟨S1x512x768, .bf16⟩
  | .local _ .vmem, ⟨7, _⟩ => ⟨S1x512x768, .bf16⟩
  | .local _ .vmem, ⟨8, _⟩ => ⟨S1x2048x768, .bf16⟩
  | .local _ .vmem, ⟨9, _⟩ => ⟨S1x2048x768, .bf16⟩
  | .local _ .vmem, ⟨10, _⟩ => ⟨S1x512x384, .bf16⟩
  | .local _ .vmem, ⟨11, _⟩ => ⟨S1x512x384, .bf16⟩
  | .local _ .vmem, ⟨12, _⟩ => ⟨S2048x768, .bf16⟩
  | .local _ .vmem, ⟨13, _⟩ => ⟨S2048x768, .bf16⟩
  | _, _ => ⟨S16x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_cst_10 : Ref sig .tc := ⟨.hbm, 54, rfl⟩
abbrev main_call2_v0 : Ref sig .tc := ⟨.hbm, 55, rfl⟩
abbrev main_call2_v1 : Ref sig .tc := ⟨.hbm, 56, rfl⟩
abbrev main_v34 : Ref sig .tc := ⟨.hbm, 57, rfl⟩
abbrev main_c_11 : Ref sig .tc := ⟨.hbm, 58, rfl⟩
abbrev main_v35 : Ref sig .tc := ⟨.hbm, 59, rfl⟩
abbrev main_v36 : Ref sig .tc := ⟨.hbm, 60, rfl⟩
abbrev main_call3_v0 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call4_v0 : Ref sig .tc := ⟨.hbm, 67, rfl⟩
abbrev main_v41 : Ref sig .tc := ⟨.hbm, 68, rfl⟩
abbrev main_c_13 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_14 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_15 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_16 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

@[reducible] def k0_t1_loop (i : grid0.Coords) : Scf.Loop 32 :=
  let c0_i32_47 : BitVec 32 := 0#32
  let arg1 : BitVec 32 := BitVec.ofNat 32 (i 1).val
  let v83 : BitVec 32 := Scalar.subi arg1 c0_i32_47
  let c1_i32 : BitVec 32 := 1#32
  let v85 : BitVec 32 := Scalar.divsi v83 c1_i32
  let v86 : BitVec 32 := Scalar.muli v85 c1_i32
  let v87 : BitVec 32 := Scalar.addi c0_i32_47 v86
  let c1_i32_48 : BitVec 32 := 1#32
  ⟨c0_i32_47, v87, c1_i32_48⟩
def k0_mult1 (i : grid0.Coords) (k0_t1 : Fin (k0_t1_loop i).trips) : BitVec 32 :=
  let c0_i32_47 : BitVec 32 := 0#32
  let c1_i32_48 : BitVec 32 := 1#32
  let arg10 : BitVec 32 := Scf.iv c0_i32_47 c1_i32_48 k0_t1
  let c512_i32_116 : BitVec 32 := 512#32
  let v301 : BitVec 32 := Scalar.muli arg10 c512_i32_116
  v301
def k0_off1 (i : grid0.Coords) (k0_t1 : Fin (k0_t1_loop i).trips) : Fin 2 → Nat :=
  let c0_i32_47 : BitVec 32 := 0#32
  let c1_i32_48 : BitVec 32 := 1#32
  let arg10 : BitVec 32 := Scf.iv c0_i32_47 c1_i32_48 k0_t1
  let c512_i32_116 : BitVec 32 := 512#32
  let v301 : BitVec 32 := Scalar.muli arg10 c512_i32_116
  let v302 : BitVec 32 := v301
  let v303 : Index := Scalar.indexCast v302
  let c0_117 : Index := 0#32
  ![v303.toNat, 0]
def k0_off2 (i : grid0.Coords) (k0_t1 : Fin (k0_t1_loop i).trips) : Fin 2 → Nat :=
  let c0_i32_47 : BitVec 32 := 0#32
  let c1_i32_48 : BitVec 32 := 1#32
  let arg10 : BitVec 32 := Scf.iv c0_i32_47 c1_i32_48 k0_t1
  let c512_i32_116 : BitVec 32 := 512#32
  let v301 : BitVec 32 := Scalar.muli arg10 c512_i32_116
  let v302 : BitVec 32 := v301
  let v306 : Index := Scalar.indexCast v302
  let c128_119 : Index := 128#32
  ![v306.toNat, 128]
def k0_off3 (i : grid0.Coords) (k0_t1 : Fin (k0_t1_loop i).trips) : Fin 2 → Nat :=
  let c0_i32_47 : BitVec 32 := 0#32
  let c1_i32_48 : BitVec 32 := 1#32
  let arg10 : BitVec 32 := Scf.iv c0_i32_47 c1_i32_48 k0_t1
  let c512_i32_116 : BitVec 32 := 512#32
  let v301 : BitVec 32 := Scalar.muli arg10 c512_i32_116
  let v302 : BitVec 32 := v301
  let v309 : Index := Scalar.indexCast v302
  let c256_121 : Index := 256#32
  ![v309.toNat, 256]
def k0_off4 (i : grid0.Coords) (k0_t1 : Fin (k0_t1_loop i).trips) : Fin 2 → Nat :=
  let c0_i32_47 : BitVec 32 := 0#32
  let c1_i32_48 : BitVec 32 := 1#32
  let arg10 : BitVec 32 := Scf.iv c0_i32_47 c1_i32_48 k0_t1
  let c512_i32_116 : BitVec 32 := 512#32
  let v301 : BitVec 32 := Scalar.muli arg10 c512_i32_116
  let v302 : BitVec 32 := v301
  let v312 : Index := Scalar.indexCast v302
  let c384_123 : Index := 384#32
  ![v312.toNat, 384]
def k0_off5 (i : grid0.Coords) (k0_t1 : Fin (k0_t1_loop i).trips) : Fin 2 → Nat :=
  let c0_i32_47 : BitVec 32 := 0#32
  let c1_i32_48 : BitVec 32 := 1#32
  let arg10 : BitVec 32 := Scf.iv c0_i32_47 c1_i32_48 k0_t1
  let c512_i32_116 : BitVec 32 := 512#32
  let v301 : BitVec 32 := Scalar.muli arg10 c512_i32_116
  let v302 : BitVec 32 := v301
  let v315 : Index := Scalar.indexCast v302
  let c512_125 : Index := 512#32
  ![v315.toNat, 512]
def k0_off6 (i : grid0.Coords) (k0_t1 : Fin (k0_t1_loop i).trips) : Fin 2 → Nat :=
  let c0_i32_47 : BitVec 32 := 0#32
  let c1_i32_48 : BitVec 32 := 1#32
  let arg10 : BitVec 32 := Scf.iv c0_i32_47 c1_i32_48 k0_t1
  let c512_i32_116 : BitVec 32 := 512#32
  let v301 : BitVec 32 := Scalar.muli arg10 c512_i32_116
  let v302 : BitVec 32 := v301
  let v318 : Index := Scalar.indexCast v302
  let c640_127 : Index := 640#32
  ![v318.toNat, 640]
@[reducible] def k0_t2_loop (i : grid0.Coords) : Scf.Loop 32 :=
  let c0_i32_47 : BitVec 32 := 0#32
  let arg1 : BitVec 32 := BitVec.ofNat 32 (i 1).val
  let v83 : BitVec 32 := Scalar.subi arg1 c0_i32_47
  let c1_i32 : BitVec 32 := 1#32
  let v85 : BitVec 32 := Scalar.divsi v83 c1_i32
  let v86 : BitVec 32 := Scalar.muli v85 c1_i32
  let v87 : BitVec 32 := Scalar.addi c0_i32_47 v86
  let v84 : BitVec 32 := Scalar.addi c0_i32_47 v83
  let c1_i32_49 : BitVec 32 := 1#32
  ⟨v87, v84, c1_i32_49⟩
def k0_mult2 (i : grid0.Coords) (k0_t2 : Fin (k0_t2_loop i).trips) : BitVec 32 :=
  let c0_i32_47 : BitVec 32 := 0#32
  let arg1 : BitVec 32 := BitVec.ofNat 32 (i 1).val
  let v83 : BitVec 32 := Scalar.subi arg1 c0_i32_47
  let c1_i32 : BitVec 32 := 1#32
  let v85 : BitVec 32 := Scalar.divsi v83 c1_i32
  let v86 : BitVec 32 := Scalar.muli v85 c1_i32
  let v87 : BitVec 32 := Scalar.addi c0_i32_47 v86
  let c1_i32_49 : BitVec 32 := 1#32
  let arg10 : BitVec 32 := Scf.iv v87 c1_i32_49 k0_t2
  let c512_i32_116 : BitVec 32 := 512#32
  let v301 : BitVec 32 := Scalar.muli arg10 c512_i32_116
  v301
def k0_off7 (i : grid0.Coords) (k0_t2 : Fin (k0_t2_loop i).trips) : Fin 2 → Nat :=
  let c0_i32_47 : BitVec 32 := 0#32
  let arg1 : BitVec 32 := BitVec.ofNat 32 (i 1).val
  let v83 : BitVec 32 := Scalar.subi arg1 c0_i32_47
  let c1_i32 : BitVec 32 := 1#32
  let v85 : BitVec 32 := Scalar.divsi v83 c1_i32
  let v86 : BitVec 32 := Scalar.muli v85 c1_i32
  let v87 : BitVec 32 := Scalar.addi c0_i32_47 v86
  let c1_i32_49 : BitVec 32 := 1#32
  let arg10 : BitVec 32 := Scf.iv v87 c1_i32_49 k0_t2
  let c512_i32_116 : BitVec 32 := 512#32
  let v301 : BitVec 32 := Scalar.muli arg10 c512_i32_116
  let v302 : BitVec 32 := v301
  let v303 : Index := Scalar.indexCast v302
  let c0_117 : Index := 0#32
  ![v303.toNat, 0]
def k0_off8 (i : grid0.Coords) (k0_t2 : Fin (k0_t2_loop i).trips) : Fin 2 → Nat :=
  let c0_i32_47 : BitVec 32 := 0#32
  let arg1 : BitVec 32 := BitVec.ofNat 32 (i 1).val
  let v83 : BitVec 32 := Scalar.subi arg1 c0_i32_47
  let c1_i32 : BitVec 32 := 1#32
  let v85 : BitVec 32 := Scalar.divsi v83 c1_i32
  let v86 : BitVec 32 := Scalar.muli v85 c1_i32
  let v87 : BitVec 32 := Scalar.addi c0_i32_47 v86
  let c1_i32_49 : BitVec 32 := 1#32
  let arg10 : BitVec 32 := Scf.iv v87 c1_i32_49 k0_t2
  let c512_i32_116 : BitVec 32 := 512#32
  let v301 : BitVec 32 := Scalar.muli arg10 c512_i32_116
  let v302 : BitVec 32 := v301
  let v306 : Index := Scalar.indexCast v302
  let c128_119 : Index := 128#32
  ![v306.toNat, 128]
def k0_off9 (i : grid0.Coords) (k0_t2 : Fin (k0_t2_loop i).trips) : Fin 2 → Nat :=
  let c0_i32_47 : BitVec 32 := 0#32
  let arg1 : BitVec 32 := BitVec.ofNat 32 (i 1).val
  let v83 : BitVec 32 := Scalar.subi arg1 c0_i32_47
  let c1_i32 : BitVec 32 := 1#32
  let v85 : BitVec 32 := Scalar.divsi v83 c1_i32
  let v86 : BitVec 32 := Scalar.muli v85 c1_i32
  let v87 : BitVec 32 := Scalar.addi c0_i32_47 v86
  let c1_i32_49 : BitVec 32 := 1#32
  let arg10 : BitVec 32 := Scf.iv v87 c1_i32_49 k0_t2
  let c512_i32_116 : BitVec 32 := 512#32
  let v301 : BitVec 32 := Scalar.muli arg10 c512_i32_116
  let v302 : BitVec 32 := v301
  let v309 : Index := Scalar.indexCast v302
  let c256_121 : Index := 256#32
  ![v309.toNat, 256]
def k0_off10 (i : grid0.Coords) (k0_t2 : Fin (k0_t2_loop i).trips) : Fin 2 → Nat :=
  let c0_i32_47 : BitVec 32 := 0#32
  let arg1 : BitVec 32 := BitVec.ofNat 32 (i 1).val
  let v83 : BitVec 32 := Scalar.subi arg1 c0_i32_47
  let c1_i32 : BitVec 32 := 1#32
  let v85 : BitVec 32 := Scalar.divsi v83 c1_i32
  let v86 : BitVec 32 := Scalar.muli v85 c1_i32
  let v87 : BitVec 32 := Scalar.addi c0_i32_47 v86
  let c1_i32_49 : BitVec 32 := 1#32
  let arg10 : BitVec 32 := Scf.iv v87 c1_i32_49 k0_t2
  let c512_i32_116 : BitVec 32 := 512#32
  let v301 : BitVec 32 := Scalar.muli arg10 c512_i32_116
  let v302 : BitVec 32 := v301
  let v312 : Index := Scalar.indexCast v302
  let c384_123 : Index := 384#32
  ![v312.toNat, 384]
def k0_off11 (i : grid0.Coords) (k0_t2 : Fin (k0_t2_loop i).trips) : Fin 2 → Nat :=
  let c0_i32_47 : BitVec 32 := 0#32
  let arg1 : BitVec 32 := BitVec.ofNat 32 (i 1).val
  let v83 : BitVec 32 := Scalar.subi arg1 c0_i32_47
  let c1_i32 : BitVec 32 := 1#32
  let v85 : BitVec 32 := Scalar.divsi v83 c1_i32
  let v86 : BitVec 32 := Scalar.muli v85 c1_i32
  let v87 : BitVec 32 := Scalar.addi c0_i32_47 v86
  let c1_i32_49 : BitVec 32 := 1#32
  let arg10 : BitVec 32 := Scf.iv v87 c1_i32_49 k0_t2
  let c512_i32_116 : BitVec 32 := 512#32
  let v301 : BitVec 32 := Scalar.muli arg10 c512_i32_116
  let v302 : BitVec 32 := v301
  let v315 : Index := Scalar.indexCast v302
  let c512_125 : Index := 512#32
  ![v315.toNat, 512]
def k0_off12 (i : grid0.Coords) (k0_t2 : Fin (k0_t2_loop i).trips) : Fin 2 → Nat :=
  let c0_i32_47 : BitVec 32 := 0#32
  let arg1 : BitVec 32 := BitVec.ofNat 32 (i 1).val
  let v83 : BitVec 32 := Scalar.subi arg1 c0_i32_47
  let c1_i32 : BitVec 32 := 1#32
  let v85 : BitVec 32 := Scalar.divsi v83 c1_i32
  let v86 : BitVec 32 := Scalar.muli v85 c1_i32
  let v87 : BitVec 32 := Scalar.addi c0_i32_47 v86
  let c1_i32_49 : BitVec 32 := 1#32
  let arg10 : BitVec 32 := Scf.iv v87 c1_i32_49 k0_t2
  let c512_i32_116 : BitVec 32 := 512#32
  let v301 : BitVec 32 := Scalar.muli arg10 c512_i32_116
  let v302 : BitVec 32 := v301
  let v318 : Index := Scalar.indexCast v302
  let c640_127 : Index := 640#32
  ![v318.toNat, 640]
def k0_mult3 (i : grid0.Coords) : BitVec 32 :=
  let arg1 : BitVec 32 := BitVec.ofNat 32 (i 1).val
  let c512_i32 : BitVec 32 := 512#32
  let v90 : BitVec 32 := Scalar.muli arg1 c512_i32
  v90
def k0_off13 (i : grid0.Coords) : Fin 2 → Nat :=
  let arg1 : BitVec 32 := BitVec.ofNat 32 (i 1).val
  let c512_i32 : BitVec 32 := 512#32
  let v90 : BitVec 32 := Scalar.muli arg1 c512_i32
  let v91 : BitVec 32 := v90
  let v92 : Index := Scalar.indexCast v91
  let c0_50 : Index := 0#32
  ![v92.toNat, 0]
def k0_off14 (i : grid0.Coords) : Fin 2 → Nat :=
  let arg1 : BitVec 32 := BitVec.ofNat 32 (i 1).val
  let c512_i32 : BitVec 32 := 512#32
  let v90 : BitVec 32 := Scalar.muli arg1 c512_i32
  let v91 : BitVec 32 := v90
  let v95 : Index := Scalar.indexCast v91
  let c128_52 : Index := 128#32
  ![v95.toNat, 128]
def k0_off15 (i : grid0.Coords) : Fin 2 → Nat :=
  let arg1 : BitVec 32 := BitVec.ofNat 32 (i 1).val
  let c512_i32 : BitVec 32 := 512#32
  let v90 : BitVec 32 := Scalar.muli arg1 c512_i32
  let v91 : BitVec 32 := v90
  let v98 : Index := Scalar.indexCast v91
  let c256_54 : Index := 256#32
  ![v98.toNat, 256]
def k0_off16 (i : grid0.Coords) : Fin 2 → Nat :=
  let arg1 : BitVec 32 := BitVec.ofNat 32 (i 1).val
  let c512_i32 : BitVec 32 := 512#32
  let v90 : BitVec 32 := Scalar.muli arg1 c512_i32
  let v91 : BitVec 32 := v90
  let v101 : Index := Scalar.indexCast v91
  let c384_56 : Index := 384#32
  ![v101.toNat, 384]
def k0_off17 (i : grid0.Coords) : Fin 2 → Nat :=
  let arg1 : BitVec 32 := BitVec.ofNat 32 (i 1).val
  let c512_i32 : BitVec 32 := 512#32
  let v90 : BitVec 32 := Scalar.muli arg1 c512_i32
  let v91 : BitVec 32 := v90
  let v104 : Index := Scalar.indexCast v91
  let c512_58 : Index := 512#32
  ![v104.toNat, 512]
def k0_off18 (i : grid0.Coords) : Fin 2 → Nat :=
  let arg1 : BitVec 32 := BitVec.ofNat 32 (i 1).val
  let c512_i32 : BitVec 32 := 512#32
  let v90 : BitVec 32 := Scalar.muli arg1 c512_i32
  let v91 : BitVec 32 := v90
  let v107 : Index := Scalar.indexCast v91
  let c640_60 : Index := 640#32
  ![v107.toNat, 640]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S16x2048x384 : Shape := ⟨3, ![16, 2048, 384]⟩
abbrev S16x2048x6 : Shape := ⟨3, ![16, 2048, 6]⟩
abbrev S16x2048x6x64 : Shape := ⟨4, ![16, 2048, 6, 64]⟩
abbrev S16x6x2048x64 : Shape := ⟨4, ![16, 6, 2048, 64]⟩
abbrev S16x6x2048 : Shape := ⟨3, ![16, 6, 2048]⟩
abbrev S2048 : Shape := ⟨1, ![2048]⟩
abbrev S16x6x2048x2048 : Shape := ⟨4, ![16, 6, 2048, 2048]⟩
abbrev S_ : Shape := ⟨0, ![]⟩
abbrev S16x6x2048x1 : Shape := ⟨4, ![16, 6, 2048, 1]⟩
abbrev S16x6x1x2048 : Shape := ⟨4, ![16, 6, 1, 2048]⟩
abbrev S1x2048 : Shape := ⟨2, ![1, 2048]⟩
abbrev S2048x1 : Shape := ⟨2, ![2048, 1]⟩
abbrev S2048x2048 : Shape := ⟨2, ![2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x384, .f32⟩
  | .hbm, ⟨1, _⟩ => ⟨S16x2048x384, .f32⟩
  | .hbm, ⟨2, _⟩ => ⟨S16x2048x384, .f32⟩
  | .hbm, ⟨3, _⟩ => ⟨S16x2048x6, .f32⟩
  | .hbm, ⟨4, _⟩ => ⟨S16x2048x6x64, .f32⟩
  | .hbm, ⟨5, _⟩ => ⟨S16x6x2048x64, .f32⟩
  | .hbm, ⟨6, _⟩ => ⟨S16x2048x6x64, .f32⟩
  | .hbm, ⟨7, _⟩ => ⟨S16x6x2048x64, .f32⟩
  | .hbm, ⟨8, _⟩ => ⟨S16x2048x6x64, .f32⟩
  | .hbm, ⟨9, _⟩ => ⟨S16x6x2048x64, .f32⟩
  | .hbm, ⟨10, _⟩ => ⟨S16x6x2048, .f32⟩
  | .hbm, ⟨11, _⟩ => ⟨S2048, .i32⟩
  | .hbm, ⟨12, _⟩ => ⟨S16x6x2048x2048, .f32⟩
  | .hbm, ⟨13, _⟩ => ⟨S_, .f32⟩
  | .hbm, ⟨14, _⟩ => ⟨S16x6x2048x2048, .f32⟩
  | .hbm, ⟨15, _⟩ => ⟨S16x6x2048x2048, .f32⟩
  | .hbm, ⟨16, _⟩ => ⟨S16x6x2048x1, .f32⟩
  | .hbm, ⟨17, _⟩ => ⟨S16x6x2048x2048, .f32⟩
  | .hbm, ⟨18, _⟩ => ⟨S16x6x2048x2048, .f32⟩
  | .hbm, ⟨19, _⟩ => ⟨S16x6x1x2048, .f32⟩
  | .hbm, ⟨20, _⟩ => ⟨S16x6x2048x2048, .f32⟩
  | .hbm, ⟨21, _⟩ => ⟨S16x6x2048x2048, .f32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S16x6x2048x2048, .i1⟩
  | .hbm, ⟨30, _⟩ => ⟨S16x6x2048x2048, .f32⟩
  | .hbm, ⟨31, _⟩ => ⟨S16x6x2048x2048, .f32⟩
  | .hbm, ⟨32, _⟩ => ⟨S_, .f32⟩
  | .hbm, ⟨33, _⟩ => ⟨S16x6x2048, .f32⟩
  | .hbm, ⟨34, _⟩ => ⟨S_, .f32⟩
  | .hbm, ⟨35, _⟩ => ⟨S16x6x2048, .f32⟩
  | .hbm, ⟨36, _⟩ => ⟨S16x6x2048, .f32⟩
  | .hbm, ⟨37, _⟩ => ⟨S16x6x2048x1, .f32⟩
  | .hbm, ⟨38, _⟩ => ⟨S16x6x2048x2048, .f32⟩
  | .hbm, ⟨39, _⟩ => ⟨S16x6x2048x2048, .f32⟩
  | .hbm, ⟨40, _⟩ => ⟨S16x6x2048x2048, .f32⟩
  | .hbm, ⟨41, _⟩ => ⟨S_, .f32⟩
  | .hbm, ⟨42, _⟩ => ⟨S16x6x2048, .f32⟩
  | .hbm, ⟨43, _⟩ => ⟨S16x6x2048x1, .f32⟩
  | .hbm, ⟨44, _⟩ => ⟨S16x6x2048x2048, .f32⟩
  | .hbm, ⟨45, _⟩ => ⟨S16x6x2048x2048, .f32⟩
  | .hbm, ⟨46, _⟩ => ⟨S16x6x2048x64, .f32⟩
  | .hbm, ⟨47, _⟩ => ⟨S16x2048x6x64, .f32⟩
  | .hbm, ⟨48, _⟩ => ⟨S16x2048x384, .f32⟩
  | .hbm, ⟨49, _⟩ => ⟨S16x2048x384, .bf16⟩
  | _, _ => ⟨S16x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel5.lean ====
abbrev S16x2048x256 : Shape := ⟨3, ![16, 2048, 256]⟩
abbrev S16x2048x384 : Shape := ⟨3, ![16, 2048, 384]⟩
abbrev S16x2048x1024 : Shape := ⟨3, ![16, 2048, 1024]⟩
abbrev S16x6144 : Shape := ⟨2, ![16, 6144]⟩
abbrev S4x1024 : Shape := ⟨2, ![4, 1024]⟩
abbrev S4x1024x1024 : Shape := ⟨3, ![4, 1024, 1024]⟩
abbrev S4x1024x32 : Shape := ⟨3, ![4, 1024, 32]⟩
abbrev S4x32 : Shape := ⟨2, ![4, 32]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S16x1x6144 : Shape := ⟨3, ![16, 1, 6144]⟩
abbrev S1x1024x32 : Shape := ⟨3, ![1, 1024, 32]⟩
abbrev S1024x32 : Shape := ⟨2, ![1024, 32]⟩
abbrev S_ : Shape := ⟨0, ![]⟩
abbrev S1024x128 : Shape := ⟨2, ![1024, 128]⟩
abbrev S1024x256 : Shape := ⟨2, ![1024, 256]⟩
abbrev S1x32 : Shape := ⟨2, ![1, 32]⟩
abbrev S32 : Shape := ⟨1, ![32]⟩
abbrev S1x128 : Shape := ⟨2, ![1, 128]⟩
abbrev S32768x1024 : Shape := ⟨2, ![32768, 1024]⟩
abbrev S32768x128 : Shape := ⟨2, ![32768, 128]⟩
abbrev S64x8x512 : Shape := ⟨3, ![64, 8, 512]⟩
abbrev S64x1x128 : Shape := ⟨3, ![64, 1, 128]⟩
abbrev S1x512x256 : Shape := ⟨3, ![1, 512, 256]⟩
abbrev S1x512x384 : Shape := ⟨3, ![1, 512, 384]⟩
abbrev S1x512x1024 : Shape := ⟨3, ![1, 512, 1024]⟩
abbrev S1x1x1024 : Shape := ⟨3, ![1, 1, 1024]⟩
abbrev S512x1024 : Shape := ⟨2, ![512, 1024]⟩
abbrev S512x128 : Shape := ⟨2, ![512, 128]⟩
abbrev S1x8x512 : Shape := ⟨3, ![1, 8, 512]⟩
abbrev S1x1x128 : Shape := ⟨3, ![1, 1, 128]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S512x384 : Shape := ⟨2, ![512, 384]⟩
abbrev S1x384 : Shape := ⟨2, ![1, 384]⟩
abbrev S384x1024 : Shape := ⟨2, ![384, 1024]⟩
abbrev S512x512 : Shape := ⟨2, ![512, 512]⟩
abbrev S128x128 : Shape := ⟨2, ![128, 128]⟩
abbrev S8x128 : Shape := ⟨2, ![8, 128]⟩
abbrev S128x512 : Shape := ⟨2, ![128, 512]⟩
abbrev S8x512 : Shape := ⟨2, ![8, 512]⟩

abbrev nBuf : Space → Nat
  | .hbm => 45
  | .vmem => 37
  | .smem => 0
  | _ => 0

abbrev bufTy : (tb : Table) → Fin (tcTables nBuf tb) → BufTy
  | .hbm, ⟨0, _⟩ => ⟨S16x2048x256, .bf16⟩
  | .hbm, ⟨1, _⟩ => ⟨S16x2048x384, .bf16⟩
  | .hbm, ⟨2, _⟩ => ⟨S16x2048x384, .bf16⟩
  | .hbm, ⟨3, _⟩ => ⟨S16x2048x1024, .f32⟩
  | .hbm, ⟨4, _⟩ => ⟨S16x6144, .f32⟩
  | .hbm, ⟨5, _⟩ => ⟨S4x1024, .f32⟩
  | .hbm, ⟨6, _⟩ => ⟨S4x1024x1024, .f32⟩
  | .hbm, ⟨7, _⟩ => ⟨S4x1024, .f32⟩
  | .hbm, ⟨8, _⟩ => ⟨S4x1024x32, .f32⟩
  | .hbm, ⟨9, _⟩ => ⟨S4x32, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024x1024, .f32⟩
  | .hbm, ⟨14, _⟩ => ⟨S1024x1024, .f32⟩
  | .hbm, ⟨15, _⟩ => ⟨S1024x1024, .bf16⟩
  | .hbm, ⟨16, _⟩ => ⟨S16x1x6144, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024x32, .f32⟩
  | .hbm, ⟨21, _⟩ => ⟨S1024x32, .f32⟩
  | .hbm, ⟨22, _⟩ => ⟨S_, .f32⟩
  | .hbm, ⟨23, _⟩ => ⟨S_, .f32⟩
  | .hbm, ⟨24, _⟩ => ⟨S1024x128, .f32⟩
  | .hbm, ⟨25, _⟩ => ⟨S1024x128, .bf16⟩
  | .hbm, ⟨26, _⟩ => ⟨S1024x128, .f32⟩
  | .hbm, ⟨27, _⟩ => ⟨S1024x128, .f32⟩
  | .hbm, ⟨28, _⟩ => ⟨S1024x128, .bf16⟩
  | .hbm, ⟨29, _⟩ => ⟨S1024x256, .bf16⟩
  | .hbm, ⟨30, _⟩ => ⟨S1x32, .f32⟩
  | .hbm, ⟨31, _⟩ => ⟨S32, .f32⟩
  | .hbm, ⟨32, _⟩ => ⟨S1x32, .f32⟩
  | .hbm, ⟨33, _⟩ => ⟨S_, .f32⟩
  | .hbm, ⟨34, _⟩ => ⟨S_, .f32⟩
  | .hbm, ⟨35, _⟩ => ⟨S1x128, .f32⟩
  | .hbm, ⟨36, _⟩ => ⟨S16x2048x1024, .f32⟩
  | .hbm, ⟨37, _⟩ => ⟨S32768x1024, .f32⟩
  | .hbm, ⟨38, _⟩ => ⟨S32768x128, .i32⟩
  | .hbm, ⟨39, _⟩ => ⟨S64x8x512, .i32⟩
  | .hbm, ⟨40, _⟩ => ⟨S32768x128, .f32⟩
  | .hbm, ⟨41, _⟩ => ⟨S64x1x128, .i32⟩
  | .hbm, ⟨42, _⟩ => ⟨S64x1x128, .i32⟩
  | .hbm, ⟨43, _⟩ => ⟨S64x1x128, .i32⟩
  | .hbm, ⟨44, _⟩ => ⟨S1x128, .i32⟩
  | .local _ .vmem, ⟨0, _⟩ => ⟨S1x512x256, .bf16⟩
  | .local _ .vmem, ⟨1, _⟩ => ⟨S1x512x256, .bf16⟩
  | .local _ .vmem, ⟨2, _⟩ => ⟨S1x512x384, .bf16⟩
  | .local _ .vmem, ⟨3, _⟩ => ⟨S1x512x384, .bf16⟩
  | .local _ .vmem, ⟨4, _⟩ => ⟨S1x512x384, .bf16⟩
  | .local _ .vmem, ⟨5, _⟩ => ⟨S1x512x384, .bf16⟩
  | .local _ .vmem, ⟨6, _⟩ => ⟨S1x1024, .f32⟩
  | .local _ .vmem, ⟨7, _⟩ => ⟨S1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x256, .bf16⟩
  | .local _ .vmem, ⟨18, _⟩ => ⟨S1x128, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .f32⟩
  | .local _ .vmem, ⟨22, _⟩ => ⟨S512x1024, .f32⟩
  | .local _ .vmem, ⟨23, _⟩ => ⟨S512x128, .i32⟩
  | .local _ .vmem, ⟨24, _⟩ => ⟨S512x128, .i32⟩
  | .local _ .vmem, ⟨25, _⟩ => ⟨S1x8x512, .i32⟩
  | .local _ .vmem, ⟨26, _⟩ => ⟨S1x8x512, .i32⟩
  | .local _ .vmem, ⟨27, _⟩ => ⟨S512x128, .f32⟩
  | .local _ .vmem, ⟨28, _⟩ => ⟨S512x128, .f32⟩
  | .local _ .vmem, ⟨29, _⟩ => ⟨S1x1x128, .i32⟩
  | .local _ .vmem, ⟨30, _⟩ => ⟨S1x1x128, .i32⟩
  | .local _ .vmem, ⟨31, _⟩ => ⟨S1x1x128, .i32⟩
  | .local _ .vmem, ⟨32, _⟩ => ⟨S1x1x128, .i32⟩
  | .local _ .vmem, ⟨33, _⟩ => ⟨S1x1x128, .i32⟩
  | .local _ .vmem, ⟨34, _⟩ => ⟨S1x1x128, .i32⟩
  | .local _ .vmem, ⟨35, _⟩ => ⟨S1x128, .i32⟩
  | .local _ .vmem, ⟨36, _⟩ => ⟨S1x128, .i32⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_call1_v0 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev main_v22_4 : Ref sig .tc := ⟨.hbm, 40, rfl⟩
abbrev main_v22_5 : Ref sig .tc := ⟨.hbm, 41, rfl⟩
abbrev main_v22_6 : Ref sig .tc := ⟨.hbm, 42, rfl⟩
abbrev main_v22_7 : Ref sig .tc := ⟨.hbm, 43, rfl⟩
abbrev main_v22_8 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x128 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x128 .i32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S1x128 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Reference5Ideal.lean ====
abbrev S16x2048x256 : Shape := ⟨3, ![16, 2048, 256]⟩
abbrev S16x2048x384 : Shape := ⟨3, ![16, 2048, 384]⟩
abbrev S16x2048x1024 : Shape := ⟨3, ![16, 2048, 1024]⟩
abbrev S16x6144 : Shape := ⟨2, ![16, 6144]⟩
abbrev S4x1024 : Shape := ⟨2, ![4, 1024]⟩
abbrev S4x1024x1024 : Shape := ⟨3, ![4, 1024, 1024]⟩
abbrev S4x1024x32 : Shape := ⟨3, ![4, 1024, 32]⟩
abbrev S4x32 : Shape := ⟨2, ![4, 32]⟩
abbrev S16x1024 : Shape := ⟨2, ![16, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩
abbrev S1x1024x1024 : Shape := ⟨3, ![1, 1024, 1024]⟩
abbrev S1024x1024 : Shape := ⟨2, ![1024, 1024]⟩
abbrev S32768x1024 : Shape := ⟨2, ![32768, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16x2048x256, .bf16⟩
  | .hbm, ⟨1, _⟩ => ⟨S16x2048x384, .bf16⟩
  | .hbm, ⟨2, _⟩ => ⟨S16x2048x384, .bf16⟩
  | .hbm, ⟨3, _⟩ => ⟨S16x2048x1024, .f32⟩
  | .hbm, ⟨4, _⟩ => ⟨S16x6144, .f32⟩
  | .hbm, ⟨5, _⟩ => ⟨S4x1024, .f32⟩
  | .hbm, ⟨6, _⟩ => ⟨S4x1024x1024, .f32⟩
  | .hbm, ⟨7, _⟩ => ⟨S4x1024, .f32⟩
  | .hbm, ⟨8, _⟩ => ⟨S4x1024x32, .f32⟩
  | .hbm, ⟨9, _⟩ => ⟨S4x32, .f32⟩
  | .hbm, ⟨10, _⟩ => ⟨S16x1024, .f32⟩
  | .hbm, ⟨11, _⟩ => ⟨S16x1x1024, .f32⟩
  | .hbm, ⟨12, _⟩ => ⟨S16x1024, .f32⟩
  | .hbm, ⟨13, _⟩ => ⟨S16x1x1024, .f32⟩
  | .hbm, ⟨14, _⟩ => ⟨S16x1024, .f32⟩
  | .hbm, ⟨15, _⟩ => ⟨S16x1x1024, .f32⟩
  | .hbm, ⟨16, _⟩ => ⟨S16x2048x256, .f32⟩
  | .hbm, ⟨17, _⟩ => ⟨S16x2048x256, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x256, .f32⟩
  | .hbm, ⟨29, _⟩ => ⟨S16x2048x256, .f32⟩
  | .hbm, ⟨30, _⟩ => ⟨S16x2048x384, .f32⟩
  | .hbm, ⟨31, _⟩ => ⟨S16x2048x384, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x384, .f32⟩
  | .hbm, ⟨43, _⟩ => ⟨S16x2048x384, .f32⟩
  | .hbm, ⟨44, _⟩ => ⟨S16x2048x384, .f32⟩
  | .hbm, ⟨45, _⟩ => ⟨S16x2048x384, .f32⟩
  | .hbm, ⟨46, _⟩ => ⟨S_, .f32⟩
  | .hbm, ⟨47, _⟩ => ⟨S16x2048, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1, .f32⟩
  | .hbm, ⟨56, _⟩ => ⟨S16x2048x384, .f32⟩
  | .hbm, ⟨57, _⟩ => ⟨S16x2048x384, .f32⟩
  | .hbm, ⟨58, _⟩ => ⟨S16x2048x1024, .f32⟩
  | .hbm, ⟨59, _⟩ => ⟨S1x1024, .f32⟩
  | .hbm, ⟨60, _⟩ => ⟨S1024, .f32⟩
  | .hbm, ⟨61, _⟩ => ⟨S1x1x1024, .f32⟩
  | .hbm, ⟨62, _⟩ => ⟨S16x2048x1024, .f32⟩
  | .hbm, ⟨63, _⟩ => ⟨S16x2048x1024, .f32⟩
  | .hbm, ⟨64, _⟩ => ⟨S1x1024x1024, .f32⟩
  | .hbm, ⟨65, _⟩ => ⟨S1024x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S_, .f32⟩
  | .hbm, ⟨72, _⟩ => ⟨S16x2048, .f32⟩
  | .hbm, ⟨73, _⟩ => ⟨S16x2048x1, .f32⟩
  | .hbm, ⟨74, _⟩ => ⟨S_, .f32⟩
  | .hbm, ⟨75, _⟩ => ⟨S16x2048x1, .f32⟩
  | .hbm, ⟨76, _⟩ => ⟨S16x2048x1, .f32⟩
  | .hbm, ⟨77, _⟩ => ⟨S_, .f32⟩
  | .hbm, ⟨78, _⟩ => ⟨S16x2048x1, .f32⟩
  | .hbm, ⟨79, _⟩ => ⟨S16x2048x1, .f32⟩
  | .hbm, ⟨80, _⟩ => ⟨S16x2048x1, .f32⟩
  | .hbm, ⟨81, _⟩ => ⟨S16x2048x1024, .f32⟩
  | .hbm, ⟨82, _⟩ => ⟨S16x2048x1024, .f32⟩
  | .hbm, ⟨83, _⟩ => ⟨S1x1024, .f32⟩
  | .hbm, ⟨84, _⟩ => ⟨S1024, .f32⟩
  | .hbm, ⟨85, _⟩ => ⟨S1x1x1024, .f32⟩
  | .hbm, ⟨86, _⟩ => ⟨S16x2048x1024, .f32⟩
  | .hbm, ⟨87, _⟩ => ⟨S16x2048x1024, .f32⟩
  | .hbm, ⟨88, _⟩ => ⟨S_, .f32⟩
  | .hbm, ⟨89, _⟩ => ⟨S16x1x1024, .f32⟩
  | .hbm, ⟨90, _⟩ => ⟨S16x1x1024, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S16x2048x1024, .f32⟩
  | .hbm, ⟨95, _⟩ => ⟨S32768x1024, .f32⟩
  | _, _ => ⟨S16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Kernel6.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.IpValue.lean ====
/-
  The input projection's results over the extended reals, read at an entry.
-/
module

public import proofs.«01_k».proof.Proof.Gen.Kernel3Ideal.Value
public import Idealize.ShloMosaic.Lib.StableHlo.Run
public import Idealize.ShloMosaic.Lib.Pointwise
public import Idealize.ShloMosaic.Lib.ValueIdx

@[expose] public section

set_option maxRecDepth 16384

noncomputable section

/-! ## The projection of one row -/

namespace Cert.Proj

open Idealize.ShloMosaic

/-- The row normalised by its mean square, scaled by the norm's weight and modulated. -/
def hid (x g sc sh : Fin 1024 → EReal) (d : Fin 1024) : EReal :=
  x d * Ideal.rsqrt (Ideal.div (∑ k, x k * x k) (Ideal.ofBits .f32 0x44800000#32) + Ideal.ofBits .f32 0x358637BD#32) * g d
    * (Ideal.ofBits .f32 0x3F800000#32 + sc d) + sh d

/-- A projected column. -/
def proj (h : Fin 1024 → EReal) (w : Fin 1024 → EReal) : EReal := ∑ d, h d * w d

/-- The columns of a family of heads: its queries scaled, its keys and its values, each `W` wide, from column `lo` on. -/
def fam (W lo : ℕ) (p : ℕ → EReal) (l : ℕ) : EReal :=
  if l < W then p (lo + l) * Ideal.ofBits .f32 0x3E000000#32
  else if l < 2 * W then p (1024 + (lo + (l - W)))
  else p (2048 + (lo + (l - 2 * W)))

/-- The logarithm of a sigmoid. -/
def logSig (z : EReal) : EReal :=
  0 - (max (0 - z) 0 + Ideal.log (Ideal.ofBits .f32 0x3F800000#32 + Ideal.exp (0 - max (0 - z) (-(0 - z)))))

/-- A gate's lane: the heads' ones are projected, the others zero. -/
def gate (p : ℕ → EReal) (b : Fin 6 → EReal) (l : ℕ) : EReal := if h : l < 6 then p (3072 + l) + b ⟨l, h⟩ else 0

theorem eighth : Ideal.ofBits .f32 0x3E000000#32 = (((1 : ℝ) / 8 : ℝ) : EReal) := by
  simp [Ideal.ofBits, Ideal.ieee]
  rw [← EReal.coe_mul]
  norm_num

theorem one_f32 : Ideal.ofBits .f32 0x3F800000#32 = 1 := by
  simp [Ideal.ofBits, Ideal.ieee]
  rw [← EReal.coe_mul, ← EReal.coe_one]
  norm_num

theorem sum_mul_real {ι : Type} (s : Finset ι) (f : ι → EReal) {c : ℝ} (hc : 0 ≤ c) : (∑ d ∈ s, f d) * (c : EReal) = ∑ d ∈ s, f d * c := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- Projecting the packed weights is packing the projected columns. -/
theorem proj_fam (h : Fin 1024 → EReal) (w : Fin 1024 → ℕ → EReal) (W lo l : ℕ) :
    proj h (fun d => fam W lo (w d) l) = fam W lo (fun c => proj h fun d => w d c) l := by
  unfold fam proj
  by_cases h1 : l < W
  · simp only [if_pos h1]
    rw [eighth, sum_mul_real _ _ (by norm_num)]
    exact Finset.sum_congr rfl fun d _ => (mul_assoc _ _ _).symm
  · simp only [if_neg h1]
    by_cases h2 : l < 2 * W
    · simp only [if_pos h2]
    · simp only [if_neg h2]

end Cert.Proj

namespace Cert.Kernel3Ideal.Ip

open Cert.Kernel3Ideal Cert.Kernel3Ideal.Gen
open Idealize.ShloMosaic
open Idealize.ShloMosaic.TcCoe
open Idealize.SL.Sem
open Cert.Proj

/-! ## The body's values at an entry -/

section Body

variable (x : Vec Ideal S1x512x1024 .f32) (g : Vec Ideal S1x1024 .f32) (sc sh : Vec Ideal S1x1x1024 .f32) (r : Fin 512)

/-- The modulated row. -/
abbrev row : Fin 1024 → EReal :=
  hid (fun d => x (ix3 0 r d)) (fun d => g (ix2 0 d)) (fun d => sc (ix3 0 0 d)) (fun d => sh (ix3 0 0 d))

theorem pay2_at (d : Fin 1024) : k0_pay2 (F := Ideal) x g sc sh (ix2 r d) = row x g sc sh r d := by
  unfold k0_pay2 row hid
  rw [one_f32]
  pointwise

theorem pay3_at (w : Vec Ideal S1024x768 .bf16) (l : Fin 768) :
    k0_pay3 (F := Ideal) x g sc sh w (ix3 0 r l) = proj (row x g sc sh r) fun d => w (ix2 d l) := by
  unfold k0_pay3 proj
  pointwise [dot_S512x1024_S1024x768_S512x768_1_0_0_1_n_n]
  simp only [pay2_at]

variable (h : FVec Ideal S512x1024 .bf16)

theorem pay4_at (w : Vec Ideal S1024x1152 .bf16) (l : Fin 1152) :
    k0_pay4 (F := Ideal) h w (ix3 0 r l) = proj (fun d => h (ix2 r d)) fun d => w (ix2 d l) := by
  unfold k0_pay4 proj
  pointwise [dot_S512x1024_S1024x1152_S512x1152_1_0_0_1_n_n]

theorem pay5_at (w : Vec Ideal S1024x1152 .bf16) (l : Fin 1152) :
    k0_pay5 (F := Ideal) h w (ix3 0 r l) = proj (fun d => h (ix2 r d)) fun d => w (ix2 d l) := by
  unfold k0_pay5 proj
  pointwise [dot_S512x1024_S1024x1152_S512x1152_1_0_0_1_n_n]

theorem pay6_at (w : Vec Ideal S1024x128 .bf16) (b : Vec Ideal S1x128 .f32) (l : Fin 128) :
    k0_pay1 (F := Ideal) (k0_pay6 (F := Ideal) h w b) (ix3 0 r l)
      = logSig (proj (fun d => h (ix2 r d)) (fun d => w (ix2 d l)) + b (ix2 0 l)) := by
  unfold k0_pay1 k0_pay6 proj logSig
  rw [one_f32]
  pointwise [dot_S512x1024_S1024x128_S512x128_1_0_0_1_n_n]
  rfl

end Body

/-! ## What the host code prepares -/

variable (m : (ℓ : Loc nD τ sig) → Buf (Elt Ideal) ℓ)

/-- The layer's projection weights by column. -/
def wcol (w : FVec Ideal S4x1024x3078 .f32) (d : Fin 1024) (c : ℕ) : EReal := w (ix3 0 d (Fin.ofNat 3078 c))

/-- The layer's projection weights. -/
def plane (w : FVec Ideal S4x1024x3078 .f32) : FVec Ideal S1024x3078 .f32 :=
  shapeCast S1024x3078 (extractStridedSlice S1x1024x3078 ![0, 0, 0] w slices_S4x1024x3078_S1x1024x3078_0_0_0) shapeCasts_S1x1024x3078_S1024x3078

/-- Those of the queries, scaled. -/
def planeQ (w : FVec Ideal S4x1024x3078 .f32) : FVec Ideal S1024x1024 .f32 :=
  mulf (extractStridedSlice S1024x1024 ![0, 0] (plane w) slices_S1024x3078_S1024x1024_0_0)
    (broadcastInDim S1024x1024 ![] bcast_S_S1024x1024 (constant S_ .f32 0x3E000000#32))

/-- Those of the keys. -/
def planeK (w : FVec Ideal S4x1024x3078 .f32) : FVec Ideal S1024x1024 .f32 :=
  extractStridedSlice S1024x1024 ![0, 1024] (plane w) slices_S1024x3078_S1024x1024_0_1024

/-- Those of the values. -/
def planeV (w : FVec Ideal S4x1024x3078 .f32) : FVec Ideal S1024x1024 .f32 :=
  extractStridedSlice S1024x1024 ![0, 2048] (plane w) slices_S1024x3078_S1024x1024_0_2048

theorem planeQ_at (w : FVec Ideal S4x1024x3078 .f32) (d c : Fin 1024) :
    planeQ w (ix2 d c) = wcol w d c * Ideal.ofBits .f32 0x3E000000#32 := by
  have e : Fin.ofNat 3078 (c : ℕ) = (⟨c, by omega⟩ : Fin 3078) := Fin.ext (Nat.mod_eq_of_lt (by omega))
  unfold planeQ plane wcol
  pointwise
  rw [e]

theorem planeK_at (w : FVec Ideal S4x1024x3078 .f32) (d c : Fin 1024) : planeK w (ix2 d c) = wcol w d (1024 + c) := by
  have e : Fin.ofNat 3078 (1024 + (c : ℕ)) = (⟨1024 + c, by omega⟩ : Fin 3078) := Fin.ext (Nat.mod_eq_of_lt (by omega))
  unfold planeK plane wcol
  pointwise
  rw [e]

theorem planeV_at (w : FVec Ideal S4x1024x3078 .f32) (d c : Fin 1024) : planeV w (ix2 d c) = wcol w d (2048 + c) := by
  have e : Fin.ofNat 3078 (2048 + (c : ℕ)) = (⟨2048 + c, by omega⟩ : Fin 3078) := Fin.ext (Nat.mod_eq_of_lt (by omega))
  unfold planeV plane wcol
  pointwise
  rw [e]

/-- The families' weights side by side. -/
def pack (w : FVec Ideal S4x1024x3078 .f32) : FVec Ideal S1024x3072 .bf16 :=
  truncf .bf16 (concatenate S1024x3072 1
    [⟨S1024x256, extractStridedSlice S1024x256 ![0, 0] (planeQ w) slices_S1024x1024_S1024x256_0_0⟩,
     ⟨S1024x256, extractStridedSlice S1024x256 ![0, 0] (planeK w) slices_S1024x1024_S1024x256_0_0⟩,
     ⟨S1024x256, extractStridedSlice S1024x256 ![0, 0] (planeV w) slices_S1024x1024_S1024x256_0_0⟩,
     ⟨S1024x384, extractStridedSlice S1024x384 ![0, 256] (planeQ w) slices_S1024x1024_S1024x384_0_256⟩,
     ⟨S1024x384, extractStridedSlice S1024x384 ![0, 256] (planeK w) slices_S1024x1024_S1024x384_0_256⟩,
     ⟨S1024x384, extractStridedSlice S1024x384 ![0, 256] (planeV w) slices_S1024x1024_S1024x384_0_256⟩,
     ⟨S1024x384, extractStridedSlice S1024x384 ![0, 640] (planeQ w) slices_S1024x1024_S1024x384_0_640⟩,
     ⟨S1024x384, extractStridedSlice S1024x384 ![0, 640] (planeK w) slices_S1024x1024_S1024x384_0_640⟩,
     ⟨S1024x384, extractStridedSlice S1024x384 ![0, 640] (planeV w) slices_S1024x1024_S1024x384_0_640⟩]
    concatenates_S1024x256_S1024x256_S1024x256_S1024x384_S1024x384_S1024x384_S1024x384_S1024x384_S1024x384_S1024x3072_d1) bitsLt_bf16_f32

theorem V_v17 (c : Dev nD) : V m c main_v17 = pack (m ((c.tc : Thread nD τ).loc main_arg3)) := by
  unfold pack planeQ planeK planeV plane
  unfold V
  simp only [hostOps0, hostOps0_1, hostOps0_2, hostOps0_3, hostOps0_4, List.flatten_cons, List.flatten_nil, List.append_nil, List.cons_append,
    List.nil_append]
  after_results
  rfl

/-- The nine parts by lane. -/
def lanes (p : ℕ → EReal) (l : ℕ) : EReal :=
  if l < 768 then fam 256 0 p l else if l < 1920 then fam 384 256 p (l - 768) else fam 384 640 p (l - 1920)

theorem pack_at (w : FVec Ideal S4x1024x3078 .f32) (d : Fin 1024) (l : Fin 3072) : pack w (ix2 d l) = lanes (wcol w d) l := by
  unfold pack
  pointwise
  simp only [planeQ_at, planeK_at, planeV_at]
  generalize wcol w d = p
  have hl := l.isLt
  revert hl
  generalize (l : ℕ) = n
  intro hl
  unfold lanes fam
  simp only [dite_eq_ite]
  split_ifs <;> first
    | (exfalso; omega)
    | (refine congrArg (p · * _) ?_; omega)
    | (refine congrArg p ?_; omega)

theorem pack_sb (w : FVec Ideal S4x1024x3078 .f32) (d : Fin 1024) (l : Fin 768) :
    pack w (ix2 d ⟨0 + l, by omega⟩) = fam 256 0 (wcol w d) l := by
  rw [pack_at]
  unfold lanes
  dsimp only
  rw [if_pos (by omega), Nat.zero_add]

theorem pack_dil (w : FVec Ideal S4x1024x3078 .f32) (d : Fin 1024) (l : Fin 1152) :
    pack w (ix2 d ⟨768 + l, by omega⟩) = fam 384 256 (wcol w d) l := by
  rw [pack_at]
  unfold lanes
  dsimp only
  rw [if_neg (by omega), if_pos (by omega), Nat.add_sub_cancel_left]

theorem pack_fox (w : FVec Ideal S4x1024x3078 .f32) (d : Fin 1024) (l : Fin 1152) :
    pack w (ix2 d ⟨1920 + l, by omega⟩) = fam 384 640 (wcol w d) l := by
  rw [pack_at]
  unfold lanes
  dsimp only
  rw [if_neg (by omega), if_neg (by omega), Nat.add_sub_cancel_left]

/-- The gates' weights in 128 lanes. -/
def packF (w : FVec Ideal S4x1024x3078 .f32) : FVec Ideal S1024x128 .bf16 :=
  truncf .bf16 (pad S1024x128 ![0, 0] ![0, 122] ![0, 0] (shapeCast S1024x6 (extractStridedSlice S1x1024x6 ![0, 0, 3072] w
    slices_S4x1024x3078_S1x1024x6_0_0_3072) shapeCasts_S1x1024x6_S1024x6) (constant S_ .f32 0x00000000#32) pads_S1024x6_S1024x128_000_01220 h_S_) bitsLt_bf16_f32

theorem V_v21 (c : Dev nD) : V m c main_v21 = packF (m ((c.tc : Thread nD τ).loc main_arg3)) := by
  unfold packF
  unfold V
  simp only [hostOps0, hostOps0_1, hostOps0_2, hostOps0_3, hostOps0_4, List.flatten_cons, List.flatten_nil, List.append_nil, List.cons_append,
    List.nil_append]
  after_results
  rfl

theorem packF_at (w : FVec Ideal S4x1024x3078 .f32) (d : Fin 1024) (l : Fin 128) :
    packF w (ix2 d l) = if (l : ℕ) < 6 then wcol w d (3072 + l) else 0 := by
  unfold packF
  pointwise
  split_ifs with h
  · exact congrArg (fun c => w (ix3 0 d c)) (Fin.ext (Nat.mod_eq_of_lt (by omega)).symm)
  · rfl

/-- The gates' bias in 128 lanes. -/
def packB (b : FVec Ideal S4x6 .f32) : FVec Ideal S1x128 .f32 :=
  pad S1x128 ![0, 0] ![0, 122] ![0, 0] (broadcastInDim S1x6 ![1] bcast_S6_S1x6_1
      (shapeCast S6 (extractStridedSlice S1x6 ![0, 0] b slices_S4x6_S1x6_0_0) shapeCasts_S1x6_S6))
      (constant S_ .f32 0x00000000#32) pads_S1x6_S1x128_000_01220 h_S_

theorem V_v25 (c : Dev nD) : V m c main_v25 = packB (m ((c.tc : Thread nD τ).loc main_arg4)) := by
  unfold packB
  unfold V
  simp only [hostOps0, hostOps0_1, hostOps0_2, hostOps0_3, hostOps0_4, List.flatten_cons, List.flatten_nil, List.append_nil, List.cons_append,
    List.nil_append]
  after_results
  rfl

theorem packB_at (b : FVec Ideal S4x6 .f32) (l : Fin 128) :
    packB b (ix2 0 l) = if h : (l : ℕ) < 6 then b (ix2 0 ⟨l, h⟩) else 0 := by
  unfold packB
  pointwise

/-- The modulations with an axis of one row. -/
def packM (x : FVec Ideal S16x6144 .f32) : FVec Ideal S16x1x6144 .f32 := shapeCast S16x1x6144 x shapeCasts_S16x6144_S16x1x6144

theorem V_v26 (c : Dev nD) : V m c main_v26 = packM (m ((c.tc : Thread nD τ).loc main_arg1)) := by
  unfold packM
  unfold V
  simp only [hostOps0, hostOps0_1, hostOps0_2, hostOps0_3, hostOps0_4, List.flatten_cons, List.flatten_nil, List.append_nil, List.cons_append,
    List.nil_append]
  after_results
  rfl

theorem packM_at (x : FVec Ideal S16x6144 .f32) (b : Fin 16) (l : Fin 6144) : packM x (ix3 b 0 l) = x (ix2 b l) := by
  unfold packM
  refine shapeCast_apply _ _ (ix3 b 0 l) (ix2 b l) ?_
  rw [Shape.rowMajor_val_two, Shape.rowMajor_val_three]
  show (b : ℕ) * 6144 + l = (b * 1 + 0) * 6144 + l
  omega

/-- The norm's weights as a row. -/
def packG (g : FVec Ideal S4x1024 .f32) : FVec Ideal S1x1024 .f32 :=
  broadcastInDim S1x1024 ![1] bcast_S1024_S1x1024_1 (shapeCast S1024 (extractStridedSlice S1x1024 ![0, 0]
      g slices_S4x1024_S1x1024_0_0) shapeCasts_S1x1024_S1024)

theorem V_v29 (c : Dev nD) : V m c main_v29 = packG (m ((c.tc : Thread nD τ).loc main_arg2)) := by
  unfold packG
  unfold V
  simp only [hostOps0, hostOps0_1, hostOps0_2, hostOps0_3, hostOps0_4, List.flatten_cons, List.flatten_nil, List.append_nil, List.cons_append,
    List.nil_append]
  after_results
  rfl

theorem packG_at (g : FVec Ideal S4x1024 .f32) (d : Fin 1024) : packG g (ix2 0 d) = g (ix2 0 d) := by
  unfold packG
  pointwise

end Cert.Kernel3Ideal.Ip

end
-- ==== Proof.IpKernel.lean ====
/-
  The input projection's result arrays: at every entry, the projected column of the row's modulated norm.
-/
module

public import proofs.«01_k».proof.Proof.IpValue
public import Idealize.ShloMosaic.Lib.Pipeline.Value

@[expose] public section

set_option maxRecDepth 16384

noncomputable section

namespace Cert.Kernel3Ideal.Ip

open Cert.Kernel3Ideal Cert.Kernel3Ideal.Gen
open Idealize.ShloMosaic
open Idealize.ShloMosaic.TcCoe
open Idealize.SL.Sem
open Cert.Proj

/-! ## The results -/

section Results

variable (x : FVec Ideal S16x2048x1024 .f32) (s : FVec Ideal S16x6144 .f32) (g : FVec Ideal S4x1024 .f32)
  (w : FVec Ideal S4x1024x3078 .f32) (b : FVec Ideal S4x6 .f32)

/-- A row of the input, normalised and modulated. -/
def hrow (n : Fin 16) (r : Fin 2048) : Fin 1024 → EReal :=
  hid (fun d => x (ix3 n r d)) (fun d => g (ix2 0 d)) (fun d => s (ix2 n ⟨1024 + d, by omega⟩)) (fun d => s (ix2 n ⟨d, by omega⟩))

/-- Its projection. -/
def cols (n : Fin 16) (r : Fin 2048) (c : ℕ) : EReal := proj (hrow x s g n r) fun d => wcol w d c

/-- A family's queries, keys and values. -/
def famRes (N W lo : ℕ) : FVec Ideal ⟨3, ![16, 2048, N]⟩ .bf16 := fun i => fam W lo (cols x s g w (i 0) (i 1)) (i 2 : ℕ)

/-- The gates' logarithms. -/
def gateRes : FVec Ideal S16x2048x128 .f32 := fun i => logSig (gate (cols x s g w (i 0) (i 1)) (fun l => b (ix2 0 l)) (i 2 : ℕ))

theorem famRes_at (N W lo : ℕ) (i : (⟨3, ![16, 2048, N]⟩ : Shape).Idx) (n : Fin 16) (r : Fin 2048) (l : ℕ)
    (h0 : ((i 0 : Fin _) : ℕ) = n) (h1 : ((i 1 : Fin _) : ℕ) = r) (h2 : ((i 2 : Fin _) : ℕ) = l) :
    famRes x s g w N W lo i = fam W lo (cols x s g w n r) l := by
  subst h2
  obtain rfl : n = i 0 := Fin.ext h0.symm
  obtain rfl : r = i 1 := Fin.ext h1.symm
  rfl

theorem gateRes_at (i : S16x2048x128.Idx) (n : Fin 16) (r : Fin 2048) (l : ℕ)
    (h0 : ((i 0 : Fin _) : ℕ) = n) (h1 : ((i 1 : Fin _) : ℕ) = r) (h2 : ((i 2 : Fin _) : ℕ) = l) :
    gateRes x s g w b i = logSig (gate (cols x s g w n r) (fun l => b (ix2 0 l)) l) := by
  subst h2
  obtain rfl : n = i 0 := Fin.ext h0.symm
  obtain rfl : r = i 1 := Fin.ext h1.symm
  rfl

/-- A spare lane's weights are zero. -/
theorem gate_cols (n : Fin 16) (r : Fin 2048) (l : Fin 128) :
    proj (hrow x s g n r) (fun d => packF w (ix2 d l)) + packB b (ix2 0 l) = gate (cols x s g w n r) (fun l => b (ix2 0 l)) l := by
  rw [packB_at]
  simp only [packF_at]
  unfold gate cols proj
  by_cases h : (l : ℕ) < 6
  · simp only [if_pos h, dif_pos h]
  · simp only [if_neg h, dif_neg h, mul_zero, Finset.sum_const_zero, add_zero]

end Results

/-! ## A point's blocks -/

theorem index0 : ∀ t : Fin cfg0.N, win0_0.index t = ![(grid0.coords t 0 : ℕ), (grid0.coords t 1 : ℕ), 0] := by decide +kernel

theorem index1 : ∀ t : Fin cfg0.N, win0_1.index t = ![(grid0.coords t 0 : ℕ), 0, 0] := by decide +kernel

theorem index2 : ∀ t : Fin cfg0.N, win0_2.index t = ![(grid0.coords t 0 : ℕ), 0, 1] := by decide +kernel

theorem index3 : ∀ t : Fin cfg0.N, win0_3.index t = ![0, 0] := by decide +kernel

theorem index4 : ∀ t : Fin cfg0.N, win0_4.index t = ![0, 0] := by decide +kernel

theorem index5 : ∀ t : Fin cfg0.N, win0_5.index t = ![0, 0] := by decide +kernel

theorem index6 : ∀ t : Fin cfg0.N, win0_6.index t = ![0, 0] := by decide +kernel

theorem index7 : ∀ t : Fin cfg0.N, win0_7.index t = ![(grid0.coords t 0 : ℕ), (grid0.coords t 1 : ℕ), 0] := by decide +kernel

theorem index8 : ∀ t : Fin cfg0.N, win0_8.index t = ![(grid0.coords t 0 : ℕ), (grid0.coords t 1 : ℕ), 0] := by decide +kernel

theorem index9 : ∀ t : Fin cfg0.N, win0_9.index t = ![(grid0.coords t 0 : ℕ), (grid0.coords t 1 : ℕ), 0] := by decide +kernel

theorem index10 : ∀ t : Fin cfg0.N, win0_10.index t = ![(grid0.coords t 0 : ℕ), (grid0.coords t 1 : ℕ), 0] := by decide +kernel

variable (m : (ℓ : Loc nD τ sig) → Buf (Elt Ideal) ℓ)

/-- A point's batch. -/
def bt (t : Fin cfg0.N) : Fin 16 := ⟨(grid0.coords t 0 : ℕ), (grid0.coords t 0).isLt⟩

/-- A row of a point's tile. -/
def rowOf (t : Fin cfg0.N) (r : Fin 512) : Fin 2048 :=
  ⟨512 * (grid0.coords t 1 : ℕ) + r, by have h : (grid0.coords t 1 : ℕ) < 4 := (grid0.coords t 1).isLt; omega⟩

/-- Every tile of rows is written back at some point. -/
theorem cover7 : ∀ (b : Fin 16) (j : Fin 4), ∃ t : Fin cfg0.N, (cfg0.win 7).flush t = true ∧ (grid0.coords t 0 : ℕ) = b
    ∧ (grid0.coords t 1 : ℕ) = j :=
  (by decide +kernel : ∀ (b : Fin 16) (j : Fin 4), ∃ t : Fin grid0.N, win0_7.flush t = true ∧ (grid0.coords t 0 : ℕ) = b
    ∧ (grid0.coords t 1 : ℕ) = j)

theorem cover8 : ∀ (b : Fin 16) (j : Fin 4), ∃ t : Fin cfg0.N, (cfg0.win 8).flush t = true ∧ (grid0.coords t 0 : ℕ) = b
    ∧ (grid0.coords t 1 : ℕ) = j :=
  (by decide +kernel : ∀ (b : Fin 16) (j : Fin 4), ∃ t : Fin grid0.N, win0_8.flush t = true ∧ (grid0.coords t 0 : ℕ) = b
    ∧ (grid0.coords t 1 : ℕ) = j)

theorem cover9 : ∀ (b : Fin 16) (j : Fin 4), ∃ t : Fin cfg0.N, (cfg0.win 9).flush t = true ∧ (grid0.coords t 0 : ℕ) = b
    ∧ (grid0.coords t 1 : ℕ) = j :=
  (by decide +kernel : ∀ (b : Fin 16) (j : Fin 4), ∃ t : Fin grid0.N, win0_9.flush t = true ∧ (grid0.coords t 0 : ℕ) = b
    ∧ (grid0.coords t 1 : ℕ) = j)

theorem cover10 : ∀ (b : Fin 16) (j : Fin 4), ∃ t : Fin cfg0.N, (cfg0.win 10).flush t = true ∧ (grid0.coords t 0 : ℕ) = b
    ∧ (grid0.coords t 1 : ℕ) = j :=
  (by decide +kernel : ∀ (b : Fin 16) (j : Fin 4), ∃ t : Fin grid0.N, win0_10.flush t = true ∧ (grid0.coords t 0 : ℕ) = b
    ∧ (grid0.coords t 1 : ℕ) = j)

theorem iblk0_at (c : Dev nD) (t : Fin cfg0.N) (r : Fin 512) (d : Fin 1024) :
    (iblk m c 0 t : Vec Ideal S1x512x1024 .f32) (ix3 0 r d) = (m ((c.tc : Thread nD τ).loc main_arg0)) (ix3 (bt t) (rowOf t r) d) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 1 + 1 * 0 = (grid0.coords t 0 : ℕ); rw [index0]; simp
  | ⟨1, _⟩ => show win0_0.index t 1 * 512 + 1 * (r : ℕ) = 512 * (grid0.coords t 1 : ℕ) + r; rw [index0]; simp; omega
  | ⟨2, _⟩ => show win0_0.index t 2 * 1024 + 1 * (d : ℕ) = d; rw [index0]; simp

theorem iblk1_at (c : Dev nD) (t : Fin cfg0.N) (d : Fin 1024) :
    (iblk m c 1 t : Vec Ideal S1x1x1024 .f32) (ix3 0 0 d) = (m ((c.tc : Thread nD τ).loc main_arg1)) (ix2 (bt t) ⟨d, by omega⟩) := by
  refine Eq.trans ?_ ((congrFun (V_v26 m c) _).trans (packM_at _ (bt t) ⟨d, by omega⟩))
  unfold iblk
  rw [View.read_apply]
  show V m c main_v26 _ = V m c main_v26 _
  congr 1
  funext a
  apply Fin.ext
  match a with
  | ⟨0, _⟩ => show win0_1.index t 0 * 1 + 1 * 0 = (grid0.coords t 0 : ℕ); rw [index1]; simp
  | ⟨1, _⟩ => show win0_1.index t 1 * 1 + 1 * 0 = 0; rw [index1]; simp
  | ⟨2, _⟩ => show win0_1.index t 2 * 1024 + 1 * (d : ℕ) = (d : ℕ); rw [index1]; simp

theorem iblk2_at (c : Dev nD) (t : Fin cfg0.N) (d : Fin 1024) :
    (iblk m c 2 t : Vec Ideal S1x1x1024 .f32) (ix3 0 0 d) = (m ((c.tc : Thread nD τ).loc main_arg1)) (ix2 (bt t) ⟨1024 + d, by omega⟩) := by
  refine Eq.trans ?_ ((congrFun (V_v26 m c) _).trans (packM_at _ (bt t) ⟨1024 + d, by omega⟩))
  unfold iblk
  rw [View.read_apply]
  show V m c main_v26 _ = V m c main_v26 _
  congr 1
  funext a
  apply Fin.ext
  match a with
  | ⟨0, _⟩ => show win0_2.index t 0 * 1 + 1 * 0 = (grid0.coords t 0 : ℕ); rw [index2]; simp
  | ⟨1, _⟩ => show win0_2.index t 1 * 1 + 1 * 0 = 0; rw [index2]; simp
  | ⟨2, _⟩ => show win0_2.index t 2 * 1024 + 1 * (d : ℕ) = 1024 + (d : ℕ); rw [index2]; simp

theorem iblk3_at (c : Dev nD) (t : Fin cfg0.N) (d : Fin 1024) :
    (iblk m c 3 t : Vec Ideal S1x1024 .f32) (ix2 0 d) = (m ((c.tc : Thread nD τ).loc main_arg2)) (ix2 0 d) := by
  refine Eq.trans ?_ ((congrFun (V_v29 m c) _).trans (packG_at _ d))
  unfold iblk
  rw [View.read_apply]
  show V m c main_v29 _ = V m c main_v29 _
  congr 1
  funext a
  apply Fin.ext
  match a with
  | ⟨0, _⟩ => show win0_3.index t 0 * 1 + 1 * 0 = 0; rw [index3]; simp
  | ⟨1, _⟩ => show win0_3.index t 1 * 1024 + 1 * (d : ℕ) = (d : ℕ); rw [index3]; simp

theorem iblk4_at (c : Dev nD) (t : Fin cfg0.N) (d : Fin 1024) (l : Fin 3072) :
    (iblk m c 4 t : Vec Ideal S1024x3072 .bf16) (ix2 d l) = pack (m ((c.tc : Thread nD τ).loc main_arg3)) (ix2 d l) := by
  refine Eq.trans ?_ (congrFun (V_v17 m c) _)
  unfold iblk
  rw [View.read_apply]
  show V m c main_v17 _ = V m c main_v17 _
  congr 1
  funext a
  apply Fin.ext
  match a with
  | ⟨0, _⟩ => show win0_4.index t 0 * 1024 + 1 * (d : ℕ) = (d : ℕ); rw [index4]; simp
  | ⟨1, _⟩ => show win0_4.index t 1 * 3072 + 1 * (l : ℕ) = (l : ℕ); rw [index4]; simp

theorem iblk5_at (c : Dev nD) (t : Fin cfg0.N) (d : Fin 1024) (l : Fin 128) :
    (iblk m c 5 t : Vec Ideal S1024x128 .bf16) (ix2 d l) = packF (m ((c.tc : Thread nD τ).loc main_arg3)) (ix2 d l) := by
  refine Eq.trans ?_ (congrFun (V_v21 m c) _)
  unfold iblk
  rw [View.read_apply]
  show V m c main_v21 _ = V m c main_v21 _
  congr 1
  funext a
  apply Fin.ext
  match a with
  | ⟨0, _⟩ => show win0_5.index t 0 * 1024 + 1 * (d : ℕ) = (d : ℕ); rw [index5]; simp
  | ⟨1, _⟩ => show win0_5.index t 1 * 128 + 1 * (l : ℕ) = (l : ℕ); rw [index5]; simp

theorem iblk6_at (c : Dev nD) (t : Fin cfg0.N) (l : Fin 128) :
    (iblk m c 6 t : Vec Ideal S1x128 .f32) (ix2 0 l) = packB (m ((c.tc : Thread nD τ).loc main_arg4)) (ix2 0 l) := by
  refine Eq.trans ?_ (congrFun (V_v25 m c) _)
  unfold iblk
  rw [View.read_apply]
  show V m c main_v25 _ = V m c main_v25 _
  congr 1
  funext a
  apply Fin.ext
  match a with
  | ⟨0, _⟩ => show win0_6.index t 0 * 1 + 1 * 0 = 0; rw [index6]; simp
  | ⟨1, _⟩ => show win0_6.index t 1 * 128 + 1 * (l : ℕ) = (l : ℕ); rw [index6]; simp

/-- A point's modulated row. -/
theorem row_eq (c : Dev nD) (t : Fin cfg0.N) (r : Fin 512) :
    row (iblk m c 0 t) (iblk m c 3 t) (iblk m c 2 t) (iblk m c 1 t) r
      = hrow (m ((c.tc : Thread nD τ).loc main_arg0)) (m ((c.tc : Thread nD τ).loc main_arg1)) (m ((c.tc : Thread nD τ).loc main_arg2)) (bt t) (rowOf t r) := by
  unfold row hrow
  simp only [iblk0_at, iblk1_at, iblk2_at, iblk3_at]

/-! ## What the body leaves -/

section Out

variable (x0 : Vec Ideal S1x512x1024 .f32) (x1 : Vec Ideal S1x1x1024 .f32) (x2 : Vec Ideal S1x1x1024 .f32) (x3 : Vec Ideal S1x1024 .f32)
  (x4 : Vec Ideal S1024x3072 .bf16) (x5 : Vec Ideal S1024x128 .bf16) (x6 : Vec Ideal S1x128 .f32) (r : Fin 512)

theorem zero3 : (![0, 0, 0] : Fin 3 → ℕ) = fun _ => 0 := by decide

theorem zero2 : (![0, 0] : Fin 2 → ℕ) = fun _ => 0 := by decide

theorem pay7_eq : k0_pay7 x0 x1 x2 x3 x4 x5 x6 = k0_pay2 (F := Ideal) x0 x3 x2 x1 := by
  unfold k0_pay7
  rw [View.ld_unit_zero zero3, View.ld_unit_zero zero2, View.ld_unit_zero zero3, View.ld_unit_zero zero3]

theorem ld3_at (d : Fin 1024) (l : Fin 768) : View.ld x4 r0_3 (ix2 d l) = x4 (ix2 d ⟨0 + l, by omega⟩) := by
  show x4 _ = x4 _
  congr 1
  funext a
  apply Fin.ext
  match a with
  | ⟨0, _⟩ => show 0 + 1 * (d : ℕ) = d; omega
  | ⟨1, _⟩ => show 0 + 1 * (l : ℕ) = 0 + l; omega

theorem out7_at (l : Fin 768) : out0_7 x0 x1 x2 x3 x4 x5 x6 (ix3 0 r l)
    = proj (row x0 x3 x2 x1 r) fun d => x4 (ix2 d ⟨0 + l, by omega⟩) := by
  unfold out0_7
  rw [View.canon_cons_unit_zero zero3]
  rw [View.ld_unit_zero zero3, View.ld_unit_zero zero2, View.ld_unit_zero zero3, View.ld_unit_zero zero3, pay3_at]
  exact congrArg (proj _) (funext fun d => ld3_at x4 d l)

theorem ld5_at (d : Fin 1024) (l : Fin 1152) : View.ld x4 r0_5 (ix2 d l) = x4 (ix2 d ⟨768 + l, by omega⟩) := by
  show x4 _ = x4 _
  congr 1
  funext a
  apply Fin.ext
  match a with
  | ⟨0, _⟩ => show 0 + 1 * (d : ℕ) = d; omega
  | ⟨1, _⟩ => show 768 + 1 * (l : ℕ) = 768 + l; omega

theorem out8_at (l : Fin 1152) : out0_8 x0 x1 x2 x3 x4 x5 x6 (ix3 0 r l)
    = proj (row x0 x3 x2 x1 r) fun d => x4 (ix2 d ⟨768 + l, by omega⟩) := by
  unfold out0_8
  rw [View.canon_cons_unit_zero zero3]
  rw [pay7_eq, pay4_at]
  simp only [pay2_at]
  exact congrArg (proj _) (funext fun d => ld5_at x4 d l)

theorem ld7_at (d : Fin 1024) (l : Fin 1152) : View.ld x4 r0_7 (ix2 d l) = x4 (ix2 d ⟨1920 + l, by omega⟩) := by
  show x4 _ = x4 _
  congr 1
  funext a
  apply Fin.ext
  match a with
  | ⟨0, _⟩ => show 0 + 1 * (d : ℕ) = d; omega
  | ⟨1, _⟩ => show 1920 + 1 * (l : ℕ) = 1920 + l; omega

theorem out9_at (l : Fin 1152) : out0_9 x0 x1 x2 x3 x4 x5 x6 (ix3 0 r l)
    = proj (row x0 x3 x2 x1 r) fun d => x4 (ix2 d ⟨1920 + l, by omega⟩) := by
  unfold out0_9
  rw [View.canon_cons_unit_zero zero3]
  rw [pay7_eq, pay5_at]
  simp only [pay2_at]
  exact congrArg (proj _) (funext fun d => ld7_at x4 d l)

theorem out10_at (l : Fin 128) : out0_10 x0 x1 x2 x3 x4 x5 x6 (ix3 0 r l)
    = logSig (proj (row x0 x3 x2 x1 r) (fun d => x5 (ix2 d l)) + x6 (ix2 0 l)) := by
  unfold out0_10
  rw [View.canon_cons_unit_zero zero3, View.ld_unit_zero zero2, View.ld_unit_zero zero2, pay7_eq, pay6_at]
  simp only [pay2_at]

end Out

/-! ## The result arrays -/

theorem block7 (c : Dev nD) (t : Fin cfg0.N) (r : Fin 512) (l : Fin 768) :
    out0_7 (iblk m c 0 t) (iblk m c 1 t) (iblk m c 2 t) (iblk m c 3 t) (iblk m c 4 t) (iblk m c 5 t) (iblk m c 6 t) (ix3 0 r l)
      = fam 256 0 (cols (m ((c.tc : Thread nD τ).loc main_arg0)) (m ((c.tc : Thread nD τ).loc main_arg1)) (m ((c.tc : Thread nD τ).loc main_arg2)) (m ((c.tc : Thread nD τ).loc main_arg3)) (bt t) (rowOf t r)) l := by
  rw [out7_at, row_eq]
  simp only [iblk4_at, pack_sb]
  exact proj_fam _ _ _ _ _

theorem flushed7_eq (c : Dev nD) (t : Fin cfg0.N) :
    (dats m 0 c).flushed 7 t = ((cfg0.win 7).blk t).view.read (Elt Ideal) (famRes (m ((c.tc : Thread nD τ).loc main_arg0)) (m ((c.tc : Thread nD τ).loc main_arg1)) (m ((c.tc : Thread nD τ).loc main_arg2)) (m ((c.tc : Thread nD τ).loc main_arg3)) 768 256 0) := by
  rw [Cert.Kernel3Ideal.Value.flushed7]
  funext j
  have h1 : ((j 1 : Fin _) : ℕ) < 512 := (j 1).isLt
  have h2 : ((j 2 : Fin _) : ℕ) < 768 := (j 2).isLt
  have h0 : ((j 0 : Fin _) : ℕ) < 1 := (j 0).isLt
  have e : (cfg0.win 7).cut (grid0.coords t) (out0_7 (iblk m c 0 t) (iblk m c 1 t) (iblk m c 2 t) (iblk m c 3 t) (iblk m c 4 t) (iblk m c 5 t) (iblk m c 6 t)) j
      = out0_7 (iblk m c 0 t) (iblk m c 1 t) (iblk m c 2 t) (iblk m c 3 t) (iblk m c 4 t) (iblk m c 5 t) (iblk m c 6 t) (ix3 (0 : Fin 1) (⟨j 1, h1⟩ : Fin 512) (⟨j 2, h2⟩ : Fin 768)) := by
    show out0_7 (iblk m c 0 t) (iblk m c 1 t) (iblk m c 2 t) (iblk m c 3 t) (iblk m c 4 t) (iblk m c 5 t) (iblk m c 6 t) _ = _
    congr 1
    funext a
    apply Fin.ext
    match a with
    | ⟨0, _⟩ => show ((j 0 : Fin _) : ℕ) = 0; omega
    | ⟨1, _⟩ => rfl
    | ⟨2, _⟩ => rfl
  rw [e, block7, View.read_apply]
  refine (famRes_at _ _ _ _ _ _ _ _ (bt t) (rowOf t ⟨j 1, h1⟩) _ ?_ ?_ ?_).symm
  · show win0_7.index t 0 * 1 + 1 * ((j 0 : Fin _) : ℕ) = (grid0.coords t 0 : ℕ)
    rw [index7]
    show (grid0.coords t 0 : ℕ) * 1 + 1 * ((j 0 : Fin _) : ℕ) = _
    omega
  · show win0_7.index t 1 * 512 + 1 * ((j 1 : Fin _) : ℕ) = 512 * (grid0.coords t 1 : ℕ) + ((j 1 : Fin _) : ℕ)
    rw [index7]
    show (grid0.coords t 1 : ℕ) * 512 + 1 * ((j 1 : Fin _) : ℕ) = _
    omega
  · show win0_7.index t 2 * 768 + 1 * ((j 2 : Fin _) : ℕ) = ((j 2 : Fin _) : ℕ)
    rw [index7]
    show 0 * 768 + 1 * ((j 2 : Fin _) : ℕ) = _
    omega

theorem final7 (c : Dev nD) : (dats m 0 c).arrAt 7 cfg0.N = famRes (m ((c.tc : Thread nD τ).loc main_arg0)) (m ((c.tc : Thread nD τ).loc main_arg1)) (m ((c.tc : Thread nD τ).loc main_arg2)) (m ((c.tc : Thread nD τ).loc main_arg3)) 768 256 0 :=
  (dats m 0 c).arrAt_eq_of_cover 7 _ (fun t _ => flushed7_eq m c t) fun i => by
    have h0 : ((i 0 : Fin _) : ℕ) < 16 := (i 0).isLt
    have h1 : ((i 1 : Fin _) : ℕ) < 2048 := (i 1).isLt
    have h2 : ((i 2 : Fin _) : ℕ) < 768 := (i 2).isLt
    obtain ⟨t, hf, e0, e1⟩ := cover7 (⟨(i 0 : ℕ), h0⟩ : Fin 16) (⟨(i 1 : ℕ) / 512, by omega⟩ : Fin 4)
    refine ⟨t, hf, ?_⟩
    show i ∈ ((View.whole main_v30_0).slice (win0_7.rect t)).set
    rw [View.set_slice_whole, Rect.mem_set_unit]
    intro a
    match a with
    | ⟨0, _⟩ =>
      show win0_7.index t 0 * 1 ≤ (i 0 : ℕ) ∧ (i 0 : ℕ) < win0_7.index t 0 * 1 + 1
      rw [index7]
      show (grid0.coords t 0 : ℕ) * 1 ≤ (i 0 : ℕ) ∧ (i 0 : ℕ) < (grid0.coords t 0 : ℕ) * 1 + 1
      rw [e0]
      dsimp only
      omega
    | ⟨1, _⟩ =>
      show win0_7.index t 1 * 512 ≤ (i 1 : ℕ) ∧ (i 1 : ℕ) < win0_7.index t 1 * 512 + 512
      rw [index7]
      show (grid0.coords t 1 : ℕ) * 512 ≤ (i 1 : ℕ) ∧ (i 1 : ℕ) < (grid0.coords t 1 : ℕ) * 512 + 512
      rw [e1]
      dsimp only
      omega
    | ⟨2, _⟩ =>
      show win0_7.index t 2 * 768 ≤ (i 2 : ℕ) ∧ (i 2 : ℕ) < win0_7.index t 2 * 768 + 768
      rw [index7]
      show 0 * 768 ≤ (i 2 : ℕ) ∧ (i 2 : ℕ) < 0 * 768 + 768
      omega

theorem block8 (c : Dev nD) (t : Fin cfg0.N) (r : Fin 512) (l : Fin 1152) :
    out0_8 (iblk m c 0 t) (iblk m c 1 t) (iblk m c 2 t) (iblk m c 3 t) (iblk m c 4 t) (iblk m c 5 t) (iblk m c 6 t) (ix3 0 r l)
      = fam 384 256 (cols (m ((c.tc : Thread nD τ).loc main_arg0)) (m ((c.tc : Thread nD τ).loc main_arg1)) (m ((c.tc : Thread nD τ).loc main_arg2)) (m ((c.tc : Thread nD τ).loc main_arg3)) (bt t) (rowOf t r)) l := by
  rw [out8_at, row_eq]
  simp only [iblk4_at, pack_dil]
  exact proj_fam _ _ _ _ _

theorem flushed8_eq (c : Dev nD) (t : Fin cfg0.N) :
    (dats m 0 c).flushed 8 t = ((cfg0.win 8).blk t).view.read (Elt Ideal) (famRes (m ((c.tc : Thread nD τ).loc main_arg0)) (m ((c.tc : Thread nD τ).loc main_arg1)) (m ((c.tc : Thread nD τ).loc main_arg2)) (m ((c.tc : Thread nD τ).loc main_arg3)) 1152 384 256) := by
  rw [Cert.Kernel3Ideal.Value.flushed8]
  funext j
  have h1 : ((j 1 : Fin _) : ℕ) < 512 := (j 1).isLt
  have h2 : ((j 2 : Fin _) : ℕ) < 1152 := (j 2).isLt
  have h0 : ((j 0 : Fin _) : ℕ) < 1 := (j 0).isLt
  have e : (cfg0.win 8).cut (grid0.coords t) (out0_8 (iblk m c 0 t) (iblk m c 1 t) (iblk m c 2 t) (iblk m c 3 t) (iblk m c 4 t) (iblk m c 5 t) (iblk m c 6 t)) j
      = out0_8 (iblk m c 0 t) (iblk m c 1 t) (iblk m c 2 t) (iblk m c 3 t) (iblk m c 4 t) (iblk m c 5 t) (iblk m c 6 t) (ix3 (0 : Fin 1) (⟨j 1, h1⟩ : Fin 512) (⟨j 2, h2⟩ : Fin 1152)) := by
    show out0_8 (iblk m c 0 t) (iblk m c 1 t) (iblk m c 2 t) (iblk m c 3 t) (iblk m c 4 t) (iblk m c 5 t) (iblk m c 6 t) _ = _
    congr 1
    funext a
    apply Fin.ext
    match a with
    | ⟨0, _⟩ => show ((j 0 : Fin _) : ℕ) = 0; omega
    | ⟨1, _⟩ => rfl
    | ⟨2, _⟩ => rfl
  rw [e, block8, View.read_apply]
  refine (famRes_at _ _ _ _ _ _ _ _ (bt t) (rowOf t ⟨j 1, h1⟩) _ ?_ ?_ ?_).symm
  · show win0_8.index t 0 * 1 + 1 * ((j 0 : Fin _) : ℕ) = (grid0.coords t 0 : ℕ)
    rw [index8]
    show (grid0.coords t 0 : ℕ) * 1 + 1 * ((j 0 : Fin _) : ℕ) = _
    omega
  · show win0_8.index t 1 * 512 + 1 * ((j 1 : Fin _) : ℕ) = 512 * (grid0.coords t 1 : ℕ) + ((j 1 : Fin _) : ℕ)
    rw [index8]
    show (grid0.coords t 1 : ℕ) * 512 + 1 * ((j 1 : Fin _) : ℕ) = _
    omega
  · show win0_8.index t 2 * 1152 + 1 * ((j 2 : Fin _) : ℕ) = ((j 2 : Fin _) : ℕ)
    rw [index8]
    show 0 * 1152 + 1 * ((j 2 : Fin _) : ℕ) = _
    omega

theorem final8 (c : Dev nD) : (dats m 0 c).arrAt 8 cfg0.N = famRes (m ((c.tc : Thread nD τ).loc main_arg0)) (m ((c.tc : Thread nD τ).loc main_arg1)) (m ((c.tc : Thread nD τ).loc main_arg2)) (m ((c.tc : Thread nD τ).loc main_arg3)) 1152 384 256 :=
  (dats m 0 c).arrAt_eq_of_cover 8 _ (fun t _ => flushed8_eq m c t) fun i => by
    have h0 : ((i 0 : Fin _) : ℕ) < 16 := (i 0).isLt
    have h1 : ((i 1 : Fin _) : ℕ) < 2048 := (i 1).isLt
    have h2 : ((i 2 : Fin _) : ℕ) < 1152 := (i 2).isLt
    obtain ⟨t, hf, e0, e1⟩ := cover8 (⟨(i 0 : ℕ), h0⟩ : Fin 16) (⟨(i 1 : ℕ) / 512, by omega⟩ : Fin 4)
    refine ⟨t, hf, ?_⟩
    show i ∈ ((View.whole main_v30_1).slice (win0_8.rect t)).set
    rw [View.set_slice_whole, Rect.mem_set_unit]
    intro a
    match a with
    | ⟨0, _⟩ =>
      show win0_8.index t 0 * 1 ≤ (i 0 : ℕ) ∧ (i 0 : ℕ) < win0_8.index t 0 * 1 + 1
      rw [index8]
      show (grid0.coords t 0 : ℕ) * 1 ≤ (i 0 : ℕ) ∧ (i 0 : ℕ) < (grid0.coords t 0 : ℕ) * 1 + 1
      rw [e0]
      dsimp only
      omega
    | ⟨1, _⟩ =>
      show win0_8.index t 1 * 512 ≤ (i 1 : ℕ) ∧ (i 1 : ℕ) < win0_8.index t 1 * 512 + 512
      rw [index8]
      show (grid0.coords t 1 : ℕ) * 512 ≤ (i 1 : ℕ) ∧ (i 1 : ℕ) < (grid0.coords t 1 : ℕ) * 512 + 512
      rw [e1]
      dsimp only
      omega
    | ⟨2, _⟩ =>
      show win0_8.index t 2 * 1152 ≤ (i 2 : ℕ) ∧ (i 2 : ℕ) < win0_8.index t 2 * 1152 + 1152
      rw [index8]
      show 0 * 1152 ≤ (i 2 : ℕ) ∧ (i 2 : ℕ) < 0 * 1152 + 1152
      omega

theorem block9 (c : Dev nD) (t : Fin cfg0.N) (r : Fin 512) (l : Fin 1152) :
    out0_9 (iblk m c 0 t) (iblk m c 1 t) (iblk m c 2 t) (iblk m c 3 t) (iblk m c 4 t) (iblk m c 5 t) (iblk m c 6 t) (ix3 0 r l)
      = fam 384 640 (cols (m ((c.tc : Thread nD τ).loc main_arg0)) (m ((c.tc : Thread nD τ).loc main_arg1)) (m ((c.tc : Thread nD τ).loc main_arg2)) (m ((c.tc : Thread nD τ).loc main_arg3)) (bt t) (rowOf t r)) l := by
  rw [out9_at, row_eq]
  simp only [iblk4_at, pack_fox]
  exact proj_fam _ _ _ _ _

theorem flushed9_eq (c : Dev nD) (t : Fin cfg0.N) :
    (dats m 0 c).flushed 9 t = ((cfg0.win 9).blk t).view.read (Elt Ideal) (famRes (m ((c.tc : Thread nD τ).loc main_arg0)) (m ((c.tc : Thread nD τ).loc main_arg1)) (m ((c.tc : Thread nD τ).loc main_arg2)) (m ((c.tc : Thread nD τ).loc main_arg3)) 1152 384 640) := by
  rw [Cert.Kernel3Ideal.Value.flushed9]
  funext j
  have h1 : ((j 1 : Fin _) : ℕ) < 512 := (j 1).isLt
  have h2 : ((j 2 : Fin _) : ℕ) < 1152 := (j 2).isLt
  have h0 : ((j 0 : Fin _) : ℕ) < 1 := (j 0).isLt
  have e : (cfg0.win 9).cut (grid0.coords t) (out0_9 (iblk m c 0 t) (iblk m c 1 t) (iblk m c 2 t) (iblk m c 3 t) (iblk m c 4 t) (iblk m c 5 t) (iblk m c 6 t)) j
      = out0_9 (iblk m c 0 t) (iblk m c 1 t) (iblk m c 2 t) (iblk m c 3 t) (iblk m c 4 t) (iblk m c 5 t) (iblk m c 6 t) (ix3 (0 : Fin 1) (⟨j 1, h1⟩ : Fin 512) (⟨j 2, h2⟩ : Fin 1152)) := by
    show out0_9 (iblk m c 0 t) (iblk m c 1 t) (iblk m c 2 t) (iblk m c 3 t) (iblk m c 4 t) (iblk m c 5 t) (iblk m c 6 t) _ = _
    congr 1
    funext a
    apply Fin.ext
    match a with
    | ⟨0, _⟩ => show ((j 0 : Fin _) : ℕ) = 0; omega
    | ⟨1, _⟩ => rfl
    | ⟨2, _⟩ => rfl
  rw [e, block9, View.read_apply]
  refine (famRes_at _ _ _ _ _ _ _ _ (bt t) (rowOf t ⟨j 1, h1⟩) _ ?_ ?_ ?_).symm
  · show win0_9.index t 0 * 1 + 1 * ((j 0 : Fin _) : ℕ) = (grid0.coords t 0 : ℕ)
    rw [index9]
    show (grid0.coords t 0 : ℕ) * 1 + 1 * ((j 0 : Fin _) : ℕ) = _
    omega
  · show win0_9.index t 1 * 512 + 1 * ((j 1 : Fin _) : ℕ) = 512 * (grid0.coords t 1 : ℕ) + ((j 1 : Fin _) : ℕ)
    rw [index9]
    show (grid0.coords t 1 : ℕ) * 512 + 1 * ((j 1 : Fin _) : ℕ) = _
    omega
  · show win0_9.index t 2 * 1152 + 1 * ((j 2 : Fin _) : ℕ) = ((j 2 : Fin _) : ℕ)
    rw [index9]
    show 0 * 1152 + 1 * ((j 2 : Fin _) : ℕ) = _
    omega

theorem final9 (c : Dev nD) : (dats m 0 c).arrAt 9 cfg0.N = famRes (m ((c.tc : Thread nD τ).loc main_arg0)) (m ((c.tc : Thread nD τ).loc main_arg1)) (m ((c.tc : Thread nD τ).loc main_arg2)) (m ((c.tc : Thread nD τ).loc main_arg3)) 1152 384 640 :=
  (dats m 0 c).arrAt_eq_of_cover 9 _ (fun t _ => flushed9_eq m c t) fun i => by
    have h0 : ((i 0 : Fin _) : ℕ) < 16 := (i 0).isLt
    have h1 : ((i 1 : Fin _) : ℕ) < 2048 := (i 1).isLt
    have h2 : ((i 2 : Fin _) : ℕ) < 1152 := (i 2).isLt
    obtain ⟨t, hf, e0, e1⟩ := cover9 (⟨(i 0 : ℕ), h0⟩ : Fin 16) (⟨(i 1 : ℕ) / 512, by omega⟩ : Fin 4)
    refine ⟨t, hf, ?_⟩
    show i ∈ ((View.whole main_v30_2).slice (win0_9.rect t)).set
    rw [View.set_slice_whole, Rect.mem_set_unit]
    intro a
    match a with
    | ⟨0, _⟩ =>
      show win0_9.index t 0 * 1 ≤ (i 0 : ℕ) ∧ (i 0 : ℕ) < win0_9.index t 0 * 1 + 1
      rw [index9]
      show (grid0.coords t 0 : ℕ) * 1 ≤ (i 0 : ℕ) ∧ (i 0 : ℕ) < (grid0.coords t 0 : ℕ) * 1 + 1
      rw [e0]
      dsimp only
      omega
    | ⟨1, _⟩ =>
      show win0_9.index t 1 * 512 ≤ (i 1 : ℕ) ∧ (i 1 : ℕ) < win0_9.index t 1 * 512 + 512
      rw [index9]
      show (grid0.coords t 1 : ℕ) * 512 ≤ (i 1 : ℕ) ∧ (i 1 : ℕ) < (grid0.coords t 1 : ℕ) * 512 + 512
      rw [e1]
      dsimp only
      omega
    | ⟨2, _⟩ =>
      show win0_9.index t 2 * 1152 ≤ (i 2 : ℕ) ∧ (i 2 : ℕ) < win0_9.index t 2 * 1152 + 1152
      rw [index9]
      show 0 * 1152 ≤ (i 2 : ℕ) ∧ (i 2 : ℕ) < 0 * 1152 + 1152
      omega

theorem block10 (c : Dev nD) (t : Fin cfg0.N) (r : Fin 512) (l : Fin 128) :
    out0_10 (iblk m c 0 t) (iblk m c 1 t) (iblk m c 2 t) (iblk m c 3 t) (iblk m c 4 t) (iblk m c 5 t) (iblk m c 6 t) (ix3 0 r l)
      = logSig (gate (cols (m ((c.tc : Thread nD τ).loc main_arg0)) (m ((c.tc : Thread nD τ).loc main_arg1)) (m ((c.tc : Thread nD τ).loc main_arg2)) (m ((c.tc : Thread nD τ).loc main_arg3)) (bt t) (rowOf t r)) (fun l => (m ((c.tc : Thread nD τ).loc main_arg4)) (ix2 0 l)) l) := by
  rw [out10_at, row_eq]
  simp only [iblk5_at, iblk6_at]
  rw [gate_cols]

theorem flushed10_eq (c : Dev nD) (t : Fin cfg0.N) :
    (dats m 0 c).flushed 10 t = ((cfg0.win 10).blk t).view.read (Elt Ideal) (gateRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  rw [Cert.Kernel3Ideal.Value.flushed10]
  funext j
  have h1 : ((j 1 : Fin _) : ℕ) < 512 := (j 1).isLt
  have h2 : ((j 2 : Fin _) : ℕ) < 128 := (j 2).isLt
  have h0 : ((j 0 : Fin _) : ℕ) < 1 := (j 0).isLt
  have e : (cfg0.win 10).cut (grid0.coords t) (out0_10 (iblk m c 0 t) (iblk m c 1 t) (iblk m c 2 t) (iblk m c 3 t) (iblk m c 4 t) (iblk m c 5 t) (iblk m c 6 t)) j
      = out0_10 (iblk m c 0 t) (iblk m c 1 t) (iblk m c 2 t) (iblk m c 3 t) (iblk m c 4 t) (iblk m c 5 t) (iblk m c 6 t) (ix3 (0 : Fin 1) (⟨j 1, h1⟩ : Fin 512) (⟨j 2, h2⟩ : Fin 128)) := by
    show out0_10 (iblk m c 0 t) (iblk m c 1 t) (iblk m c 2 t) (iblk m c 3 t) (iblk m c 4 t) (iblk m c 5 t) (iblk m c 6 t) _ = _
    congr 1
    funext a
    apply Fin.ext
    match a with
    | ⟨0, _⟩ => show ((j 0 : Fin _) : ℕ) = 0; omega
    | ⟨1, _⟩ => rfl
    | ⟨2, _⟩ => rfl
  rw [e, block10, View.read_apply]
  refine (gateRes_at _ _ _ _ _ _ (bt t) (rowOf t ⟨j 1, h1⟩) _ ?_ ?_ ?_).symm
  · show win0_10.index t 0 * 1 + 1 * ((j 0 : Fin _) : ℕ) = (grid0.coords t 0 : ℕ)
    rw [index10]
    show (grid0.coords t 0 : ℕ) * 1 + 1 * ((j 0 : Fin _) : ℕ) = _
    omega
  · show win0_10.index t 1 * 512 + 1 * ((j 1 : Fin _) : ℕ) = 512 * (grid0.coords t 1 : ℕ) + ((j 1 : Fin _) : ℕ)
    rw [index10]
    show (grid0.coords t 1 : ℕ) * 512 + 1 * ((j 1 : Fin _) : ℕ) = _
    omega
  · show win0_10.index t 2 * 128 + 1 * ((j 2 : Fin _) : ℕ) = ((j 2 : Fin _) : ℕ)
    rw [index10]
    show 0 * 128 + 1 * ((j 2 : Fin _) : ℕ) = _
    omega

theorem final10 (c : Dev nD) : (dats m 0 c).arrAt 10 cfg0.N = gateRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 10 _ (fun t _ => flushed10_eq m c t) fun i => by
    have h0 : ((i 0 : Fin _) : ℕ) < 16 := (i 0).isLt
    have h1 : ((i 1 : Fin _) : ℕ) < 2048 := (i 1).isLt
    have h2 : ((i 2 : Fin _) : ℕ) < 128 := (i 2).isLt
    obtain ⟨t, hf, e0, e1⟩ := cover10 (⟨(i 0 : ℕ), h0⟩ : Fin 16) (⟨(i 1 : ℕ) / 512, by omega⟩ : Fin 4)
    refine ⟨t, hf, ?_⟩
    show i ∈ ((View.whole main_v30_3).slice (win0_10.rect t)).set
    rw [View.set_slice_whole, Rect.mem_set_unit]
    intro a
    match a with
    | ⟨0, _⟩ =>
      show win0_10.index t 0 * 1 ≤ (i 0 : ℕ) ∧ (i 0 : ℕ) < win0_10.index t 0 * 1 + 1
      rw [index10]
      show (grid0.coords t 0 : ℕ) * 1 ≤ (i 0 : ℕ) ∧ (i 0 : ℕ) < (grid0.coords t 0 : ℕ) * 1 + 1
      rw [e0]
      dsimp only
      omega
    | ⟨1, _⟩ =>
      show win0_10.index t 1 * 512 ≤ (i 1 : ℕ) ∧ (i 1 : ℕ) < win0_10.index t 1 * 512 + 512
      rw [index10]
      show (grid0.coords t 1 : ℕ) * 512 ≤ (i 1 : ℕ) ∧ (i 1 : ℕ) < (grid0.coords t 1 : ℕ) * 512 + 512
      rw [e1]
      dsimp only
      omega
    | ⟨2, _⟩ =>
      show win0_10.index t 2 * 128 ≤ (i 2 : ℕ) ∧ (i 2 : ℕ) < win0_10.index t 2 * 128 + 128
      rw [index10]
      show 0 * 128 ≤ (i 2 : ℕ) ∧ (i 2 : ℕ) < 0 * 128 + 128
      omega

end Cert.Kernel3Ideal.Ip

end
-- ==== Proof.IpRef.lean ====
/-
  The projection as the mathematics writes it, read at an entry: the same columns as the kernel's.
-/
module

public import proofs.«01_k».proof.Proof.IpKernel
public import proofs.«01_k».proof.Proof.Gen.Reference3Ideal.Read

@[expose] public section

set_option maxRecDepth 16384

noncomputable section

namespace Cert.Reference3Ideal.Ip

open Cert.Reference3Ideal Cert.Reference3Ideal.Read Idealize.ShloMosaic Idealize.ShloMosaic.TcCoe Idealize.SL.Sem
open Cert.Proj
open Cert.Kernel3Ideal.Ip (wcol hrow cols famRes gateRes)

variable (x : FVec Ideal S16x2048x1024 .f32) (s : FVec Ideal S16x6144 .f32) (g : FVec Ideal S4x1024 .f32)
  (w : FVec Ideal S4x1024x3078 .f32) (b : FVec Ideal S4x6 .f32)

theorem ss_at (n : Fin 16) (r : Fin 2048) : val_main_v5 (F := Ideal) x (ix2 n r) = ∑ d : Fin 1024, x (ix3 n r d) * x (ix3 n r d) := by
  rw [val_main_v5_apply]
  refine (congrArg₂ (· + ·) (show _ = (0 : EReal) from Ideal.ofBits_zero_f32) (Finset.sum_congr rfl fun d _ => ?_)).trans (zero_add _)
  rw [val_main_v4_apply]
  have e : idx_main_v5 (ix2 n r) d = ix3 n r d := by funext a; fin_cases a <;> rfl
  rw [e]
  rfl

theorem h_at (n : Fin 16) (r : Fin 2048) (d : Fin 1024) : val_main_v24 (F := Ideal) x s g (ix3 n r d) = hrow x s g n r d := by
  unfold hrow hid
  rw [← ss_at, one_f32]
  unfold val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v3 val_main_v2 val_main_v1 val_main_v0 val_main_cst_0 val_main_cst_1 val_main_cst_2
  pointwise

theorem col_at (n : Fin 16) (r : Fin 2048) (c : Fin 3078) : val_main_v27 (F := Ideal) x s g w (ix3 n r c) = cols x s g w n r c := by
  rw [val_main_v27_apply]
  unfold cols proj
  refine Finset.sum_congr rfl fun d _ => ?_
  rw [← h_at]
  refine congrArg₂ (· * ·) (congrArg _ (by funext a; fin_cases a <;> rfl)) ?_
  have e : Fin.ofNat 3078 (c : ℕ) = c := Fin.ext (Nat.mod_eq_of_lt c.isLt)
  unfold wcol
  rw [e, val_main_v26_apply, val_main_v25_apply]
  refine congrArg w ?_
  funext a
  fin_cases a <;> apply Fin.ext <;> simp <;> omega

theorem q_at (n : Fin 16) (r : Fin 2048) (d : Fin 1024) : val_main_v30 (F := Ideal) x s g w (ix3 n r d)
    = cols x s g w n r d * Ideal.ofBits .f32 0x3E000000#32 := by
  unfold val_main_v30 val_main_v29 val_main_v28 val_main_cst_3
  pointwise
  rw [col_at]

theorem k_at (n : Fin 16) (r : Fin 2048) (d : Fin 1024) : val_main_v31 (F := Ideal) x s g w (ix3 n r d) = cols x s g w n r (1024 + d) := by
  unfold val_main_v31
  pointwise
  rw [col_at]

theorem v_at (n : Fin 16) (r : Fin 2048) (d : Fin 1024) : val_main_v32 (F := Ideal) x s g w (ix3 n r d) = cols x s g w n r (2048 + d) := by
  unfold val_main_v32
  pointwise
  rw [col_at]

theorem v45_at (n : Fin 16) (r : Fin 2048) (l : Fin 768) : val_main_v45 (F := Ideal) x s g w (ix3 n r l)
    = fam 256 0 (cols x s g w n r) l := by
  unfold val_main_v45 val_main_v44 val_main_v43 val_main_v42 val_main_v41
  pointwise
  simp only [q_at, k_at, v_at]
  generalize cols x s g w n r = p
  have hl := l.isLt
  revert hl
  generalize (l : ℕ) = n
  intro hl
  unfold fam
  simp only [dite_eq_ite]
  split_ifs <;> first
    | (exfalso; omega)
    | (refine congrArg (p · * _) ?_; omega)
    | (refine congrArg p ?_; omega)

theorem v50_at (n : Fin 16) (r : Fin 2048) (l : Fin 1152) : val_main_v50 (F := Ideal) x s g w (ix3 n r l)
    = fam 384 256 (cols x s g w n r) l := by
  unfold val_main_v50 val_main_v49 val_main_v48 val_main_v47 val_main_v46
  pointwise
  simp only [q_at, k_at, v_at]
  generalize cols x s g w n r = p
  have hl := l.isLt
  revert hl
  generalize (l : ℕ) = n
  intro hl
  unfold fam
  simp only [dite_eq_ite]
  split_ifs <;> first
    | (exfalso; omega)
    | (refine congrArg (p · * _) ?_; omega)
    | (refine congrArg p ?_; omega)

theorem v55_at (n : Fin 16) (r : Fin 2048) (l : Fin 1152) : val_main_v55 (F := Ideal) x s g w (ix3 n r l)
    = fam 384 640 (cols x s g w n r) l := by
  unfold val_main_v55 val_main_v54 val_main_v53 val_main_v52 val_main_v51
  pointwise
  simp only [q_at, k_at, v_at]
  generalize cols x s g w n r = p
  have hl := l.isLt
  revert hl
  generalize (l : ℕ) = n
  intro hl
  unfold fam
  simp only [dite_eq_ite]
  split_ifs <;> first
    | (exfalso; omega)
    | (refine congrArg (p · * _) ?_; omega)
    | (refine congrArg p ?_; omega)

theorem f_at (n : Fin 16) (r : Fin 2048) (l : Fin 128) : val_main_v39 (F := Ideal) x s g w b (ix3 n r l)
    = gate (cols x s g w n r) (fun l => b (ix2 0 l)) l := by
  unfold val_main_v39 val_main_v38 val_main_v37 val_main_v36 val_main_v35 val_main_v34 val_main_v33 val_main_call0_v0 val_main_c gate
  pointwise
  simp only [col_at]
  have e : (FloatOps.sitofp .f32 0#32 : Ideal .f32) = (0 : EReal) := by
    show (((0#32 : BitVec 32).toInt : ℝ) : EReal) = 0
    simp
  rw [e]

theorem v40_at (n : Fin 16) (r : Fin 2048) (l : Fin 128) : val_main_v40 (F := Ideal) x s g w b (ix3 n r l)
    = logSig (gate (cols x s g w n r) (fun l => b (ix2 0 l)) l) := by
  rw [← f_at]
  unfold val_main_v40 val_main_call1_v1 val_main_call1_call0_v11 val_main_call1_call0_v10 val_main_call1_call0_v9 val_main_call1_call0_v8 val_main_call1_call0_v7 val_main_call1_call0_v6 val_main_call1_call0_v5 val_main_call1_call0_v4 val_main_call1_call0_v3 val_main_call1_call0_v2 val_main_call1_call0_v1 val_main_call1_call0_v0 val_main_call1_v0 val_main_call1_call0_cst
  generalize val_main_v39 (F := Ideal) x s g w b = y
  unfold logSig
  rw [one_f32]
  pointwise
  rw [if_neg (not_not.mpr rfl)]
  simp only [zero_sub]
  rfl

end Cert.Reference3Ideal.Ip

end
-- ==== Proof.SbTile.lean ====
/-
  One tile of the stick-breaking attention: what a trip of the kernel's loop does to one head's carried pair (the running
  sum of the logarithms of the sticks left, and the accumulated output), as vector operations at any float format, and, at
  the extended reals on finite operands, as real arithmetic read at an index.
-/
module

public import proofs.«01_k».proof.Proof.Gen.KernelIdeal.Value
public import Idealize.ShloMosaic.Lib.Pointwise
public import Idealize.ShloMosaic.Lib.ValueIdx

@[expose] public section

set_option maxRecDepth 16384

noncomputable section

namespace Cert.KernelIdeal.Sb

open Cert.KernelIdeal Cert.KernelIdeal.Gen Idealize.ShloMosaic Idealize.ShloMosaic.TcCoe Idealize.SL.Sem

section Ops

variable {F : FTy → Type} [FloatOps F]

/-- The zero block. -/
abbrev z256 : FVec F S256x256 .f32 := broadcast S256x256 (Scalar.ofBits .f32 0x00000000#32)

/-- The scores of a tile. -/
def zt (qm : FVec F S256x128 .bf16) (kb : Vec F S1x256x128 .bf16) : FVec F S256x256 .f32 :=
  matmul dot_S256x128_S256x128_S256x256_1_1_0_0_n_n none qm (shapeCast S256x128 kb shapeCasts_S1x256x128_S256x128)
    (constant S256x256 .f32 0x00000000#32)

/-- The softplus of the scores. -/
def spv (z : FVec F S256x256 .f32) : FVec F S256x256 .f32 :=
  addf (maximumf z z256) (log (addf (broadcast S256x256 (Scalar.ofBits .f32 0x3F800000#32)) (exp (subf z256 (absf z)))))

/-- The logarithms of the sticks left. -/
def lnv (z : FVec F S256x256 .f32) : FVec F S256x256 .f32 := subf z256 (spv z)

/-- The same, nothing at and above the diagonal. -/
def lnd (z : FVec F S256x256 .f32) : FVec F S256x256 .f32 := select k0_pay56 (lnv z) z256

/-- Their sum over the keys of the tile after each key. -/
def btv (l : FVec F S256x256 .f32) : FVec F S256x256 .f32 :=
  matmul dot_S256x256_S256x256_S256x256_1_0_0_1_n_n none (truncf .bf16 l bitsLt_bf16_f32) (k0_pay57 (F := F))
    (constant S256x256 .f32 0x00000000#32)

/-- The running sum, the tile's added. -/
def sfx (s : FVec F S256x1 .f32) (l : FVec F S256x256 .f32) : FVec F S256x1 .f32 :=
  addf (addf s (extractStridedSlice S256x1 ![0, 0] (btv l) slices_S256x256_o0_0_S256x1))
    (extractStridedSlice S256x1 ![0, 0] l slices_S256x256_o0_0_S256x1)

/-- The weights of a tile's keys. -/
def wtv (s : FVec F S256x1 .f32) (z l : FVec F S256x256 .f32) : FVec F S256x256 .f32 :=
  exp (addf (addf (subf z (spv z)) (btv l)) (broadcastTo S256x256 s broadcasts_S256x1_S256x256))

/-- The accumulated output, the tile's values added under weights. -/
def acv (a : FVec F S256x128 .f32) (w : FVec F S256x256 .f32) (vb : Vec F S1x256x128 .bf16) : FVec F S256x128 .f32 :=
  addf a (matmul dot_S256x256_S256x128_S256x128_1_0_0_1_n_n none (truncf .bf16 w bitsLt_bf16_f32)
    (shapeCast S256x128 vb shapeCasts_S1x256x128_S256x128) (constant S256x128 .f32 0x00000000#32))

/-- A trip's running sum, -/
def stepS (qm : FVec F S256x128 .bf16) (kb : Vec F S1x256x128 .bf16) (s : FVec F S256x1 .f32) : FVec F S256x1 .f32 :=
  sfx s (lnv (zt qm kb))

/-- and its output. -/
def stepA (qm : FVec F S256x128 .bf16) (kb vb : Vec F S1x256x128 .bf16) (s : FVec F S256x1 .f32) (a : FVec F S256x128 .f32) :
    FVec F S256x128 .f32 :=
  acv a (wtv s (zt qm kb) (lnv (zt qm kb))) vb

/-- The diagonal tile's running sum, -/
def diagS (qm : FVec F S256x128 .bf16) (kb : Vec F S1x256x128 .bf16) : FVec F S256x1 .f32 :=
  sfx (broadcast S256x1 (Scalar.ofBits .f32 0x00000000#32)) (lnd (zt qm kb))

/-- and its output. -/
def diagA (qm : FVec F S256x128 .bf16) (kb vb : Vec F S1x256x128 .bf16) : FVec F S256x128 .f32 :=
  acv (broadcast S256x128 (Scalar.ofBits .f32 0x00000000#32))
    (select k0_pay56 (wtv (broadcast S256x1 (Scalar.ofBits .f32 0x00000000#32)) (zt qm kb) (lnd (zt qm kb))) z256) vb

end Ops

/-! ## Real arithmetic -/

/-- The softplus of a real. -/
def spR (z : ℝ) : ℝ := max z 0 + Real.log (1 + Real.exp (-|z|))

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem one_f32 : Ideal.ofBits .f32 0x3F800000#32 = 1 := by
  simp [Ideal.ofBits, Ideal.ieee]
  rw [← EReal.coe_mul, ← EReal.coe_one]
  norm_num

/-- The kernel's comparison of two positions of a tile, as a number. -/
theorem upper_at (a b : Fin 256) : (FloatOps.sitofp (F := Ideal) .f32 (BitVec.setWidth 32 (IntOp.cmpi CmpIPredicate.sgt (BitVec.ofNat 32 a)
    (BitVec.ofNat 32 b))) : EReal) = if b < a then 1 else 0 := by
  have ha : (BitVec.ofNat 32 (a : ℕ)).toInt = a := by
    simp only [BitVec.toInt_ofNat']; exact Int.bmod_eq_of_le (by omega) (by omega)
  have hb : (BitVec.ofNat 32 (b : ℕ)).toInt = b := by
    simp only [BitVec.toInt_ofNat']; exact Int.bmod_eq_of_le (by omega) (by omega)
  by_cases h : b < a
  · have : IntOp.cmpi CmpIPredicate.sgt (BitVec.ofNat 32 (a : ℕ)) (BitVec.ofNat 32 (b : ℕ)) = 1#1 := by
      simp [IntOp.cmpi, BitVec.slt, ha, hb, h]
    rw [this, if_pos h]
    simp [show ∀ b : BitVec 32, FloatOps.sitofp (F := Ideal) .f32 b = ((b.toInt : ℝ) : EReal) from fun _ => rfl]
  · have : IntOp.cmpi CmpIPredicate.sgt (BitVec.ofNat 32 (a : ℕ)) (BitVec.ofNat 32 (b : ℕ)) = 0#1 := by
      simp [IntOp.cmpi, BitVec.slt, ha, hb, h]
    rw [this, if_neg h]
    simp [show ∀ b : BitVec 32, FloatOps.sitofp (F := Ideal) .f32 b = ((b.toInt : ℝ) : EReal) from fun _ => rfl]

/-- A choice by the other comparison. -/
theorem below_at (r c : Fin 256) (x y : EReal) :
    Scalar.select (IntOp.cmpi CmpIPredicate.slt (BitVec.ofNat 32 c) (BitVec.ofNat 32 r)) x y
      = if c < r then x else y := by
  have ha : (BitVec.ofNat 32 (c : ℕ)).toInt = c := by
    simp only [BitVec.toInt_ofNat']; exact Int.bmod_eq_of_le (by omega) (by omega)
  have hb : (BitVec.ofNat 32 (r : ℕ)).toInt = r := by
    simp only [BitVec.toInt_ofNat']; exact Int.bmod_eq_of_le (by omega) (by omega)
  by_cases h : c < r
  · have : IntOp.cmpi CmpIPredicate.slt (BitVec.ofNat 32 (c : ℕ)) (BitVec.ofNat 32 (r : ℕ)) = 1#1 := by
      simp [IntOp.cmpi, BitVec.slt, ha, hb, h]
    rw [this, if_pos h]; rfl
  · have : IntOp.cmpi CmpIPredicate.slt (BitVec.ofNat 32 (c : ℕ)) (BitVec.ofNat 32 (r : ℕ)) = 0#1 := by
      simp [IntOp.cmpi, BitVec.slt, ha, hb, h]
    rw [this, if_neg h]; rfl

theorem spv_coe {z : FVec Ideal S256x256 .f32} {zr : Fin 256 → Fin 256 → ℝ} (h : ∀ r c, z (ix2 r c) = ((zr r c : ℝ) : EReal))
    (r c : Fin 256) : spv z (ix2 r c) = ((spR (zr r c) : ℝ) : EReal) := by
  unfold spv
  pointwise
  rw [h, Ideal.absf_def, ← EReal.coe_neg, ← EReal.coe_strictMono.monotone.map_max, ← EReal.coe_zero,
    ← EReal.coe_strictMono.monotone.map_max, ← EReal.coe_sub, Ideal.exp_coe, ← EReal.coe_one, ← EReal.coe_add, Ideal.log_coe,
    if_neg (not_le.2 (by positivity)), ← EReal.coe_add, zero_sub]
  rfl

theorem zt_coe {qm : FVec Ideal S256x128 .bf16} {kb : Vec Ideal S1x256x128 .bf16} {qr kr : Fin 256 → Fin 128 → ℝ}
    (hq : ∀ r d, qm (ix2 r d) = ((qr r d : ℝ) : EReal)) (hk : ∀ r d, kb (ix3 0 r d) = ((kr r d : ℝ) : EReal)) (r c : Fin 256) :
    zt qm kb (ix2 r c) = ((∑ d, qr r d * kr c d : ℝ) : EReal) := by
  unfold zt
  pointwise [dot_S256x128_S256x128_S256x256_1_1_0_0_n_n]
  rw [coe_sum]
  exact Finset.sum_congr rfl fun d _ => by rw [hq, hk, EReal.coe_mul]

theorem btv_coe {l : FVec Ideal S256x256 .f32} {lr : Fin 256 → Fin 256 → ℝ} (h : ∀ r c, l (ix2 r c) = ((lr r c : ℝ) : EReal))
    (r c : Fin 256) : btv l (ix2 r c) = ((∑ c' : Fin 256, if c < c' then lr r c' else 0 : ℝ) : EReal) := by
  unfold btv k0_pay57
  pointwise [dot_S256x256_S256x256_S256x256_1_0_0_1_n_n]
  rw [coe_sum]
  refine Finset.sum_congr rfl fun d _ => ?_
  rw [h, upper_at]
  by_cases hd : c < d
  · rw [if_pos hd, if_pos hd, mul_one]
  · rw [if_neg hd, if_neg hd, mul_zero, EReal.coe_zero]

theorem sfx_coe {s : FVec Ideal S256x1 .f32} {sr : Fin 256 → ℝ} (hs : ∀ r, s (ix2 r 0) = ((sr r : ℝ) : EReal))
    {l : FVec Ideal S256x256 .f32} {lr : Fin 256 → Fin 256 → ℝ} (h : ∀ r c, l (ix2 r c) = ((lr r c : ℝ) : EReal))
    (r : Fin 256) : sfx s l (ix2 r 0) = ((sr r + ∑ c, lr r c : ℝ) : EReal) := by
  unfold sfx
  pointwise
  rw [hs, btv_coe h, h, ← EReal.coe_add, ← EReal.coe_add, add_assoc]
  congr 2
  rw [Fin.sum_univ_succ, if_neg (lt_irrefl _), zero_add, Fin.sum_univ_succ (f := fun c => lr r c), add_comm]
  congr 1

theorem wtv_coe {s : FVec Ideal S256x1 .f32} {sr : Fin 256 → ℝ} (hs : ∀ r, s (ix2 r 0) = ((sr r : ℝ) : EReal))
    {z l : FVec Ideal S256x256 .f32} {zr lr : Fin 256 → Fin 256 → ℝ} (hz : ∀ r c, z (ix2 r c) = ((zr r c : ℝ) : EReal))
    (h : ∀ r c, l (ix2 r c) = ((lr r c : ℝ) : EReal))
    (r c : Fin 256) : wtv s z l (ix2 r c)
      = ((Real.exp (zr r c - spR (zr r c) + (∑ c' : Fin 256, if c < c' then lr r c' else 0) + sr r) : ℝ) : EReal) := by
  unfold wtv
  pointwise
  rw [hz, spv_coe hz, btv_coe h, hs, ← EReal.coe_sub, ← EReal.coe_add, ← EReal.coe_add, Ideal.exp_coe]

theorem acv_coe {a : FVec Ideal S256x128 .f32} {ar : Fin 256 → Fin 128 → ℝ} (ha : ∀ r d, a (ix2 r d) = ((ar r d : ℝ) : EReal))
    {w : FVec Ideal S256x256 .f32} {wr : Fin 256 → Fin 256 → ℝ} (hw : ∀ r c, w (ix2 r c) = ((wr r c : ℝ) : EReal))
    {vb : Vec Ideal S1x256x128 .bf16} {vr : Fin 256 → Fin 128 → ℝ} (hv : ∀ r d, vb (ix3 0 r d) = ((vr r d : ℝ) : EReal))
    (r : Fin 256) (d : Fin 128) : acv a w vb (ix2 r d) = ((ar r d + ∑ c, wr r c * vr c d : ℝ) : EReal) := by
  unfold acv
  pointwise [dot_S256x256_S256x128_S256x128_1_0_0_1_n_n]
  rw [ha, EReal.coe_add, coe_sum]
  congr 1
  exact Finset.sum_congr rfl fun c _ => by rw [hw, hv, EReal.coe_mul]

theorem lnd_at (z : FVec Ideal S256x256 .f32) (r c : Fin 256) : lnd z (ix2 r c) = if c < r then lnv z (ix2 r c) else 0 := by
  unfold lnd k0_pay56
  pointwise
  exact below_at r c _ _

end Cert.KernelIdeal.Sb

end
-- ==== Proof.SbBody.lean ====
/-
  What the body leaves in its window's block: the four heads' outputs after the loop over the key tiles below the diagonal.
-/
module

public import proofs.«01_k».proof.Proof.SbTile

@[expose] public section

set_option maxRecDepth 16384

noncomputable section

namespace Cert.KernelIdeal.Sb

open Cert.KernelIdeal Cert.KernelIdeal.Gen Idealize.ShloMosaic Idealize.ShloMosaic.TcCoe Idealize.SL.Sem

variable {F : FTy → Type} [FloatOps F]

/-- What the loop carries: each head's running sum and output. -/
abbrev Carry (F : FTy → Type) :=
  FVec F S256x1 .f32 × FVec F S256x128 .f32 × FVec F S256x1 .f32 × FVec F S256x128 .f32
    × FVec F S256x1 .f32 × FVec F S256x128 .f32 × FVec F S256x1 .f32 × FVec F S256x128 .f32

/-- A trip, on the queries of the four heads and the tile's keys and values of the two lane groups. -/
def step (q0 q1 q2 q3 : FVec F S256x128 .bf16) (k0 k1 w0 w1 : Vec F S1x256x128 .bf16) (t : Carry F) : Carry F :=
  (stepS q0 k0 t.1, stepA q0 k0 w0 t.1 t.2.1, stepS q1 k0 t.2.2.1, stepA q1 k0 w0 t.2.2.1 t.2.2.2.1,
    stepS q2 k1 t.2.2.2.2.1, stepA q2 k1 w1 t.2.2.2.2.1 t.2.2.2.2.2.1,
    stepS q3 k1 t.2.2.2.2.2.2.1, stepA q3 k1 w1 t.2.2.2.2.2.2.1 t.2.2.2.2.2.2.2)

/-- What the diagonal tile leaves. -/
def diag (q0 q1 q2 q3 : FVec F S256x128 .bf16) (k0 k1 w0 w1 : Vec F S1x256x128 .bf16) : Carry F :=
  (diagS q0 k0, diagA q0 k0 w0, diagS q1 k0, diagA q1 k0 w0, diagS q2 k1, diagA q2 k1 w1, diagS q3 k1, diagA q3 k1 w1)

/-- The block written: the four outputs side by side. -/
def merge (t : Carry F) : FVec F S1x256x256 .bf16 := k0_pay1 t.2.2.2.2.2.1 t.2.2.2.2.2.2.2 (k0_pay102 t.2.1 t.2.2.2.1)

/-- A tile of the keys or of the values: 256 rows of 128 lanes at an offset. -/
def tile (x : Vec F S1x2048x256 .bf16) (o : Fin 3 → Nat) (h : ∀ a : Fin 3, o a + S1x256x128.size a ≤ S1x2048x256.size a) :
    Vec F S1x256x128 .bf16 :=
  View.ld x (Rect.unit (s := S1x2048x256) o S1x256x128.size h)

/-- A half of the queries' block. -/
def half (x : Vec F S1x256x256 .bf16) (o : Fin 3 → Nat) (h : ∀ a : Fin 3, o a + S1x256x128.size a ≤ S1x256x256.size a) :
    Vec F S1x256x128 .bf16 :=
  View.ld x (Rect.unit (s := S1x256x256) o S1x256x128.size h)

set_option maxHeartbeats 4000000 in
theorem trip_eq (𝒱 : Variants) (c : Dev nD) (bd : Option 𝒱.V) (i : grid0.Coords)
    (arg2 : Memref sig .tc .vmem S1x256x256 .bf16) (harg2 : arg2.IsWhole) (arg3 : Memref sig .tc .vmem S1x2048x256 .bf16)
    (harg3 : arg3.IsWhole) (arg4 : Memref sig .tc .vmem S1x2048x256 .bf16) (harg4 : arg4.IsWhole)
    (arg5 : Memref sig .tc .vmem S1x256x256 .bf16) (harg5 : arg5.IsWhole) (arg1 : BitVec 32) (v2 : IVec S256x256 1)
    (v15 : FVec F S256x128 .bf16) (v24 : FVec F S256x128 .bf16) (v33 : FVec F S256x128 .bf16) (v42 : FVec F S256x128 .bf16)
    (v47 : FVec F S256x1 .f32) (v48 : FVec F S256x128 .f32) (v49 : FVec F S256x1 .f32) (v50 : FVec F S256x128 .f32)
    (v52 : BitVec 32) (v64 : FVec F S256x256 .f32) (v68 : FVec F S256x256 .f32) (v98 : FVec F S256x256 .f32)
    (v108 : FVec F S256x256 .f32) (v116 : FVec F S256x256 .f32) (v120 : FVec F S256x256 .f32) (v124 : FVec F S256x256 .f32)
    (v130 : FVec F S256x256 .f32) (v132 : FVec F S256x256 .f32) (v145 : FVec F S256x128 .f32) (v149 : FVec F S256x1 .f32)
    (v162 : FVec F S256x128 .f32) (v164 : FVec F S256x1 .f32) (x1 x2 : Vec F S1x2048x256 .bf16)
    (k : Fin (k0_t1_loop i).trips) (t : Carry F) :
    tripR_k0_t1 (F := F)
      𝒱 c bd i arg2 harg2 arg3 harg3 arg4 harg4 arg5 harg5 arg1 v2 k0_pay57 v15 v24 v33 v42 v47 v48 v49 v50 v52 v64 v68 v98
      v108 v116 v120 v124 v130 v132 v145 v149 v162 v164 (harg3.unread x1) (harg4.unread x2) k t
      = step v15 v24 v33 v42 (tile x1 (k0_off3 i k) (k0_off3_inb i k)) (tile x1 (k0_off4 i k) (k0_off4_inb i k))
          (tile x2 (k0_off3 i k) (k0_off3_inb i k)) (tile x2 (k0_off4 i k) (k0_off4_inb i k)) t := by
  unfold tripR_k0_t1 trip_k0_t1
  dsimp only
  sl_unfold_words
  simp only [View.readAt_eq_ld, harg3.read_unread, harg4.read_unread]
  rfl

theorem loop_ind (𝒱 : Variants) (c : Dev nD) (bd : Option 𝒱.V) (i : grid0.Coords)
    (arg2 : Memref sig .tc .vmem S1x256x256 .bf16) (harg2 : arg2.IsWhole) (arg3 : Memref sig .tc .vmem S1x2048x256 .bf16)
    (harg3 : arg3.IsWhole) (arg4 : Memref sig .tc .vmem S1x2048x256 .bf16) (harg4 : arg4.IsWhole)
    (arg5 : Memref sig .tc .vmem S1x256x256 .bf16) (harg5 : arg5.IsWhole) (arg1 : BitVec 32) (v2 : IVec S256x256 1)
    (v15 : FVec F S256x128 .bf16) (v24 : FVec F S256x128 .bf16) (v33 : FVec F S256x128 .bf16) (v42 : FVec F S256x128 .bf16)
    (v47 : FVec F S256x1 .f32) (v48 : FVec F S256x128 .f32) (v49 : FVec F S256x1 .f32) (v50 : FVec F S256x128 .f32)
    (v52 : BitVec 32) (v64 : FVec F S256x256 .f32) (v68 : FVec F S256x256 .f32) (v98 : FVec F S256x256 .f32)
    (v108 : FVec F S256x256 .f32) (v116 : FVec F S256x256 .f32) (v120 : FVec F S256x256 .f32) (v124 : FVec F S256x256 .f32)
    (v130 : FVec F S256x256 .f32) (v132 : FVec F S256x256 .f32) (v145 : FVec F S256x128 .f32) (v149 : FVec F S256x1 .f32)
    (v162 : FVec F S256x128 .f32) (v164 : FVec F S256x1 .f32) (x1 x2 : Vec F S1x2048x256 .bf16)
    (init : Carry F) (P : ℕ → Carry F → Prop) (h0 : P 0 init)
    (hs : ∀ (k : Fin (k0_t1_loop i).trips) (t : Carry F), P k t →
      P (k + 1) (step v15 v24 v33 v42 (tile x1 (k0_off3 i k) (k0_off3_inb i k)) (tile x1 (k0_off4 i k) (k0_off4_inb i k))
          (tile x2 (k0_off3 i k) (k0_off3_inb i k)) (tile x2 (k0_off4 i k) (k0_off4_inb i k)) t)) :
    ∀ n ≤ (k0_t1_loop i).trips, P n (st_k0_t1 (F := F)
      𝒱 c bd i arg2 harg2 arg3 harg3 arg4 harg4 arg5 harg5 arg1 v2 k0_pay57 v15 v24 v33 v42 v47 v48 v49 v50 v52 v64 v68 v98
      v108 v116 v120 v124 v130 v132 v145 v149 v162 v164 (harg3.unread x1) (harg4.unread x2) init n) := by
  intro n
  induction n with
  | zero => intro _; rw [st_k0_t1_zero]; exact h0
  | succ n ih =>
    intro hn
    have := hs ⟨n, hn⟩ _ (ih (Nat.le_of_succ_le hn))
    rw [← trip_eq 𝒱 c bd i arg2 harg2 arg3 harg3 arg4 harg4 arg5 harg5 arg1 v2 v15 v24 v33 v42
      v47 v48 v49 v50 v52 v64 v68 v98 v108 v116 v120 v124 v130 v132 v145 v149 v162 v164 x1 x2] at this
    rw [← st_k0_t1_succ] at this
    exact this

theorem trips2 : ∀ i : grid0.Coords, (k0_t2_loop i).trips = 0 := by decide +kernel

theorem trips1 : ∀ i : grid0.Coords, (k0_t1_loop i).trips = (i 1 : ℕ) := by decide +kernel

theorem loop2_id (𝒱 : Variants) (c : Dev nD) (bd : Option 𝒱.V) (i : grid0.Coords)
    (arg2 : Memref sig .tc .vmem S1x256x256 .bf16) (harg2 : arg2.IsWhole) (arg3 : Memref sig .tc .vmem S1x2048x256 .bf16)
    (harg3 : arg3.IsWhole) (arg4 : Memref sig .tc .vmem S1x2048x256 .bf16) (harg4 : arg4.IsWhole)
    (arg5 : Memref sig .tc .vmem S1x256x256 .bf16) (harg5 : arg5.IsWhole) (arg1 : BitVec 32) (v2 : IVec S256x256 1)
    (v6 : FVec F S256x256 .bf16) (v15 : FVec F S256x128 .bf16) (v24 : FVec F S256x128 .bf16) (v33 : FVec F S256x128 .bf16)
    (v42 : FVec F S256x128 .bf16) (v47 : FVec F S256x1 .f32) (v48 : FVec F S256x128 .f32) (v49 : FVec F S256x1 .f32)
    (v50 : FVec F S256x128 .f32) (v52 : BitVec 32) (v64 : FVec F S256x256 .f32) (v68 : FVec F S256x256 .f32)
    (v98 : FVec F S256x256 .f32) (v108 : FVec F S256x256 .f32) (v116 : FVec F S256x256 .f32) (v120 : FVec F S256x256 .f32)
    (v124 : FVec F S256x256 .f32) (v130 : FVec F S256x256 .f32) (v132 : FVec F S256x256 .f32) (v145 : FVec F S256x128 .f32)
    (v149 : FVec F S256x1 .f32) (v162 : FVec F S256x128 .f32) (v164 : FVec F S256x1 .f32) (v205 : BitVec 32)
    (X_arg3 : BufTy.Contents (Elt F) arg3.view.ty) (X_arg4 : BufTy.Contents (Elt F) arg4.view.ty)
    (init : Carry F) :
    st_k0_t2 (F := F)
      𝒱 c bd i arg2 harg2 arg3 harg3 arg4 harg4 arg5 harg5 arg1 v2 v6 v15 v24 v33 v42 v47 v48 v49 v50 v52 v64 v68 v98 v108
      v116 v120 v124 v130 v132 v145 v149 v162 v164 v205 X_arg3 X_arg4 init (k0_t2_loop i).trips = init := by
  rw [trips2]; rfl

theorem off1_eq : ∀ i : grid0.Coords, k0_off1 i = ![0, 256 * (i 1 : ℕ), 0] := by decide +kernel

theorem off2_eq : ∀ i : grid0.Coords, k0_off2 i = ![0, 256 * (i 1 : ℕ), 128] := by decide +kernel

theorem off3_eq : ∀ (i : grid0.Coords) (k : Fin (k0_t1_loop i).trips), k0_off3 i k = ![0, 256 * ((i 1 : ℕ) - 1 - k), 0] := by
  decide +kernel

theorem off4_eq : ∀ (i : grid0.Coords) (k : Fin (k0_t1_loop i).trips), k0_off4 i k = ![0, 256 * ((i 1 : ℕ) - 1 - k), 128] := by
  decide +kernel

theorem zero3 : (![0, 0, 0] : Fin 3 → Nat) = fun _ => 0 := funext fun a => by fin_cases a <;> rfl

/-- The queries of the four heads: 64 lanes of a half of the block each, the others nothing. -/
def qry0 (x0 : Vec F S1x256x256 .bf16) : FVec F S256x128 .bf16 := k0_pay58 (half x0 ![0, 0, 0] inb_S1x256x256_S1x256x128_0_0_0)
def qry1 (x0 : Vec F S1x256x256 .bf16) : FVec F S256x128 .bf16 := k0_pay59 (half x0 ![0, 0, 0] inb_S1x256x256_S1x256x128_0_0_0)
def qry2 (x0 : Vec F S1x256x256 .bf16) : FVec F S256x128 .bf16 := k0_pay60 (half x0 ![0, 0, 128] inb_S1x256x256_S1x256x128_0_0_128)
def qry3 (x0 : Vec F S1x256x256 .bf16) : FVec F S256x128 .bf16 :=
  k0_pay63 (k0_pay61 (half x0 ![0, 0, 128] inb_S1x256x256_S1x256x128_0_0_128)) k0_pay62

theorem merge_of {b a : Carry F} (P : Carry F → Prop) (h : b = a) (hp : P a) : ∃ t : Carry F, P t ∧ merge b = merge t :=
  ⟨a, hp, by rw [h]⟩

set_option maxHeartbeats 4000000 in
/-- The block the body leaves is the outputs of a carried value that every property the diagonal tile has and the trips
    keep holds of. -/
theorem out_ind (c : Dev nD) (i : grid0.Coords) (arg2 : Memref sig .tc .vmem S1x256x256 .bf16) (harg2 : arg2.IsWhole)
    (arg3 : Memref sig .tc .vmem S1x2048x256 .bf16) (harg3 : arg3.IsWhole) (arg4 : Memref sig .tc .vmem S1x2048x256 .bf16)
    (harg4 : arg4.IsWhole) (arg5 : Memref sig .tc .vmem S1x256x256 .bf16) (harg5 : arg5.IsWhole)
    (x0 : Vec F S1x256x256 .bf16) (x1 x2 : Vec F S1x2048x256 .bf16) (P : ℕ → Carry F → Prop)
    (h0 : P 0 (diag (qry0 x0) (qry1 x0) (qry2 x0) (qry3 x0)
      (tile x1 (k0_off1 i) (k0_off1_inb i)) (tile x1 (k0_off2 i) (k0_off2_inb i))
      (tile x2 (k0_off1 i) (k0_off1_inb i)) (tile x2 (k0_off2 i) (k0_off2_inb i))))
    (hs : ∀ (k : Fin (k0_t1_loop i).trips) (t : Carry F), P k t →
      P (k + 1) (step (qry0 x0) (qry1 x0) (qry2 x0) (qry3 x0)
          (tile x1 (k0_off3 i k) (k0_off3_inb i k)) (tile x1 (k0_off4 i k) (k0_off4_inb i k))
          (tile x2 (k0_off3 i k) (k0_off3_inb i k)) (tile x2 (k0_off4 i k) (k0_off4_inb i k)) t)) :
    ∃ t : Carry F, P (k0_t1_loop i).trips t ∧
      out0_A_3 c i arg2 harg2 arg3 harg3 arg4 harg4 arg5 harg5 x0 x1 x2 = merge t := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero (S := S1x256x256) zero3]
  refine merge_of _ (loop2_id ..) ?_
  simp only [View.readAt_eq_ld, harg2.read_unread, harg3.read_unread, harg4.read_unread]
  exact loop_ind _ _ _ i arg2 harg2 arg3 harg3 arg4 harg4 arg5 harg5 _ _ _ _ _ _ _ _ _ _ _ _ _ _ _ _ _ _ _ _ _ _ _ _
    x1 x2 (diag (qry0 x0) (qry1 x0) (qry2 x0) (qry3 x0)
      (tile x1 (k0_off1 i) (k0_off1_inb i)) (tile x1 (k0_off2 i) (k0_off2_inb i))
      (tile x2 (k0_off1 i) (k0_off1_inb i)) (tile x2 (k0_off2 i) (k0_off2_inb i))) P h0 hs _ le_rfl

end Cert.KernelIdeal.Sb

end
-- ==== Proof.SbReal.lean ====
/-
  Stick-breaking attention in real arithmetic: the running sum and the output over the keys from a position up to the query,
  how a tile of 256 keys extends both, and what the kernel's loop keeps of one head.
-/
module

public import proofs.«01_k».proof.Proof.SbBody

@[expose] public section

set_option maxRecDepth 16384

noncomputable section

namespace Cert.KernelIdeal.Sb

open Cert.KernelIdeal Cert.KernelIdeal.Gen Idealize.ShloMosaic Idealize.ShloMosaic.TcCoe Idealize.SL.Sem

/-- The logarithm of the stick left at each key, summed over the keys from `lo` before the query `r`. -/
def stick (z : ℕ → ℕ → ℝ) (r lo : ℕ) : ℝ := ∑ j ∈ Finset.Ico lo r, -spR (z r j)

/-- The weight of the key `j`. -/
def weight (z : ℕ → ℕ → ℝ) (r j : ℕ) : ℝ := Real.exp (z r j - spR (z r j) + stick z r (j + 1))

/-- The values from `lo` before the query `r` under their weights. -/
def attend (z v : ℕ → ℕ → ℝ) (r lo c : ℕ) : ℝ := ∑ j ∈ Finset.Ico lo r, weight z r j * v j c

/-- The scores of one head, its queries given on a group of 128 lanes. -/
def score (q k : ℕ → ℕ → ℝ) (p r j : ℕ) : ℝ := ∑ d : Fin 128, q r d * k j (128 * p + d)

theorem sum_tile (f : ℕ → ℝ) (lo n : ℕ) : ∑ c : Fin n, f (lo + c) = ∑ j ∈ Finset.Ico lo (lo + n), f j := by
  rw [Finset.sum_Ico_eq_sum_range, Nat.add_sub_cancel_left, Fin.sum_univ_eq_sum_range (fun i => f (lo + i))]

theorem sum_after (f : ℕ → ℝ) (lo n c : ℕ) :
    (∑ c' : Fin n, if c < (c' : ℕ) then f (lo + c') else 0) = ∑ j ∈ Finset.Ico (lo + c + 1) (lo + n), f j := by
  have h := sum_tile (fun j => if lo + c < j then f j else 0) lo n
  simp only [Nat.add_lt_add_iff_left] at h
  rw [h, ← Finset.sum_filter]
  congr 1
  ext j
  simp only [Finset.mem_filter, Finset.mem_Ico]
  omega

theorem sum_before (f : ℕ → ℝ) (lo n r : ℕ) (hr : r ≤ n) :
    (∑ c : Fin n, if (c : ℕ) < r then f (lo + c) else 0) = ∑ j ∈ Finset.Ico lo (lo + r), f j := by
  have h := sum_tile (fun j => if j < lo + r then f j else 0) lo n
  simp only [Nat.add_lt_add_iff_left] at h
  rw [h, ← Finset.sum_filter]
  congr 1
  ext j
  simp only [Finset.mem_filter, Finset.mem_Ico]
  omega

theorem stick_step (z : ℕ → ℕ → ℝ) (r lo : ℕ) (h : lo + 256 ≤ r) :
    stick z r lo = stick z r (lo + 256) + ∑ c : Fin 256, -spR (z r (lo + c)) := by
  unfold stick
  rw [sum_tile (fun j => -spR (z r j)), ← Finset.sum_Ico_consecutive _ (Nat.le_add_right lo 256) h, add_comm]

theorem stick_in (z : ℕ → ℕ → ℝ) (r lo c : ℕ) (h : lo + 256 ≤ r) (hc : c < 256) :
    stick z r (lo + c + 1) = (∑ c' : Fin 256, if c < (c' : ℕ) then -spR (z r (lo + c')) else 0) + stick z r (lo + 256) := by
  unfold stick
  rw [sum_after (fun j => -spR (z r j)), Finset.sum_Ico_consecutive _ (by omega) h]

theorem attend_step (z v : ℕ → ℕ → ℝ) (r lo d : ℕ) (h : lo + 256 ≤ r) :
    attend z v r lo d = attend z v r (lo + 256) d + ∑ c : Fin 256, weight z r (lo + c) * v (lo + c) d := by
  unfold attend
  rw [sum_tile (fun j => weight z r j * v j d), ← Finset.sum_Ico_consecutive _ (Nat.le_add_right lo 256) h, add_comm]

/-- What the loop keeps of one head: over the keys from `lo`, for the block's queries from `base`. -/
def Kept (z v : ℕ → ℕ → ℝ) (p base lo : ℕ) (s : FVec Ideal S256x1 .f32) (a : FVec Ideal S256x128 .f32) : Prop :=
  (∀ r : Fin 256, s (ix2 r 0) = ((stick z (base + r) lo : ℝ) : EReal)) ∧
    ∀ (r : Fin 256) (d : Fin 128), a (ix2 r d) = ((attend z v (base + r) lo (128 * p + d) : ℝ) : EReal)

section

variable {q k v : ℕ → ℕ → ℝ} {p base lo : ℕ} {qm : FVec Ideal S256x128 .bf16} {kb vb : Vec Ideal S1x256x128 .bf16}
  (hq : ∀ (r : Fin 256) (d : Fin 128), qm (ix2 r d) = ((q (base + r) d : ℝ) : EReal))
  (hk : ∀ (r : Fin 256) (d : Fin 128), kb (ix3 0 r d) = ((k (lo + r) (128 * p + d) : ℝ) : EReal))
  (hv : ∀ (r : Fin 256) (d : Fin 128), vb (ix3 0 r d) = ((v (lo + r) (128 * p + d) : ℝ) : EReal))

include hq hk in
theorem zt_score (r c : Fin 256) : zt qm kb (ix2 r c) = ((score q k p (base + r) (lo + c) : ℝ) : EReal) :=
  zt_coe hq hk r c

include hq hk in
theorem lnv_score (r c : Fin 256) :
    lnv (zt qm kb) (ix2 r c) = ((-spR (score q k p (base + r) (lo + c)) : ℝ) : EReal) := by
  have h : lnv (zt qm kb) (ix2 r c) = 0 - spv (zt qm kb) (ix2 r c) := by
    unfold lnv
    pointwise
  rw [h, spv_coe (zt_score hq hk), zero_sub, EReal.coe_neg]

include hq hk hv in
theorem kept_step {s : FVec Ideal S256x1 .f32} {a : FVec Ideal S256x128 .f32} (hlo : lo + 256 ≤ base)
    (h : Kept (score q k p) v p base (lo + 256) s a) : Kept (score q k p) v p base lo (stepS qm kb s) (stepA qm kb vb s a) := by
  refine ⟨fun r => ?_, fun r d => ?_⟩
  · unfold stepS
    rw [sfx_coe h.1 (lnv_score hq hk), stick_step _ _ lo (by omega)]
  · unfold stepA
    rw [acv_coe h.2 (wtv_coe h.1 (zt_score hq hk) (lnv_score hq hk)) hv, attend_step _ _ _ lo _ (by omega)]
    congr 2
    refine Finset.sum_congr rfl fun c _ => ?_
    unfold weight
    rw [stick_in _ _ lo c (by omega) c.isLt, ← add_assoc]
    rfl

include hq hk hv in
theorem kept_diag (hlo : lo = base) : Kept (score q k p) v p base lo (diagS qm kb) (diagA qm kb vb) := by
  subst hlo
  have hl : ∀ r c : Fin 256, lnd (zt qm kb) (ix2 r c)
      = (((if (c : ℕ) < r then -spR (score q k p (lo + r) (lo + c)) else 0 : ℝ)) : EReal) := by
    intro r c
    rw [lnd_at, lnv_score hq hk]
    by_cases h : c < r
    · rw [if_pos h, if_pos (Fin.lt_def.1 h)]
    · rw [if_neg h, if_neg (fun h' => h (Fin.lt_def.2 h')), EReal.coe_zero]
  have h0 : ∀ r : Fin 256, (broadcast S256x1 (Scalar.ofBits .f32 0x00000000#32) : FVec Ideal S256x1 .f32) (ix2 r 0)
      = ((0 : ℝ) : EReal) := by
    intro r
    pointwise
    rw [EReal.coe_zero]
  have h1 : ∀ (r : Fin 256) (d : Fin 128),
      (broadcast S256x128 (Scalar.ofBits .f32 0x00000000#32) : FVec Ideal S256x128 .f32) (ix2 r d) = ((0 : ℝ) : EReal) := by
    intro r d
    pointwise
    rw [EReal.coe_zero]
  refine ⟨fun r => ?_, fun r d => ?_⟩
  · unfold diagS
    rw [sfx_coe h0 hl, zero_add, sum_before (fun j => -spR (score q k p (lo + r) j)) lo 256 r (by omega)]
    rfl
  · have hw : ∀ r c : Fin 256, select k0_pay56 (wtv (broadcast S256x1 (Scalar.ofBits .f32 0x00000000#32)) (zt qm kb)
        (lnd (zt qm kb))) z256 (ix2 r c)
        = (((if (c : ℕ) < r then weight (score q k p) (lo + r) (lo + c) else 0 : ℝ)) : EReal) := by
      intro r c
      have : select k0_pay56 (wtv (broadcast S256x1 (Scalar.ofBits .f32 0x00000000#32)) (zt qm kb)
        (lnd (zt qm kb))) z256 (ix2 r c) = if c < r then wtv (broadcast S256x1 (Scalar.ofBits .f32 0x00000000#32)) (zt qm kb)
        (lnd (zt qm kb)) (ix2 r c) else 0 := by
        unfold k0_pay56
        pointwise
        exact below_at r c _ _
      rw [this, wtv_coe h0 (zt_score hq hk) hl]
      by_cases h : c < r
      · rw [if_pos h, if_pos (Fin.lt_def.1 h)]
        unfold weight stick
        rw [add_zero]
        congr 3
        have e := sum_after (fun j => if j < lo + r then -spR (score q k p (lo + r) j) else 0) lo 256 c
        simp only [Nat.add_lt_add_iff_left] at e
        refine (Eq.trans ?_ e).trans ?_
        · rfl
        · rw [← Finset.sum_filter]
          congr 1
          ext j
          simp only [Finset.mem_filter, Finset.mem_Ico]
          omega
      · rw [if_neg h, if_neg (fun h' => h (Fin.lt_def.2 h')), EReal.coe_zero]
    unfold diagA
    rw [acv_coe h1 hw hv, zero_add]
    congr 1
    unfold attend
    rw [← sum_before (fun j => weight (score q k p) (lo + r) j * v j (128 * p + d)) lo 256 r (by omega)]
    exact Finset.sum_congr rfl fun c _ => by rw [ite_mul, zero_mul]

end

end Cert.KernelIdeal.Sb

end
-- ==== Proof.SbKernel.lean ====
/-
  The kernel's result on finite arrays: at every entry, the values before the query under the stick-breaking weights of the
  entry's head.
-/
module

public import proofs.«01_k».proof.Proof.SbReal
public import Idealize.ShloMosaic.Lib.Pipeline.Value
public import Idealize.ShloMosaic.Lib.StableHlo.Run

@[expose] public section

set_option maxRecDepth 16384

noncomputable section

namespace Cert.KernelIdeal.Sb

open Cert.KernelIdeal Cert.KernelIdeal.Gen Idealize.ShloMosaic Idealize.ShloMosaic.TcCoe Idealize.SL.Sem

theorem eighth : Ideal.ofBits .f32 0x3E000000#32 = (((1 : ℝ) / 8 : ℝ) : EReal) := by
  simp [Ideal.ofBits, Ideal.ieee]
  rw [← EReal.coe_mul]
  norm_num

/-- A choice by the lane. -/
theorem lane_at (d : Fin 128) (x y : EReal) :
    Scalar.select (IntOp.cmpi CmpIPredicate.slt (BitVec.ofNat 32 d) 64#32) x y = if (d : ℕ) < 64 then x else y := by
  have h : ∀ d : Fin 128, IntOp.cmpi CmpIPredicate.slt (BitVec.ofNat 32 d) 64#32 = if (d : ℕ) < 64 then 1#1 else 0#1 := by
    decide +kernel
  rw [h]
  by_cases hd : (d : ℕ) < 64
  · rw [if_pos hd, if_pos hd]; rfl
  · rw [if_neg hd, if_neg hd]; rfl

/-- A choice by the lane, the other way round. -/
theorem lane_ge (d : Fin 128) (x y : EReal) :
    Scalar.select (IntOp.cmpi CmpIPredicate.sge (BitVec.ofNat 32 d) 64#32) x y = if (d : ℕ) < 64 then y else x := by
  have h : ∀ d : Fin 128, IntOp.cmpi CmpIPredicate.sge (BitVec.ofNat 32 d) 64#32 = if (d : ℕ) < 64 then 0#1 else 1#1 := by
    decide +kernel
  rw [h]
  by_cases hd : (d : ℕ) < 64
  · rw [if_pos hd, if_pos hd]; rfl
  · rw [if_neg hd, if_neg hd]; rfl

/-! ## The block written -/

theorem merge_lo (t : Carry Ideal) (r : Fin 256) (d : Fin 128) :
    merge t (ix3 0 r ⟨d, by omega⟩) = if (d : ℕ) < 64 then t.2.1 (ix2 r d) else t.2.2.2.1 (ix2 r d) := by
  unfold merge k0_pay1 k0_pay102
  pointwise
  exact lane_at d _ _

theorem merge_hi (t : Carry Ideal) (r : Fin 256) (d : Fin 128) :
    merge t (ix3 0 r ⟨128 + d, by omega⟩) = if (d : ℕ) < 64 then t.2.2.2.2.2.1 (ix2 r d) else t.2.2.2.2.2.2.2 (ix2 r d) := by
  unfold merge k0_pay1 k0_pay102
  pointwise
  exact lane_at d _ _

/-! ## The tiles read -/

theorem tile_at {F : FTy → Type} (x : Vec F S1x2048x256 .bf16) (a b : ℕ) (h) (r : Fin 256) (d : Fin 128)
    (hr : a + r < 2048) (hd : b + d < 256) :
    tile x ![0, a, b] h (ix3 0 r d) = x (ix3 0 ⟨a + r, hr⟩ ⟨b + d, hd⟩) := by
  unfold tile View.ld
  congr 1
  funext c
  apply Fin.ext
  match c with
  | ⟨0, _⟩ => rfl
  | ⟨1, _⟩ => show a + 1 * (r : ℕ) = a + r; omega
  | ⟨2, _⟩ => show b + 1 * (d : ℕ) = b + d; omega

theorem half_at {F : FTy → Type} (x : Vec F S1x256x256 .bf16) (b : ℕ) (h) (r : Fin 256) (d : Fin 128) (hd : b + d < 256) :
    half x ![0, 0, b] h (ix3 0 r d) = x (ix3 0 r ⟨b + d, hd⟩) := by
  unfold half View.ld
  congr 1
  funext c
  apply Fin.ext
  match c with
  | ⟨0, _⟩ => rfl
  | ⟨1, _⟩ => show 0 + 1 * (r : ℕ) = r; omega
  | ⟨2, _⟩ => show b + 1 * (d : ℕ) = b + d; omega

theorem tile_at' {F : FTy → Type} (x : Vec F S1x2048x256 .bf16) (o : Fin 3 → Nat) (a b : ℕ) (ho : o = ![0, a, b]) (h)
    (r : Fin 256) (d : Fin 128) (hr : a + r < 2048) (hd : b + d < 256) :
    tile x o h (ix3 0 r d) = x (ix3 0 ⟨a + r, hr⟩ ⟨b + d, hd⟩) := by
  subst ho
  exact tile_at x a b h r d hr hd

/-- The queries of one head, on its group of 128 lanes: the lanes of the group's other head hold nothing. -/
def maskQ (q : ℕ → ℕ → ℝ) (p e r d : ℕ) : ℝ := if d / 64 = e then q r (128 * p + d) else 0

section

variable {x : Vec Ideal S1x256x256 .bf16} {q : ℕ → ℕ → ℝ} {base : ℕ}
  (hx : ∀ r c : Fin 256, x (ix3 0 r c) = ((q (base + r) c : ℝ) : EReal))

include hx in
theorem qry0_at (r : Fin 256) (d : Fin 128) : qry0 x (ix2 r d) = ((maskQ q 0 0 (base + r) d : ℝ) : EReal) := by
  unfold qry0 k0_pay58 maskQ
  pointwise
  rw [lane_at, half_at x 0 _ r d (by omega), hx]
  by_cases h : (d : ℕ) < 64
  · rw [if_pos h, if_pos (by omega)]; simp
  · rw [if_neg h, if_neg (by omega), EReal.coe_zero]

include hx in
theorem qry1_at (r : Fin 256) (d : Fin 128) : qry1 x (ix2 r d) = ((maskQ q 0 1 (base + r) d : ℝ) : EReal) := by
  unfold qry1 k0_pay59 maskQ
  pointwise
  rw [lane_ge, half_at x 0 _ r d (by omega), hx]
  by_cases h : (d : ℕ) < 64
  · rw [if_pos h, if_neg (by omega), EReal.coe_zero]
  · rw [if_neg h, if_pos (by omega)]; simp

include hx in
theorem qry2_at (r : Fin 256) (d : Fin 128) : qry2 x (ix2 r d) = ((maskQ q 1 0 (base + r) d : ℝ) : EReal) := by
  unfold qry2 k0_pay60 maskQ
  pointwise
  rw [lane_at, half_at x 128 _ r d (by omega), hx]
  by_cases h : (d : ℕ) < 64
  · rw [if_pos h, if_pos (by omega)]
  · rw [if_neg h, if_neg (by omega), EReal.coe_zero]

include hx in
theorem qry3_at (r : Fin 256) (d : Fin 128) : qry3 x (ix2 r d) = ((maskQ q 1 1 (base + r) d : ℝ) : EReal) := by
  unfold qry3 k0_pay63 k0_pay61 k0_pay62 maskQ
  pointwise
  rw [lane_ge, half_at x 128 _ r d (by omega), hx]
  by_cases h : (d : ℕ) < 64
  · rw [if_pos h, if_neg (by omega), EReal.coe_zero]
  · rw [if_neg h, if_pos (by omega)]

end

/-- A head's output, from its scaled queries, its keys and its values. -/
def headOut (q k v : ℕ → ℕ → ℝ) (r c : ℕ) : ℝ :=
  attend (score (maskQ q (c / 128) (c % 128 / 64)) k (c / 128)) v r 0 c

set_option maxHeartbeats 1000000 in
theorem out_at (c : Dev nD) (i : grid0.Coords) (arg2 : Memref sig .tc .vmem S1x256x256 .bf16) (harg2 : arg2.IsWhole)
    (arg3 : Memref sig .tc .vmem S1x2048x256 .bf16) (harg3 : arg3.IsWhole) (arg4 : Memref sig .tc .vmem S1x2048x256 .bf16)
    (harg4 : arg4.IsWhole) (arg5 : Memref sig .tc .vmem S1x256x256 .bf16) (harg5 : arg5.IsWhole)
    (x0 : Vec Ideal S1x256x256 .bf16) (x1 x2 : Vec Ideal S1x2048x256 .bf16) {q k v : ℕ → ℕ → ℝ}
    (h0 : ∀ r c : Fin 256, x0 (ix3 0 r c) = ((q (256 * (i 1 : ℕ) + r) c : ℝ) : EReal))
    (h1 : ∀ (r : Fin 2048) (c : Fin 256), x1 (ix3 0 r c) = ((k r c : ℝ) : EReal))
    (h2 : ∀ (r : Fin 2048) (c : Fin 256), x2 (ix3 0 r c) = ((v r c : ℝ) : EReal)) (r l : Fin 256) :
    out0_A_3 c i arg2 harg2 arg3 harg3 arg4 harg4 arg5 harg5 x0 x1 x2 (ix3 0 r l)
      = ((headOut q k v (256 * (i 1 : ℕ) + r) l : ℝ) : EReal) := by
  have hi : (i 1 : ℕ) < 8 := (i 1).isLt
  have tl : ∀ (x : Vec Ideal S1x2048x256 .bf16) (y : ℕ → ℕ → ℝ)
      (_ : ∀ (r : Fin 2048) (c : Fin 256), x (ix3 0 r c) = ((y r c : ℝ) : EReal)) (o : Fin 3 → Nat) (h) (a p : ℕ)
      (_ : o = ![0, a, 128 * p]) (_ : a + 256 ≤ 2048) (_ : p < 2) (r : Fin 256) (d : Fin 128),
      tile x o h (ix3 0 r d) = ((y (a + r) (128 * p + d) : ℝ) : EReal) := by
    intro x y hx o h a p ho ha hp r d
    rw [tile_at' x o a (128 * p) ho h r d (by omega) (by omega), hx]
  obtain ⟨t, ht, e⟩ := out_ind c i arg2 harg2 arg3 harg3 arg4 harg4 arg5 harg5 x0 x1 x2
    (fun n t => n ≤ (i 1 : ℕ) ∧
      Kept (score (maskQ q 0 0) k 0) v 0 (256 * (i 1 : ℕ)) (256 * ((i 1 : ℕ) - n)) t.1 t.2.1 ∧
      Kept (score (maskQ q 0 1) k 0) v 0 (256 * (i 1 : ℕ)) (256 * ((i 1 : ℕ) - n)) t.2.2.1 t.2.2.2.1 ∧
      Kept (score (maskQ q 1 0) k 1) v 1 (256 * (i 1 : ℕ)) (256 * ((i 1 : ℕ) - n)) t.2.2.2.2.1 t.2.2.2.2.2.1 ∧
      Kept (score (maskQ q 1 1) k 1) v 1 (256 * (i 1 : ℕ)) (256 * ((i 1 : ℕ) - n)) t.2.2.2.2.2.2.1 t.2.2.2.2.2.2.2)
    ⟨Nat.zero_le _,
      kept_diag (qry0_at h0) (tl x1 k h1 _ _ _ 0 (off1_eq i) (by omega) (by omega))
        (tl x2 v h2 _ _ _ 0 (off1_eq i) (by omega) (by omega)) (by simp),
      kept_diag (qry1_at h0) (tl x1 k h1 _ _ _ 0 (off1_eq i) (by omega) (by omega))
        (tl x2 v h2 _ _ _ 0 (off1_eq i) (by omega) (by omega)) (by simp),
      kept_diag (qry2_at h0) (tl x1 k h1 _ _ _ 1 (off2_eq i) (by omega) (by omega))
        (tl x2 v h2 _ _ _ 1 (off2_eq i) (by omega) (by omega)) (by simp),
      kept_diag (qry3_at h0) (tl x1 k h1 _ _ _ 1 (off2_eq i) (by omega) (by omega))
        (tl x2 v h2 _ _ _ 1 (off2_eq i) (by omega) (by omega)) (by simp)⟩
    (fun n t ht => by
      obtain ⟨hn, a, b, cc, d⟩ := ht
      have hn' : (n : ℕ) < (i 1 : ℕ) := lt_of_lt_of_eq n.isLt (trips1 i)
      have e1 : 256 * ((i 1 : ℕ) - n) = 256 * ((i 1 : ℕ) - 1 - n) + 256 := by omega
      have e2 : 256 * ((i 1 : ℕ) - (n + 1)) = 256 * ((i 1 : ℕ) - 1 - n) := by omega
      rw [e1] at a b cc d
      rw [e2]
      exact ⟨hn',
        kept_step (qry0_at h0) (tl x1 k h1 _ _ _ 0 (off3_eq i n) (by omega) (by omega))
          (tl x2 v h2 _ _ _ 0 (off3_eq i n) (by omega) (by omega)) (by omega) a,
        kept_step (qry1_at h0) (tl x1 k h1 _ _ _ 0 (off3_eq i n) (by omega) (by omega))
          (tl x2 v h2 _ _ _ 0 (off3_eq i n) (by omega) (by omega)) (by omega) b,
        kept_step (qry2_at h0) (tl x1 k h1 _ _ _ 1 (off4_eq i n) (by omega) (by omega))
          (tl x2 v h2 _ _ _ 1 (off4_eq i n) (by omega) (by omega)) (by omega) cc,
        kept_step (qry3_at h0) (tl x1 k h1 _ _ _ 1 (off4_eq i n) (by omega) (by omega))
          (tl x2 v h2 _ _ _ 1 (off4_eq i n) (by omega) (by omega)) (by omega) d⟩)
  have hz : 256 * ((i 1 : ℕ) - (k0_t1_loop i).trips) = 0 := by rw [trips1 i, Nat.sub_self]
  rw [hz] at ht
  obtain ⟨-, a, b, cc, d⟩ := ht
  rw [e]
  unfold headOut
  by_cases hl : (l : ℕ) < 128
  · have hd : (l : ℕ) / 128 = 0 := by omega
    have hm : (l : ℕ) % 128 = l := by omega
    have := merge_lo t r ⟨l, hl⟩
    rw [show (⟨((⟨l, hl⟩ : Fin 128) : ℕ), by omega⟩ : Fin 256) = l from rfl] at this
    rw [this, hd, hm, a.2, b.2]
    by_cases h : (l : ℕ) < 64
    · rw [if_pos h, show (l : ℕ) / 64 = 0 by omega, show 128 * 0 + ((⟨l, hl⟩ : Fin 128) : ℕ) = l from by simp]
    · rw [if_neg h, show (l : ℕ) / 64 = 1 by omega, show 128 * 0 + ((⟨l, hl⟩ : Fin 128) : ℕ) = l from by simp]
  · have hd : (l : ℕ) / 128 = 1 := by omega
    have hm : (l : ℕ) % 128 = l - 128 := by omega
    have hl' : (l : ℕ) - 128 < 128 := by omega
    have := merge_hi t r ⟨(l : ℕ) - 128, hl'⟩
    rw [show (⟨128 + ((⟨(l : ℕ) - 128, hl'⟩ : Fin 128) : ℕ), by simp; omega⟩ : Fin 256) = l from
      Fin.ext (by show 128 + ((l : ℕ) - 128) = l; omega)] at this
    have hs : 128 * 1 + ((⟨(l : ℕ) - 128, hl'⟩ : Fin 128) : ℕ) = l := by show 128 * 1 + ((l : ℕ) - 128) = l; omega
    rw [this, hd, hm, cc.2, d.2, hs]
    by_cases h : (l : ℕ) - 128 < 64
    · rw [if_pos h, show ((l : ℕ) - 128) / 64 = 0 by omega]
    · rw [if_neg h, show ((l : ℕ) - 128) / 64 = 1 by omega]

/-! ## The array the call's windows stage -/

/-- The queries scaled, the keys and the values side by side. -/
def pack (q k v : FVec Ideal S16x2048x256 .f32) : FVec Ideal S16x2048x768 .bf16 :=
  truncf .bf16 (concatenate S16x2048x768 2 [⟨S16x2048x256, mulf q (broadcastInDim S16x2048x256 ![] bcast_S_S16x2048x256
      (constant S_ .f32 0x3E000000#32))⟩, ⟨S16x2048x256, k⟩, ⟨S16x2048x256, v⟩]
    concatenates_S16x2048x256_S16x2048x256_S16x2048x256_S16x2048x768_d2) bitsLt_bf16_f32

theorem pack_q (q k v : FVec Ideal S16x2048x256 .f32) (b : Fin 16) (r : Fin 2048) (c : Fin 256) :
    pack q k v (ix3 b r ⟨c, by omega⟩) = q (ix3 b r c) * (((1 : ℝ) / 8 : ℝ) : EReal) := by
  unfold pack
  pointwise
  rw [eighth]

theorem pack_k (q k v : FVec Ideal S16x2048x256 .f32) (b : Fin 16) (r : Fin 2048) (c : Fin 256) :
    pack q k v (ix3 b r ⟨256 + c, by omega⟩) = k (ix3 b r c) := by
  unfold pack
  pointwise

theorem pack_v (q k v : FVec Ideal S16x2048x256 .f32) (b : Fin 16) (r : Fin 2048) (c : Fin 256) :
    pack q k v (ix3 b r ⟨512 + c, by omega⟩) = v (ix3 b r c) := by
  unfold pack
  pointwise
  rw [dif_neg (by omega), dif_neg (by omega)]
  congr 2
  apply Fin.ext
  show 512 + (c : ℕ) - 256 - 256 = c
  omega

theorem V_main_v3 (m : (ℓ : Loc nD τ sig) → Buf (Elt Ideal) ℓ) (c : Dev nD) :
    V m c main_v3 = pack (m ((c : Thread nD τ).loc main_arg0)) (m ((c : Thread nD τ).loc main_arg1))
      (m ((c : Thread nD τ).loc main_arg2)) := by
  show StableHlo.after hostOps0 _ (Proc.devRef .tc main_v3) = _
  after_results
  rfl

/-! ## The blocks staged -/

theorem index0 : ∀ (t : Fin cfg0.N), win0_0.index t = ![(grid0.coords t 0 : ℕ), (grid0.coords t 1 : ℕ), 0] := by
  decide +kernel

theorem index1 : ∀ (t : Fin cfg0.N), win0_1.index t = ![(grid0.coords t 0 : ℕ), 0, 1] := by decide +kernel

theorem index2 : ∀ (t : Fin cfg0.N), win0_2.index t = ![(grid0.coords t 0 : ℕ), 0, 2] := by decide +kernel

theorem index3 : ∀ (t : Fin cfg0.N), win0_3.index t = ![(grid0.coords t 0 : ℕ), (grid0.coords t 1 : ℕ), 0] := by
  decide +kernel

variable (m : (ℓ : Loc nD τ sig) → Buf (Elt Ideal) ℓ)

/-- A point's batch. -/
def bt (t : Fin cfg0.N) : Fin 16 := ⟨(grid0.coords t 0 : ℕ), (grid0.coords t 0).isLt⟩

theorem iblk0_at (c : Dev nD) (t : Fin cfg0.N) (r l : Fin 256) (hr : 256 * (grid0.coords t 1 : ℕ) + r < 2048) :
    (iblk m c 0 t : Vec Ideal S1x256x256 .bf16) (ix3 0 r l)
      = (V m c main_v3 : FVec Ideal S16x2048x768 .bf16)
          (ix3 (bt t) ⟨256 * (grid0.coords t 1 : ℕ) + r, hr⟩ ⟨l, by omega⟩) := by
  unfold iblk
  rw [View.read_apply]
  show V m c main_v3 _ = _
  congr 1
  funext a
  apply Fin.ext
  match a with
  | ⟨0, _⟩ => show win0_0.index t 0 * 1 + 1 * 0 = (grid0.coords t 0 : ℕ); rw [index0]; simp
  | ⟨1, _⟩ => show win0_0.index t 1 * 256 + 1 * (r : ℕ) = 256 * (grid0.coords t 1 : ℕ) + r; rw [index0]; simp; omega
  | ⟨2, _⟩ => show win0_0.index t 2 * 256 + 1 * (l : ℕ) = l; rw [index0]; simp

theorem iblk1_at (c : Dev nD) (t : Fin cfg0.N) (r : Fin 2048) (l : Fin 256) :
    (iblk m c 1 t : Vec Ideal S1x2048x256 .bf16) (ix3 0 r l)
      = (V m c main_v3 : FVec Ideal S16x2048x768 .bf16) (ix3 (bt t) r ⟨256 + l, by omega⟩) := by
  unfold iblk
  rw [View.read_apply]
  show V m c main_v3 _ = _
  congr 1
  funext a
  apply Fin.ext
  match a with
  | ⟨0, _⟩ => show win0_1.index t 0 * 1 + 1 * 0 = (grid0.coords t 0 : ℕ); rw [index1]; simp
  | ⟨1, _⟩ => show win0_1.index t 1 * 2048 + 1 * (r : ℕ) = r; rw [index1]; simp
  | ⟨2, _⟩ => show win0_1.index t 2 * 256 + 1 * (l : ℕ) = 256 + l; rw [index1]; simp

theorem iblk2_at (c : Dev nD) (t : Fin cfg0.N) (r : Fin 2048) (l : Fin 256) :
    (iblk m c 2 t : Vec Ideal S1x2048x256 .bf16) (ix3 0 r l)
      = (V m c main_v3 : FVec Ideal S16x2048x768 .bf16) (ix3 (bt t) r ⟨512 + l, by omega⟩) := by
  unfold iblk
  rw [View.read_apply]
  show V m c main_v3 _ = _
  congr 1
  funext a
  apply Fin.ext
  match a with
  | ⟨0, _⟩ => show win0_2.index t 0 * 1 + 1 * 0 = (grid0.coords t 0 : ℕ); rw [index2]; simp
  | ⟨1, _⟩ => show win0_2.index t 1 * 2048 + 1 * (r : ℕ) = r; rw [index2]; simp
  | ⟨2, _⟩ => show win0_2.index t 2 * 256 + 1 * (l : ℕ) = 512 + l; rw [index2]; simp

/-- Every block of the result is written back at some point. -/
theorem cover : ∀ (b : Fin 16) (j : Fin 8), ∃ t : Fin cfg0.N, (cfg0.win 3).flush t = true ∧ (grid0.coords t 0 : ℕ) = b
    ∧ (grid0.coords t 1 : ℕ) = j :=
  (by decide +kernel : ∀ (b : Fin 16) (j : Fin 8), ∃ t : Fin grid0.N, win0_3.flush t = true ∧ (grid0.coords t 0 : ℕ) = b
    ∧ (grid0.coords t 1 : ℕ) = j)

/-! ## The result array -/

/-- The entries of a batch's rows as reals, at any pair of positions. -/
def rd (x : FVec Ideal S16x2048x256 .f32) (b : Fin 16) (r c : ℕ) : ℝ :=
  (x (ix3 b (Fin.ofNat 2048 r) (Fin.ofNat 256 c))).toReal

/-- Every entry is a real. -/
def Real' (x : FVec Ideal S16x2048x256 .f32) : Prop := ∀ i, ((x i).toReal : EReal) = x i

theorem rd_coe {x : FVec Ideal S16x2048x256 .f32} (hx : Real' x) (b : Fin 16) (r : Fin 2048) (c : Fin 256) :
    ((rd x b r c : ℝ) : EReal) = x (ix3 b r c) := by
  unfold rd
  rw [hx]
  congr 2
  · exact Fin.ext (Nat.mod_eq_of_lt r.isLt)
  · exact Fin.ext (Nat.mod_eq_of_lt c.isLt)

/-- Stick-breaking attention of finite queries, keys and values. -/
def result (q k v : FVec Ideal S16x2048x256 .f32) : FVec Ideal S16x2048x256 .bf16 := fun i =>
  ((headOut (fun r c => rd q (i 0) r c * (1 / 8)) (rd k (i 0)) (rd v (i 0)) (i 1 : ℕ) (i 2 : ℕ) : ℝ) : EReal)

theorem result_at (q k v : FVec Ideal S16x2048x256 .f32) (i : S16x2048x256.Idx) (b : Fin 16) (r c : ℕ)
    (h0 : ((i 0 : Fin _) : ℕ) = b) (h1 : ((i 1 : Fin _) : ℕ) = r) (h2 : ((i 2 : Fin _) : ℕ) = c) :
    result q k v i = ((headOut (fun r c => rd q b r c * (1 / 8)) (rd k b) (rd v b) r c : ℝ) : EReal) := by
  subst h1 h2
  obtain rfl : b = i 0 := Fin.ext h0.symm
  rfl

section

variable (hq : ∀ c : Dev nD, Real' (m ((c : Thread nD τ).loc main_arg0))) (hk : ∀ c : Dev nD, Real' (m ((c : Thread nD τ).loc main_arg1)))
  (hv : ∀ c : Dev nD, Real' (m ((c : Thread nD τ).loc main_arg2)))

include hq hk hv in
theorem flushed_eq (c : Dev nD) (t : Fin cfg0.N) :
    (dats m 0 c).flushed 3 t = ((cfg0.win 3).blk t).view.read (Elt Ideal) (result (m ((c : Thread nD τ).loc main_arg0))
      (m ((c : Thread nD τ).loc main_arg1)) (m ((c : Thread nD τ).loc main_arg2))) := by
  rw [Cert.KernelIdeal.Value.flushed3_A]
  have hi : (grid0.coords t 1 : ℕ) < 8 := (grid0.coords t 1).isLt
  have key : ∀ r l : Fin 256, out0_A_3 c (grid0.coords t) (ms0_0 t) (hs0_0 t) (ms0_1 t) (hs0_1 t) (ms0_2 t) (hs0_2 t) (ms0_3 t)
      (hs0_3 t) (iblk m c 0 t) (iblk m c 1 t) (iblk m c 2 t) (ix3 0 r l) = _ := fun r l =>
    out_at c (grid0.coords t) (ms0_0 t) (hs0_0 t) (ms0_1 t) (hs0_1 t) (ms0_2 t) (hs0_2 t) (ms0_3 t) (hs0_3 t)
      (iblk m c 0 t) (iblk m c 1 t) (iblk m c 2 t)
      (q := fun r l => rd (m ((c : Thread nD τ).loc main_arg0)) (bt t) r l * (1 / 8))
      (k := rd (m ((c : Thread nD τ).loc main_arg1)) (bt t))
      (v := rd (m ((c : Thread nD τ).loc main_arg2)) (bt t))
      (fun r l => by
        rw [iblk0_at m c t r l (by omega), V_main_v3, pack_q, EReal.coe_mul, ← rd_coe (hq c)])
      (fun r l => by rw [iblk1_at m c t r l, V_main_v3, pack_k, ← rd_coe (hk c)])
      (fun r l => by rw [iblk2_at m c t r l, V_main_v3, pack_v, ← rd_coe (hv c)]) r l
  funext j
  have h1 : ((j 1 : Fin _) : ℕ) < 256 := (j 1).isLt
  have h2 : ((j 2 : Fin _) : ℕ) < 256 := (j 2).isLt
  have h0 : ((j 0 : Fin _) : ℕ) < 1 := (j 0).isLt
  have e : (cfg0.win 3).cut (grid0.coords t) (out0_A_3 c (grid0.coords t) (ms0_0 t) (hs0_0 t) (ms0_1 t) (hs0_1 t) (ms0_2 t)
      (hs0_2 t) (ms0_3 t) (hs0_3 t) (iblk m c 0 t) (iblk m c 1 t) (iblk m c 2 t)) j
      = out0_A_3 c (grid0.coords t) (ms0_0 t) (hs0_0 t) (ms0_1 t) (hs0_1 t) (ms0_2 t)
      (hs0_2 t) (ms0_3 t) (hs0_3 t) (iblk m c 0 t) (iblk m c 1 t) (iblk m c 2 t)
        (ix3 (0 : Fin 1) (⟨j 1, h1⟩ : Fin 256) (⟨j 2, h2⟩ : Fin 256)) := by
    show out0_A_3 c (grid0.coords t) (ms0_0 t) (hs0_0 t) (ms0_1 t) (hs0_1 t) (ms0_2 t)
      (hs0_2 t) (ms0_3 t) (hs0_3 t) (iblk m c 0 t) (iblk m c 1 t) (iblk m c 2 t) _ = _
    congr 1
    funext a
    apply Fin.ext
    match a with
    | ⟨0, _⟩ => show ((j 0 : Fin _) : ℕ) = 0; omega
    | ⟨1, _⟩ => rfl
    | ⟨2, _⟩ => rfl
  rw [e, key, View.read_apply]
  refine (result_at _ _ _ _ (bt t) _ _ ?_ ?_ ?_).symm
  · show win0_3.index t 0 * 1 + 1 * ((j 0 : Fin _) : ℕ) = (grid0.coords t 0 : ℕ)
    rw [index3]
    show (grid0.coords t 0 : ℕ) * 1 + 1 * ((j 0 : Fin _) : ℕ) = _
    omega
  · show win0_3.index t 1 * 256 + 1 * ((j 1 : Fin _) : ℕ) = 256 * (grid0.coords t 1 : ℕ) + ((j 1 : Fin _) : ℕ)
    rw [index3]
    show (grid0.coords t 1 : ℕ) * 256 + 1 * ((j 1 : Fin _) : ℕ) = _
    omega
  · show win0_3.index t 2 * 256 + 1 * ((j 2 : Fin _) : ℕ) = ((j 2 : Fin _) : ℕ)
    rw [index3]
    show 0 * 256 + 1 * ((j 2 : Fin _) : ℕ) = _
    omega

include hq hk hv in
theorem final (c : Dev nD) : (dats m 0 c).arrAt 3 cfg0.N = result (m ((c : Thread nD τ).loc main_arg0))
      (m ((c : Thread nD τ).loc main_arg1)) (m ((c : Thread nD τ).loc main_arg2)) :=
  (dats m 0 c).arrAt_eq_of_cover 3 _ (fun t _ => flushed_eq m hq hk hv c t) fun i => by
    have h0 : ((i 0 : Fin _) : ℕ) < 16 := (i 0).isLt
    have h1 : ((i 1 : Fin _) : ℕ) < 2048 := (i 1).isLt
    have h2 : ((i 2 : Fin _) : ℕ) < 256 := (i 2).isLt
    obtain ⟨t, hf, e0, e1⟩ := cover (⟨(i 0 : ℕ), h0⟩ : Fin 16) (⟨(i 1 : ℕ) / 256, by omega⟩ : Fin 8)
    refine ⟨t, hf, ?_⟩
    show i ∈ ((View.whole main_v4).slice (win0_3.rect t)).set
    rw [View.set_slice_whole, Rect.mem_set_unit]
    intro a
    match a with
    | ⟨0, _⟩ =>
      show win0_3.index t 0 * 1 ≤ (i 0 : ℕ) ∧ (i 0 : ℕ) < win0_3.index t 0 * 1 + 1
      rw [index3]
      show (grid0.coords t 0 : ℕ) * 1 ≤ (i 0 : ℕ) ∧ (i 0 : ℕ) < (grid0.coords t 0 : ℕ) * 1 + 1
      rw [e0]
      dsimp only
      omega
    | ⟨1, _⟩ =>
      show win0_3.index t 1 * 256 ≤ (i 1 : ℕ) ∧ (i 1 : ℕ) < win0_3.index t 1 * 256 + 256
      rw [index3]
      show (grid0.coords t 1 : ℕ) * 256 ≤ (i 1 : ℕ) ∧ (i 1 : ℕ) < (grid0.coords t 1 : ℕ) * 256 + 256
      rw [e1]
      dsimp only
      omega
    | ⟨2, _⟩ =>
      show win0_3.index t 2 * 256 ≤ (i 2 : ℕ) ∧ (i 2 : ℕ) < win0_3.index t 2 * 256 + 256
      rw [index3]
      show 0 * 256 ≤ (i 2 : ℕ) ∧ (i 2 : ℕ) < 0 * 256 + 256
      omega

end

end Cert.KernelIdeal.Sb

end
-- ==== Proof.SbRef.lean ====
/-
  The reference's result on finite arrays, read at an entry: the same attention as the kernel's.
-/
module

public import proofs.«01_k».proof.Proof.SbKernel
public import proofs.«01_k».proof.Proof.Gen.ReferenceIdeal.Read

@[expose] public section

set_option maxRecDepth 16384

noncomputable section

namespace Cert.ReferenceIdeal.Sb

open Cert.ReferenceIdeal Cert.ReferenceIdeal.Read Idealize.ShloMosaic Idealize.ShloMosaic.TcCoe Idealize.SL.Sem
open Cert.KernelIdeal.Sb (spR stick weight attend score maskQ headOut rd Real' rd_coe result coe_sum eighth one_f32)

/-! ## The running sum from the end -/

theorem fold_sum {ι : Type} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- The window's shape: one row of 2048. -/
abbrev W : Shape := ⟨4, ![1, 1, 1, 2048]⟩

theorem sum_window (f : W.Idx → EReal) : ∑ n : Fin W.numel, f (W.rowMajor.symm n) = ∑ n : Fin 2048, f (ix4 0 0 0 n) := by
  rw [Equiv.sum_comp W.rowMajor.symm f]
  refine (Fintype.sum_bijective (fun n : Fin 2048 => (ix4 0 0 0 n : W.Idx)) ⟨?_, ?_⟩ _ _ (fun _ => rfl)).symm
  · intro a b h
    exact congrFun h 3
  · intro j
    refine ⟨j 3, ?_⟩
    rw [eq_ix4 j]
    have h0 : j 0 = (0 : Fin 1) := Subsingleton.elim (α := Fin 1) _ _
    have h1 : j 1 = (0 : Fin 1) := Subsingleton.elim (α := Fin 1) _ _
    have h2 : j 2 = (0 : Fin 1) := Subsingleton.elim (α := Fin 1) _ _
    rw [h0, h1, h2]
    rfl

theorem suffix_at (x : FVec Ideal S16x4x2048x2048 .f32) (init : S_.Idx → EReal) (h0 : ∀ i, init i = 0) (b : Fin 16) (h : Fin 4)
    (r j : Fin 2048) (hw) (hu) :
    Host.reduceWindowAdd (F := Ideal) (φ := .f32) (s := S16x4x2048x2048) (t := S16x4x2048x2048) (u := S_)
      ![1, 1, 1, 2048] ![1, 1, 1, 1] ![0, 0, 0, 0] ![0, 0, 0, 2047] x init hw hu (ix4 b h r j)
      = ∑ n : Fin 2048, if hn : (j : ℕ) + n < 2048 then x (ix4 b h r ⟨j + n, hn⟩) else 0 := by
  show Ideal.hostReduceWindowAdd _ _ _ _ hw x (init _) _ = _
  rw [h0]
  unfold Ideal.hostReduceWindowAdd Host.reduceWindow
  refine (fold_sum _ _ 0).trans ?_
  rw [zero_add, ← Fin.sum_univ_def]
  refine Eq.trans (Finset.sum_congr rfl fun n _ => ?_)
    (sum_window (fun w => if hn : (j : ℕ) + (w 3).val < 2048 then x (ix4 b h r ⟨j + (w 3).val, hn⟩) else 0))
  have h0 : (W.rowMajor.symm n 0).val = 0 := Nat.lt_one_iff.mp (W.rowMajor.symm n 0).isLt
  have h1 : (W.rowMajor.symm n 1).val = 0 := Nat.lt_one_iff.mp (W.rowMajor.symm n 1).isLt
  have h2 : (W.rowMajor.symm n 2).val = 0 := Nat.lt_one_iff.mp (W.rowMajor.symm n 2).isLt
  by_cases hn : (j : ℕ) + (W.rowMajor.symm n 3).val < 2048
  · rw [dif_pos hn, dif_pos]
    · congr 1
      funext a
      match a with
      | ⟨0, _⟩ => exact Fin.ext (show (b : ℕ) * 1 + (W.rowMajor.symm n 0).val - 0 = b by omega)
      | ⟨1, _⟩ => exact Fin.ext (show (h : ℕ) * 1 + (W.rowMajor.symm n 1).val - 0 = h by omega)
      | ⟨2, _⟩ => exact Fin.ext (show (r : ℕ) * 1 + (W.rowMajor.symm n 2).val - 0 = r by omega)
      | ⟨3, _⟩ => exact Fin.ext (show (j : ℕ) * 1 + (W.rowMajor.symm n 3).val - 0 = j + (W.rowMajor.symm n 3).val by omega)
    · intro a
      match a with
      | ⟨0, _⟩ => exact show 0 ≤ (b : ℕ) * 1 + (W.rowMajor.symm n 0).val ∧ (b : ℕ) * 1 + (W.rowMajor.symm n 0).val - 0 < 16 by omega
      | ⟨1, _⟩ => exact show 0 ≤ (h : ℕ) * 1 + (W.rowMajor.symm n 1).val ∧ (h : ℕ) * 1 + (W.rowMajor.symm n 1).val - 0 < 4 by omega
      | ⟨2, _⟩ => exact show 0 ≤ (r : ℕ) * 1 + (W.rowMajor.symm n 2).val ∧ (r : ℕ) * 1 + (W.rowMajor.symm n 2).val - 0 < 2048 by omega
      | ⟨3, _⟩ => exact show 0 ≤ (j : ℕ) * 1 + (W.rowMajor.symm n 3).val ∧ (j : ℕ) * 1 + (W.rowMajor.symm n 3).val - 0 < 2048 by omega
  · rw [dif_neg hn, dif_neg]
    intro hin
    have : (j : ℕ) * 1 + (W.rowMajor.symm n 3).val - 0 < 2048 := (hin 3).2
    omega

/-! ## Reals -/

theorem spR_neg (z : ℝ) : spR z - spR (-z) = z := by
  unfold spR
  rw [abs_neg]
  rcases le_total 0 z with h | h
  · rw [max_eq_left h, max_eq_right (by linarith)]; ring
  · rw [max_eq_right h, max_eq_left (by linarith)]; ring

/-- The score of a head, over its 64 lanes. -/
def headScore (q k : ℕ → ℕ → ℝ) (h r j : ℕ) : ℝ := (∑ d : Fin 64, q r (64 * h + d) * k j (64 * h + d)) * (1 / 8)

theorem headScore_eq (q k : ℕ → ℕ → ℝ) (p e r j : ℕ) (he : e < 2) :
    score (maskQ (fun r c => q r c * (1 / 8)) p e) k p r j = headScore q k (2 * p + e) r j := by
  unfold score maskQ headScore
  rw [Finset.sum_mul, Fin.sum_univ_eq_sum_range
      (fun d => (if d / 64 = e then q r (128 * p + d) * (1 / 8) else 0) * k j (128 * p + d)) 128,
    Fin.sum_univ_eq_sum_range (fun d => q r (64 * (2 * p + e) + d) * k j (64 * (2 * p + e) + d) * (1 / 8)) 64]
  refine (Finset.sum_range_add _ 64 64).trans ?_
  have hlo : ∀ d ∈ Finset.range 64, d / 64 = 0 := fun d hd => by rw [Finset.mem_range] at hd; omega
  have hhi : ∀ d ∈ Finset.range 64, (64 + d) / 64 = 1 := fun d hd => by rw [Finset.mem_range] at hd; omega
  interval_cases e
  · refine (congrArg₂ (· + ·) (Finset.sum_congr rfl fun d hd => ?_) (Finset.sum_eq_zero fun d hd => ?_)).trans (add_zero _)
    · rw [hlo d hd, if_pos rfl, show 64 * (2 * p + 0) + d = 128 * p + d by ring]; ring
    · rw [hhi d hd, if_neg (by decide), zero_mul]
  · refine (congrArg₂ (· + ·) (Finset.sum_eq_zero fun d hd => ?_) (Finset.sum_congr rfl fun d hd => ?_)).trans (zero_add _)
    · rw [hlo d hd, if_neg (by decide), zero_mul]
    · rw [hhi d hd, if_pos rfl, show 64 * (2 * p + 1) + d = 128 * p + (64 + d) by ring]; ring

/-! ## The reference's operations at an entry -/

/-- The softplus as it is printed. -/
def spE (x : EReal) : EReal :=
  Scalar.select (FloatOps.cmpf (F := Ideal) (φ := .f32) .une (FloatOps.subf (F := Ideal) (φ := .f32) x (FloatOps.ofBits .f32 0x00000000#32)) (FloatOps.subf (F := Ideal) (φ := .f32) x (FloatOps.ofBits .f32 0x00000000#32)))
    (FloatOps.addf (F := Ideal) (φ := .f32) x (FloatOps.ofBits .f32 0x00000000#32))
    (FloatOps.addf (F := Ideal) (φ := .f32) (FloatOps.maximumf (F := Ideal) (φ := .f32) x (FloatOps.ofBits .f32 0x00000000#32))
      (FloatOps.hostUnary (F := Ideal) (φ := .f32) .log1p (FloatOps.hostUnary (F := Ideal) (φ := .f32) .exp
        (FloatOps.hostNegf (F := Ideal) (φ := .f32) (FloatOps.hostAbsf (F := Ideal) (φ := .f32) (FloatOps.subf (F := Ideal) (φ := .f32) x (FloatOps.ofBits .f32 0x00000000#32)))))))

theorem spE_coe (z : ℝ) : spE (z : EReal) = ((spR z : ℝ) : EReal) := by
  have h0 : (FloatOps.ofBits .f32 0x00000000#32 : Ideal .f32) = ((0 : ℝ) : EReal) := Ideal.ofBits_zero_f32
  have hs : (FloatOps.subf (F := Ideal) (φ := .f32) (z : EReal) (((0 : ℝ) : EReal))) = (z : EReal) := by
    show (z : EReal) - ((0 : ℝ) : EReal) = _
    rw [← EReal.coe_sub, sub_zero]
  have hc : FloatOps.cmpf (F := Ideal) (φ := .f32) .une (z : EReal) (z : EReal) = 0#1 := by
    simp [Ideal.cmpf_def, Ideal.cmp]
  have hm : ∀ a b : ℝ, max (a : EReal) (b : EReal) = ((max a b : ℝ) : EReal) := fun a b =>
    (EReal.coe_strictMono.monotone.map_max).symm
  unfold spE
  rw [h0, hs, hc]
  show max (z : EReal) ((0 : ℝ) : EReal) + Ideal.log (1 + Ideal.exp (-(max (z : EReal) (-(z : EReal))))) = _
  rw [← EReal.coe_neg, hm, hm, ← EReal.coe_neg, Ideal.exp_coe, ← EReal.coe_one, ← EReal.coe_add,
    Ideal.log_coe, if_neg (by have := Real.exp_pos (-max z (-z)); linarith), ← EReal.coe_add]
  rfl

variable {q k v : FVec Ideal S16x2048x256 .f32} (hq : Real' q) (hk : Real' k) (hv : Real' v)

/-- The column of a head's lane. -/
theorem lane_lt (h : Fin 4) (d : Fin 64) : 64 * (h : ℕ) + d < 256 := by omega

include hq in
theorem q_at (b : Fin 16) (h : Fin 4) (r : Fin 2048) (d : Fin 64) :
    val_main_v1 (F := Ideal) q (ix4 b h r d) = ((rd q b r (64 * h + d) : ℝ) : EReal) := by
  rw [val_main_v1_apply, val_main_v0_apply, show ((64 * (h : ℕ) + d : ℕ)) = ((⟨64 * h + d, lane_lt h d⟩ : Fin 256) : ℕ) from rfl,
    rd_coe hq]
  congr 1
  funext a
  fin_cases a <;> apply Fin.ext <;> simp <;> omega

include hk in
theorem k_at (b : Fin 16) (h : Fin 4) (r : Fin 2048) (d : Fin 64) :
    val_main_v3 (F := Ideal) k (ix4 b h r d) = ((rd k b r (64 * h + d) : ℝ) : EReal) := by
  rw [val_main_v3_apply, val_main_v2_apply, show ((64 * (h : ℕ) + d : ℕ)) = ((⟨64 * h + d, lane_lt h d⟩ : Fin 256) : ℕ) from rfl,
    rd_coe hk]
  congr 1
  funext a
  fin_cases a <;> apply Fin.ext <;> simp <;> omega

include hv in
theorem v_at (b : Fin 16) (h : Fin 4) (r : Fin 2048) (d : Fin 64) :
    val_main_v5 (F := Ideal) v (ix4 b h r d) = ((rd v b r (64 * h + d) : ℝ) : EReal) := by
  rw [val_main_v5_apply, val_main_v4_apply, show ((64 * (h : ℕ) + d : ℕ)) = ((⟨64 * h + d, lane_lt h d⟩ : Fin 256) : ℕ) from rfl,
    rd_coe hv]
  congr 1
  funext a
  fin_cases a <;> apply Fin.ext <;> simp <;> omega

/-- The scores of a head of a batch's rows. -/
abbrev zz (q k : FVec Ideal S16x2048x256 .f32) (b : Fin 16) (h : ℕ) : ℕ → ℕ → ℝ := headScore (rd q b) (rd k b) h

include hq hk in
theorem z_at (b : Fin 16) (h : Fin 4) (r j : Fin 2048) :
    val_main_v9 (F := Ideal) q k (ix4 b h r j) = ((zz q k b h r j : ℝ) : EReal) := by
  rw [val_main_v9_apply, val_main_v7_apply, val_main_v8_apply, val_main_cst_apply]
  show _ * Ideal.ofBits .f32 0x3E000000#32 = _
  rw [eighth]
  show _ = (((∑ d : Fin 64, _) * (1 / 8 : ℝ) : ℝ) : EReal)
  rw [EReal.coe_mul, coe_sum]
  congr 1
  refine Finset.sum_congr rfl fun d _ => ?_
  rw [EReal.coe_mul, ← q_at hq, ← k_at hk]
  congr 2 <;> (funext a; fin_cases a <;> rfl)

theorem mask_at (r j : Fin 2048) (x y : EReal) :
    Scalar.select (val_main_v14 (F := Ideal) (ix2 r j)) x y = if (j : ℕ) < r then x else y := by
  rw [val_main_v14_apply, val_main_v12_apply, val_main_v13_apply, val_main_v10_apply, val_main_v11_apply, val_main_v6_apply,
    val_main_v6_apply]
  show Scalar.select (IntOp.cmpi CmpIPredicate.slt (BitVec.ofNat 32 j) (BitVec.ofNat 32 r)) x y = _
  have ha : (BitVec.ofNat 32 (j : ℕ)).toInt = j := by
    simp only [BitVec.toInt_ofNat']; exact Int.bmod_eq_of_le (by omega) (by omega)
  have hb : (BitVec.ofNat 32 (r : ℕ)).toInt = r := by
    simp only [BitVec.toInt_ofNat']; exact Int.bmod_eq_of_le (by omega) (by omega)
  by_cases h : (j : ℕ) < r
  · have : IntOp.cmpi CmpIPredicate.slt (BitVec.ofNat 32 (j : ℕ)) (BitVec.ofNat 32 (r : ℕ)) = 1#1 := by
      simp [IntOp.cmpi, BitVec.slt, ha, hb, h]
    rw [this, if_pos h]; rfl
  · have : IntOp.cmpi CmpIPredicate.slt (BitVec.ofNat 32 (j : ℕ)) (BitVec.ofNat 32 (r : ℕ)) = 0#1 := by
      simp [IntOp.cmpi, BitVec.slt, ha, hb, h]
    rw [this, if_neg h]; rfl

theorem ls0_at (i : S16x4x2048x2048.Idx) :
    val_main_v16 (F := Ideal) q k i = -spE (-(-val_main_v9 (F := Ideal) q k i)) := by
  simp only [val_main_v16_apply, val_main_call0_v1_apply, val_main_call0_call0_v11_apply, val_main_call0_call0_v10_apply,
    val_main_call0_call0_v9_apply, val_main_call0_call0_v8_apply, val_main_call0_call0_v7_apply, val_main_call0_call0_v6_apply,
    val_main_call0_call0_v5_apply, val_main_call0_call0_v4_apply, val_main_call0_call0_v3_apply, val_main_call0_call0_v2_apply,
    val_main_call0_call0_v1_apply, val_main_call0_call0_v0_apply, val_main_call0_call0_cst_apply, val_main_call0_v0_apply,
    val_main_v15_apply]
  rfl

theorem ls3_at (i : S16x4x2048x2048.Idx) :
    val_main_v20 (F := Ideal) q k i = -spE (-val_main_v9 (F := Ideal) q k i) := by
  simp only [val_main_v20_apply, val_main_call3_v1_apply, val_main_call3_call0_v11_apply, val_main_call3_call0_v10_apply,
    val_main_call3_call0_v9_apply, val_main_call3_call0_v8_apply, val_main_call3_call0_v7_apply, val_main_call3_call0_v6_apply,
    val_main_call3_call0_v5_apply, val_main_call3_call0_v4_apply, val_main_call3_call0_v3_apply, val_main_call3_call0_v2_apply,
    val_main_call3_call0_v1_apply, val_main_call3_call0_v0_apply, val_main_call3_call0_cst_apply, val_main_call3_v0_apply]
  rfl

include hq hk in
theorem not_at (b : Fin 16) (h : Fin 4) (r j : Fin 2048) :
    val_main_v17 (F := Ideal) q k (ix4 b h r j) = (((if (j : ℕ) < r then -spR (zz q k b h r j) else 0 : ℝ)) : EReal) := by
  rw [val_main_v17_apply, val_main_call1_v1_apply, val_main_call1_v2_apply, val_main_call1_v0_apply, val_main_cst_0_apply,
    show idx_main_call1_v1 (ix4 b h r j) = ix2 r j from by funext a; fin_cases a <;> rfl, mask_at, ls0_at, z_at hq hk,
    ← EReal.coe_neg, ← EReal.coe_neg, spE_coe, neg_neg, ← EReal.coe_neg]
  split
  · rfl
  · exact Ideal.ofBits_zero_f32

theorem sum_shift (g : ℕ → ℝ) (j : ℕ) (hj : j < 2048) :
    (∑ n : Fin 2048, if j + (n : ℕ) < 2048 then g (j + n) else 0) = ∑ i ∈ Finset.Ico j 2048, g i := by
  rw [Fin.sum_univ_eq_sum_range (fun n => if j + n < 2048 then g (j + n) else 0) 2048, ← Finset.sum_filter,
    Finset.sum_Ico_eq_sum_range]
  refine Finset.sum_congr ?_ fun _ _ => rfl
  ext n
  simp only [Finset.mem_filter, Finset.mem_range]
  omega

include hq hk in
theorem between_at (b : Fin 16) (h : Fin 4) (r j : Fin 2048) (hj : (j : ℕ) < r) :
    val_main_v19 (F := Ideal) q k (ix4 b h r j) = ((stick (zz q k b h) r (j + 1) : ℝ) : EReal) := by
  have hr := r.isLt
  have hs : val_main_v18 (F := Ideal) q k (ix4 b h r j)
      = ((∑ i ∈ Finset.Ico (j : ℕ) 2048, if i < (r : ℕ) then -spR (zz q k b h r i) else 0 : ℝ) : EReal) := by
    unfold val_main_v18
    rw [suffix_at _ _ (fun i => by rw [val_main_call2_v0_apply]; exact Ideal.ofBits_zero_f32),
      ← sum_shift (fun i => if i < (r : ℕ) then -spR (zz q k b h r i) else 0) j j.isLt, coe_sum]
    refine Finset.sum_congr rfl fun n _ => ?_
    split
    · rw [not_at hq hk]
    · rfl
  rw [val_main_v19_apply, hs, not_at hq hk]
  show _ - _ = _
  rw [← EReal.coe_sub]
  refine congrArg Real.toEReal ?_
  rw [Finset.sum_eq_sum_Ico_succ_bot (by omega), add_sub_cancel_left, stick]
  rw [← Finset.sum_Ico_consecutive _ (show (j : ℕ) + 1 ≤ r by omega) (show (r : ℕ) ≤ 2048 by omega)]
  rw [Finset.sum_congr (s₁ := Finset.Ico (r : ℕ) 2048) rfl fun i hi => if_neg (by rw [Finset.mem_Ico] at hi; omega),
    Finset.sum_const_zero, add_zero]
  exact Finset.sum_congr rfl fun i hi => if_pos (by rw [Finset.mem_Ico] at hi; omega)

include hq hk in
theorem weight_at (b : Fin 16) (h : Fin 4) (r j : Fin 2048) :
    val_main_v23 (F := Ideal) q k (ix4 b h r j) = (((if (j : ℕ) < r then weight (zz q k b h) r j else 0 : ℝ)) : EReal) := by
  rw [val_main_v23_apply, val_main_call4_v1_apply, val_main_call4_v2_apply, val_main_call4_v0_apply, val_main_cst_1_apply,
    show idx_main_call4_v1 (ix4 b h r j) = ix2 r j from by funext a; fin_cases a <;> rfl, mask_at, val_main_v22_apply,
    val_main_v21_apply]
  split
  · rename_i hj
    rw [between_at hq hk b h r j hj, ls3_at, z_at hq hk, ← EReal.coe_neg, spE_coe, ← EReal.coe_neg]
    show Ideal.exp (((-spR (-zz q k b h r j) : ℝ) : EReal) + ((stick (zz q k b h) r (j + 1) : ℝ) : EReal)) = _
    rw [← EReal.coe_add, Ideal.exp_coe, weight]
    have := spR_neg (zz q k b h r j)
    rw [show -spR (-zz q k b h r j) = zz q k b h r j - spR (zz q k b h r j) by linarith]
  · exact Ideal.ofBits_zero_f32

include hq hk hv in
theorem head_at (b : Fin 16) (h : Fin 4) (r : Fin 2048) (d : Fin 64) :
    val_main_v24 (F := Ideal) q k v (ix4 b h r d) = ((attend (zz q k b h) (rd v b) r 0 (64 * h + d) : ℝ) : EReal) := by
  rw [val_main_v24_apply, attend]
  rw [show (∑ j ∈ Finset.Ico 0 (r : ℕ), weight (zz q k b h) r j * rd v b j (64 * h + d))
      = ∑ j : Fin 2048, (if (j : ℕ) < r then weight (zz q k b h) r j else 0) * rd v b j (64 * h + d) from ?_, coe_sum]
  · refine Finset.sum_congr rfl fun j _ => ?_
    rw [EReal.coe_mul, ← weight_at hq hk, ← v_at hv]
    congr 2 <;> (funext a; fin_cases a <;> rfl)
  · have hr := r.isLt
    rw [Fin.sum_univ_eq_sum_range (fun j => (if j < (r : ℕ) then weight (zz q k b h) r j else 0) * rd v b j (64 * h + d)) 2048,
      Finset.range_eq_Ico, ← Finset.sum_Ico_consecutive _ (Nat.zero_le r) (show (r : ℕ) ≤ 2048 by omega)]
    rw [Finset.sum_congr (s₁ := Finset.Ico (r : ℕ) 2048) (g := fun _ => (0 : ℝ)) rfl
      fun i hi => by rw [if_neg (by rw [Finset.mem_Ico] at hi; omega), zero_mul], Finset.sum_const_zero, add_zero]
    exact Finset.sum_congr rfl fun i hi => by rw [if_pos (by rw [Finset.mem_Ico] at hi; omega)]

include hq hk hv in
/-- The reference's result. -/
theorem value : val_main_v27 (F := Ideal) q k v = result q k v := by
  funext i
  have h0 : (i 0 : ℕ) < 16 := (i 0).isLt
  have h1 : (i 1 : ℕ) < 2048 := (i 1).isLt
  have h2 : (i 2 : ℕ) < 256 := (i 2).isLt
  rw [val_main_v27_apply, val_main_v26_apply, val_main_v25_apply]
  show val_main_v24 (F := Ideal) q k v _ = _
  rw [show idx_main_v25 (idx_main_v26 i) = ix4 (⟨i 0, h0⟩ : Fin 16) (⟨(i 2 : ℕ) / 64, by omega⟩ : Fin 4) (⟨i 1, h1⟩ : Fin 2048)
      (⟨(i 2 : ℕ) % 64, by omega⟩ : Fin 64) from by
        funext a
        fin_cases a <;> apply Fin.ext <;> simp <;> omega, head_at hq hk hv]
  unfold result headOut
  congr 1
  have hz : ∀ r j, score (maskQ (fun r c => rd q (i 0) r c * (1 / 8)) ((i 2 : ℕ) / 128) ((i 2 : ℕ) % 128 / 64)) (rd k (i 0)) ((i 2 : ℕ) / 128) r j
      = headScore (rd q (i 0)) (rd k (i 0)) ((i 2 : ℕ) / 64) r j := fun r j => by
    rw [headScore_eq _ _ _ _ _ _ (by omega), show 2 * ((i 2 : ℕ) / 128) + (i 2 : ℕ) % 128 / 64 = (i 2 : ℕ) / 64 by omega]
  rw [show score (maskQ (fun r c => rd q (i 0) r c * (1 / 8)) ((i 2 : ℕ) / 128) ((i 2 : ℕ) % 128 / 64)) (rd k (i 0)) ((i 2 : ℕ) / 128)
    = headScore (rd q (i 0)) (rd k (i 0)) ((i 2 : ℕ) / 64) from funext fun r => funext fun j => hz r j,
    ]
  show attend _ _ _ 0 (64 * ((i 2 : ℕ) / 64) + (i 2 : ℕ) % 64) = _
  rw [Nat.div_add_mod]
  rfl

end Cert.ReferenceIdeal.Sb

end
-- ==== Proof.FxTile.lean ====
/-
  One tile of the forgetting attention: what a trip of the kernel's loop does to one head's carried pair (the running
  maximum of the scores and the accumulated output), as vector operations at any float format, and, at the extended reals on
  finite operands, as real arithmetic read at an index.
-/
module

public import proofs.«01_k».proof.Proof.Gen.Kernel4Ideal.Value
public import Idealize.ShloMosaic.Lib.Pointwise
public import Idealize.ShloMosaic.Lib.ValueIdx

@[expose] public section

set_option maxRecDepth 16384

noncomputable section

namespace Cert.Kernel4Ideal.Fx

open Cert.Kernel4Ideal Cert.Kernel4Ideal.Gen Idealize.ShloMosaic Idealize.ShloMosaic.TcCoe Idealize.SL.Sem

section Ops

variable {F : FTy → Type} [FloatOps F] [Named F]

/-- The scores of a tile. -/
def sc (q k : FVec F S512x128 .bf16) : FVec F S512x512 .f32 :=
  matmul dot_S512x128_S512x128_S512x512_1_1_0_0_n_n none q k (constant S512x512 .f32 0x00000000#32)

/-- The diagonal tile's, the keys after the query masked. -/
def scd (q k : FVec F S512x128 .bf16) : FVec F S512x512 .f32 :=
  select (cmpi .sle (iota .tc S512x512 32 [1] iota_S512x512_d1_w32) (iota .tc S512x512 32 [0] iota_S512x512_d0_w32)) (sc q k)
    (broadcast S512x512 (Named.named κ "mask" 0xF149F2CA#32))

/-- The running maximum, the tile's scores among it. -/
def mx (m : FVec F S512x1 .f32) (s : FVec F S512x512 .f32) : FVec F S512x1 .f32 :=
  maximumf m (shapeCast S512x1 (multiReduction .maximumf [1] S512 s 0xFF800000#32 reduces_S512x512_S512 (.inl rfl) rfl)
    shapeCasts_S512_S512x1)

/-- The accumulated output, rescaled to a new maximum and the tile's values added under their weights. -/
def ac (m m' : FVec F S512x1 .f32) (a : FVec F S512x128 .f32) (s : FVec F S512x512 .f32) (v : FVec F S512x128 .bf16) :
    FVec F S512x128 .f32 :=
  addf (mulf (broadcastTo S512x128 (exp (subf m m')) broadcasts_S512x1_S512x128) a)
    (matmul dot_S512x512_S512x128_S512x128_1_0_0_1_n_n none
      (truncf .bf16 (exp (subf s (broadcastTo S512x512 m' broadcasts_S512x1_S512x512))) bitsLt_bf16_f32) v
      (constant S512x128 .f32 0x00000000#32))

/-- The output over what the lane `64` holds of it. -/
def fin64 (a : FVec F S512x128 .f32) : FVec F S512x128 .f32 := k0_pay109 a

/-- The output over what the lane `0` holds of it. -/
def fin0 (a : FVec F S512x128 .f32) : FVec F S512x128 .f32 := k0_pay110 a

end Ops

/-! ## Real arithmetic -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The kernel's comparison of two positions of a tile. -/
theorem upto_at (r c : Fin 512) (x y : EReal) :
    Scalar.select (IntOp.cmpi CmpIPredicate.sle (BitVec.ofNat 32 c) (BitVec.ofNat 32 r)) x y
      = if (c : ℕ) < r + 1 then x else y := by
  have ha : (BitVec.ofNat 32 (c : ℕ)).toInt = c := by
    simp only [BitVec.toInt_ofNat']; exact Int.bmod_eq_of_le (by omega) (by omega)
  have hb : (BitVec.ofNat 32 (r : ℕ)).toInt = r := by
    simp only [BitVec.toInt_ofNat']; exact Int.bmod_eq_of_le (by omega) (by omega)
  by_cases h : (c : ℕ) ≤ r
  · have : IntOp.cmpi CmpIPredicate.sle (BitVec.ofNat 32 (c : ℕ)) (BitVec.ofNat 32 (r : ℕ)) = 1#1 := by
      simp [IntOp.cmpi, BitVec.sle, ha, hb, h]
    rw [this, if_pos (by omega)]; rfl
  · have : IntOp.cmpi CmpIPredicate.sle (BitVec.ofNat 32 (c : ℕ)) (BitVec.ofNat 32 (r : ℕ)) = 0#1 := by
      simp [IntOp.cmpi, BitVec.sle, ha, hb, h]
    rw [this, if_neg (by omega)]; rfl

theorem sc_coe {q k : FVec Ideal S512x128 .bf16} {qr kr : Fin 512 → Fin 128 → ℝ}
    (hq : ∀ r d, q (ix2 r d) = ((qr r d : ℝ) : EReal)) (hk : ∀ r d, k (ix2 r d) = ((kr r d : ℝ) : EReal)) (r c : Fin 512) :
    sc q k (ix2 r c) = ((∑ d, qr r d * kr c d : ℝ) : EReal) := by
  unfold sc
  pointwise [dot_S512x128_S512x128_S512x512_1_1_0_0_n_n]
  rw [coe_sum]
  exact Finset.sum_congr rfl fun d _ => by rw [hq, hk, EReal.coe_mul]

theorem mask_bot : (Named.named (F := Ideal) κ "mask" 0xF149F2CA#32 : Ideal .f32) = (⊥ : EReal) := rfl

theorem scd_at (q k : FVec Ideal S512x128 .bf16) (r c : Fin 512) :
    scd q k (ix2 r c) = if (c : ℕ) < r + 1 then sc q k (ix2 r c) else ⊥ := by
  unfold scd
  pointwise
  rw [mask_bot]
  exact upto_at r c _ _

theorem ninf_f32 : Ideal.ofBits .f32 0xFF800000#32 = ⊥ := by
  simp [Ideal.ofBits, Ideal.ieee]

theorem mx_at (m : FVec Ideal S512x1 .f32) (s : FVec Ideal S512x512 .f32) (r : Fin 512) :
    mx m s (ix2 r 0) = max (m (ix2 r 0)) (Finset.univ.fold max ⊥ fun c : Fin 512 => (s (ix2 r c) : EReal)) := by
  unfold mx
  pointwise
  rw [ninf_f32]

theorem ac_at (m m' : FVec Ideal S512x1 .f32) (a : FVec Ideal S512x128 .f32) (s : FVec Ideal S512x512 .f32)
    (v : FVec Ideal S512x128 .bf16) (r : Fin 512) (d : Fin 128) :
    ac m m' a s v (ix2 r d) = Ideal.exp (m (ix2 r 0) - m' (ix2 r 0)) * a (ix2 r d)
      + ∑ c : Fin 512, Ideal.exp (s (ix2 r c) - m' (ix2 r 0)) * v (ix2 c d) := by
  unfold ac
  pointwise [dot_S512x512_S512x128_S512x128_1_0_0_1_n_n]

theorem fin64_at (a : FVec Ideal S512x128 .f32) (r : Fin 512) (d : Fin 128) :
    fin64 a (ix2 r d) = Ideal.div (a (ix2 r d)) (a (ix2 r 64)) := by
  unfold fin64 k0_pay109
  pointwise
  rw [Finset.sum_eq_single (64 : Fin 128), show IntOp.cmpi CmpIPredicate.eq (IntOp.subi (BitVec.ofNat 32 ((64 : Fin 128) : ℕ)) 64#32) 0#32 = 1#1 from by decide]
  · rfl
  · intro b _ hb
    rw [show IntOp.cmpi CmpIPredicate.eq (IntOp.subi (BitVec.ofNat 32 (b : ℕ)) 64#32) 0#32 = 0#1 from by revert b; decide]
    rfl
  · exact fun h => absurd (Finset.mem_univ _) h

theorem fin0_at (a : FVec Ideal S512x128 .f32) (r : Fin 512) (d : Fin 128) :
    fin0 a (ix2 r d) = Ideal.div (a (ix2 r d)) (a (ix2 r 0)) := by
  unfold fin0 k0_pay110
  pointwise
  rw [Finset.sum_eq_single (0 : Fin 128), show IntOp.cmpi CmpIPredicate.eq (IntOp.subi (BitVec.ofNat 32 ((0 : Fin 128) : ℕ)) 0#32) 0#32 = 1#1 from by decide]
  · rfl
  · intro b _ hb
    rw [show IntOp.cmpi CmpIPredicate.eq (IntOp.subi (BitVec.ofNat 32 (b : ℕ)) 0#32) 0#32 = 0#1 from by revert b; decide]
    rfl
  · exact fun h => absurd (Finset.mem_univ _) h

end Cert.Kernel4Ideal.Fx

end
-- ==== Proof.FxReal.lean ====
/-
  Forgetting attention in real arithmetic: what the kernel's loop keeps of one head, how a tile of 512 keys extends it, and
  the values under their weights that come out.
-/
module

public import proofs.«01_k».proof.Proof.FxTile

@[expose] public section

set_option maxRecDepth 16384

noncomputable section

namespace Cert.Kernel4Ideal.Fx

open Cert.Kernel4Ideal Cert.Kernel4Ideal.Gen Idealize.ShloMosaic Idealize.ShloMosaic.TcCoe Idealize.SL.Sem

/-- The values of the first `n` keys under the softmax of a query's scores. -/
def att (z : ℕ → ℝ) (v : ℕ → ℝ) (n : ℕ) : ℝ := (∑ j ∈ Finset.range n, Real.exp (z j) * v j) / ∑ j ∈ Finset.range n, Real.exp (z j)

theorem exists_max {n : ℕ} (f : Fin n → EReal) (m : EReal) (hm : m ≠ ⊤) (hf : ∀ c, f c ≠ ⊤) (c : Fin n) (hc : f c ≠ ⊥) :
    ∃ μ : ℝ, max m (Finset.univ.fold max ⊥ f) = (μ : EReal) := by
  have h1 : max m (Finset.univ.fold max ⊥ f) ≠ ⊤ := by
    refine ne_of_lt (max_lt (lt_top_iff_ne_top.2 hm) ?_)
    rw [Finset.fold_max_lt]
    exact ⟨bot_lt_top, fun c _ => lt_top_iff_ne_top.2 (hf c)⟩
  have h2 : max m (Finset.univ.fold max ⊥ f) ≠ ⊥ := by
    refine ne_of_gt (lt_of_lt_of_le (bot_lt_iff_ne_bot.2 hc) (le_trans ?_ (le_max_right _ _)))
    rw [Finset.le_fold_max]
    exact Or.inr ⟨c, Finset.mem_univ _, le_rfl⟩
  exact ⟨_, (EReal.coe_toReal h1 h2).symm⟩

theorem sum_before (f : ℕ → ℝ) (lo n w : ℕ) (hr : w ≤ n) :
    (∑ c : Fin n, if (c : ℕ) < w then f (lo + c) else 0) = ∑ j ∈ Finset.range w, f (lo + j) := by
  rw [Fin.sum_univ_eq_sum_range (fun c => if c < w then f (lo + c) else 0), ← Finset.sum_filter]
  congr 1
  ext j
  simp only [Finset.mem_filter, Finset.mem_range]
  omega

/-- What the loop keeps of one head, for the block's queries from `base`, after the first `n` keys of each. -/
def Soft (z v : ℕ → ℕ → ℝ) (base : ℕ) (n : Fin 512 → ℕ) (m : FVec Ideal S512x1 .f32) (a : FVec Ideal S512x128 .f32) : Prop :=
  ∀ r : Fin 512, (n r = 0 ∧ m (ix2 r 0) = (⊥ : EReal) ∧ ∀ d : Fin 128, a (ix2 r d) = (0 : EReal)) ∨
    ∃ μ : ℝ, m (ix2 r 0) = (μ : EReal) ∧
      ∀ d : Fin 128, a (ix2 r d) = ((∑ j ∈ Finset.range (n r), Real.exp (z (base + r) j - μ) * v j d : ℝ) : EReal)

theorem soft_step {z v : ℕ → ℕ → ℝ} {base lo : ℕ} {w : Fin 512 → ℕ} {m : FVec Ideal S512x1 .f32}
    {a : FVec Ideal S512x128 .f32} {s : FVec Ideal S512x512 .f32} {vb : FVec Ideal S512x128 .bf16}
    (hw : ∀ r, 1 ≤ w r ∧ w r ≤ 512)
    (hs : ∀ r c : Fin 512, s (ix2 r c) = if (c : ℕ) < w r then ((z (base + r) (lo + c) : ℝ) : EReal) else ⊥)
    (hv : ∀ (r : Fin 512) (d : Fin 128), vb (ix2 r d) = ((v (lo + r) d : ℝ) : EReal))
    (h : Soft z v base (fun _ => lo) m a) : Soft z v base (fun r => lo + w r) (mx m s) (ac m (mx m s) a s vb) := by
  intro r
  right
  obtain ⟨h1, h2⟩ := hw r
  have hmt : m (ix2 r 0) ≠ (⊤ : EReal) := by
    rcases h r with ⟨-, hm, -⟩ | ⟨μ, hm, -⟩
    · rw [hm]; exact bot_ne_top
    · rw [hm]; exact EReal.coe_ne_top μ
  obtain ⟨μ', hμ'⟩ := exists_max (fun c : Fin 512 => (s (ix2 r c) : EReal)) (m (ix2 r 0)) hmt
    (fun c => by
      rw [hs]
      split
      · exact EReal.coe_ne_top _
      · exact bot_ne_top) (⟨0, by omega⟩ : Fin 512)
    (by rw [hs, if_pos (by show (0 : ℕ) < w r; omega)]; exact EReal.coe_ne_bot _)
  have hμ : mx m s (ix2 r 0) = (μ' : EReal) := (mx_at m s r).trans hμ'
  refine ⟨μ', hμ, fun d => ?_⟩
  have hsum : ∑ c : Fin 512, Ideal.exp (s (ix2 r c) - (μ' : EReal)) * vb (ix2 c d)
      = ((∑ j ∈ Finset.range (w r), Real.exp (z (base + r) (lo + j) - μ') * v (lo + j) d : ℝ) : EReal) := by
    rw [← sum_before (fun j => Real.exp (z (base + r) j - μ') * v j d) lo 512 (w r) h2, coe_sum]
    refine Finset.sum_congr rfl fun c _ => ?_
    rw [hs, hv]
    split
    · rw [← EReal.coe_sub, Ideal.exp_coe, EReal.coe_mul]
    · rw [EReal.bot_sub, Ideal.exp_bot, zero_mul, EReal.coe_zero]
  rw [ac_at, hμ, hsum]
  rcases h r with ⟨h0, -, ha⟩ | ⟨μ, hm, ha⟩
  · dsimp only at h0
    subst h0
    rw [ha, mul_zero, zero_add]
    simp only [zero_add]
  · rw [ha, hm, ← EReal.coe_sub, Ideal.exp_coe, ← EReal.coe_mul, ← EReal.coe_add, Finset.sum_range_add, Finset.mul_sum]
    congr 2
    refine Finset.sum_congr rfl fun j _ => ?_
    rw [← mul_assoc, ← Real.exp_add]
    congr 2
    ring

theorem soft_init (z v : ℕ → ℕ → ℝ) (base : ℕ) : Soft z v base (fun _ => 0) (k0_pay63 (F := Ideal)) (k0_pay64 (F := Ideal)) := by
  intro r
  left
  refine ⟨rfl, rfl, fun d => ?_⟩
  unfold k0_pay64
  pointwise

theorem att_div {z w : ℕ → ℝ} {n : ℕ} (hn : 1 ≤ n) (μ : ℝ) :
    Ideal.div ((∑ j ∈ Finset.range n, Real.exp (z j - μ) * w j : ℝ) : EReal) ((∑ j ∈ Finset.range n, Real.exp (z j - μ) : ℝ) : EReal)
      = ((att z w n : ℝ) : EReal) := by
  have hp : ∀ f : ℕ → ℝ, 0 < ∑ j ∈ Finset.range n, Real.exp (f j) := fun f =>
    Finset.sum_pos (fun j _ => Real.exp_pos _) ⟨0, Finset.mem_range.2 hn⟩
  rw [Ideal.div_coe (hp _).ne', ← EReal.coe_mul, mul_one_div]
  congr 1
  unfold att
  have e : ∀ f : ℕ → ℝ, ∑ j ∈ Finset.range n, Real.exp (z j - μ) * f j = Real.exp (-μ) * ∑ j ∈ Finset.range n, Real.exp (z j) * f j := by
    intro f
    rw [Finset.mul_sum]
    refine Finset.sum_congr rfl fun j _ => ?_
    rw [sub_eq_add_neg, Real.exp_add]
    ring
  have e1 := e fun _ => 1
  simp only [mul_one] at e1
  rw [e, e1, mul_div_mul_left _ _ (Real.exp_pos _).ne']

theorem soft_fin {z v : ℕ → ℕ → ℝ} {base : ℕ} {n : Fin 512 → ℕ} {m : FVec Ideal S512x1 .f32} {a : FVec Ideal S512x128 .f32}
    (hn : ∀ r, 1 ≤ n r) (h : Soft z v base n m a) (l : Fin 128) (hl : ∀ j, v j l = 1) (r : Fin 512) (d : Fin 128) :
    Ideal.div (a (ix2 r d)) (a (ix2 r l)) = ((att (z (base + r)) (fun j => v j d) (n r) : ℝ) : EReal) := by
  rcases h r with ⟨h0, -, -⟩ | ⟨μ, -, ha⟩
  · exact absurd h0 (by have := hn r; omega)
  · rw [ha, ha]
    simp only [hl, mul_one]
    exact att_div (hn r) μ

end Cert.Kernel4Ideal.Fx

end
-- ==== Proof.FxBody.lean ====
/-
  What the body leaves in its window's block: the six heads' outputs after the loop over the key tiles below the diagonal and
  the diagonal tile, as a value every property the steps keep holds of.
-/
module

public import proofs.«01_k».proof.Proof.FxReal

@[expose] public section

set_option maxRecDepth 16384

noncomputable section

namespace Cert.Kernel4Ideal.Fx

open Cert.Kernel4Ideal Cert.Kernel4Ideal.Gen Idealize.ShloMosaic Idealize.ShloMosaic.TcCoe Idealize.SL.Sem

variable {F : FTy → Type} [FloatOps F] [Named F]

/-- One head's running maximum and accumulated output. -/
abbrev Pair (F : FTy → Type) := FVec F S512x1 .f32 × FVec F S512x128 .f32

/-- What the loop carries: each head's. -/
abbrev Carry (F : FTy → Type) :=
  FVec F S512x1 .f32 × FVec F S512x128 .f32 × FVec F S512x1 .f32 × FVec F S512x128 .f32
    × FVec F S512x1 .f32 × FVec F S512x128 .f32 × FVec F S512x1 .f32 × FVec F S512x128 .f32
    × FVec F S512x1 .f32 × FVec F S512x128 .f32 × FVec F S512x1 .f32 × FVec F S512x128 .f32

/-- A carried value from the six heads'. -/
abbrev pack (h0 h1 h2 h3 h4 h5 : Pair F) : Carry F :=
  (h0.1, h0.2, h1.1, h1.2, h2.1, h2.2, h3.1, h3.2, h4.1, h4.2, h5.1, h5.2)

/-- The heads' of a carried value. -/
abbrev hd0 (t : Carry F) : Pair F := (t.1, t.2.1)
abbrev hd1 (t : Carry F) : Pair F := (t.2.2.1, t.2.2.2.1)
abbrev hd2 (t : Carry F) : Pair F := (t.2.2.2.2.1, t.2.2.2.2.2.1)
abbrev hd3 (t : Carry F) : Pair F := (t.2.2.2.2.2.2.1, t.2.2.2.2.2.2.2.1)
abbrev hd4 (t : Carry F) : Pair F := (t.2.2.2.2.2.2.2.2.1, t.2.2.2.2.2.2.2.2.2.1)
abbrev hd5 (t : Carry F) : Pair F := (t.2.2.2.2.2.2.2.2.2.2.1, t.2.2.2.2.2.2.2.2.2.2.2)

/-- A tile's scores taken up into one head's pair. -/
def take (s : FVec F S512x512 .f32) (v : FVec F S512x128 .bf16) (p : Pair F) : Pair F :=
  (mx p.1 s, ac p.1 (mx p.1 s) p.2 s v)

/-- A tile of the padded keys or values: 512 rows of 128 lanes at an offset. -/
def tile (x : Vec F S2048x768 .bf16) (o : Fin 2 → Nat) (h : ∀ a : Fin 2, o a + S512x128.size a ≤ S2048x768.size a) :
    FVec F S512x128 .bf16 :=
  View.ld x (Rect.unit (s := S2048x768) o S512x128.size h)

/-- A pair of heads' queries, -/
def qpart (x : Vec F S1x512x384 .bf16) (o : Fin 3 → Nat) (h : ∀ a : Fin 3, o a + S1x512x128.size a ≤ S1x512x384.size a) :
    Vec F S1x512x128 .bf16 :=
  View.ld x (Rect.unit (s := S1x512x384) o S1x512x128.size h)

/-- and a head's spare lanes of them. -/
def qspare (x : Vec F S1x512x768 .bf16) (o : Fin 3 → Nat) (h : ∀ a : Fin 3, o a + S1x512x128.size a ≤ S1x512x768.size a) :
    Vec F S1x512x128 .bf16 :=
  View.ld x (Rect.unit (s := S1x512x768) o S1x512x128.size h)

/-- The padded queries of the six heads. -/
def qry0 (x : Vec F S1x512x384 .bf16) (y : Vec F S1x512x768 .bf16) : FVec F S512x128 .bf16 :=
  k0_pay54 (qpart x ![0, 0, 0] inb_S1x512x384_S1x512x128_0_0_0) (qspare y ![0, 0, 0] inb_S1x512x768_S1x512x128_0_0_0)
def qry1 (x : Vec F S1x512x384 .bf16) (y : Vec F S1x512x768 .bf16) : FVec F S512x128 .bf16 :=
  k0_pay55 (qpart x ![0, 0, 0] inb_S1x512x384_S1x512x128_0_0_0) (qspare y ![0, 0, 128] inb_S1x512x768_S1x512x128_0_0_128)
def qry2 (x : Vec F S1x512x384 .bf16) (y : Vec F S1x512x768 .bf16) : FVec F S512x128 .bf16 :=
  k0_pay59 (k0_pay56 (qpart x ![0, 0, 128] inb_S1x512x384_S1x512x128_0_0_128))
    (k0_pay57 (qspare y ![0, 0, 256] inb_S1x512x768_S1x512x128_0_0_256)) (iota .tc S512x128 32 [1] iota_S512x128_d1_w32) k0_pay58
def qry3 (x : Vec F S1x512x384 .bf16) (y : Vec F S1x512x768 .bf16) : FVec F S512x128 .bf16 :=
  k0_pay60 (qpart x ![0, 0, 128] inb_S1x512x384_S1x512x128_0_0_128) (qspare y ![0, 0, 384] inb_S1x512x768_S1x512x128_0_0_384)
def qry4 (x : Vec F S1x512x384 .bf16) (y : Vec F S1x512x768 .bf16) : FVec F S512x128 .bf16 :=
  k0_pay61 (qpart x ![0, 0, 256] inb_S1x512x384_S1x512x128_0_0_256) (qspare y ![0, 0, 512] inb_S1x512x768_S1x512x128_0_0_512)
def qry5 (x : Vec F S1x512x384 .bf16) (y : Vec F S1x512x768 .bf16) : FVec F S512x128 .bf16 :=
  k0_pay62 (qpart x ![0, 0, 256] inb_S1x512x384_S1x512x128_0_0_256) (qspare y ![0, 0, 640] inb_S1x512x768_S1x512x128_0_0_640)

/-- What the loop starts from. -/
def init : Carry F :=
  (k0_pay63, k0_pay64, k0_pay65, k0_pay66, k0_pay67, k0_pay68, k0_pay69, k0_pay70, k0_pay71, k0_pay72, k0_pay73, k0_pay74)

/-- The block written: the six outputs, two heads to a group of 128 lanes. -/
def merge (t : Carry F) : FVec F S1x512x384 .bf16 :=
  k0_pay1 (fin64 (hd4 t).2) (fin0 (hd5 t).2) (k0_pay114 (fin64 (hd0 t).2) (fin0 (hd1 t).2))
    (k0_pay115 (hd2 t).2 (hd3 t).2 (k0_pay111 (hd2 t).2)) (iota .tc S512x128 32 [1] iota_S512x128_d1_w32) 64#32

set_option maxHeartbeats 4000000 in
theorem trip_eq (𝒱 : Variants) (c : Dev nD) (bd : Option 𝒱.V) (i : grid0.Coords)
    (arg2 : Memref sig .tc .vmem S1x512x384 .bf16) (harg2 : arg2.IsWhole)
    (arg3 : Memref sig .tc .vmem S1x2048x384 .bf16) (harg3 : arg3.IsWhole)
    (arg4 : Memref sig .tc .vmem S1x2048x384 .bf16) (harg4 : arg4.IsWhole)
    (arg5 : Memref sig .tc .vmem S1x512x768 .bf16) (harg5 : arg5.IsWhole)
    (arg6 : Memref sig .tc .vmem S1x2048x768 .bf16) (harg6 : arg6.IsWhole)
    (arg7 : Memref sig .tc .vmem S1x512x384 .bf16) (harg7 : arg7.IsWhole)
    (arg8 : Memref sig .tc .vmem S2048x768 .bf16) (harg8 : arg8.IsWhole)
    (arg9 : Memref sig .tc .vmem S2048x768 .bf16) (harg9 : arg9.IsWhole)
    (arg1 : BitVec 32) (v15 v26 v37 v48 v59 v70 : FVec F S512x128 .bf16) (v71 : FVec F S512x1 .f32)
    (X8 : BufTy.Contents (Elt F) arg8.view.ty) (X9 : BufTy.Contents (Elt F) arg9.view.ty) (ks vs : Vec F S2048x768 .bf16)
    (h8 : arg8.view.read (Elt F) X8 = ks) (h9 : arg9.view.read (Elt F) X9 = vs)
    (k : Fin (k0_t1_loop i).trips) (t : Carry F) :
    tripR_k0_t1 (F := F) 𝒱 c bd i arg2 harg2 arg3 harg3 arg4 harg4 arg5 harg5 arg6 harg6 arg7 harg7 arg8 harg8 arg9 harg9 arg1 v15 v26 v37 v48 v59 v70 v71 X8 X9 k t
      = (pack
        (take (sc v15 (tile ks (k0_off1 i k) (k0_off1_inb i k))) (tile vs (k0_off1 i k) (k0_off1_inb i k)) (hd0 t))
        (take (sc v26 (tile ks (k0_off2 i k) (k0_off2_inb i k))) (tile vs (k0_off2 i k) (k0_off2_inb i k)) (hd1 t))
        (take (sc v37 (tile ks (k0_off3 i k) (k0_off3_inb i k))) (tile vs (k0_off3 i k) (k0_off3_inb i k)) (hd2 t))
        (take (sc v48 (tile ks (k0_off4 i k) (k0_off4_inb i k))) (tile vs (k0_off4 i k) (k0_off4_inb i k)) (hd3 t))
        (take (sc v59 (tile ks (k0_off5 i k) (k0_off5_inb i k))) (tile vs (k0_off5 i k) (k0_off5_inb i k)) (hd4 t))
        (take (sc v70 (tile ks (k0_off6 i k) (k0_off6_inb i k))) (tile vs (k0_off6 i k) (k0_off6_inb i k)) (hd5 t))) := by
  subst h8 h9
  unfold tripR_k0_t1 trip_k0_t1
  dsimp only
  sl_unfold_words
  simp only [View.readAt_eq_ld]
  rfl

theorem loop_ind (𝒱 : Variants) (c : Dev nD) (bd : Option 𝒱.V) (i : grid0.Coords)
    (arg2 : Memref sig .tc .vmem S1x512x384 .bf16) (harg2 : arg2.IsWhole)
    (arg3 : Memref sig .tc .vmem S1x2048x384 .bf16) (harg3 : arg3.IsWhole)
    (arg4 : Memref sig .tc .vmem S1x2048x384 .bf16) (harg4 : arg4.IsWhole)
    (arg5 : Memref sig .tc .vmem S1x512x768 .bf16) (harg5 : arg5.IsWhole)
    (arg6 : Memref sig .tc .vmem S1x2048x768 .bf16) (harg6 : arg6.IsWhole)
    (arg7 : Memref sig .tc .vmem S1x512x384 .bf16) (harg7 : arg7.IsWhole)
    (arg8 : Memref sig .tc .vmem S2048x768 .bf16) (harg8 : arg8.IsWhole)
    (arg9 : Memref sig .tc .vmem S2048x768 .bf16) (harg9 : arg9.IsWhole)
    (arg1 : BitVec 32) (v15 v26 v37 v48 v59 v70 : FVec F S512x128 .bf16) (v71 : FVec F S512x1 .f32)
    (X8 : BufTy.Contents (Elt F) arg8.view.ty) (X9 : BufTy.Contents (Elt F) arg9.view.ty) (ks vs : Vec F S2048x768 .bf16)
    (h8 : arg8.view.read (Elt F) X8 = ks) (h9 : arg9.view.read (Elt F) X9 = vs)
    (z : Carry F) (P : ℕ → Carry F → Prop) (h0 : P 0 z)
    (hs : ∀ (k : Fin (k0_t1_loop i).trips) (t : Carry F), P k t →
      P (k + 1) (pack
        (take (sc v15 (tile ks (k0_off1 i k) (k0_off1_inb i k))) (tile vs (k0_off1 i k) (k0_off1_inb i k)) (hd0 t))
        (take (sc v26 (tile ks (k0_off2 i k) (k0_off2_inb i k))) (tile vs (k0_off2 i k) (k0_off2_inb i k)) (hd1 t))
        (take (sc v37 (tile ks (k0_off3 i k) (k0_off3_inb i k))) (tile vs (k0_off3 i k) (k0_off3_inb i k)) (hd2 t))
        (take (sc v48 (tile ks (k0_off4 i k) (k0_off4_inb i k))) (tile vs (k0_off4 i k) (k0_off4_inb i k)) (hd3 t))
        (take (sc v59 (tile ks (k0_off5 i k) (k0_off5_inb i k))) (tile vs (k0_off5 i k) (k0_off5_inb i k)) (hd4 t))
        (take (sc v70 (tile ks (k0_off6 i k) (k0_off6_inb i k))) (tile vs (k0_off6 i k) (k0_off6_inb i k)) (hd5 t)))) :
    ∀ n ≤ (k0_t1_loop i).trips, P n (st_k0_t1 (F := F) 𝒱 c bd i arg2 harg2 arg3 harg3 arg4 harg4 arg5 harg5 arg6 harg6 arg7 harg7 arg8 harg8 arg9 harg9 arg1 v15 v26 v37 v48 v59 v70 v71 X8 X9 z n) := by
  intro n
  induction n with
  | zero => intro _; rw [st_k0_t1_zero]; exact h0
  | succ n ih =>
    intro hn
    have := hs ⟨n, hn⟩ _ (ih (Nat.le_of_succ_le hn))
    rw [← trip_eq 𝒱 c bd i arg2 harg2 arg3 harg3 arg4 harg4 arg5 harg5 arg6 harg6 arg7 harg7 arg8 harg8 arg9 harg9 arg1 v15 v26 v37 v48 v59 v70 v71 X8 X9 ks vs h8 h9] at this
    rw [← st_k0_t1_succ] at this
    exact this

theorem trips2 : ∀ i : grid0.Coords, (k0_t2_loop i).trips = 0 := by decide +kernel

theorem trips1 : ∀ i : grid0.Coords, (k0_t1_loop i).trips = (i 1 : ℕ) := by decide +kernel

theorem loop2_id (𝒱 : Variants) (c : Dev nD) (bd : Option 𝒱.V) (i : grid0.Coords)
    (arg2 : Memref sig .tc .vmem S1x512x384 .bf16) (harg2 : arg2.IsWhole)
    (arg3 : Memref sig .tc .vmem S1x2048x384 .bf16) (harg3 : arg3.IsWhole)
    (arg4 : Memref sig .tc .vmem S1x2048x384 .bf16) (harg4 : arg4.IsWhole)
    (arg5 : Memref sig .tc .vmem S1x512x768 .bf16) (harg5 : arg5.IsWhole)
    (arg6 : Memref sig .tc .vmem S1x2048x768 .bf16) (harg6 : arg6.IsWhole)
    (arg7 : Memref sig .tc .vmem S1x512x384 .bf16) (harg7 : arg7.IsWhole)
    (arg8 : Memref sig .tc .vmem S2048x768 .bf16) (harg8 : arg8.IsWhole)
    (arg9 : Memref sig .tc .vmem S2048x768 .bf16) (harg9 : arg9.IsWhole)
    (arg1 : BitVec 32) (v15 v26 v37 v48 v59 v70 : FVec F S512x128 .bf16) (v71 : FVec F S512x1 .f32) (v87 : BitVec 32)
    (X8 : BufTy.Contents (Elt F) arg8.view.ty) (X9 : BufTy.Contents (Elt F) arg9.view.ty) (z : Carry F) :
    st_k0_t2 (F := F) 𝒱 c bd i arg2 harg2 arg3 harg3 arg4 harg4 arg5 harg5 arg6 harg6 arg7 harg7 arg8 harg8 arg9 harg9 arg1 v15 v26 v37 v48 v59 v70 v71 v87 X8 X9 z (k0_t2_loop i).trips = z := by
  rw [trips2]; rfl

theorem zero3 : (![0, 0, 0] : Fin 3 → Nat) = fun _ => 0 := funext fun a => by fin_cases a <;> rfl

theorem off1_eq : ∀ (i : grid0.Coords) (k : Fin (k0_t1_loop i).trips), k0_off1 i k = ![512 * (k : ℕ), 0] := by decide +kernel

theorem off13_eq : ∀ i : grid0.Coords, k0_off13 i = ![512 * (i 1 : ℕ), 0] := by decide +kernel

theorem off2_eq : ∀ (i : grid0.Coords) (k : Fin (k0_t1_loop i).trips), k0_off2 i k = ![512 * (k : ℕ), 128] := by decide +kernel

theorem off14_eq : ∀ i : grid0.Coords, k0_off14 i = ![512 * (i 1 : ℕ), 128] := by decide +kernel

theorem off3_eq : ∀ (i : grid0.Coords) (k : Fin (k0_t1_loop i).trips), k0_off3 i k = ![512 * (k : ℕ), 256] := by decide +kernel

theorem off15_eq : ∀ i : grid0.Coords, k0_off15 i = ![512 * (i 1 : ℕ), 256] := by decide +kernel

theorem off4_eq : ∀ (i : grid0.Coords) (k : Fin (k0_t1_loop i).trips), k0_off4 i k = ![512 * (k : ℕ), 384] := by decide +kernel

theorem off16_eq : ∀ i : grid0.Coords, k0_off16 i = ![512 * (i 1 : ℕ), 384] := by decide +kernel

theorem off5_eq : ∀ (i : grid0.Coords) (k : Fin (k0_t1_loop i).trips), k0_off5 i k = ![512 * (k : ℕ), 512] := by decide +kernel

theorem off17_eq : ∀ i : grid0.Coords, k0_off17 i = ![512 * (i 1 : ℕ), 512] := by decide +kernel

theorem off6_eq : ∀ (i : grid0.Coords) (k : Fin (k0_t1_loop i).trips), k0_off6 i k = ![512 * (k : ℕ), 640] := by decide +kernel

theorem off18_eq : ∀ i : grid0.Coords, k0_off18 i = ![512 * (i 1 : ℕ), 640] := by decide +kernel

/-- The diagonal tile taken up into what the loop leaves. -/
def last (i : grid0.Coords) (x0 : Vec F S1x512x384 .bf16) (x3 : Vec F S1x512x768 .bf16) (ks vs : Vec F S2048x768 .bf16)
    (t : Carry F) : Carry F :=
  (pack
        (take (scd (qry0 x0 x3) (tile ks (k0_off13 i) (k0_off13_inb i))) (tile vs (k0_off13 i) (k0_off13_inb i)) (hd0 t))
        (take (scd (qry1 x0 x3) (tile ks (k0_off14 i) (k0_off14_inb i))) (tile vs (k0_off14 i) (k0_off14_inb i)) (hd1 t))
        (take (scd (qry2 x0 x3) (tile ks (k0_off15 i) (k0_off15_inb i))) (tile vs (k0_off15 i) (k0_off15_inb i)) (hd2 t))
        (take (scd (qry3 x0 x3) (tile ks (k0_off16 i) (k0_off16_inb i))) (tile vs (k0_off16 i) (k0_off16_inb i)) (hd3 t))
        (take (scd (qry4 x0 x3) (tile ks (k0_off17 i) (k0_off17_inb i))) (tile vs (k0_off17 i) (k0_off17_inb i)) (hd4 t))
        (take (scd (qry5 x0 x3) (tile ks (k0_off18 i) (k0_off18_inb i))) (tile vs (k0_off18 i) (k0_off18_inb i)) (hd5 t)))

/-- A trip, taken up into what is carried. -/
def next (i : grid0.Coords) (k : Fin (k0_t1_loop i).trips) (x0 : Vec F S1x512x384 .bf16) (x3 : Vec F S1x512x768 .bf16)
    (ks vs : Vec F S2048x768 .bf16) (t : Carry F) : Carry F :=
  (pack
        (take (sc (qry0 x0 x3) (tile ks (k0_off1 i k) (k0_off1_inb i k))) (tile vs (k0_off1 i k) (k0_off1_inb i k)) (hd0 t))
        (take (sc (qry1 x0 x3) (tile ks (k0_off2 i k) (k0_off2_inb i k))) (tile vs (k0_off2 i k) (k0_off2_inb i k)) (hd1 t))
        (take (sc (qry2 x0 x3) (tile ks (k0_off3 i k) (k0_off3_inb i k))) (tile vs (k0_off3 i k) (k0_off3_inb i k)) (hd2 t))
        (take (sc (qry3 x0 x3) (tile ks (k0_off4 i k) (k0_off4_inb i k))) (tile vs (k0_off4 i k) (k0_off4_inb i k)) (hd3 t))
        (take (sc (qry4 x0 x3) (tile ks (k0_off5 i k) (k0_off5_inb i k))) (tile vs (k0_off5 i k) (k0_off5_inb i k)) (hd4 t))
        (take (sc (qry5 x0 x3) (tile ks (k0_off6 i k) (k0_off6_inb i k))) (tile vs (k0_off6 i k) (k0_off6_inb i k)) (hd5 t)))

theorem merge_of {b a : Carry F} (P : Carry F → Prop) (f : Carry F → Carry F) (h : b = a) (hp : P a) :
    ∃ t : Carry F, P t ∧ merge (f b) = merge (f t) :=
  ⟨a, hp, by rw [h]⟩

set_option maxHeartbeats 4000000 in
/-- The block the body leaves at the points after a batch's first. -/
theorem out_ind_B (c : Dev nD) (i : grid0.Coords)
    (arg2 : Memref sig .tc .vmem S1x512x384 .bf16) (harg2 : arg2.IsWhole)
    (arg3 : Memref sig .tc .vmem S1x2048x384 .bf16) (harg3 : arg3.IsWhole)
    (arg4 : Memref sig .tc .vmem S1x2048x384 .bf16) (harg4 : arg4.IsWhole)
    (arg5 : Memref sig .tc .vmem S1x512x768 .bf16) (harg5 : arg5.IsWhole)
    (arg6 : Memref sig .tc .vmem S1x2048x768 .bf16) (harg6 : arg6.IsWhole)
    (arg7 : Memref sig .tc .vmem S1x512x384 .bf16) (harg7 : arg7.IsWhole)
    (arg8 : Memref sig .tc .vmem S2048x768 .bf16) (harg8 : arg8.IsWhole)
    (arg9 : Memref sig .tc .vmem S2048x768 .bf16) (harg9 : arg9.IsWhole)
    (hc0 : ¬cond0_0 i) (x0 : Vec F S1x512x384 .bf16) (x1 x2 : Vec F S1x2048x384 .bf16) (x3 : Vec F S1x512x768 .bf16) (x4 : Vec F S1x2048x768 .bf16)
    (ks vs : Vec F S2048x768 .bf16) (P : ℕ → Carry F → Prop) (h0 : P 0 init)
    (hs : ∀ (k : Fin (k0_t1_loop i).trips) (t : Carry F), P k t → P (k + 1) (next i k x0 x3 ks vs t)) :
    ∃ t : Carry F, P (k0_t1_loop i).trips t ∧
      out0_B_5 c i arg2 harg2 arg3 harg3 arg4 harg4 arg5 harg5 arg6 harg6 arg7 harg7 arg8 harg8 arg9 harg9 hc0 x0 x1 x2 x3 x4 ks vs = merge (last i x0 x3 ks vs t) := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 ks vs)]
  unfold kernelRun0_B
  dsimp only
  sl_unfold_words
  rw [View.canon_unit_zero (S := S1x512x384) zero3]
  simp only [View.readAt_eq_ld, harg2.read_unread, harg5.read_unread, harg8.read_unread, harg9.read_unread]
  refine merge_of _ (last i x0 x3 ks vs) (loop2_id ..) ?_
  exact loop_ind _ _ _ i arg2 harg2 arg3 harg3 arg4 harg4 arg5 harg5 arg6 harg6 arg7 harg7 arg8 harg8 arg9 harg9 _ _ _ _ _ _ _ _ _ _
    ks vs (harg8.read_unread _) (harg9.read_unread _) init P h0 hs _ le_rfl

set_option maxHeartbeats 4000000 in
/-- And at a batch's first point, which fills the padded keys and values. -/
theorem out_ind_A (c : Dev nD) (i : grid0.Coords)
    (arg2 : Memref sig .tc .vmem S1x512x384 .bf16) (harg2 : arg2.IsWhole)
    (arg3 : Memref sig .tc .vmem S1x2048x384 .bf16) (harg3 : arg3.IsWhole)
    (arg4 : Memref sig .tc .vmem S1x2048x384 .bf16) (harg4 : arg4.IsWhole)
    (arg5 : Memref sig .tc .vmem S1x512x768 .bf16) (harg5 : arg5.IsWhole)
    (arg6 : Memref sig .tc .vmem S1x2048x768 .bf16) (harg6 : arg6.IsWhole)
    (arg7 : Memref sig .tc .vmem S1x512x384 .bf16) (harg7 : arg7.IsWhole)
    (arg8 : Memref sig .tc .vmem S2048x768 .bf16) (harg8 : arg8.IsWhole)
    (arg9 : Memref sig .tc .vmem S2048x768 .bf16) (harg9 : arg9.IsWhole)
    (hc0 : cond0_0 i) (x0 : Vec F S1x512x384 .bf16) (x1 x2 : Vec F S1x2048x384 .bf16) (x3 : Vec F S1x512x768 .bf16) (x4 : Vec F S1x2048x768 .bf16)
    (P : ℕ → Carry F → Prop) (h0 : P 0 init)
    (hs : ∀ (k : Fin (k0_t1_loop i).trips) (t : Carry F), P k t → P (k + 1) (next i k x0 x3
      (sout0_A_0 c i arg2 harg2 arg3 harg3 arg4 harg4 arg5 harg5 arg6 harg6 arg7 harg7 arg8 harg8 arg9 harg9 hc0 x0 x1 x2 x3 x4)
      (sout0_A_1 c i arg2 harg2 arg3 harg3 arg4 harg4 arg5 harg5 arg6 harg6 arg7 harg7 arg8 harg8 arg9 harg9 hc0 x0 x1 x2 x3 x4) t)) :
    ∃ t : Carry F, P (k0_t1_loop i).trips t ∧
      out0_A_5 c i arg2 harg2 arg3 harg3 arg4 harg4 arg5 harg5 arg6 harg6 arg7 harg7 arg8 harg8 arg9 harg9 hc0 x0 x1 x2 x3 x4 = merge (last i x0 x3
      (sout0_A_0 c i arg2 harg2 arg3 harg3 arg4 harg4 arg5 harg5 arg6 harg6 arg7 harg7 arg8 harg8 arg9 harg9 hc0 x0 x1 x2 x3 x4)
      (sout0_A_1 c i arg2 harg2 arg3 harg3 arg4 harg4 arg5 harg5 arg6 harg6 arg7 harg7 arg8 harg8 arg9 harg9 hc0 x0 x1 x2 x3 x4) t) := by
  have e8 : ∀ f, arg8.view.read (Elt F) (arg8.view.writes (Elt F) f (kernelRun0_A c i arg2 harg2 arg3 harg3 arg4 harg4 arg5 harg5 arg6 harg6 arg7 harg7 arg8 harg8 arg9 harg9 hc0 x0 x1 x2 x3 x4).2.1)
      = sout0_A_0 c i arg2 harg2 arg3 harg3 arg4 harg4 arg5 harg5 arg6 harg6 arg7 harg7 arg8 harg8 arg9 harg9 hc0 x0 x1 x2 x3 x4 := by
    intro f
    unfold sout0_A_0
    rw [View.read_writes_eq_canon _ _ _ (scover0_A_0 c i arg2 harg2 arg3 harg3 arg4 harg4 arg5 harg5 arg6 harg6 arg7 harg7 arg8 harg8 arg9 harg9 hc0 x0 x1 x2 x3 x4),
      View.read_writes_eq_canon _ _ _ (scover0_A_0 c i arg2 harg2 arg3 harg3 arg4 harg4 arg5 harg5 arg6 harg6 arg7 harg7 arg8 harg8 arg9 harg9 hc0 x0 x1 x2 x3 x4)]
  have e9 : ∀ f, arg9.view.read (Elt F) (arg9.view.writes (Elt F) f (kernelRun0_A c i arg2 harg2 arg3 harg3 arg4 harg4 arg5 harg5 arg6 harg6 arg7 harg7 arg8 harg8 arg9 harg9 hc0 x0 x1 x2 x3 x4).2.2.1)
      = sout0_A_1 c i arg2 harg2 arg3 harg3 arg4 harg4 arg5 harg5 arg6 harg6 arg7 harg7 arg8 harg8 arg9 harg9 hc0 x0 x1 x2 x3 x4 := by
    intro f
    unfold sout0_A_1
    rw [View.read_writes_eq_canon _ _ _ (scover0_A_1 c i arg2 harg2 arg3 harg3 arg4 harg4 arg5 harg5 arg6 harg6 arg7 harg7 arg8 harg8 arg9 harg9 hc0 x0 x1 x2 x3 x4),
      View.read_writes_eq_canon _ _ _ (scover0_A_1 c i arg2 harg2 arg3 harg3 arg4 harg4 arg5 harg5 arg6 harg6 arg7 harg7 arg8 harg8 arg9 harg9 hc0 x0 x1 x2 x3 x4)]
  generalize sout0_A_0 c i arg2 harg2 arg3 harg3 arg4 harg4 arg5 harg5 arg6 harg6 arg7 harg7 arg8 harg8 arg9 harg9 hc0 x0 x1 x2 x3 x4 = ks at *
  generalize sout0_A_1 c i arg2 harg2 arg3 harg3 arg4 harg4 arg5 harg5 arg6 harg6 arg7 harg7 arg8 harg8 arg9 harg9 hc0 x0 x1 x2 x3 x4 = vs at *
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  revert e8 e9
  unfold kernelRun0_A
  dsimp only
  sl_unfold_words
  intro e8 e9
  rw [View.canon_unit_zero (S := S1x512x384) zero3]
  simp only [View.readAt_eq_ld, harg2.read_unread, harg3.read_unread, harg4.read_unread, harg5.read_unread,
    harg6.read_unread] at e8 e9 ⊢
  simp only [e8, e9]
  refine merge_of _ (last i x0 x3 ks vs) (loop2_id ..) ?_
  exact loop_ind _ _ _ i arg2 harg2 arg3 harg3 arg4 harg4 arg5 harg5 arg6 harg6 arg7 harg7 arg8 harg8 arg9 harg9 _ _ _ _ _ _ _ _ _ _
    ks vs (e8 _) (e9 _) init P h0 hs _ le_rfl

end Cert.Kernel4Ideal.Fx

end
-- ==== Proof.FxPad.lean ====
/-
  What the padded keys, values and queries hold, at the ideal instance, and what the block written holds of the heads' outputs.
-/
module

public import proofs.«01_k».proof.Proof.FxBody

@[expose] public section

set_option maxRecDepth 16384

noncomputable section

namespace Cert.Kernel4Ideal.Fx

open Cert.Kernel4Ideal Cert.Kernel4Ideal.Gen Idealize.ShloMosaic Idealize.ShloMosaic.TcCoe Idealize.SL.Sem

/-! ## Choices by the lane -/

theorem lane_lt (d : Fin 128) (x y : EReal) :
    Scalar.select (IntOp.cmpi CmpIPredicate.slt (BitVec.ofNat 32 d) 64#32) x y = if (d : ℕ) < 64 then x else y := by
  have h : ∀ d : Fin 128, IntOp.cmpi CmpIPredicate.slt (BitVec.ofNat 32 d) 64#32 = if (d : ℕ) < 64 then 1#1 else 0#1 := by
    decide +kernel
  rw [h]
  split <;> rfl

theorem lane_ge (d : Fin 128) (x y : EReal) :
    Scalar.select (IntOp.cmpi CmpIPredicate.sge (BitVec.ofNat 32 d) 64#32) x y = if (d : ℕ) < 64 then y else x := by
  have h : ∀ d : Fin 128, IntOp.cmpi CmpIPredicate.sge (BitVec.ofNat 32 d) 64#32 = if (d : ℕ) < 64 then 0#1 else 1#1 := by
    decide +kernel
  rw [h]
  split <;> rfl

theorem lane_is64 (d : Fin 128) (x y : EReal) :
    Scalar.select (IntOp.cmpi CmpIPredicate.eq (IntOp.subi (BitVec.ofNat 32 d) 64#32) 0#32) x y = if (d : ℕ) = 64 then x else y := by
  have h : ∀ d : Fin 128, IntOp.cmpi CmpIPredicate.eq (IntOp.subi (BitVec.ofNat 32 d) 64#32) 0#32 = if (d : ℕ) = 64 then 1#1 else 0#1 := by
    decide +kernel
  rw [h]
  split <;> rfl

theorem lane_is0 (d : Fin 128) (x y : EReal) :
    Scalar.select (IntOp.cmpi CmpIPredicate.eq (IntOp.subi (BitVec.ofNat 32 d) 0#32) 0#32) x y = if (d : ℕ) = 0 then x else y := by
  have h : ∀ d : Fin 128, IntOp.cmpi CmpIPredicate.eq (IntOp.subi (BitVec.ofNat 32 d) 0#32) 0#32 = if (d : ℕ) = 0 then 1#1 else 0#1 := by
    decide +kernel
  rw [h]
  split <;> rfl

/-! ## The padded rows -/

/-- A head's padded row: its own 64 lanes of its pair's 128, and the spare lanes of the other half. -/
def padR (x y : ℕ → ℕ → ℝ) (h r d : ℕ) : ℝ := if d / 64 = h % 2 then x r (128 * (h / 2) + d) else y r (128 * h + d)

/-- A head's padded values: the other half holds a 1, in its first lane. -/
def padV (v : ℕ → ℕ → ℝ) (h r d : ℕ) : ℝ :=
  if d / 64 = h % 2 then v r (128 * (h / 2) + d) else if d = 64 * (1 - h % 2) then 1 else 0

theorem padR_own {x y : ℕ → ℕ → ℝ} {h r d c : ℕ} (hd : d / 64 = h % 2) (hc : c = 128 * (h / 2) + d) :
    ((x r c : ℝ) : EReal) = ((padR x y h r d : ℝ) : EReal) := by
  unfold padR; rw [if_pos hd, hc]

theorem padR_spare {x y : ℕ → ℕ → ℝ} {h r d c : ℕ} (hd : ¬d / 64 = h % 2) (hc : c = 128 * h + d) :
    ((y r c : ℝ) : EReal) = ((padR x y h r d : ℝ) : EReal) := by
  unfold padR; rw [if_neg hd, hc]

theorem padV_own {v : ℕ → ℕ → ℝ} {h r d c : ℕ} (hd : d / 64 = h % 2) (hc : c = 128 * (h / 2) + d) :
    ((v r c : ℝ) : EReal) = ((padV v h r d : ℝ) : EReal) := by
  unfold padV; rw [if_pos hd, hc]

theorem padV_one {v : ℕ → ℕ → ℝ} {h r d : ℕ} (hd : ¬d / 64 = h % 2) (hc : d = 64 * (1 - h % 2)) :
    (1 : EReal) = ((padV v h r d : ℝ) : EReal) := by
  unfold padV; rw [if_neg hd, if_pos hc, EReal.coe_one]

theorem padV_zero {v : ℕ → ℕ → ℝ} {h r d : ℕ} (hd : ¬d / 64 = h % 2) (hc : ¬d = 64 * (1 - h % 2)) :
    (0 : EReal) = ((padV v h r d : ℝ) : EReal) := by
  unfold padV; rw [if_neg hd, if_neg hc, EReal.coe_zero]

theorem tile_at (x : Vec Ideal S2048x768 .bf16) (o : Fin 2 → Nat) (a b : ℕ) (ho : o = ![a, b]) (h) (r : Fin 512) (d : Fin 128)
    (hr : a + r < 2048) (hd : b + d < 768) : tile x o h (ix2 r d) = x (ix2 ⟨a + r, hr⟩ ⟨b + d, hd⟩) := by
  subst ho
  unfold tile View.ld
  congr 1
  funext c
  apply Fin.ext
  match c with
  | ⟨0, _⟩ => show a + 1 * (r : ℕ) = a + r; omega
  | ⟨1, _⟩ => show b + 1 * (d : ℕ) = b + d; omega

/-- Six pieces of 128 lanes, each of one head's padded rows, fill an array with them. -/
theorem pieces_at (f : ℕ → ℕ → ℕ → ℝ) (L : List (View.Piece (Elt Ideal) S2048x768 .bf16))
    (hp : ∀ p ∈ L, ∀ x, p.2 x = ((f ((p.1.emb x 1 : Fin 768) / 128) (p.1.emb x 0 : Fin 2048) ((p.1.emb x 1 : Fin 768) % 128) : ℝ) : EReal))
    (r : Fin 2048) (l : Fin 768) (hm : ∃ p ∈ L, (ix2 r l : S2048x768.Idx) ∈ p.1.set) :
    View.canon L (ix2 r l) = ((f (l / 128) r (l % 128) : ℝ) : EReal) :=
  View.canon_apply_of_pieces (S := S2048x768)
    (fun y => ((f ((y 1 : Fin 768) / 128) (y 0 : Fin 2048) ((y 1 : Fin 768) % 128) : ℝ) : EReal)) L hp (ix2 r l) hm

theorem emb_at (f : ℕ → ℕ → ℕ → ℝ) (h : ℕ) (o : ℕ) (ho : o = 128 * h)
    (hb : ∀ a : Fin 2, (![0, o] : Fin 2 → ℕ) a + (![2048, 128] : Fin 2 → ℕ) a ≤ S2048x768.size a) (w : Vec Ideal S2048x128 .bf16)
    (hw : ∀ (r : Fin 2048) (d : Fin 128), w (ix2 r d) = ((f h r d : ℝ) : EReal)) (x : S2048x128.Idx) :
    w x = ((f (((Rect.unit (s := S2048x768) ![0, o] ![2048, 128] hb).emb x 1 : Fin 768) / 128)
      ((Rect.unit (s := S2048x768) ![0, o] ![2048, 128] hb).emb x 0 : Fin 2048)
      (((Rect.unit (s := S2048x768) ![0, o] ![2048, 128] hb).emb x 1 : Fin 768) % 128) : ℝ) : EReal) := by
  obtain ⟨r, d, rfl⟩ : ∃ (r : Fin 2048) (d : Fin 128), x = ix2 r d := ⟨x 0, x 1, by funext a; match a with | ⟨0, _⟩ => rfl | ⟨1, _⟩ => rfl⟩
  rw [hw]
  subst ho
  have e0 : ((Rect.unit (s := S2048x768) ![0, 128 * h] ![2048, 128] hb).emb (ix2 r d) 0 : Fin 2048) = r :=
    Fin.ext (by show 0 + 1 * (r : ℕ) = r; omega)
  have e1 : (((Rect.unit (s := S2048x768) ![0, 128 * h] ![2048, 128] hb).emb (ix2 r d) 1 : Fin 768) : ℕ) = 128 * h + d := by
    show 128 * h + 1 * (d : ℕ) = 128 * h + d; omega
  rw [e0, e1, show (128 * h + (d : ℕ)) / 128 = h by omega, show (128 * h + (d : ℕ)) % 128 = d by omega]

theorem mem_at (o : ℕ) (hb : ∀ a : Fin 2, (![0, o] : Fin 2 → ℕ) a + (![2048, 128] : Fin 2 → ℕ) a ≤ S2048x768.size a)
    (r : Fin 2048) (l : Fin 768) (h1 : o ≤ l) (h2 : (l : ℕ) < o + 128) :
    (ix2 r l : S2048x768.Idx) ∈ (Rect.unit (s := S2048x768) ![0, o] ![2048, 128] hb).set := by
  rw [Rect.mem_set_unit]
  intro a
  match a with
  | ⟨0, _⟩ => exact ⟨Nat.zero_le _, by show (r : ℕ) < 0 + 2048; omega⟩
  | ⟨1, _⟩ => exact ⟨h1, h2⟩

set_option maxHeartbeats 4000000 in
theorem keys_at (c : Dev nD) (i : grid0.Coords)
    (arg2 : Memref sig .tc .vmem S1x512x384 .bf16) (harg2 : arg2.IsWhole)
    (arg3 : Memref sig .tc .vmem S1x2048x384 .bf16) (harg3 : arg3.IsWhole)
    (arg4 : Memref sig .tc .vmem S1x2048x384 .bf16) (harg4 : arg4.IsWhole)
    (arg5 : Memref sig .tc .vmem S1x512x768 .bf16) (harg5 : arg5.IsWhole)
    (arg6 : Memref sig .tc .vmem S1x2048x768 .bf16) (harg6 : arg6.IsWhole)
    (arg7 : Memref sig .tc .vmem S1x512x384 .bf16) (harg7 : arg7.IsWhole)
    (arg8 : Memref sig .tc .vmem S2048x768 .bf16) (harg8 : arg8.IsWhole)
    (arg9 : Memref sig .tc .vmem S2048x768 .bf16) (harg9 : arg9.IsWhole)
    (hc0 : cond0_0 i) (x0 : Vec Ideal S1x512x384 .bf16) (x1 x2 : Vec Ideal S1x2048x384 .bf16)
    (x3 : Vec Ideal S1x512x768 .bf16) (x4 : Vec Ideal S1x2048x768 .bf16)
    {k w : ℕ → ℕ → ℝ} (h1 : ∀ (r : Fin 2048) (l : Fin 384), x1 (ix3 0 r l) = ((k r l : ℝ) : EReal))
    (h4 : ∀ (r : Fin 2048) (l : Fin 768), x4 (ix3 0 r l) = ((w r l : ℝ) : EReal)) (r : Fin 2048) (l : Fin 768) :
    sout0_A_0 c i arg2 harg2 arg3 harg3 arg4 harg4 arg5 harg5 arg6 harg6 arg7 harg7 arg8 harg8 arg9 harg9 hc0 x0 x1 x2 x3 x4 (ix2 r l)
      = ((padR k w (l / 128) r (l % 128) : ℝ) : EReal) := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg3.read_unread, harg6.read_unread]
  refine pieces_at (padR k w) _ ?_ r l ?_
  · intro p hp
    simp only [List.mem_cons, List.not_mem_nil, or_false] at hp
    rcases hp with rfl | rfl | rfl | rfl | rfl | rfl
    · refine emb_at (padR k w) 5 640 rfl inb_S2048x768_S2048x128_0_640 _ fun r d => ?_
      unfold k0_pay53
      pointwise
      rw [lane_ge, h1, h4]
      by_cases h : (d : ℕ) < 64
      · rw [if_pos h]; exact padR_spare (by omega) (by first | rfl | omega | simp)
      · rw [if_neg h]; exact padR_own (by omega) (by first | rfl | omega | simp)
    · refine emb_at (padR k w) 4 512 rfl inb_S2048x768_S2048x128_0_512 _ fun r d => ?_
      pointwise
      rw [lane_lt, h1, h4]
      by_cases h : (d : ℕ) < 64
      · rw [if_pos h]; exact padR_own (by omega) (by first | rfl | omega | simp)
      · rw [if_neg h]; exact padR_spare (by omega) (by first | rfl | omega | simp)
    · refine emb_at (padR k w) 3 384 rfl inb_S2048x768_S2048x128_0_384 _ fun r d => ?_
      pointwise
      rw [lane_ge, h1, h4]
      by_cases h : (d : ℕ) < 64
      · rw [if_pos h]; exact padR_spare (by omega) (by first | rfl | omega | simp)
      · rw [if_neg h]; exact padR_own (by omega) (by first | rfl | omega | simp)
    · refine emb_at (padR k w) 2 256 rfl inb_S2048x768_S2048x128_0_256 _ fun r d => ?_
      pointwise
      rw [lane_lt, h1, h4]
      by_cases h : (d : ℕ) < 64
      · rw [if_pos h]; exact padR_own (by omega) (by first | rfl | omega | simp)
      · rw [if_neg h]; exact padR_spare (by omega) (by first | rfl | omega | simp)
    · refine emb_at (padR k w) 1 128 rfl inb_S2048x768_S2048x128_0_128 _ fun r d => ?_
      pointwise
      rw [lane_ge, h1, h4]
      by_cases h : (d : ℕ) < 64
      · rw [if_pos h]; exact padR_spare (by omega) (by first | rfl | omega | simp)
      · rw [if_neg h]; exact padR_own (by omega) (by first | rfl | omega | simp)
    · refine emb_at (padR k w) 0 0 rfl inb_S2048x768_S2048x128_0_0 _ fun r d => ?_
      pointwise
      rw [lane_lt, h1, h4]
      by_cases h : (d : ℕ) < 64
      · rw [if_pos h]; exact padR_own (by omega) (by first | rfl | omega | simp)
      · rw [if_neg h]; exact padR_spare (by omega) (by first | rfl | omega | simp)
  · rcases (by omega : (640 ≤ (l : ℕ) ∧ (l : ℕ) < 768) ∨ (512 ≤ (l : ℕ) ∧ (l : ℕ) < 640) ∨ (384 ≤ (l : ℕ) ∧ (l : ℕ) < 512) ∨ (256 ≤ (l : ℕ) ∧ (l : ℕ) < 384) ∨ (128 ≤ (l : ℕ) ∧ (l : ℕ) < 256) ∨ (0 ≤ (l : ℕ) ∧ (l : ℕ) < 128)) with h | h | h | h | h | h
    · exact ⟨_, List.mem_cons_self, mem_at 640 inb_S2048x768_S2048x128_0_640 r l h.1 h.2⟩
    · exact ⟨_, List.mem_cons_of_mem _ (List.mem_cons_self), mem_at 512 inb_S2048x768_S2048x128_0_512 r l h.1 h.2⟩
    · exact ⟨_, List.mem_cons_of_mem _ (List.mem_cons_of_mem _ (List.mem_cons_self)), mem_at 384 inb_S2048x768_S2048x128_0_384 r l h.1 h.2⟩
    · exact ⟨_, List.mem_cons_of_mem _ (List.mem_cons_of_mem _ (List.mem_cons_of_mem _ (List.mem_cons_self))), mem_at 256 inb_S2048x768_S2048x128_0_256 r l h.1 h.2⟩
    · exact ⟨_, List.mem_cons_of_mem _ (List.mem_cons_of_mem _ (List.mem_cons_of_mem _ (List.mem_cons_of_mem _ (List.mem_cons_self)))), mem_at 128 inb_S2048x768_S2048x128_0_128 r l h.1 h.2⟩
    · exact ⟨_, List.mem_cons_of_mem _ (List.mem_cons_of_mem _ (List.mem_cons_of_mem _ (List.mem_cons_of_mem _ (List.mem_cons_of_mem _ (List.mem_cons_self))))), mem_at 0 inb_S2048x768_S2048x128_0_0 r l h.1 h.2⟩

set_option maxHeartbeats 4000000 in
theorem values_at (c : Dev nD) (i : grid0.Coords)
    (arg2 : Memref sig .tc .vmem S1x512x384 .bf16) (harg2 : arg2.IsWhole)
    (arg3 : Memref sig .tc .vmem S1x2048x384 .bf16) (harg3 : arg3.IsWhole)
    (arg4 : Memref sig .tc .vmem S1x2048x384 .bf16) (harg4 : arg4.IsWhole)
    (arg5 : Memref sig .tc .vmem S1x512x768 .bf16) (harg5 : arg5.IsWhole)
    (arg6 : Memref sig .tc .vmem S1x2048x768 .bf16) (harg6 : arg6.IsWhole)
    (arg7 : Memref sig .tc .vmem S1x512x384 .bf16) (harg7 : arg7.IsWhole)
    (arg8 : Memref sig .tc .vmem S2048x768 .bf16) (harg8 : arg8.IsWhole)
    (arg9 : Memref sig .tc .vmem S2048x768 .bf16) (harg9 : arg9.IsWhole)
    (hc0 : cond0_0 i) (x0 : Vec Ideal S1x512x384 .bf16) (x1 x2 : Vec Ideal S1x2048x384 .bf16)
    (x3 : Vec Ideal S1x512x768 .bf16) (x4 : Vec Ideal S1x2048x768 .bf16)
    {v : ℕ → ℕ → ℝ} (h2 : ∀ (r : Fin 2048) (l : Fin 384), x2 (ix3 0 r l) = ((v r l : ℝ) : EReal)) (r : Fin 2048) (l : Fin 768) :
    sout0_A_1 c i arg2 harg2 arg3 harg3 arg4 harg4 arg5 harg5 arg6 harg6 arg7 harg7 arg8 harg8 arg9 harg9 hc0 x0 x1 x2 x3 x4 (ix2 r l)
      = ((padV v (l / 128) r (l % 128) : ℝ) : EReal) := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg4.read_unread]
  refine pieces_at (padV v) _ ?_ r l ?_
  · intro p hp
    simp only [List.mem_cons, List.not_mem_nil, or_false] at hp
    rcases hp with rfl | rfl | rfl | rfl | rfl | rfl
    · refine emb_at (padV v) 5 640 rfl inb_S2048x768_S2048x128_0_640 _ fun r d => ?_
      pointwise
      rw [lane_ge, lane_is0, h2]
      by_cases h : (d : ℕ) < 64
      · rw [if_pos h]
        by_cases h' : (d : ℕ) = 0
        · rw [if_pos h']; exact padV_one (by omega) (by omega)
        · rw [if_neg h']; exact padV_zero (by omega) (by omega)
      · rw [if_neg h]; exact padV_own (by omega) (by first | rfl | omega | simp)
    · refine emb_at (padV v) 4 512 rfl inb_S2048x768_S2048x128_0_512 _ fun r d => ?_
      pointwise
      rw [lane_lt, lane_is64, h2]
      by_cases h : (d : ℕ) < 64
      · rw [if_pos h]; exact padV_own (by omega) (by first | rfl | omega | simp)
      · rw [if_neg h]
        by_cases h' : (d : ℕ) = 64
        · rw [if_pos h']; exact padV_one (by omega) (by omega)
        · rw [if_neg h']; exact padV_zero (by omega) (by omega)
    · refine emb_at (padV v) 3 384 rfl inb_S2048x768_S2048x128_0_384 _ fun r d => ?_
      pointwise
      rw [lane_ge, lane_is0, h2]
      by_cases h : (d : ℕ) < 64
      · rw [if_pos h]
        by_cases h' : (d : ℕ) = 0
        · rw [if_pos h']; exact padV_one (by omega) (by omega)
        · rw [if_neg h']; exact padV_zero (by omega) (by omega)
      · rw [if_neg h]; exact padV_own (by omega) (by first | rfl | omega | simp)
    · refine emb_at (padV v) 2 256 rfl inb_S2048x768_S2048x128_0_256 _ fun r d => ?_
      pointwise
      rw [lane_lt, lane_is64, h2]
      by_cases h : (d : ℕ) < 64
      · rw [if_pos h]; exact padV_own (by omega) (by first | rfl | omega | simp)
      · rw [if_neg h]
        by_cases h' : (d : ℕ) = 64
        · rw [if_pos h']; exact padV_one (by omega) (by omega)
        · rw [if_neg h']; exact padV_zero (by omega) (by omega)
    · refine emb_at (padV v) 1 128 rfl inb_S2048x768_S2048x128_0_128 _ fun r d => ?_
      pointwise
      rw [lane_ge, lane_is0, h2]
      by_cases h : (d : ℕ) < 64
      · rw [if_pos h]
        by_cases h' : (d : ℕ) = 0
        · rw [if_pos h']; exact padV_one (by omega) (by omega)
        · rw [if_neg h']; exact padV_zero (by omega) (by omega)
      · rw [if_neg h]; exact padV_own (by omega) (by first | rfl | omega | simp)
    · refine emb_at (padV v) 0 0 rfl inb_S2048x768_S2048x128_0_0 _ fun r d => ?_
      pointwise
      rw [lane_lt, lane_is64, h2]
      by_cases h : (d : ℕ) < 64
      · rw [if_pos h]; exact padV_own (by omega) (by first | rfl | omega | simp)
      · rw [if_neg h]
        by_cases h' : (d : ℕ) = 64
        · rw [if_pos h']; exact padV_one (by omega) (by omega)
        · rw [if_neg h']; exact padV_zero (by omega) (by omega)
  · rcases (by omega : (640 ≤ (l : ℕ) ∧ (l : ℕ) < 768) ∨ (512 ≤ (l : ℕ) ∧ (l : ℕ) < 640) ∨ (384 ≤ (l : ℕ) ∧ (l : ℕ) < 512) ∨ (256 ≤ (l : ℕ) ∧ (l : ℕ) < 384) ∨ (128 ≤ (l : ℕ) ∧ (l : ℕ) < 256) ∨ (0 ≤ (l : ℕ) ∧ (l : ℕ) < 128)) with h | h | h | h | h | h
    · exact ⟨_, List.mem_cons_self, mem_at 640 inb_S2048x768_S2048x128_0_640 r l h.1 h.2⟩
    · exact ⟨_, List.mem_cons_of_mem _ (List.mem_cons_self), mem_at 512 inb_S2048x768_S2048x128_0_512 r l h.1 h.2⟩
    · exact ⟨_, List.mem_cons_of_mem _ (List.mem_cons_of_mem _ (List.mem_cons_self)), mem_at 384 inb_S2048x768_S2048x128_0_384 r l h.1 h.2⟩
    · exact ⟨_, List.mem_cons_of_mem _ (List.mem_cons_of_mem _ (List.mem_cons_of_mem _ (List.mem_cons_self))), mem_at 256 inb_S2048x768_S2048x128_0_256 r l h.1 h.2⟩
    · exact ⟨_, List.mem_cons_of_mem _ (List.mem_cons_of_mem _ (List.mem_cons_of_mem _ (List.mem_cons_of_mem _ (List.mem_cons_self)))), mem_at 128 inb_S2048x768_S2048x128_0_128 r l h.1 h.2⟩
    · exact ⟨_, List.mem_cons_of_mem _ (List.mem_cons_of_mem _ (List.mem_cons_of_mem _ (List.mem_cons_of_mem _ (List.mem_cons_of_mem _ (List.mem_cons_self))))), mem_at 0 inb_S2048x768_S2048x128_0_0 r l h.1 h.2⟩

section

variable {x : Vec Ideal S1x512x384 .bf16} {y : Vec Ideal S1x512x768 .bf16} {q u : ℕ → ℕ → ℝ} {base : ℕ}
  (hx : ∀ (r : Fin 512) (l : Fin 384), x (ix3 0 r l) = ((q (base + r) l : ℝ) : EReal))
  (hy : ∀ (r : Fin 512) (l : Fin 768), y (ix3 0 r l) = ((u (base + r) l : ℝ) : EReal))

include hx hy in
theorem qry0_at (r : Fin 512) (d : Fin 128) : qry0 x y (ix2 r d) = ((padR q u 0 (base + r) d : ℝ) : EReal) := by
  unfold qry0 k0_pay54 qpart qspare
  pointwise
  rw [lane_lt, hx, hy]
  by_cases h : (d : ℕ) < 64
  · rw [if_pos h]; exact padR_own (by omega) (by first | rfl | omega | simp)
  · rw [if_neg h]; exact padR_spare (by omega) (by first | rfl | omega | simp)

include hx hy in
theorem qry1_at (r : Fin 512) (d : Fin 128) : qry1 x y (ix2 r d) = ((padR q u 1 (base + r) d : ℝ) : EReal) := by
  unfold qry1 k0_pay55 qpart qspare
  pointwise
  rw [lane_ge, hx, hy]
  by_cases h : (d : ℕ) < 64
  · rw [if_pos h]; exact padR_spare (by omega) (by first | rfl | omega | simp)
  · rw [if_neg h]; exact padR_own (by omega) (by first | rfl | omega | simp)

include hx hy in
theorem qry2_at (r : Fin 512) (d : Fin 128) : qry2 x y (ix2 r d) = ((padR q u 2 (base + r) d : ℝ) : EReal) := by
  unfold qry2 k0_pay59 k0_pay58 k0_pay57 k0_pay56 qpart qspare
  pointwise
  rw [lane_lt, hx, hy]
  by_cases h : (d : ℕ) < 64
  · rw [if_pos h]; exact padR_own (by omega) (by first | rfl | omega | simp)
  · rw [if_neg h]; exact padR_spare (by omega) (by first | rfl | omega | simp)

include hx hy in
theorem qry3_at (r : Fin 512) (d : Fin 128) : qry3 x y (ix2 r d) = ((padR q u 3 (base + r) d : ℝ) : EReal) := by
  unfold qry3 k0_pay60 qpart qspare
  pointwise
  rw [lane_ge, hx, hy]
  by_cases h : (d : ℕ) < 64
  · rw [if_pos h]; exact padR_spare (by omega) (by first | rfl | omega | simp)
  · rw [if_neg h]; exact padR_own (by omega) (by first | rfl | omega | simp)

include hx hy in
theorem qry4_at (r : Fin 512) (d : Fin 128) : qry4 x y (ix2 r d) = ((padR q u 4 (base + r) d : ℝ) : EReal) := by
  unfold qry4 k0_pay61 qpart qspare
  pointwise
  rw [lane_lt, hx, hy]
  by_cases h : (d : ℕ) < 64
  · rw [if_pos h]; exact padR_own (by omega) (by first | rfl | omega | simp)
  · rw [if_neg h]; exact padR_spare (by omega) (by first | rfl | omega | simp)

include hx hy in
theorem qry5_at (r : Fin 512) (d : Fin 128) : qry5 x y (ix2 r d) = ((padR q u 5 (base + r) d : ℝ) : EReal) := by
  unfold qry5 k0_pay62 qpart qspare
  pointwise
  rw [lane_ge, hx, hy]
  by_cases h : (d : ℕ) < 64
  · rw [if_pos h]; exact padR_spare (by omega) (by first | rfl | omega | simp)
  · rw [if_neg h]; exact padR_own (by omega) (by first | rfl | omega | simp)

end

theorem merge_0 (t : Carry Ideal) (r : Fin 512) (d : Fin 128) :
    merge t (ix3 0 r ⟨d, by omega⟩) = if (d : ℕ) < 64 then Ideal.div ((hd0 t).2 (ix2 r d)) ((hd0 t).2 (ix2 r 64))
      else Ideal.div ((hd1 t).2 (ix2 r d)) ((hd1 t).2 (ix2 r 0)) := by
  unfold merge k0_pay1 k0_pay114
  rw [← fin64_at, ← fin0_at]
  refine Eq.trans ?_ (lane_lt d _ _)
  pointwise

theorem merge_1 (t : Carry Ideal) (r : Fin 512) (d : Fin 128) :
    merge t (ix3 0 r ⟨128 + (d : ℕ), by omega⟩) = if (d : ℕ) < 64 then Ideal.div ((hd2 t).2 (ix2 r d)) ((hd2 t).2 (ix2 r 64))
      else Ideal.div ((hd3 t).2 (ix2 r d)) ((hd3 t).2 (ix2 r 0)) := by
  unfold merge k0_pay1
  rw [← fin64_at, ← fin0_at]
  refine Eq.trans ?_ (lane_lt d _ _)
  have e : ∀ a b : FVec Ideal S512x128 .f32, k0_pay115 a b (k0_pay111 a)
      = select (cmpi .slt (iota .tc S512x128 32 [1] iota_S512x128_d1_w32) (broadcast S512x128 64#32)) (fin64 a) (fin0 b) :=
    fun _ _ => rfl
  rw [e]
  pointwise

theorem merge_2 (t : Carry Ideal) (r : Fin 512) (d : Fin 128) :
    merge t (ix3 0 r ⟨256 + (d : ℕ), by omega⟩) = if (d : ℕ) < 64 then Ideal.div ((hd4 t).2 (ix2 r d)) ((hd4 t).2 (ix2 r 64))
      else Ideal.div ((hd5 t).2 (ix2 r d)) ((hd5 t).2 (ix2 r 0)) := by
  unfold merge k0_pay1
  rw [← fin64_at, ← fin0_at]
  refine Eq.trans ?_ (lane_lt d _ _)
  pointwise
  rw [dif_neg (by omega), dif_neg (by omega)]
  have e : 256 + (d : ℕ) - 128 - 128 = d := by omega
  simp only [e, Fin.eta]

end Cert.Kernel4Ideal.Fx

end
-- ==== Proof.FxHead.lean ====
/-
  The block the body leaves, at the ideal instance: every head's softmax of its padded scores over the keys up to the query.
-/
module

public import proofs.«01_k».proof.Proof.FxPad

@[expose] public section

set_option maxRecDepth 16384

noncomputable section

namespace Cert.Kernel4Ideal.Fx

open Cert.Kernel4Ideal Cert.Kernel4Ideal.Gen Idealize.ShloMosaic Idealize.ShloMosaic.TcCoe Idealize.SL.Sem

/-- A head's score of a key: the product of the padded rows. -/
def score (q u k w : ℕ → ℕ → ℝ) (h r j : ℕ) : ℝ := ∑ d : Fin 128, padR q u h r d * padR k w h j d

/-- An entry of the output: its head's softmax over the keys up to the query, against the values' column. -/
def headOut (q u k w v : ℕ → ℕ → ℝ) (r l : ℕ) : ℝ := att (score q u k w (l / 64) r) (fun j => v j l) (r + 1)

/-- What is kept of a head after the first `n` tiles of keys. -/
def Keep (q u k w v : ℕ → ℕ → ℝ) (base h n : ℕ) (p : Pair Ideal) : Prop :=
  Soft (score q u k w h) (padV v h) base (fun _ => 512 * n) p.1 p.2

/-- And of the six. -/
def Keeps (q u k w v : ℕ → ℕ → ℝ) (base n : ℕ) (t : Carry Ideal) : Prop :=
  Keep q u k w v base 0 n (hd0 t) ∧ Keep q u k w v base 1 n (hd1 t) ∧ Keep q u k w v base 2 n (hd2 t) ∧ Keep q u k w v base 3 n (hd3 t) ∧ Keep q u k w v base 4 n (hd4 t) ∧ Keep q u k w v base 5 n (hd5 t)

section

variable {q u k w v : ℕ → ℕ → ℝ} {base : ℕ} {ks vs : Vec Ideal S2048x768 .bf16}
  (hk : ∀ (r : Fin 2048) (l : Fin 768), ks (ix2 r l) = ((padR k w (l / 128) r (l % 128) : ℝ) : EReal))
  (hv : ∀ (r : Fin 2048) (l : Fin 768), vs (ix2 r l) = ((padV v (l / 128) r (l % 128) : ℝ) : EReal))

include hk in
theorem keyTile (o : Fin 2 → Nat) (lo h : ℕ) (ho : o = ![lo, 128 * h]) (hi) (hl : lo + 512 ≤ 2048) (hh : h < 6)
    (r : Fin 512) (d : Fin 128) : tile ks o hi (ix2 r d) = ((padR k w h (lo + r) d : ℝ) : EReal) := by
  rw [tile_at ks o lo (128 * h) ho hi r d (by omega) (by omega), hk]
  show ((padR k w ((128 * h + (d : ℕ)) / 128) (lo + r) ((128 * h + (d : ℕ)) % 128) : ℝ) : EReal) = _
  rw [show (128 * h + (d : ℕ)) / 128 = h by omega, show (128 * h + (d : ℕ)) % 128 = d by omega]

include hv in
theorem valTile (o : Fin 2 → Nat) (lo h : ℕ) (ho : o = ![lo, 128 * h]) (hi) (hl : lo + 512 ≤ 2048) (hh : h < 6)
    (r : Fin 512) (d : Fin 128) : tile vs o hi (ix2 r d) = ((padV v h (lo + r) d : ℝ) : EReal) := by
  rw [tile_at vs o lo (128 * h) ho hi r d (by omega) (by omega), hv]
  show ((padV v ((128 * h + (d : ℕ)) / 128) (lo + r) ((128 * h + (d : ℕ)) % 128) : ℝ) : EReal) = _
  rw [show (128 * h + (d : ℕ)) / 128 = h by omega, show (128 * h + (d : ℕ)) % 128 = d by omega]

include hk hv in
theorem keep_next {Q : FVec Ideal S512x128 .bf16} {h n : ℕ}
    (hq : ∀ (r : Fin 512) (d : Fin 128), Q (ix2 r d) = ((padR q u h (base + r) d : ℝ) : EReal))
    (o : Fin 2 → Nat) (ho : o = ![512 * n, 128 * h]) (hi) (hn : n < 4) (hh : h < 6) {p : Pair Ideal}
    (hp : Keep q u k w v base h n p) : Keep q u k w v base h (n + 1) (take (sc Q (tile ks o hi)) (tile vs o hi) p) := by
  have := soft_step (w := fun _ => 512) (s := sc Q (tile ks o hi)) (vb := tile vs o hi) (fun _ => by omega)
    (fun r c => by
      rw [if_pos c.isLt, sc_coe (fun r d => hq r d) (fun r d => keyTile hk o (512 * n) h ho hi (by omega) hh r d)]
      rfl)
    (fun r d => valTile hv o (512 * n) h ho hi (by omega) hh r d) hp
  unfold Keep
  rw [show 512 * (n + 1) = 512 * n + 512 by omega]
  exact this

include hk hv in
theorem keep_last {Q : FVec Ideal S512x128 .bf16} {h n : ℕ}
    (hq : ∀ (r : Fin 512) (d : Fin 128), Q (ix2 r d) = ((padR q u h (512 * n + r) d : ℝ) : EReal))
    (o : Fin 2 → Nat) (ho : o = ![512 * n, 128 * h]) (hi) (hn : n < 4) (hh : h < 6) {p : Pair Ideal}
    (hp : Keep q u k w v (512 * n) h n p) : Soft (score q u k w h) (padV v h) (512 * n) (fun r => 512 * n + (r + 1))
      (take (scd Q (tile ks o hi)) (tile vs o hi) p).1 (take (scd Q (tile ks o hi)) (tile vs o hi) p).2 :=
  soft_step (w := fun r => (r : ℕ) + 1) (s := scd Q (tile ks o hi)) (vb := tile vs o hi) (fun r => by omega)
    (fun r c => by
      rw [scd_at, sc_coe (fun r d => hq r d) (fun r d => keyTile hk o (512 * n) h ho hi (by omega) hh r d)]
      rfl)
    (fun r d => valTile hv o (512 * n) h ho hi (by omega) hh r d) hp

theorem keeps_init : Keeps q u k w v base 0 init :=
  ⟨soft_init _ _ _, soft_init _ _ _, soft_init _ _ _, soft_init _ _ _, soft_init _ _ _, soft_init _ _ _⟩

end

section

variable {i : grid0.Coords} {x0 : Vec Ideal S1x512x384 .bf16} {x3 : Vec Ideal S1x512x768 .bf16} {q u k w v : ℕ → ℕ → ℝ}
    (h0 : ∀ (r : Fin 512) (l : Fin 384), x0 (ix3 0 r l) = ((q (512 * (i 1 : ℕ) + r) l : ℝ) : EReal))
    (h3 : ∀ (r : Fin 512) (l : Fin 768), x3 (ix3 0 r l) = ((u (512 * (i 1 : ℕ) + r) l : ℝ) : EReal))
    {ks vs : Vec Ideal S2048x768 .bf16}
    (hk : ∀ (r : Fin 2048) (l : Fin 768), ks (ix2 r l) = ((padR k w (l / 128) r (l % 128) : ℝ) : EReal))
    (hv : ∀ (r : Fin 2048) (l : Fin 768), vs (ix2 r l) = ((padV v (l / 128) r (l % 128) : ℝ) : EReal))

include h0 h3 hk hv in
theorem keeps_next (n : Fin (k0_t1_loop i).trips) (t : Carry Ideal) (ht : Keeps q u k w v (512 * (i 1 : ℕ)) n t) :
    Keeps q u k w v (512 * (i 1 : ℕ)) (n + 1) (next i n x0 x3 ks vs t) := by
  have hi : (i 1 : ℕ) < 4 := (i 1).isLt
  have hn : (n : ℕ) < (i 1 : ℕ) := lt_of_lt_of_eq n.isLt (trips1 i)
  obtain ⟨a0, a1, a2, a3, a4, a5⟩ := ht
  exact ⟨keep_next hk hv (qry0_at h0 h3) _ (off1_eq i n) _ (by omega) (by omega) a0,
    keep_next hk hv (qry1_at h0 h3) _ (off2_eq i n) _ (by omega) (by omega) a1,
    keep_next hk hv (qry2_at h0 h3) _ (off3_eq i n) _ (by omega) (by omega) a2,
    keep_next hk hv (qry3_at h0 h3) _ (off4_eq i n) _ (by omega) (by omega) a3,
    keep_next hk hv (qry4_at h0 h3) _ (off5_eq i n) _ (by omega) (by omega) a4,
    keep_next hk hv (qry5_at h0 h3) _ (off6_eq i n) _ (by omega) (by omega) a5⟩

include h0 h3 hk hv in
theorem merge_at (t : Carry Ideal) (ht : Keeps q u k w v (512 * (i 1 : ℕ)) (k0_t1_loop i).trips t) (r : Fin 512) (l : Fin 384) :
    merge (last i x0 x3 ks vs t) (ix3 0 r l) = ((headOut q u k w v (512 * (i 1 : ℕ) + r) l : ℝ) : EReal) := by
  have hi : (i 1 : ℕ) < 4 := (i 1).isLt
  rw [trips1 i] at ht
  obtain ⟨a0, a1, a2, a3, a4, a5⟩ := ht
  have b0 := keep_last hk hv (qry0_at h0 h3) _ (off13_eq i) (k0_off13_inb i) (by omega) (by omega) a0
  have b1 := keep_last hk hv (qry1_at h0 h3) _ (off14_eq i) (k0_off14_inb i) (by omega) (by omega) a1
  have b2 := keep_last hk hv (qry2_at h0 h3) _ (off15_eq i) (k0_off15_inb i) (by omega) (by omega) a2
  have b3 := keep_last hk hv (qry3_at h0 h3) _ (off16_eq i) (k0_off16_inb i) (by omega) (by omega) a3
  have b4 := keep_last hk hv (qry4_at h0 h3) _ (off17_eq i) (k0_off17_inb i) (by omega) (by omega) a4
  have b5 := keep_last hk hv (qry5_at h0 h3) _ (off18_eq i) (k0_off18_inb i) (by omega) (by omega) a5
  have fin : ∀ (h : ℕ) (s : Fin 128) (hs : (s : ℕ) = 64 * (1 - h % 2)) (p : Pair Ideal)
      (_ : Soft (score q u k w h) (padV v h) (512 * (i 1 : ℕ)) (fun r => 512 * (i 1 : ℕ) + (r + 1)) p.1 p.2) (d : Fin 128)
      (_ : (l : ℕ) / 64 = h) (_ : (l : ℕ) % 128 = d),
      Ideal.div (p.2 (ix2 r d)) (p.2 (ix2 r s)) = ((headOut q u k w v (512 * (i 1 : ℕ) + r) l : ℝ) : EReal) := by
    intro h s hs p hp d e1 e2
    rw [soft_fin (fun r => by omega) hp s (fun j => by
      unfold padV
      rw [if_neg (by omega), if_pos hs]) r d]
    unfold headOut
    rw [e1]
    congr 2
    funext j
    unfold padV
    rw [if_pos (by omega)]
    congr 1
    omega
  rcases (by omega : (l : ℕ) < 128 ∨ (128 ≤ (l : ℕ) ∧ (l : ℕ) < 256) ∨ 256 ≤ (l : ℕ)) with hl | hl | hl
  · have e := merge_0 (last i x0 x3 ks vs t) r ⟨(l : ℕ), by omega⟩
    rw [show (⟨(((⟨(l : ℕ), by omega⟩) : Fin 128) : ℕ), by show (l : ℕ) < 384; omega⟩ : Fin 384) = l from Fin.ext (by show l = (l : ℕ); omega)] at e
    rw [e]
    by_cases hd : (l : ℕ) < 64
    · rw [if_pos hd]
      exact fin 0 64 rfl _ b0 _ (by omega) (by show (l : ℕ) % 128 = (l : ℕ); omega)
    · rw [if_neg hd]
      exact fin 1 0 rfl _ b1 _ (by omega) (by show (l : ℕ) % 128 = (l : ℕ); omega)
  · have e := merge_1 (last i x0 x3 ks vs t) r ⟨(l : ℕ) - 128, by omega⟩
    rw [show (⟨128 + (((⟨(l : ℕ) - 128, by omega⟩) : Fin 128) : ℕ), by show 128 + ((l : ℕ) - 128) < 384; omega⟩ : Fin 384) = l from Fin.ext (by show 128 + ((l : ℕ) - 128) = (l : ℕ); omega)] at e
    rw [e]
    by_cases hd : (l : ℕ) - 128 < 64
    · rw [if_pos hd]
      exact fin 2 64 rfl _ b2 _ (by omega) (by show (l : ℕ) % 128 = (l : ℕ) - 128; omega)
    · rw [if_neg hd]
      exact fin 3 0 rfl _ b3 _ (by omega) (by show (l : ℕ) % 128 = (l : ℕ) - 128; omega)
  · have e := merge_2 (last i x0 x3 ks vs t) r ⟨(l : ℕ) - 256, by omega⟩
    rw [show (⟨256 + (((⟨(l : ℕ) - 256, by omega⟩) : Fin 128) : ℕ), by show 256 + ((l : ℕ) - 256) < 384; omega⟩ : Fin 384) = l from Fin.ext (by show 256 + ((l : ℕ) - 256) = (l : ℕ); omega)] at e
    rw [e]
    by_cases hd : (l : ℕ) - 256 < 64
    · rw [if_pos hd]
      exact fin 4 64 rfl _ b4 _ (by omega) (by show (l : ℕ) % 128 = (l : ℕ) - 256; omega)
    · rw [if_neg hd]
      exact fin 5 0 rfl _ b5 _ (by omega) (by show (l : ℕ) % 128 = (l : ℕ) - 256; omega)

end

theorem out_at_B (c : Dev nD) (i : grid0.Coords)
    (arg2 : Memref sig .tc .vmem S1x512x384 .bf16) (harg2 : arg2.IsWhole)
    (arg3 : Memref sig .tc .vmem S1x2048x384 .bf16) (harg3 : arg3.IsWhole)
    (arg4 : Memref sig .tc .vmem S1x2048x384 .bf16) (harg4 : arg4.IsWhole)
    (arg5 : Memref sig .tc .vmem S1x512x768 .bf16) (harg5 : arg5.IsWhole)
    (arg6 : Memref sig .tc .vmem S1x2048x768 .bf16) (harg6 : arg6.IsWhole)
    (arg7 : Memref sig .tc .vmem S1x512x384 .bf16) (harg7 : arg7.IsWhole)
    (arg8 : Memref sig .tc .vmem S2048x768 .bf16) (harg8 : arg8.IsWhole)
    (arg9 : Memref sig .tc .vmem S2048x768 .bf16) (harg9 : arg9.IsWhole)
    (hc0 : ¬cond0_0 i) (x0 : Vec Ideal S1x512x384 .bf16) (x1 x2 : Vec Ideal S1x2048x384 .bf16)
    (x3 : Vec Ideal S1x512x768 .bf16) (x4 : Vec Ideal S1x2048x768 .bf16)
    {q u k w v : ℕ → ℕ → ℝ}
    (h0 : ∀ (r : Fin 512) (l : Fin 384), x0 (ix3 0 r l) = ((q (512 * (i 1 : ℕ) + r) l : ℝ) : EReal))
    (h3 : ∀ (r : Fin 512) (l : Fin 768), x3 (ix3 0 r l) = ((u (512 * (i 1 : ℕ) + r) l : ℝ) : EReal)) {ks vs : Vec Ideal S2048x768 .bf16}
    (hk : ∀ (r : Fin 2048) (l : Fin 768), ks (ix2 r l) = ((padR k w (l / 128) r (l % 128) : ℝ) : EReal))
    (hv : ∀ (r : Fin 2048) (l : Fin 768), vs (ix2 r l) = ((padV v (l / 128) r (l % 128) : ℝ) : EReal))
    (r : Fin 512) (l : Fin 384) :
    out0_B_5 c i arg2 harg2 arg3 harg3 arg4 harg4 arg5 harg5 arg6 harg6 arg7 harg7 arg8 harg8 arg9 harg9 hc0 x0 x1 x2 x3 x4 ks vs (ix3 0 r l)
      = ((headOut q u k w v (512 * (i 1 : ℕ) + r) l : ℝ) : EReal) := by
  obtain ⟨t, ht, e⟩ := out_ind_B c i arg2 harg2 arg3 harg3 arg4 harg4 arg5 harg5 arg6 harg6 arg7 harg7 arg8 harg8 arg9 harg9 hc0 x0 x1 x2 x3 x4
    ks vs (Keeps q u k w v (512 * (i 1 : ℕ))) keeps_init (keeps_next h0 h3 hk hv)
  rw [e]
  exact merge_at h0 h3 hk hv t ht r l

theorem out_at_A (c : Dev nD) (i : grid0.Coords)
    (arg2 : Memref sig .tc .vmem S1x512x384 .bf16) (harg2 : arg2.IsWhole)
    (arg3 : Memref sig .tc .vmem S1x2048x384 .bf16) (harg3 : arg3.IsWhole)
    (arg4 : Memref sig .tc .vmem S1x2048x384 .bf16) (harg4 : arg4.IsWhole)
    (arg5 : Memref sig .tc .vmem S1x512x768 .bf16) (harg5 : arg5.IsWhole)
    (arg6 : Memref sig .tc .vmem S1x2048x768 .bf16) (harg6 : arg6.IsWhole)
    (arg7 : Memref sig .tc .vmem S1x512x384 .bf16) (harg7 : arg7.IsWhole)
    (arg8 : Memref sig .tc .vmem S2048x768 .bf16) (harg8 : arg8.IsWhole)
    (arg9 : Memref sig .tc .vmem S2048x768 .bf16) (harg9 : arg9.IsWhole)
    (hc0 : cond0_0 i) (x0 : Vec Ideal S1x512x384 .bf16) (x1 x2 : Vec Ideal S1x2048x384 .bf16)
    (x3 : Vec Ideal S1x512x768 .bf16) (x4 : Vec Ideal S1x2048x768 .bf16)
    {q u k w v : ℕ → ℕ → ℝ}
    (h0 : ∀ (r : Fin 512) (l : Fin 384), x0 (ix3 0 r l) = ((q (512 * (i 1 : ℕ) + r) l : ℝ) : EReal))
    (h3 : ∀ (r : Fin 512) (l : Fin 768), x3 (ix3 0 r l) = ((u (512 * (i 1 : ℕ) + r) l : ℝ) : EReal))
    (h1 : ∀ (r : Fin 2048) (l : Fin 384), x1 (ix3 0 r l) = ((k r l : ℝ) : EReal))
    (h4 : ∀ (r : Fin 2048) (l : Fin 768), x4 (ix3 0 r l) = ((w r l : ℝ) : EReal))
    (h2 : ∀ (r : Fin 2048) (l : Fin 384), x2 (ix3 0 r l) = ((v r l : ℝ) : EReal)) (r : Fin 512) (l : Fin 384) :
    out0_A_5 c i arg2 harg2 arg3 harg3 arg4 harg4 arg5 harg5 arg6 harg6 arg7 harg7 arg8 harg8 arg9 harg9 hc0 x0 x1 x2 x3 x4 (ix3 0 r l)
      = ((headOut q u k w v (512 * (i 1 : ℕ) + r) l : ℝ) : EReal) := by
  have hk := keys_at c i arg2 harg2 arg3 harg3 arg4 harg4 arg5 harg5 arg6 harg6 arg7 harg7 arg8 harg8 arg9 harg9 hc0 x0 x1 x2 x3 x4 h1 h4
  have hv := values_at c i arg2 harg2 arg3 harg3 arg4 harg4 arg5 harg5 arg6 harg6 arg7 harg7 arg8 harg8 arg9 harg9 hc0 x0 x1 x2 x3 x4 h2
  obtain ⟨t, ht, e⟩ := out_ind_A c i arg2 harg2 arg3 harg3 arg4 harg4 arg5 harg5 arg6 harg6 arg7 harg7 arg8 harg8 arg9 harg9 hc0 x0 x1 x2 x3 x4
    (Keeps q u k w v (512 * (i 1 : ℕ))) keeps_init (keeps_next h0 h3 hk hv)
  rw [e]
  exact merge_at h0 h3 hk hv t ht r l

end Cert.Kernel4Ideal.Fx

end
-- ==== Proof.FxHost.lean ====
/-
  What the host code prepares for the forgetting attention, at the ideal instance: scaled queries, keys and values side by side,
  and the running sums in the lanes a head leaves free.
-/
module

public import proofs.«01_k».proof.Proof.FxHead

@[expose] public section

set_option maxRecDepth 16384

noncomputable section

namespace Cert.Kernel4Ideal.Fx

open Cert.Kernel4Ideal Cert.Kernel4Ideal.Gen Idealize.ShloMosaic Idealize.ShloMosaic.TcCoe Idealize.SL.Sem

theorem eighth : Ideal.ofBits .f32 0x3E000000#32 = (((1 : ℝ) / 8 : ℝ) : EReal) := by
  simp [Ideal.ofBits, Ideal.ieee]
  rw [← EReal.coe_mul]
  norm_num

/-! ## Queries, keys and values -/

/-- The queries scaled, the keys and the values side by side. -/
def triple (q k v : FVec Ideal S16x2048x384 .f32) : FVec Ideal S16x2048x1152 .bf16 :=
  truncf .bf16 (concatenate S16x2048x1152 2 [⟨S16x2048x384, mulf q (broadcastInDim S16x2048x384 ![] bcast_S_S16x2048x384
      (constant S_ .f32 0x3E000000#32))⟩, ⟨S16x2048x384, k⟩, ⟨S16x2048x384, v⟩]
    concatenates_S16x2048x384_S16x2048x384_S16x2048x384_S16x2048x1152_d2) bitsLt_bf16_f32

theorem triple_q (q k v : FVec Ideal S16x2048x384 .f32) (b : Fin 16) (r : Fin 2048) (c : Fin 384) :
    triple q k v (ix3 b r ⟨c, by omega⟩) = q (ix3 b r c) * (((1 : ℝ) / 8 : ℝ) : EReal) := by
  unfold triple
  pointwise
  rw [eighth]

theorem triple_k (q k v : FVec Ideal S16x2048x384 .f32) (b : Fin 16) (r : Fin 2048) (c : Fin 384) :
    triple q k v (ix3 b r ⟨384 + c, by omega⟩) = k (ix3 b r c) := by
  unfold triple
  pointwise

theorem triple_v (q k v : FVec Ideal S16x2048x384 .f32) (b : Fin 16) (r : Fin 2048) (c : Fin 384) :
    triple q k v (ix3 b r ⟨768 + c, by omega⟩) = v (ix3 b r c) := by
  unfold triple
  pointwise
  rw [dif_neg (by omega), dif_neg (by omega)]
  congr 2
  apply Fin.ext
  show 768 + (c : ℕ) - 384 - 384 = c
  omega

/-! ## The spare lanes -/

/-- A lane's place among its head's spare ones. -/
def place : IVec S16x2048x6x128 32 :=
  subi (iotaInDim S16x2048x6x128 32 3)
    (select (cmpi .eq (andi (iotaInDim S16x2048x6x128 32 2) (broadcastInDim S16x2048x6x128 ![] bcast_S_S16x2048x6x128 (constantI S_ 32 1#32)))
        (broadcastInDim S16x2048x6x128 ![] bcast_S_S16x2048x6x128 (constantI S_ 32 0#32)))
      (broadcastInDim S16x2048x6x128 ![] bcast_S_S16x2048x6x128 (constantI S_ 32 64#32))
      (broadcastInDim S16x2048x6x128 ![] bcast_S_S16x2048x6x128 (constantI S_ 32 0#32)))

/-- The lanes at a place. -/
def isAt (n : BitVec 32) : IVec S16x2048x6x128 1 :=
  cmpi .eq place (broadcastInDim S16x2048x6x128 ![] bcast_S_S16x2048x6x128 (constantI S_ 32 n))

/-- The lanes between two places. -/
def between (n n' : BitVec 32) : IVec S16x2048x6x128 1 :=
  andi (cmpi .sge place (broadcastInDim S16x2048x6x128 ![] bcast_S_S16x2048x6x128 (constantI S_ 32 n)))
    (cmpi .slt place (broadcastInDim S16x2048x6x128 ![] bcast_S_S16x2048x6x128 (constantI S_ 32 n')))

/-- What a piece of the running sum is rounded to. -/
def piece (x : FVec Ideal S16x2048x6x128 .f32) : FVec Ideal S16x2048x6x128 .f32 :=
  extf .f32 (truncf .bf16 x bitsLt_bf16_f32) bitsLt_bf16_f32

/-- The running sums by lane, -/
def sums (c : FVec Ideal S16x2048x6 .f32) : FVec Ideal S16x2048x6x128 .f32 :=
  broadcastInDim S16x2048x6x128 ![0, 1, 2] bcast_S16x2048x6_S16x2048x6x128_0_1_2 c

/-- and what a piece leaves. -/
def rest (x : FVec Ideal S16x2048x6x128 .f32) : FVec Ideal S16x2048x6x128 .f32 := subf x (piece x)

/-- Ones on some lanes. -/
def onesAt (p : IVec S16x2048x6x128 1) : FVec Ideal S16x2048x6x128 .f32 :=
  select p (broadcastInDim S16x2048x6x128 ![] bcast_S_S16x2048x6x128 (constant S_ .f32 0x3F800000#32))
    (broadcastInDim S16x2048x6x128 ![] bcast_S_S16x2048x6x128 (constant S_ .f32 0x00000000#32))

/-- The queries' spare lanes, -/
def spareQ (c : FVec Ideal S16x2048x6 .f32) : FVec Ideal S16x2048x6x128 .f32 :=
  select (isAt 2#32) (piece (rest (rest (sums c)))) (select (isAt 1#32) (piece (rest (sums c)))
    (select (isAt 0#32) (piece (sums c)) (onesAt (between 3#32 6#32))))

/-- the keys', -/
def spareK (c : FVec Ideal S16x2048x6 .f32) : FVec Ideal S16x2048x6x128 .f32 :=
  select (isAt 5#32) (Host.negf (piece (rest (rest (sums c))))) (select (isAt 4#32) (Host.negf (piece (rest (sums c))))
    (select (isAt 3#32) (Host.negf (piece (sums c))) (onesAt (between 0#32 3#32))))

/-- and the arrays of them. -/
def wide (x : FVec Ideal S16x2048x6x128 .f32) : FVec Ideal S16x2048x768 .bf16 :=
  shapeCast S16x2048x768 (truncf .bf16 x bitsLt_bf16_f32) shapeCasts_S16x2048x6x128_S16x2048x768

theorem wide_at (x : FVec Ideal S16x2048x6x128 .f32) (b : Fin 16) (r : Fin 2048) (l : Fin 768) :
    wide x (ix3 b r l) = x (ix4 b r ⟨l / 128, by omega⟩ ⟨l % 128, by omega⟩) := by
  unfold wide
  refine (shapeCast_apply _ _ _ (ix4 b r ⟨l / 128, by omega⟩ ⟨l % 128, by omega⟩) ?_).trans ?_
  · rw [Shape.rowMajor_val_three, Shape.rowMajor_val_four]
    show ((((b : ℕ) * 2048 + r) * 6 + (l : ℕ) / 128) * 128 + (l : ℕ) % 128) = ((b : ℕ) * 2048 + r) * 768 + l
    omega
  · rfl

/-- A head's first spare lane. -/
def spot (h : ℕ) : ℕ := 64 * (1 - h % 2)

theorem place_is : ∀ (n : Fin 6) (h : Fin 6) (d : Fin 128), IntOp.cmpi CmpIPredicate.eq (IntOp.subi (BitVec.ofNat 32 d)
      (Scalar.select (IntOp.cmpi CmpIPredicate.eq (IntOp.andi (BitVec.ofNat 32 h) 1#32) 0#32) 64#32 0#32)) (BitVec.ofNat 32 n)
    = if (d : ℕ) = spot h + n then 1#1 else 0#1 := by
  decide +kernel

theorem isAt_at (n : Fin 6) (b : Fin 16) (r : Fin 2048) (h : Fin 6) (d : Fin 128) :
    isAt (BitVec.ofNat 32 n) (ix4 b r h d) = if (d : ℕ) = spot h + n then 1#1 else 0#1 := by
  unfold isAt place
  pointwise
  exact place_is n h d

theorem place_in : ∀ (e : Fin 2) (h : Fin 6) (d : Fin 128), IntOp.andi
      (IntOp.cmpi CmpIPredicate.sge (IntOp.subi (BitVec.ofNat 32 d)
        (Scalar.select (IntOp.cmpi CmpIPredicate.eq (IntOp.andi (BitVec.ofNat 32 h) 1#32) 0#32) 64#32 0#32)) (BitVec.ofNat 32 (3 * e)))
      (IntOp.cmpi CmpIPredicate.slt (IntOp.subi (BitVec.ofNat 32 d)
        (Scalar.select (IntOp.cmpi CmpIPredicate.eq (IntOp.andi (BitVec.ofNat 32 h) 1#32) 0#32) 64#32 0#32)) (BitVec.ofNat 32 (3 * e + 3)))
    = if spot h + 3 * e ≤ d ∧ (d : ℕ) < spot h + 3 * e + 3 then 1#1 else 0#1 := by
  decide +kernel

theorem between_at (e : Fin 2) (b : Fin 16) (r : Fin 2048) (h : Fin 6) (d : Fin 128) :
    between (BitVec.ofNat 32 (3 * e)) (BitVec.ofNat 32 (3 * e + 3)) (ix4 b r h d)
      = if spot h + 3 * e ≤ d ∧ (d : ℕ) < spot h + 3 * e + 3 then 1#1 else 0#1 := by
  unfold between place
  pointwise
  exact place_in e h d

theorem select_if {p : Prop} [Decidable p] (x y : EReal) : Scalar.select (if p then 1#1 else 0#1) x y = if p then x else y := by
  split <;> rfl

/-- The queries' spare lanes hold the running sum and ones, -/
def augQ (x : ℝ) (h d : ℕ) : ℝ := if d = spot h then x else if spot h + 3 ≤ d ∧ d < spot h + 6 then 1 else 0

/-- and the keys' ones and the running sum taken away. -/
def augK (x : ℝ) (h d : ℕ) : ℝ := if d = spot h + 3 then -x else if spot h ≤ d ∧ d < spot h + 3 then 1 else 0

theorem spareQ_at {c : FVec Ideal S16x2048x6 .f32} {b : Fin 16} {r : Fin 2048} {h : Fin 6} {x : ℝ} (hx : c (ix3 b r h) = (x : EReal))
    (d : Fin 128) : spareQ c (ix4 b r h d) = ((augQ x h d : ℝ) : EReal) := by
  have e0 := isAt_at 0 b r h d
  have e1 := isAt_at 1 b r h d
  have e2 := isAt_at 2 b r h d
  have e3 := between_at 1 b r h d
  unfold spareQ piece rest sums onesAt
  unfold piece
  pointwise
  change isAt 0#32 _ = _ at e0
  change isAt 1#32 _ = _ at e1
  change isAt 2#32 _ = _ at e2
  change between 3#32 6#32 _ = _ at e3
  rw [e0, e1, e2, e3, select_if, select_if, select_if, select_if, hx, ← EReal.coe_sub, ← EReal.coe_sub, ← EReal.coe_one, ← EReal.coe_zero]
  simp only [Fin.val_zero, Fin.val_one, Fin.val_two, add_zero, mul_one, sub_self, show ((1 : Fin 6) : ℕ) = 1 from rfl,
    show ((2 : Fin 6) : ℕ) = 2 from rfl, show ((0 : Fin 6) : ℕ) = 0 from rfl, show ((1 : Fin 2) : ℕ) = 1 from rfl]
  unfold augQ
  by_cases a0 : (d : ℕ) = spot h
  · rw [if_neg (by omega), if_neg (by omega), if_pos a0, if_pos a0]
  · rw [if_neg a0]
    by_cases a1 : spot h + 3 ≤ d ∧ (d : ℕ) < spot h + 6
    · rw [if_neg (by omega), if_neg (by omega), if_neg a0, if_pos (by omega), if_pos a1]
    · rw [if_neg a0, if_neg (c := spot h + 3 ≤ d ∧ (d : ℕ) < spot h + 3 + 3) (by omega), if_neg a1]
      split <;> [rfl; (split <;> rfl)]

theorem spareK_at {c : FVec Ideal S16x2048x6 .f32} {b : Fin 16} {r : Fin 2048} {h : Fin 6} {x : ℝ} (hx : c (ix3 b r h) = (x : EReal))
    (d : Fin 128) : spareK c (ix4 b r h d) = ((augK x h d : ℝ) : EReal) := by
  have e0 := isAt_at 3 b r h d
  have e1 := isAt_at 4 b r h d
  have e2 := isAt_at 5 b r h d
  have e3 := between_at 0 b r h d
  unfold spareK piece rest sums onesAt
  unfold piece
  pointwise
  change isAt 3#32 _ = _ at e0
  change isAt 4#32 _ = _ at e1
  change isAt 5#32 _ = _ at e2
  change between 0#32 3#32 _ = _ at e3
  rw [e0, e1, e2, e3, select_if, select_if, select_if, select_if, hx, ← EReal.coe_sub, ← EReal.coe_sub, ← EReal.coe_neg, ← EReal.coe_neg,
    ← EReal.coe_neg, ← EReal.coe_one, ← EReal.coe_zero]
  simp only [add_zero, mul_zero, sub_self, neg_zero, show ((3 : Fin 6) : ℕ) = 3 from rfl,
    show ((4 : Fin 6) : ℕ) = 4 from rfl, show ((5 : Fin 6) : ℕ) = 5 from rfl, show ((0 : Fin 2) : ℕ) = 0 from rfl]
  unfold augK
  by_cases a0 : (d : ℕ) = spot h + 3
  · rw [if_neg (by omega), if_neg (by omega), if_pos a0, if_pos a0]
  · rw [if_neg a0]
    by_cases a1 : spot h ≤ d ∧ (d : ℕ) < spot h + 3
    · rw [if_neg (by omega), if_neg (by omega), if_neg a0, if_pos a1, if_pos a1]
    · rw [if_neg a0, if_neg a1, if_neg a1]
      split <;> [rfl; (split <;> rfl)]

/-! ## The padded scores -/

theorem spare_sum (x y : ℝ) : (∑ e : Fin 64, (if (e : ℕ) = 0 then x else if 3 ≤ (e : ℕ) ∧ (e : ℕ) < 6 then 1 else 0)
      * (if (e : ℕ) = 3 then -y else if (e : ℕ) < 3 then 1 else 0)) = x - y := by
  have h : ∀ e : Fin 64, (if (e : ℕ) = 0 then x else if 3 ≤ (e : ℕ) ∧ (e : ℕ) < 6 then 1 else 0)
      * (if (e : ℕ) = 3 then -y else if (e : ℕ) < 3 then 1 else 0) = (if e = 0 then x else 0) + (if e = 3 then -y else 0) := by
    intro e
    rcases (by omega : (e : ℕ) = 0 ∨ (e : ℕ) = 3 ∨ ((e : ℕ) ≠ 0 ∧ (e : ℕ) ≠ 3)) with a | a | ⟨a, a'⟩
    · obtain rfl : e = 0 := Fin.ext a
      simp
    · obtain rfl : e = 3 := Fin.ext a
      simp
    · have b0 : ¬e = 0 := fun h => a (by rw [h]; rfl)
      have b3 : ¬e = 3 := fun h => a' (by rw [h]; rfl)
      rw [if_neg a, if_neg a', if_neg b0, if_neg b3]
      by_cases b : (e : ℕ) < 3
      · rw [if_neg (by omega)]; simp
      · rw [if_neg b]; simp
  rw [Finset.sum_congr rfl fun e _ => h e, Finset.sum_add_distrib, Finset.sum_ite_eq', Finset.sum_ite_eq']
  simp
  ring

/-- A head's score: the scaled product of its own lanes, and what the running sums differ by. -/
theorem score_eq (q k c : ℕ → ℕ → ℝ) (h r j : ℕ) :
    score q (fun r l => augQ (c r (l / 128)) (l / 128) (l % 128)) k (fun r l => augK (c r (l / 128)) (l / 128) (l % 128)) h r j
      = (∑ e : Fin 64, q r (64 * h + e) * k j (64 * h + e)) + (c r h - c j h) := by
  unfold score
  rw [show (∑ d : Fin 128, padR q (fun r l => augQ (c r (l / 128)) (l / 128) (l % 128)) h r d
      * padR k (fun r l => augK (c r (l / 128)) (l / 128) (l % 128)) h j d) = _ from Fin.sum_univ_add (a := 64) (b := 64) _]
  have own : ∀ (x y : ℕ → ℕ → ℝ) (r d e : ℕ), d / 64 = h % 2 → 128 * (h / 2) + d = 64 * h + e → padR x y h r d = x r (64 * h + e) := by
    intro x y r d e h1 h2
    unfold padR
    rw [if_pos h1, h2]
  have sq : ∀ (d e : ℕ), ¬d / 64 = h % 2 → d < 128 → d = spot h + e →
      padR q (fun r l => augQ (c r (l / 128)) (l / 128) (l % 128)) h r d = if e = 0 then c r h else if 3 ≤ e ∧ e < 6 then 1 else 0 := by
    intro d e h1 h2 h3
    unfold padR
    rw [if_neg h1]
    dsimp only
    rw [show (128 * h + d) / 128 = h by omega, show (128 * h + d) % 128 = d by omega]
    unfold augQ
    simp only [h3, add_eq_left, Nat.add_le_add_iff_left, Nat.add_lt_add_iff_left]
  have sk : ∀ (d e : ℕ), ¬d / 64 = h % 2 → d < 128 → d = spot h + e →
      padR k (fun r l => augK (c r (l / 128)) (l / 128) (l % 128)) h j d = if e = 3 then -c j h else if e < 3 then 1 else 0 := by
    intro d e h1 h2 h3
    unfold padR
    rw [if_neg h1]
    dsimp only
    rw [show (128 * h + d) / 128 = h by omega, show (128 * h + d) % 128 = d by omega]
    unfold augK
    simp only [h3, Nat.add_left_cancel_iff, Nat.add_lt_add_iff_left, Nat.le_add_right, true_and]
  rcases Nat.mod_two_eq_zero_or_one h with hh | hh
  · rw [Finset.sum_congr rfl fun (e : Fin 64) _ => by
        rw [own _ _ _ _ e (by simp; omega) (by simp; omega), own _ _ _ _ e (by simp; omega) (by simp; omega)],
      Finset.sum_congr (s₁ := Finset.univ) (f := fun e : Fin 64 => padR q _ h r (Fin.natAdd 64 e) * padR k _ h j (Fin.natAdd 64 e)) rfl
        fun (e : Fin 64) _ => by
        rw [sq _ e (by simp; omega) (by simp; omega) (by unfold spot; simp [hh]; omega), sk _ e (by simp; omega) (by simp; omega) (by unfold spot; simp [hh]; omega)],
      spare_sum]
  · rw [add_comm]
    congr 1
    · exact Finset.sum_congr rfl fun (e : Fin 64) _ => by
        rw [own _ _ _ _ e (by simp; omega) (by simp; omega), own _ _ _ _ e (by simp; omega) (by simp; omega)]
    · rw [← spare_sum (c r h) (c j h)]
      exact Finset.sum_congr rfl fun (e : Fin 64) _ => by
        rw [sq _ e (by simp; omega) (by simp; omega) (by unfold spot; simp [hh]), sk _ e (by simp; omega) (by simp; omega) (by unfold spot; simp [hh])]

/-! ## The arrays the call's windows stage -/

variable (m : (ℓ : Loc nD τ sig) → Buf (Elt Ideal) ℓ)

theorem V_v3 (c : Dev nD) : V m c main_v3 = triple (m ((c : Thread nD τ).loc main_arg0)) (m ((c : Thread nD τ).loc main_arg1))
      (m ((c : Thread nD τ).loc main_arg2)) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_results
  rfl

theorem V_v57 (c : Dev nD) : V m c main_v57 = wide (spareQ (m ((c : Thread nD τ).loc main_arg3))) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_results
  rfl

theorem V_v59 (c : Dev nD) : V m c main_v59 = wide (spareK (m ((c : Thread nD τ).loc main_arg3))) := by
  unfold V
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, List.flatten_cons, List.flatten_nil,
    List.append_nil, List.cons_append, List.nil_append]
  after_results
  rfl

end Cert.Kernel4Ideal.Fx

end
-- ==== Proof.FxBlk.lean ====
/-
  Which entries of its operands each point of the grid reads, and that the blocks it writes make up the result.
-/
module

public import proofs.«01_k».proof.Proof.FxHost
public import Idealize.ShloMosaic.Lib.Pipeline.Value

@[expose] public section

set_option maxRecDepth 16384

noncomputable section

namespace Cert.Kernel4Ideal.Fx

open Cert.Kernel4Ideal Cert.Kernel4Ideal.Gen Idealize.ShloMosaic Idealize.ShloMosaic.TcCoe Idealize.SL.Sem

/-! ## The blocks staged -/

theorem index0 : ∀ (t : Fin cfg0.N), win0_0.index t = ![(grid0.coords t 0 : ℕ), (grid0.coords t 1 : ℕ), 0] := by
  decide +kernel

theorem index1 : ∀ (t : Fin cfg0.N), win0_1.index t = ![(grid0.coords t 0 : ℕ), 0, 1] := by
  decide +kernel

theorem index2 : ∀ (t : Fin cfg0.N), win0_2.index t = ![(grid0.coords t 0 : ℕ), 0, 2] := by
  decide +kernel

theorem index3 : ∀ (t : Fin cfg0.N), win0_3.index t = ![(grid0.coords t 0 : ℕ), (grid0.coords t 1 : ℕ), 0] := by
  decide +kernel

theorem index4 : ∀ (t : Fin cfg0.N), win0_4.index t = ![(grid0.coords t 0 : ℕ), 0, 0] := by
  decide +kernel

theorem index5 : ∀ (t : Fin cfg0.N), win0_5.index t = ![(grid0.coords t 0 : ℕ), (grid0.coords t 1 : ℕ), 0] := by
  decide +kernel

/-- Four blocks of queries to a batch. -/
theorem coords_0 : ∀ (t : Fin cfg0.N), (grid0.coords t 0 : ℕ) = t / 4 := by
  decide +kernel

variable (m : (ℓ : Loc nD τ sig) → Buf (Elt Ideal) ℓ)

/-- A point's batch. -/
def bt (t : Fin cfg0.N) : Fin 16 := ⟨(grid0.coords t 0 : ℕ), (grid0.coords t 0).isLt⟩

theorem iblk0_at (c : Dev nD) (t : Fin cfg0.N) (r : Fin 512) (l : Fin 384) (hr : 512 * (grid0.coords t 1 : ℕ) + r < 2048) :
    (iblk m c 0 t : Vec Ideal S1x512x384 .bf16) (ix3 0 r l)
      = (V m c main_v3 : FVec Ideal S16x2048x1152 .bf16) (ix3 (bt t) ⟨512 * (grid0.coords t 1 : ℕ) + r, hr⟩ ⟨l, by omega⟩) := by
  unfold iblk
  rw [View.read_apply]
  show V m c main_v3 _ = _
  congr 1
  funext a
  apply Fin.ext
  match a with
  | ⟨0, _⟩ => show win0_0.index t 0 * 1 + 1 * 0 = (grid0.coords t 0 : ℕ); rw [index0]; simp
  | ⟨1, _⟩ => show win0_0.index t 1 * 512 + 1 * (r : ℕ) = 512 * (grid0.coords t 1 : ℕ) + r; rw [index0]; simp; omega
  | ⟨2, _⟩ => show win0_0.index t 2 * 384 + 1 * (l : ℕ) = l; rw [index0]; simp

theorem iblk1_at (c : Dev nD) (t : Fin cfg0.N) (r : Fin 2048) (l : Fin 384) :
    (iblk m c 1 t : Vec Ideal S1x2048x384 .bf16) (ix3 0 r l)
      = (V m c main_v3 : FVec Ideal S16x2048x1152 .bf16) (ix3 (bt t) r ⟨384 + l, by omega⟩) := by
  unfold iblk
  rw [View.read_apply]
  show V m c main_v3 _ = _
  congr 1
  funext a
  apply Fin.ext
  match a with
  | ⟨0, _⟩ => show win0_1.index t 0 * 1 + 1 * 0 = (grid0.coords t 0 : ℕ); rw [index1]; simp
  | ⟨1, _⟩ => show win0_1.index t 1 * 2048 + 1 * (r : ℕ) = r; rw [index1]; simp
  | ⟨2, _⟩ => show win0_1.index t 2 * 384 + 1 * (l : ℕ) = 384 + l; rw [index1]; simp

theorem iblk2_at (c : Dev nD) (t : Fin cfg0.N) (r : Fin 2048) (l : Fin 384) :
    (iblk m c 2 t : Vec Ideal S1x2048x384 .bf16) (ix3 0 r l)
      = (V m c main_v3 : FVec Ideal S16x2048x1152 .bf16) (ix3 (bt t) r ⟨768 + l, by omega⟩) := by
  unfold iblk
  rw [View.read_apply]
  show V m c main_v3 _ = _
  congr 1
  funext a
  apply Fin.ext
  match a with
  | ⟨0, _⟩ => show win0_2.index t 0 * 1 + 1 * 0 = (grid0.coords t 0 : ℕ); rw [index2]; simp
  | ⟨1, _⟩ => show win0_2.index t 1 * 2048 + 1 * (r : ℕ) = r; rw [index2]; simp
  | ⟨2, _⟩ => show win0_2.index t 2 * 384 + 1 * (l : ℕ) = 768 + l; rw [index2]; simp

theorem iblk3_at (c : Dev nD) (t : Fin cfg0.N) (r : Fin 512) (l : Fin 768) (hr : 512 * (grid0.coords t 1 : ℕ) + r < 2048) :
    (iblk m c 3 t : Vec Ideal S1x512x768 .bf16) (ix3 0 r l)
      = (V m c main_v57 : FVec Ideal S16x2048x768 .bf16) (ix3 (bt t) ⟨512 * (grid0.coords t 1 : ℕ) + r, hr⟩ l) := by
  unfold iblk
  rw [View.read_apply]
  show V m c main_v57 _ = _
  congr 1
  funext a
  apply Fin.ext
  match a with
  | ⟨0, _⟩ => show win0_3.index t 0 * 1 + 1 * 0 = (grid0.coords t 0 : ℕ); rw [index3]; simp
  | ⟨1, _⟩ => show win0_3.index t 1 * 512 + 1 * (r : ℕ) = 512 * (grid0.coords t 1 : ℕ) + r; rw [index3]; simp; omega
  | ⟨2, _⟩ => show win0_3.index t 2 * 768 + 1 * (l : ℕ) = l; rw [index3]; simp

theorem iblk4_at (c : Dev nD) (t : Fin cfg0.N) (r : Fin 2048) (l : Fin 768) :
    (iblk m c 4 t : Vec Ideal S1x2048x768 .bf16) (ix3 0 r l)
      = (V m c main_v59 : FVec Ideal S16x2048x768 .bf16) (ix3 (bt t) r l) := by
  unfold iblk
  rw [View.read_apply]
  show V m c main_v59 _ = _
  congr 1
  funext a
  apply Fin.ext
  match a with
  | ⟨0, _⟩ => show win0_4.index t 0 * 1 + 1 * 0 = (grid0.coords t 0 : ℕ); rw [index4]; simp
  | ⟨1, _⟩ => show win0_4.index t 1 * 2048 + 1 * (r : ℕ) = r; rw [index4]; simp
  | ⟨2, _⟩ => show win0_4.index t 2 * 768 + 1 * (l : ℕ) = l; rw [index4]; simp

/-- Every block of the result is written back at some point. -/
theorem cover : ∀ (b : Fin 16) (j : Fin 4), ∃ t : Fin cfg0.N, (cfg0.win 5).flush t = true ∧ (grid0.coords t 0 : ℕ) = b
    ∧ (grid0.coords t 1 : ℕ) = j :=
  (by decide +kernel : ∀ (b : Fin 16) (j : Fin 4), ∃ t : Fin grid0.N, win0_5.flush t = true ∧ (grid0.coords t 0 : ℕ) = b
    ∧ (grid0.coords t 1 : ℕ) = j)

end Cert.Kernel4Ideal.Fx

end
-- ==== Proof.FxKernel.lean ====
/-
  The kernel's result on finite arrays: at every entry, the values of the keys up to the query under the softmax of the entry's
  head.
-/
module

public import proofs.«01_k».proof.Proof.FxBlk
public import Idealize.ShloMosaic.Lib.Pipeline.Value

@[expose] public section

set_option maxRecDepth 16384

noncomputable section

namespace Cert.Kernel4Ideal.Fx

open Cert.Kernel4Ideal Cert.Kernel4Ideal.Gen Idealize.ShloMosaic Idealize.ShloMosaic.TcCoe Idealize.SL.Sem

variable (m : (ℓ : Loc nD τ sig) → Buf (Elt Ideal) ℓ)

/-! ## The result array -/

/-- The entries of a batch's rows as reals, at any pair of positions. -/
def rd (x : FVec Ideal S16x2048x384 .f32) (b : Fin 16) (r c : ℕ) : ℝ :=
  (x (ix3 b (Fin.ofNat 2048 r) (Fin.ofNat 384 c))).toReal

/-- A batch's running sums as reals, at any row and head. -/
def rc (x : FVec Ideal S16x2048x6 .f32) (b : Fin 16) (r h : ℕ) : ℝ :=
  (x (ix3 b (Fin.ofNat 2048 r) (Fin.ofNat 6 h))).toReal

/-- Every entry is a real. -/
def Finite {s : Shape} (x : FVec Ideal s .f32) : Prop := ∀ i, ((x i).toReal : EReal) = x i

theorem rd_coe {x : FVec Ideal S16x2048x384 .f32} (hx : Finite x) (b : Fin 16) (r : Fin 2048) (c : Fin 384) :
    ((rd x b r c : ℝ) : EReal) = x (ix3 b r c) := by
  unfold rd
  rw [hx]
  congr 2
  · exact Fin.ext (Nat.mod_eq_of_lt r.isLt)
  · exact Fin.ext (Nat.mod_eq_of_lt c.isLt)

theorem rc_coe {x : FVec Ideal S16x2048x6 .f32} (hx : Finite x) (b : Fin 16) (r : Fin 2048) (h : Fin 6) :
    x (ix3 b r h) = ((rc x b r h : ℝ) : EReal) := by
  unfold rc
  rw [hx]
  congr 2
  · exact Fin.ext (Nat.mod_eq_of_lt r.isLt).symm
  · exact Fin.ext (Nat.mod_eq_of_lt h.isLt).symm

/-- The scaled queries of a batch, -/
def qs (x : FVec Ideal S16x2048x384 .f32) (b : Fin 16) (r l : ℕ) : ℝ := rd x b r l * (1 / 8)

/-- the spare lanes of its queries, -/
def us (x : FVec Ideal S16x2048x6 .f32) (b : Fin 16) (r l : ℕ) : ℝ := augQ (rc x b r (l / 128)) (l / 128) (l % 128)

/-- and those of its keys. -/
def ws (x : FVec Ideal S16x2048x6 .f32) (b : Fin 16) (r l : ℕ) : ℝ := augK (rc x b r (l / 128)) (l / 128) (l % 128)

/-- Forgetting attention of finite queries, keys, values and running sums. -/
def result (q k v : FVec Ideal S16x2048x384 .f32) (g : FVec Ideal S16x2048x6 .f32) : FVec Ideal S16x2048x384 .bf16 := fun i =>
  ((headOut (qs q (i 0)) (us g (i 0)) (rd k (i 0)) (ws g (i 0)) (rd v (i 0)) (i 1 : ℕ) (i 2 : ℕ) : ℝ) : EReal)

theorem result_at (q k v : FVec Ideal S16x2048x384 .f32) (g : FVec Ideal S16x2048x6 .f32) (i : S16x2048x384.Idx) (b : Fin 16) (r c : ℕ)
    (h0 : ((i 0 : Fin _) : ℕ) = b) (h1 : ((i 1 : Fin _) : ℕ) = r) (h2 : ((i 2 : Fin _) : ℕ) = c) :
    result q k v g i = ((headOut (qs q b) (us g b) (rd k b) (ws g b) (rd v b) r c : ℝ) : EReal) := by
  subst h1 h2
  obtain rfl : b = i 0 := Fin.ext h0.symm
  rfl

section

variable (hq : ∀ c : Dev nD, Finite (s := S16x2048x384) (m ((c : Thread nD τ).loc main_arg0)))
  (hk : ∀ c : Dev nD, Finite (s := S16x2048x384) (m ((c : Thread nD τ).loc main_arg1)))
  (hv : ∀ c : Dev nD, Finite (s := S16x2048x384) (m ((c : Thread nD τ).loc main_arg2)))
  (hg : ∀ c : Dev nD, Finite (s := S16x2048x6) (m ((c : Thread nD τ).loc main_arg3)))

include hq in
theorem block_q (c : Dev nD) (t : Fin cfg0.N) (r : Fin 512) (l : Fin 384) : (iblk m c 0 t : Vec Ideal S1x512x384 .bf16) (ix3 0 r l)
    = ((qs (m ((c : Thread nD τ).loc main_arg0)) (bt t) (512 * (grid0.coords t 1 : ℕ) + r) l : ℝ) : EReal) := by
  have hi : (grid0.coords t 1 : ℕ) < 4 := (grid0.coords t 1).isLt
  rw [iblk0_at m c t r l (by omega), V_v3, triple_q, ← rd_coe (hq c), ← EReal.coe_mul]
  rfl

include hg in
theorem block_u (c : Dev nD) (t : Fin cfg0.N) (r : Fin 512) (l : Fin 768) : (iblk m c 3 t : Vec Ideal S1x512x768 .bf16) (ix3 0 r l)
    = ((us (m ((c : Thread nD τ).loc main_arg3)) (bt t) (512 * (grid0.coords t 1 : ℕ) + r) l : ℝ) : EReal) := by
  have hi : (grid0.coords t 1 : ℕ) < 4 := (grid0.coords t 1).isLt
  rw [iblk3_at m c t r l (by omega), V_v57, wide_at, spareQ_at (rc_coe (hg c) _ _ _)]
  rfl

include hk in
theorem block_k (c : Dev nD) (t : Fin cfg0.N) (r : Fin 2048) (l : Fin 384) : (iblk m c 1 t : Vec Ideal S1x2048x384 .bf16) (ix3 0 r l)
    = ((rd (m ((c : Thread nD τ).loc main_arg1)) (bt t) r l : ℝ) : EReal) := by
  rw [iblk1_at m c t r l, V_v3, triple_k, ← rd_coe (hk c)]

include hv in
theorem block_v (c : Dev nD) (t : Fin cfg0.N) (r : Fin 2048) (l : Fin 384) : (iblk m c 2 t : Vec Ideal S1x2048x384 .bf16) (ix3 0 r l)
    = ((rd (m ((c : Thread nD τ).loc main_arg2)) (bt t) r l : ℝ) : EReal) := by
  rw [iblk2_at m c t r l, V_v3, triple_v, ← rd_coe (hv c)]

include hg in
theorem block_w (c : Dev nD) (t : Fin cfg0.N) (r : Fin 2048) (l : Fin 768) : (iblk m c 4 t : Vec Ideal S1x2048x768 .bf16) (ix3 0 r l)
    = ((ws (m ((c : Thread nD τ).loc main_arg3)) (bt t) r l : ℝ) : EReal) := by
  rw [iblk4_at m c t r l, V_v59, wide_at, spareK_at (rc_coe (hg c) _ _ _)]
  rfl

include hk hv hg in
/-- The padded keys and values stay through the blocks of one batch. -/
theorem kept (c : Dev nD) : ∀ (n : ℕ) (hn : n < cfg0.N),
    (∀ (r : Fin 2048) (l : Fin 768), (outsAt0 m c n hn).2.1 (ix2 r l)
      = ((padR (rd (m ((c : Thread nD τ).loc main_arg1)) (bt ⟨n, hn⟩)) (ws (m ((c : Thread nD τ).loc main_arg3)) (bt ⟨n, hn⟩))
          (l / 128) r (l % 128) : ℝ) : EReal)) ∧
    (∀ (r : Fin 2048) (l : Fin 768), (outsAt0 m c n hn).2.2 (ix2 r l)
      = ((padV (rd (m ((c : Thread nD τ).loc main_arg2)) (bt ⟨n, hn⟩)) (l / 128) r (l % 128) : ℝ) : EReal)) := by
  have start : ∀ (t : Fin cfg0.N) (_ : t.val % 4 = 0),
      (∀ (r : Fin 2048) (l : Fin 768), (outsAt0 m c t.val t.isLt).2.1 (ix2 r l)
        = ((padR (rd (m ((c : Thread nD τ).loc main_arg1)) (bt t)) (ws (m ((c : Thread nD τ).loc main_arg3)) (bt t))
            (l / 128) r (l % 128) : ℝ) : EReal)) ∧
      (∀ (r : Fin 2048) (l : Fin 768), (outsAt0 m c t.val t.isLt).2.2 (ix2 r l)
        = ((padV (rd (m ((c : Thread nD τ).loc main_arg2)) (bt t)) (l / 128) r (l % 128) : ℝ) : EReal)) := by
    intro t h0
    rw [outsAt0_A m c t h0]
    dsimp only
    exact ⟨fun r l => keys_at _ _ _ _ _ _ _ _ _ _ _ _ _ _ _ _ _ _ _ _ _ _ _ _ (block_k m hk c t) (block_w m hg c t) r l,
      fun r l => values_at _ _ _ _ _ _ _ _ _ _ _ _ _ _ _ _ _ _ _ _ _ _ _ _ (block_v m hv c t) r l⟩
  intro n
  induction n with
  | zero => exact fun hn => start ⟨0, hn⟩ rfl
  | succ n ih =>
    intro hn
    by_cases h0 : (n + 1) % 4 = 0
    · exact start ⟨n + 1, hn⟩ h0
    · have e : bt ⟨n + 1, hn⟩ = bt ⟨n, Nat.lt_of_succ_lt hn⟩ := by
        apply Fin.ext
        show (grid0.coords ⟨n + 1, hn⟩ 0 : ℕ) = (grid0.coords ⟨n, Nat.lt_of_succ_lt hn⟩ 0 : ℕ)
        rw [coords_0, coords_0]
        show (n + 1) / 4 = n / 4
        omega
      rw [e]
      have s := outsAt0_B m c ⟨n + 1, hn⟩ h0
      dsimp only [sout0_B_0, sout0_B_1] at s
      simp only [Nat.add_sub_cancel] at s
      rw [s]
      dsimp only
      exact ih (Nat.lt_of_succ_lt hn)

include hq hk hv hg in
theorem out_at (c : Dev nD) (t : Fin cfg0.N) (r : Fin 512) (l : Fin 384) :
    (outsAt0 m c t.val t.isLt).1 (ix3 0 r l) = ((headOut (qs (m ((c : Thread nD τ).loc main_arg0)) (bt t))
      (us (m ((c : Thread nD τ).loc main_arg3)) (bt t)) (rd (m ((c : Thread nD τ).loc main_arg1)) (bt t))
      (ws (m ((c : Thread nD τ).loc main_arg3)) (bt t)) (rd (m ((c : Thread nD τ).loc main_arg2)) (bt t))
      (512 * (grid0.coords t 1 : ℕ) + r) l : ℝ) : EReal) := by
  by_cases h0 : t.val % 4 = 0
  · rw [outsAt0_A m c t h0]
    dsimp only
    exact out_at_A _ _ _ _ _ _ _ _ _ _ _ _ _ _ _ _ _ _ _ _ _ _ _ _ (block_q m hq c t) (block_u m hg c t) (block_k m hk c t)
      (block_w m hg c t) (block_v m hv c t) r l
  · have hN : t.val - 1 < cfg0.N := Nat.lt_of_le_of_lt (Nat.sub_le _ _) t.isLt
    have e : bt ⟨t.val - 1, hN⟩ = bt t := by
      apply Fin.ext
      show (grid0.coords ⟨t.val - 1, hN⟩ 0 : ℕ) = (grid0.coords t 0 : ℕ)
      rw [coords_0, coords_0]
      show (t.val - 1) / 4 = t.val / 4
      omega
    obtain ⟨a, b⟩ := kept m hk hv hg c (t.val - 1) hN
    rw [e] at a b
    rw [outsAt0_B m c t h0]
    dsimp only
    exact out_at_B _ _ _ _ _ _ _ _ _ _ _ _ _ _ _ _ _ _ _ _ _ _ _ _ (block_q m hq c t) (block_u m hg c t) a b r l

include hq hk hv hg in
theorem flushed_eq (c : Dev nD) (t : Fin cfg0.N) :
    (dats m 0 c).flushed 5 t = ((cfg0.win 5).blk t).view.read (Elt Ideal) (result (m ((c : Thread nD τ).loc main_arg0))
      (m ((c : Thread nD τ).loc main_arg1)) (m ((c : Thread nD τ).loc main_arg2)) (m ((c : Thread nD τ).loc main_arg3))) := by
  rw [Cert.Kernel4Ideal.Value.flushed5]
  funext j
  have h1 : ((j 1 : Fin _) : ℕ) < 512 := (j 1).isLt
  have h2 : ((j 2 : Fin _) : ℕ) < 384 := (j 2).isLt
  have h0 : ((j 0 : Fin _) : ℕ) < 1 := (j 0).isLt
  have e : (cfg0.win 5).cut (grid0.coords t) ((outsAt0 m c t.val t.isLt).1) j
      = (outsAt0 m c t.val t.isLt).1 (ix3 (0 : Fin 1) (⟨j 1, h1⟩ : Fin 512) (⟨j 2, h2⟩ : Fin 384)) := by
    refine congrArg (outsAt0 m c t.val t.isLt).1 (funext fun a => Fin.ext ?_)
    match a with
    | ⟨0, _⟩ => show ((j 0 : Fin _) : ℕ) = 0; omega
    | ⟨1, _⟩ => rfl
    | ⟨2, _⟩ => rfl
  rw [e, out_at m hq hk hv hg c t, View.read_apply]
  refine (result_at _ _ _ _ _ (bt t) _ _ ?_ ?_ ?_).symm
  · show win0_5.index t 0 * 1 + 1 * ((j 0 : Fin _) : ℕ) = (grid0.coords t 0 : ℕ)
    rw [index5]
    show (grid0.coords t 0 : ℕ) * 1 + 1 * ((j 0 : Fin _) : ℕ) = _
    omega
  · show win0_5.index t 1 * 512 + 1 * ((j 1 : Fin _) : ℕ) = 512 * (grid0.coords t 1 : ℕ) + ((j 1 : Fin _) : ℕ)
    rw [index5]
    show (grid0.coords t 1 : ℕ) * 512 + 1 * ((j 1 : Fin _) : ℕ) = _
    omega
  · show win0_5.index t 2 * 384 + 1 * ((j 2 : Fin _) : ℕ) = ((j 2 : Fin _) : ℕ)
    rw [index5]
    show 0 * 384 + 1 * ((j 2 : Fin _) : ℕ) = _
    omega

include hq hk hv hg in
theorem final (c : Dev nD) : (dats m 0 c).arrAt 5 cfg0.N = result (m ((c : Thread nD τ).loc main_arg0))
      (m ((c : Thread nD τ).loc main_arg1)) (m ((c : Thread nD τ).loc main_arg2)) (m ((c : Thread nD τ).loc main_arg3)) :=
  (dats m 0 c).arrAt_eq_of_cover 5 _ (fun t _ => flushed_eq m hq hk hv hg c t) fun i => by
    have h0 : ((i 0 : Fin _) : ℕ) < 16 := (i 0).isLt
    have h1 : ((i 1 : Fin _) : ℕ) < 2048 := (i 1).isLt
    have h2 : ((i 2 : Fin _) : ℕ) < 384 := (i 2).isLt
    obtain ⟨t, hf, e0, e1⟩ := cover (⟨(i 0 : ℕ), h0⟩ : Fin 16) (⟨(i 1 : ℕ) / 512, by omega⟩ : Fin 4)
    refine ⟨t, hf, ?_⟩
    show i ∈ ((View.whole main_v60).slice (win0_5.rect t)).set
    rw [View.set_slice_whole, Rect.mem_set_unit]
    intro a
    match a with
    | ⟨0, _⟩ =>
      show win0_5.index t 0 * 1 ≤ (i 0 : ℕ) ∧ (i 0 : ℕ) < win0_5.index t 0 * 1 + 1
      rw [index5]
      show (grid0.coords t 0 : ℕ) * 1 ≤ (i 0 : ℕ) ∧ (i 0 : ℕ) < (grid0.coords t 0 : ℕ) * 1 + 1
      rw [e0]
      dsimp only
      omega
    | ⟨1, _⟩ =>
      show win0_5.index t 1 * 512 ≤ (i 1 : ℕ) ∧ (i 1 : ℕ) < win0_5.index t 1 * 512 + 512
      rw [index5]
      show (grid0.coords t 1 : ℕ) * 512 ≤ (i 1 : ℕ) ∧ (i 1 : ℕ) < (grid0.coords t 1 : ℕ) * 512 + 512
      rw [e1]
      dsimp only
      omega
    | ⟨2, _⟩ =>
      show win0_5.index t 2 * 384 ≤ (i 2 : ℕ) ∧ (i 2 : ℕ) < win0_5.index t 2 * 384 + 384
      rw [index5]
      show 0 * 384 ≤ (i 2 : ℕ) ∧ (i 2 : ℕ) < 0 * 384 + 384
      omega

end

end Cert.Kernel4Ideal.Fx

end
-- ==== Proof.FxRef.lean ====
/-
  The reference's result on finite arrays, read at an entry: the same attention as the kernel's.
-/
module

public import proofs.«01_k».proof.Proof.FxKernel
public import proofs.«01_k».proof.Proof.Gen.Reference4Ideal.Read

@[expose] public section

set_option maxRecDepth 16384

noncomputable section

namespace Cert.Reference4Ideal.Fx

open Cert.Reference4Ideal Cert.Reference4Ideal.Read Idealize.ShloMosaic Idealize.ShloMosaic.TcCoe Idealize.SL.Sem
open Cert.Kernel4Ideal.Fx (att exists_max sum_before att_div coe_sum ninf_f32 eighth score_eq headOut rd rc Finite rd_coe rc_coe result qs us ws)

variable {q k v : FVec Ideal S16x2048x384 .f32} {g : FVec Ideal S16x2048x6 .f32} (hq : Finite q) (hk : Finite k) (hv : Finite v)
  (hg : Finite g)

/-- The column of a head's lane. -/
theorem lane_lt (h : Fin 6) (d : Fin 64) : 64 * (h : ℕ) + d < 384 := by omega

include hq in
theorem q_at (b : Fin 16) (h : Fin 6) (r : Fin 2048) (d : Fin 64) :
    val_main_v1 (F := Ideal) q (ix4 b h r d) = ((rd q b r (64 * h + d) : ℝ) : EReal) := by
  rw [val_main_v1_apply, val_main_v0_apply, show ((64 * (h : ℕ) + d : ℕ)) = ((⟨64 * h + d, lane_lt h d⟩ : Fin 384) : ℕ) from rfl,
    rd_coe hq]
  congr 1
  funext a
  fin_cases a <;> apply Fin.ext <;> simp <;> omega

include hk in
theorem k_at (b : Fin 16) (h : Fin 6) (r : Fin 2048) (d : Fin 64) :
    val_main_v3 (F := Ideal) k (ix4 b h r d) = ((rd k b r (64 * h + d) : ℝ) : EReal) := by
  rw [val_main_v3_apply, val_main_v2_apply, show ((64 * (h : ℕ) + d : ℕ)) = ((⟨64 * h + d, lane_lt h d⟩ : Fin 384) : ℕ) from rfl,
    rd_coe hk]
  congr 1
  funext a
  fin_cases a <;> apply Fin.ext <;> simp <;> omega

include hv in
theorem v_at (b : Fin 16) (h : Fin 6) (r : Fin 2048) (d : Fin 64) :
    val_main_v5 (F := Ideal) v (ix4 b h r d) = ((rd v b r (64 * h + d) : ℝ) : EReal) := by
  rw [val_main_v5_apply, val_main_v4_apply, show ((64 * (h : ℕ) + d : ℕ)) = ((⟨64 * h + d, lane_lt h d⟩ : Fin 384) : ℕ) from rfl,
    rd_coe hv]
  congr 1
  funext a
  fin_cases a <;> apply Fin.ext <;> simp <;> omega

include hg in
theorem g_at (b : Fin 16) (h : Fin 6) (r : Fin 2048) : val_main_v6 (F := Ideal) g (ix3 b h r) = ((rc g b r h : ℝ) : EReal) := by
  rw [val_main_v6_apply, ← rc_coe hg]
  congr 1
  funext a
  fin_cases a <;> rfl

/-- A query's logit at a key. -/
def zz (q k : FVec Ideal S16x2048x384 .f32) (g : FVec Ideal S16x2048x6 .f32) (b : Fin 16) (h r j : ℕ) : ℝ :=
  (∑ d : Fin 64, rd q b r (64 * h + d) * rd k b j (64 * h + d)) * (1 / 8) + (rc g b r h - rc g b j h)

include hq hk hg in
theorem z_at (b : Fin 16) (h : Fin 6) (r j : Fin 2048) :
    val_main_v16 (F := Ideal) q k g (ix4 b h r j) = ((zz q k g b h r j : ℝ) : EReal) := by
  have e1 : val_main_v10 (F := Ideal) q k (ix4 b h r j)
      = (((∑ d : Fin 64, rd q b r (64 * h + d) * rd k b j (64 * h + d)) * (1 / 8) : ℝ) : EReal) := by
    rw [val_main_v10_apply, val_main_v8_apply, val_main_v9_apply, val_main_cst_apply]
    show _ * Ideal.ofBits .f32 0x3E000000#32 = _
    rw [eighth, EReal.coe_mul, coe_sum]
    congr 1
    refine Finset.sum_congr rfl fun d _ => ?_
    rw [EReal.coe_mul, ← q_at hq, ← k_at hk]
    congr 2 <;> (funext a; fin_cases a <;> rfl)
  have e2 : val_main_v12 (F := Ideal) g (ix4 b h r j) = ((rc g b r h : ℝ) : EReal) := by
    rw [val_main_v12_apply, val_main_v11_apply, ← g_at hg]
    congr 1
    funext a
    fin_cases a <;> rfl
  have e3 : val_main_v15 (F := Ideal) g (ix4 b h r j) = ((rc g b j h : ℝ) : EReal) := by
    rw [val_main_v15_apply, val_main_v14_apply, ← g_at hg]
    congr 1
    funext a
    fin_cases a <;> rfl
  rw [val_main_v16_apply, val_main_v13_apply, e1, e2, e3]
  show (_ + _ : EReal) - _ = _
  rw [← EReal.coe_add, ← EReal.coe_sub]
  unfold zz
  congr 1
  ring

theorem mask_at (r j : Fin 2048) (x y : EReal) :
    Scalar.select (val_main_v21 (F := Ideal) (ix2 r j)) x y = if (j : ℕ) < (r : ℕ) + 1 then x else y := by
  rw [val_main_v21_apply, val_main_v19_apply, val_main_v20_apply, val_main_v17_apply, val_main_v18_apply, val_main_v7_apply,
    val_main_v7_apply]
  show Scalar.select (IntOp.cmpi CmpIPredicate.sle (BitVec.ofNat 32 j) (BitVec.ofNat 32 r)) x y = _
  have ha : (BitVec.ofNat 32 (j : ℕ)).toInt = j := by
    simp only [BitVec.toInt_ofNat']; exact Int.bmod_eq_of_le (by omega) (by omega)
  have hb : (BitVec.ofNat 32 (r : ℕ)).toInt = r := by
    simp only [BitVec.toInt_ofNat']; exact Int.bmod_eq_of_le (by omega) (by omega)
  by_cases h : (j : ℕ) ≤ r
  · have : IntOp.cmpi CmpIPredicate.sle (BitVec.ofNat 32 (j : ℕ)) (BitVec.ofNat 32 (r : ℕ)) = 1#1 := by
      simp [IntOp.cmpi, BitVec.sle, ha, hb, h]
    rw [this, if_pos (by omega)]; rfl
  · have : IntOp.cmpi CmpIPredicate.sle (BitVec.ofNat 32 (j : ℕ)) (BitVec.ofNat 32 (r : ℕ)) = 0#1 := by
      simp [IntOp.cmpi, BitVec.sle, ha, hb, h]
    rw [this, if_neg (by omega)]; rfl

include hq hk hg in
theorem masked_at (b : Fin 16) (h : Fin 6) (r j : Fin 2048) : val_main_v22 (F := Ideal) q k g (ix4 b h r j)
    = if (j : ℕ) < (r : ℕ) + 1 then ((zz q k g b h r j : ℝ) : EReal) else ⊥ := by
  rw [val_main_v22_apply, val_main_call0_v1_apply, val_main_call0_v2_apply, val_main_call0_v0_apply, val_main_cst_0_apply,
    show idx_main_call0_v1 (ix4 b h r j) = ix2 r j from by funext a; fin_cases a <;> rfl, mask_at, z_at hq hk hg]
  congr 1

include hq hk hg in
theorem most_at (b : Fin 16) (h : Fin 6) (r : Fin 2048) : ∃ μ : ℝ, val_main_v25 (F := Ideal) q k g (ix3 b h r) = (μ : EReal) := by
  obtain ⟨μ, hμ⟩ := exists_max (fun j : Fin 2048 => val_main_v22 (F := Ideal) q k g (ix4 b h r j)) ⊥ bot_ne_top
    (fun j => by
      rw [masked_at hq hk hg]
      split
      · exact EReal.coe_ne_top _
      · exact bot_ne_top) (⟨0, by omega⟩ : Fin 2048)
    (by rw [masked_at hq hk hg, if_pos (by show (0 : ℕ) < r + 1; omega)]; exact EReal.coe_ne_bot _)
  refine ⟨μ, Eq.trans ?_ hμ⟩
  rw [val_main_v25_apply, val_main_v24_apply, val_main_cst_2_apply]
  unfold val_main_v23
  generalize val_main_v22 (F := Ideal) q k g = y
  unfold val_main_cst_1
  pointwise
  rw [ninf_f32]

section

variable (b : Fin 16) (h : Fin 6) (r : Fin 2048) {μ : ℝ} (hμ : val_main_v25 (F := Ideal) q k g (ix3 b h r) = (μ : EReal))

include hq hk hg hμ in
theorem exp_at (j : Fin 2048) : val_main_v29 (F := Ideal) q k g (ix4 b h r j)
    = (((if (j : ℕ) < (r : ℕ) + 1 then Real.exp (zz q k g b h r j - μ) else 0 : ℝ)) : EReal) := by
  rw [val_main_v29_apply, val_main_v28_apply, masked_at hq hk hg, val_main_v27_apply, val_main_v26_apply,
    show idx_main_v26 (idx_main_v27 (ix4 b h r j)) = ix3 b h r from by funext a; fin_cases a <;> rfl, hμ]
  show Ideal.exp ((if _ then _ else _ : EReal) - _) = _
  split
  · rw [← EReal.coe_sub, Ideal.exp_coe]
  · rw [EReal.bot_sub, Ideal.exp_bot, EReal.coe_zero]

include hq hk hg hμ in
theorem total_at (j : Fin 2048) : val_main_v32 (F := Ideal) q k g (ix4 b h r j)
    = ((∑ j ∈ Finset.range ((r : ℕ) + 1), Real.exp (zz q k g b h r j - μ) : ℝ) : EReal) := by
  have hr := r.isLt
  rw [val_main_v32_apply, val_main_v31_apply, val_main_v30_apply]
  have e0 : (val_main_cst_3 (F := Ideal)) (Shape.Idx.first Cert.Reference4Ideal.Gen.h_S_) = 0 := Ideal.ofBits_zero_f32
  rw [e0, zero_add]
  have e := sum_before (fun j => Real.exp (zz q k g b h r j - μ)) 0 2048 (r + 1) (by omega)
  simp only [zero_add] at e
  rw [← e, coe_sum]
  refine Finset.sum_congr rfl fun j' _ => ?_
  rw [← exp_at hq hk hg b h r hμ]
  refine congrArg (val_main_v29 (F := Ideal) q k g) (funext fun a => ?_)
  fin_cases a <;> rfl

end

include hq hk hv hg in
theorem head_at (b : Fin 16) (h : Fin 6) (r : Fin 2048) (d : Fin 64) : val_main_v34 (F := Ideal) q k v g (ix4 b h r d)
    = ((att (zz q k g b h r) (fun j => rd v b j (64 * h + d)) (r + 1) : ℝ) : EReal) := by
  have hr := r.isLt
  obtain ⟨μ, hμ⟩ := most_at hq hk hg b h r
  have hp : 0 < ∑ j ∈ Finset.range ((r : ℕ) + 1), Real.exp (zz q k g b h r j - μ) :=
    Finset.sum_pos (fun j _ => Real.exp_pos _) ⟨0, Finset.mem_range.2 (by omega)⟩
  rw [← att_div (by omega) μ, Ideal.div_coe hp.ne', ← EReal.coe_mul, val_main_v34_apply]
  have e := sum_before (fun j => Real.exp (zz q k g b h r j - μ) * rd v b j (64 * h + d)) 0 2048 (r + 1) (by omega)
  simp only [zero_add] at e
  rw [← e, Finset.sum_mul, coe_sum]
  refine Finset.sum_congr rfl fun j _ => ?_
  rw [show lidx_main_v34 (ix4 b h r d) j = ix4 b h r j from by funext a; fin_cases a <;> rfl,
    show ridx_main_v34 (ix4 b h r d) j = ix4 b h j d from by funext a; fin_cases a <;> rfl, v_at hv, val_main_v33_apply,
    total_at hq hk hg b h r hμ, exp_at hq hk hg b h r hμ]
  show Ideal.div _ _ * _ = _
  rw [Ideal.div_coe hp.ne', ← EReal.coe_mul, ← EReal.coe_mul]
  refine congrArg Real.toEReal ?_
  split
  · ring
  · ring

include hq hk hv hg in
/-- The reference's result. -/
theorem value : val_main_v37 (F := Ideal) q k v g = result q k v g := by
  funext i
  have h0 : (i 0 : ℕ) < 16 := (i 0).isLt
  have h1 : (i 1 : ℕ) < 2048 := (i 1).isLt
  have h2 : (i 2 : ℕ) < 384 := (i 2).isLt
  rw [val_main_v37_apply, val_main_v36_apply, val_main_v35_apply]
  show val_main_v34 (F := Ideal) q k v g _ = _
  rw [show idx_main_v35 (idx_main_v36 i) = ix4 (⟨i 0, h0⟩ : Fin 16) (⟨(i 2 : ℕ) / 64, by omega⟩ : Fin 6) (⟨i 1, h1⟩ : Fin 2048)
      (⟨(i 2 : ℕ) % 64, by omega⟩ : Fin 64) from by
        funext a
        fin_cases a <;> apply Fin.ext <;> simp <;> omega, head_at hq hk hv hg]
  unfold result headOut
  congr 1
  have hz : Cert.Kernel4Ideal.Fx.score (qs q (i 0)) (us g (i 0)) (rd k (i 0)) (ws g (i 0)) ((i 2 : ℕ) / 64) (i 1)
      = zz q k g (i 0) ((i 2 : ℕ) / 64) (i 1) := funext fun j => by
    refine (score_eq (qs q (i 0)) (rd k (i 0)) (rc g (i 0)) ((i 2 : ℕ) / 64) (i 1) j).trans ?_
    unfold zz qs
    rw [Finset.sum_mul]
    congr 1
    exact Finset.sum_congr rfl fun d _ => by ring
  rw [hz]
  show att _ (fun j => rd v (i 0) j (64 * ((i 2 : ℕ) / 64) + (i 2 : ℕ) % 64)) _ = _
  rw [Nat.div_add_mod]
  rfl

end Cert.Reference4Ideal.Fx

end
-- ==== Proof.OpValue.lean ====
/-
  The output projection's results over the extended reals, read at an entry.
-/
module

public import proofs.«01_k».proof.Proof.IpValue
public import proofs.«01_k».proof.Proof.Gen.Kernel5Ideal.Skeleton
public import proofs.«01_k».proof.Proof.Gen.Kernel5Ideal.Launch
public import Idealize.ShloMosaic.Lib.StableHlo.Run
public import Idealize.ShloMosaic.Lib.Pointwise
public import Idealize.ShloMosaic.Lib.ValueIdx

@[expose] public section

set_option maxRecDepth 16384

noncomputable section

/-! ## The projection of one row -/

namespace Cert.Outp

open Idealize.ShloMosaic
open Cert.Proj (hid one_f32)

/-- A family's row over the square root of its mean square, of which `n` is the number of entries. -/
def unit {W : ℕ} (n : EReal) (o : Fin W → EReal) (k : Fin W) : EReal :=
  o k * Ideal.rsqrt (Ideal.div (∑ j, o j * o j) n + Ideal.ofBits .f32 0x358637BD#32)

/-- A family's share of a projected column. -/
def part {W : ℕ} (n : EReal) (o g w : Fin W → EReal) : EReal := ∑ k, unit n o k * g k * w k

/-- A projected column: the three families' shares. -/
def mix (a : Fin 256 → EReal) (b c : Fin 384 → EReal) (g w : Fin 1024 → EReal) : EReal :=
  part (Ideal.ofBits .f32 0x43800000#32) a (fun k => g ⟨0 + k, by omega⟩) (fun k => w ⟨0 + k, by omega⟩)
    + part (Ideal.ofBits .f32 0x43C00000#32) b (fun k => g ⟨256 + k, by omega⟩) (fun k => w ⟨256 + k, by omega⟩)
    + part (Ideal.ofBits .f32 0x43C00000#32) c (fun k => g ⟨640 + k, by omega⟩) (fun k => w ⟨640 + k, by omega⟩)

/-- The sum over the lanes, family by family. -/
theorem sum_families (f : Fin 1024 → EReal) :
    ∑ k, f k = (∑ k : Fin 256, f ⟨0 + k, by omega⟩) + (∑ k : Fin 384, f ⟨256 + k, by omega⟩) + ∑ k : Fin 384, f ⟨640 + k, by omega⟩ := by
  refine (Fin.sum_univ_add (a := 640) (b := 384) f).trans (congrArg₂ (· + ·) ?_ rfl)
  refine (Fin.sum_univ_add (a := 256) (b := 384) fun k => f (Fin.castAdd 384 k)).trans (congrArg₂ (· + ·) ?_ rfl)
  exact Finset.sum_congr rfl fun k _ => congrArg f (Fin.ext (Nat.zero_add (k : ℕ)).symm)

end Cert.Outp

namespace Cert.Kernel5Ideal.Op

open Cert.Kernel5Ideal Cert.Kernel5Ideal.Gen
open Idealize.ShloMosaic
open Idealize.ShloMosaic.TcCoe
open Idealize.SL.Sem
open Cert.Proj (hid one_f32)
open Cert.Outp

/-! ## The body's values at an entry -/

section Body

variable (r : Fin 512) (d : Fin 1024)

theorem pay2_at (o : Vec Ideal S1x512x256 .bf16) (g : Vec Ideal S1x256 .f32) (w : Vec Ideal S256x1024 .bf16) :
    k0_pay2 (F := Ideal) o g w (ix2 r d)
      = part (Ideal.ofBits .f32 0x43800000#32) (fun k => o (ix3 0 r k)) (fun k => g (ix2 0 k)) (fun k => w (ix2 k d)) := by
  unfold k0_pay2 part unit
  pointwise [dot_S512x256_S256x1024_S512x1024_1_0_0_1_n_n]

theorem pay5_at (y : FVec Ideal S512x1024 .f32) (b c : Vec Ideal S1x512x384 .bf16) (g h : Vec Ideal S1x384 .f32) (w v : Vec Ideal S384x1024 .bf16) :
    k0_pay5 (F := Ideal) y (k0_pay3 (F := Ideal) b) (k0_pay4 (F := Ideal) b) g w c h v (ix2 r d)
      = y (ix2 r d)
        + part (Ideal.ofBits .f32 0x43C00000#32) (fun k => b (ix3 0 r k)) (fun k => g (ix2 0 k)) (fun k => w (ix2 k d))
        + part (Ideal.ofBits .f32 0x43C00000#32) (fun k => c (ix3 0 r k)) (fun k => h (ix2 0 k)) (fun k => v (ix2 k d)) := by
  unfold k0_pay5 k0_pay4 k0_pay3 part unit
  pointwise [dot_S512x384_S384x1024_S512x1024_1_0_0_1_n_n]

theorem pay8_at (y : FVec Ideal S512x1024 .f32) (x : Vec Ideal S1x512x1024 .f32) (ga : Vec Ideal S1x1x1024 .f32) :
    k0_pay8 (F := Ideal) y (k0_pay6 (F := Ideal) x) (k0_pay7 (F := Ideal) ga) (ix2 r d)
      = x (ix3 0 r d) + ga (ix3 0 0 d) * y (ix2 r d) := by
  unfold k0_pay8 k0_pay6 k0_pay7
  pointwise

theorem pay9_at (y : FVec Ideal S512x1024 .f32) (x : Vec Ideal S1x512x1024 .f32) (ga : Vec Ideal S1x1x1024 .f32) :
    k0_pay9 (F := Ideal) y (k0_pay6 (F := Ideal) x) (k0_pay7 (F := Ideal) ga) (ix3 0 r d)
      = x (ix3 0 r d) + ga (ix3 0 0 d) * y (ix2 r d) := by
  unfold k0_pay9
  pointwise
  rw [pay8_at]

theorem pay10_at (y : FVec Ideal S512x1024 .f32) (x : Vec Ideal S1x512x1024 .f32) (ga sc sh : Vec Ideal S1x1x1024 .f32) (g : Vec Ideal S1x1024 .f32) :
    k0_pay10 (F := Ideal) y (k0_pay6 (F := Ideal) x) (k0_pay7 (F := Ideal) ga) g sc sh (ix2 r d)
      = hid (fun d => x (ix3 0 r d) + ga (ix3 0 0 d) * y (ix2 r d)) (fun d => g (ix2 0 d)) (fun d => sc (ix3 0 0 d)) (fun d => sh (ix3 0 0 d)) d := by
  unfold k0_pay10 hid
  rw [one_f32]
  pointwise
  simp only [pay8_at]

end Body

/-! ## The results -/

section Results

variable (a : FVec Ideal S16x2048x256 .bf16) (b c : FVec Ideal S16x2048x384 .bf16) (x : FVec Ideal S16x2048x1024 .f32) (s : FVec Ideal S16x6144 .f32)
  (g : FVec Ideal S4x1024 .f32) (w : FVec Ideal S4x1024x1024 .f32) (h : FVec Ideal S4x1024 .f32) (n : Fin 16) (r : Fin 2048)

/-- A row of the layer's sum: the input and the gated projection of the three families. -/
def yrow (d : Fin 1024) : EReal :=
  x (ix3 n r d) + s (ix2 n ⟨2048 + d, by omega⟩)
    * mix (fun k => a (ix3 n r k)) (fun k => b (ix3 n r k)) (fun k => c (ix3 n r k)) (fun k => g (ix2 0 k)) (fun k => w (ix3 0 k d))

/-- The row normalised and modulated for the experts. -/
def hrow : Fin 1024 → EReal :=
  hid (yrow a b c x s g w n r) (fun d => h (ix2 0 d)) (fun d => s (ix2 n ⟨4096 + d, by omega⟩)) (fun d => s (ix2 n ⟨3072 + d, by omega⟩))

/-- The layer's sum. -/
def yRes : FVec Ideal S16x2048x1024 .f32 := fun i => yrow a b c x s g w (i 0) (i 1) (i 2)

/-- The experts' rows, batch after batch. -/
def hRes : FVec Ideal S32768x1024 .f32 := fun i =>
  hrow a b c x s g w h ⟨((i 0 : Fin _) : ℕ) / 2048, by have h : ((i 0 : Fin _) : ℕ) < 32768 := (i 0).isLt; omega⟩
    ⟨((i 0 : Fin _) : ℕ) % 2048, Nat.mod_lt _ (by decide)⟩ (i 1)

theorem yRes_at (i : S16x2048x1024.Idx) (d : Fin 1024) (h0 : ((i 0 : Fin _) : ℕ) = n) (h1 : ((i 1 : Fin _) : ℕ) = r) (h2 : ((i 2 : Fin _) : ℕ) = d) :
    yRes a b c x s g w i = yrow a b c x s g w n r d := by
  obtain rfl : n = i 0 := Fin.ext h0.symm
  obtain rfl : r = i 1 := Fin.ext h1.symm
  obtain rfl : d = i 2 := Fin.ext h2.symm
  rfl

theorem hRes_at (i : S32768x1024.Idx) (d : Fin 1024) (h0 : ((i 0 : Fin _) : ℕ) = 2048 * n + r) (h1 : ((i 1 : Fin _) : ℕ) = d) :
    hRes a b c x s g w h i = hrow a b c x s g w h n r d := by
  obtain rfl : d = i 1 := Fin.ext h1.symm
  have hr := r.isLt
  unfold hRes
  exact congrFun (congrArg₂ (hrow a b c x s g w h) (Fin.ext (by dsimp only; omega)) (Fin.ext (by dsimp only; omega))) _

end Results

/-! ## What the host code prepares -/

variable (m : (ℓ : Loc nD τ sig) → Buf (Elt Ideal) ℓ)

/-- A norm's weights as a row. -/
def packG (g : FVec Ideal S4x1024 .f32) : FVec Ideal S1x1024 .f32 :=
  broadcastInDim S1x1024 ![1] bcast_S1024_S1x1024_1 (shapeCast S1024 (extractStridedSlice S1x1024 ![0, 0]
      g slices_S4x1024_S1x1024_0_0) shapeCasts_S1x1024_S1024)

theorem packG_at (g : FVec Ideal S4x1024 .f32) (d : Fin 1024) : packG g (ix2 0 d) = g (ix2 0 d) := by
  unfold packG
  pointwise

/-- The layer's output weights. -/
def packW (w : FVec Ideal S4x1024x1024 .f32) : FVec Ideal S1024x1024 .bf16 :=
  truncf .bf16 (shapeCast S1024x1024 (extractStridedSlice S1x1024x1024 ![0, 0, 0] w slices_S4x1024x1024_S1x1024x1024_0_0_0)
    shapeCasts_S1x1024x1024_S1024x1024) bitsLt_bf16_f32

theorem packW_at (w : FVec Ideal S4x1024x1024 .f32) (k d : Fin 1024) : packW w (ix2 k d) = w (ix3 0 k d) := by
  unfold packW
  pointwise

/-- The modulations with an axis of one row. -/
def packM (x : FVec Ideal S16x6144 .f32) : FVec Ideal S16x1x6144 .f32 := shapeCast S16x1x6144 x shapeCasts_S16x6144_S16x1x6144

theorem packM_at (x : FVec Ideal S16x6144 .f32) (b : Fin 16) (l : Fin 6144) : packM x (ix3 b 0 l) = x (ix2 b l) := by
  unfold packM
  refine shapeCast_apply _ _ (ix3 b 0 l) (ix2 b l) ?_
  rw [Shape.rowMajor_val_two, Shape.rowMajor_val_three]
  show (b : ℕ) * 6144 + l = (b * 1 + 0) * 6144 + l
  omega

end Cert.Kernel5Ideal.Op

end
-- ==== Proof.OpBody.lean ====
/-
  What the body leaves in its two windows' blocks: the layer's sum of the point's rows, and those rows normalised and modulated.
-/
module

public import proofs.«01_k».proof.Proof.OpValue
public import proofs.«01_k».proof.Proof.Gen.Kernel5Ideal.Frame

@[expose] public section

set_option maxRecDepth 16384

noncomputable section

namespace Cert.Kernel5Ideal.Op

open Cert.Kernel5Ideal Cert.Kernel5Ideal.Gen Idealize.ShloMosaic Idealize.ShloMosaic.TcCoe Idealize.SL.Sem
open Cert.Proj (hid)
open Cert.Outp

theorem zero3 : (![0, 0, 0] : Fin 3 → ℕ) = fun _ => 0 := by decide

theorem zero2 : (![0, 0] : Fin 2 → ℕ) = fun _ => 0 := by decide

section Out

variable {F : FTy → Type} [FloatOps F]

/-- The point's rows projected. -/
def tileY (x0 : Vec F S1x512x256 .bf16) (x1 x2 : Vec F S1x512x384 .bf16) (x3 : Vec F S1x1024 .f32) (x4 : Vec F S1024x1024 .bf16) : FVec F S512x1024 .f32 :=
  k0_pay5
    (k0_pay2 x0 (View.ld x3 (Rect.unit (s := S1x1024) ![0, 0] S1x256.size inb_S1x1024_S1x256_0_0))
      (View.ld x4 (Rect.unit (s := S1024x1024) ![0, 0] S256x1024.size inb_S1024x1024_S256x1024_0_0)))
    (k0_pay3 x1) (k0_pay4 x1)
    (View.ld x3 (Rect.unit (s := S1x1024) ![0, 256] S1x384.size inb_S1x1024_S1x384_0_256))
    (View.ld x4 (Rect.unit (s := S1024x1024) ![256, 0] S384x1024.size inb_S1024x1024_S384x1024_256_0))
    x2
    (View.ld x3 (Rect.unit (s := S1x1024) ![0, 640] S1x384.size inb_S1x1024_S1x384_0_640))
    (View.ld x4 (Rect.unit (s := S1024x1024) ![640, 0] S384x1024.size inb_S1024x1024_S384x1024_640_0))

set_option maxHeartbeats 4000000 in
theorem outA12_eq (c : Dev nD) (i : grid0.Coords)
    (arg2 : Memref sig .tc .vmem S1x512x256 .bf16) (harg2 : arg2.IsWhole)
    (arg3 : Memref sig .tc .vmem S1x512x384 .bf16) (harg3 : arg3.IsWhole)
    (arg4 : Memref sig .tc .vmem S1x512x384 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1x512x1024 .f32) (harg7 : arg7.IsWhole)
    (arg8 : Memref sig .tc .vmem S1x1x1024 .f32) (harg8 : arg8.IsWhole)
    (arg9 : Memref sig .tc .vmem S1x1x1024 .f32) (harg9 : arg9.IsWhole)
    (arg10 : Memref sig .tc .vmem S1x1x1024 .f32) (harg10 : arg10.IsWhole)
    (arg11 : Memref sig .tc .vmem S1x1024 .f32) (harg11 : arg11.IsWhole)
    (arg12 : Memref sig .tc .vmem S1024x256 .bf16) (harg12 : arg12.IsWhole)
    (arg13 : Memref sig .tc .vmem S1x128 .f32) (harg13 : arg13.IsWhole)
    (arg14 : Memref sig .tc .vmem S1x512x1024 .f32) (harg14 : arg14.IsWhole)
    (arg15 : Memref sig .tc .vmem S512x1024 .f32) (harg15 : arg15.IsWhole)
    (arg16 : Memref sig .tc .vmem S512x128 .i32) (harg16 : arg16.IsWhole)
    (arg17 : Memref sig .tc .vmem S1x8x512 .i32) (harg17 : arg17.IsWhole)
    (arg18 : Memref sig .tc .vmem S512x128 .f32) (harg18 : arg18.IsWhole)
    (arg19 : Memref sig .tc .vmem S1x1x128 .i32) (harg19 : arg19.IsWhole)
    (arg20 : Memref sig .tc .vmem S1x1x128 .i32) (harg20 : arg20.IsWhole)
    (arg21 : Memref sig .tc .vmem S1x1x128 .i32) (harg21 : arg21.IsWhole)
    (arg22 : Memref sig .tc .vmem S1x128 .i32) (harg22 : arg22.IsWhole)
    (arg23 : Memref sig .tc .vmem S1x128 .i32) (harg23 : arg23.IsWhole) (hc0 : cond0_0 i)
    (x0 : Vec F S1x512x256 .bf16) (x1 : Vec F S1x512x384 .bf16) (x2 : Vec F S1x512x384 .bf16) (x3 : Vec F S1x1024 .f32) (x4 : Vec F S1024x1024 .bf16) (x5 : Vec F S1x512x1024 .f32) (x6 : Vec F S1x1x1024 .f32) (x7 : Vec F S1x1x1024 .f32) (x8 : Vec F S1x1x1024 .f32) (x9 : Vec F S1x1024 .f32) (x10 : Vec F S1024x256 .bf16) (x11 : Vec F S1x128 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11
      = k0_pay9 (tileY x0 x1 x2 x3 x4) (k0_pay6 x5) (k0_pay7 x6) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  sl_unfold_words
  rw [View.canon_unit_zero (S := S1x512x1024) zero3]
  simp only [View.readAt_eq_ld, harg2.read_unread, harg3.read_unread, harg4.read_unread, harg5.read_unread, harg6.read_unread,
    harg7.read_unread, harg8.read_unread, harg9.read_unread, harg10.read_unread, harg11.read_unread]
  simp only [View.ld_unit_zero (S := S1x512x256) zero3, View.ld_unit_zero (S := S1x512x384) zero3, View.ld_unit_zero (S := S1x512x1024) zero3,
    View.ld_unit_zero (S := S1x1x1024) zero3, View.ld_unit_zero (S := S1x1024) zero2]
  rfl

set_option maxHeartbeats 4000000 in
theorem outA13_eq (c : Dev nD) (i : grid0.Coords)
    (arg2 : Memref sig .tc .vmem S1x512x256 .bf16) (harg2 : arg2.IsWhole)
    (arg3 : Memref sig .tc .vmem S1x512x384 .bf16) (harg3 : arg3.IsWhole)
    (arg4 : Memref sig .tc .vmem S1x512x384 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1x512x1024 .f32) (harg7 : arg7.IsWhole)
    (arg8 : Memref sig .tc .vmem S1x1x1024 .f32) (harg8 : arg8.IsWhole)
    (arg9 : Memref sig .tc .vmem S1x1x1024 .f32) (harg9 : arg9.IsWhole)
    (arg10 : Memref sig .tc .vmem S1x1x1024 .f32) (harg10 : arg10.IsWhole)
    (arg11 : Memref sig .tc .vmem S1x1024 .f32) (harg11 : arg11.IsWhole)
    (arg12 : Memref sig .tc .vmem S1024x256 .bf16) (harg12 : arg12.IsWhole)
    (arg13 : Memref sig .tc .vmem S1x128 .f32) (harg13 : arg13.IsWhole)
    (arg14 : Memref sig .tc .vmem S1x512x1024 .f32) (harg14 : arg14.IsWhole)
    (arg15 : Memref sig .tc .vmem S512x1024 .f32) (harg15 : arg15.IsWhole)
    (arg16 : Memref sig .tc .vmem S512x128 .i32) (harg16 : arg16.IsWhole)
    (arg17 : Memref sig .tc .vmem S1x8x512 .i32) (harg17 : arg17.IsWhole)
    (arg18 : Memref sig .tc .vmem S512x128 .f32) (harg18 : arg18.IsWhole)
    (arg19 : Memref sig .tc .vmem S1x1x128 .i32) (harg19 : arg19.IsWhole)
    (arg20 : Memref sig .tc .vmem S1x1x128 .i32) (harg20 : arg20.IsWhole)
    (arg21 : Memref sig .tc .vmem S1x1x128 .i32) (harg21 : arg21.IsWhole)
    (arg22 : Memref sig .tc .vmem S1x128 .i32) (harg22 : arg22.IsWhole)
    (arg23 : Memref sig .tc .vmem S1x128 .i32) (harg23 : arg23.IsWhole) (hc0 : cond0_0 i)
    (x0 : Vec F S1x512x256 .bf16) (x1 : Vec F S1x512x384 .bf16) (x2 : Vec F S1x512x384 .bf16) (x3 : Vec F S1x1024 .f32) (x4 : Vec F S1024x1024 .bf16) (x5 : Vec F S1x512x1024 .f32) (x6 : Vec F S1x1x1024 .f32) (x7 : Vec F S1x1x1024 .f32) (x8 : Vec F S1x1x1024 .f32) (x9 : Vec F S1x1024 .f32) (x10 : Vec F S1024x256 .bf16) (x11 : Vec F S1x128 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11
      = k0_pay10 (tileY x0 x1 x2 x3 x4) (k0_pay6 x5) (k0_pay7 x6) x9 x7 x8 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11)]
  unfold kernelRun0_A
  dsimp only
  sl_unfold_words
  rw [View.canon_unit_zero (S := S512x1024) zero2]
  simp only [View.readAt_eq_ld, harg2.read_unread, harg3.read_unread, harg4.read_unread, harg5.read_unread, harg6.read_unread,
    harg7.read_unread, harg8.read_unread, harg9.read_unread, harg10.read_unread, harg11.read_unread]
  simp only [View.ld_unit_zero (S := S1x512x256) zero3, View.ld_unit_zero (S := S1x512x384) zero3, View.ld_unit_zero (S := S1x512x1024) zero3,
    View.ld_unit_zero (S := S1x1x1024) zero3, View.ld_unit_zero (S := S1x1024) zero2]
  rfl

set_option maxHeartbeats 4000000 in
theorem outB12_eq (c : Dev nD) (i : grid0.Coords)
    (arg2 : Memref sig .tc .vmem S1x512x256 .bf16) (harg2 : arg2.IsWhole)
    (arg3 : Memref sig .tc .vmem S1x512x384 .bf16) (harg3 : arg3.IsWhole)
    (arg4 : Memref sig .tc .vmem S1x512x384 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1x512x1024 .f32) (harg7 : arg7.IsWhole)
    (arg8 : Memref sig .tc .vmem S1x1x1024 .f32) (harg8 : arg8.IsWhole)
    (arg9 : Memref sig .tc .vmem S1x1x1024 .f32) (harg9 : arg9.IsWhole)
    (arg10 : Memref sig .tc .vmem S1x1x1024 .f32) (harg10 : arg10.IsWhole)
    (arg11 : Memref sig .tc .vmem S1x1024 .f32) (harg11 : arg11.IsWhole)
    (arg12 : Memref sig .tc .vmem S1024x256 .bf16) (harg12 : arg12.IsWhole)
    (arg13 : Memref sig .tc .vmem S1x128 .f32) (harg13 : arg13.IsWhole)
    (arg14 : Memref sig .tc .vmem S1x512x1024 .f32) (harg14 : arg14.IsWhole)
    (arg15 : Memref sig .tc .vmem S512x1024 .f32) (harg15 : arg15.IsWhole)
    (arg16 : Memref sig .tc .vmem S512x128 .i32) (harg16 : arg16.IsWhole)
    (arg17 : Memref sig .tc .vmem S1x8x512 .i32) (harg17 : arg17.IsWhole)
    (arg18 : Memref sig .tc .vmem S512x128 .f32) (harg18 : arg18.IsWhole)
    (arg19 : Memref sig .tc .vmem S1x1x128 .i32) (harg19 : arg19.IsWhole)
    (arg20 : Memref sig .tc .vmem S1x1x128 .i32) (harg20 : arg20.IsWhole)
    (arg21 : Memref sig .tc .vmem S1x1x128 .i32) (harg21 : arg21.IsWhole)
    (arg22 : Memref sig .tc .vmem S1x128 .i32) (harg22 : arg22.IsWhole)
    (arg23 : Memref sig .tc .vmem S1x128 .i32) (harg23 : arg23.IsWhole) (hc0 : ¬cond0_0 i)
    (x0 : Vec F S1x512x256 .bf16) (x1 : Vec F S1x512x384 .bf16) (x2 : Vec F S1x512x384 .bf16) (x3 : Vec F S1x1024 .f32) (x4 : Vec F S1024x1024 .bf16) (x5 : Vec F S1x512x1024 .f32) (x6 : Vec F S1x1x1024 .f32) (x7 : Vec F S1x1x1024 .f32) (x8 : Vec F S1x1x1024 .f32) (x9 : Vec F S1x1024 .f32) (x10 : Vec F S1024x256 .bf16) (x11 : Vec F S1x128 .f32) (xs0 : Vec F S1x128 .i32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0
      = k0_pay9 (tileY x0 x1 x2 x3 x4) (k0_pay6 x5) (k0_pay7 x6) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0)]
  unfold kernelRun0_B
  dsimp only
  sl_unfold_words
  rw [View.canon_unit_zero (S := S1x512x1024) zero3]
  simp only [View.readAt_eq_ld, harg2.read_unread, harg3.read_unread, harg4.read_unread, harg5.read_unread, harg6.read_unread,
    harg7.read_unread, harg8.read_unread, harg9.read_unread, harg10.read_unread, harg11.read_unread]
  simp only [View.ld_unit_zero (S := S1x512x256) zero3, View.ld_unit_zero (S := S1x512x384) zero3, View.ld_unit_zero (S := S1x512x1024) zero3,
    View.ld_unit_zero (S := S1x1x1024) zero3, View.ld_unit_zero (S := S1x1024) zero2]
  rfl

set_option maxHeartbeats 4000000 in
theorem outB13_eq (c : Dev nD) (i : grid0.Coords)
    (arg2 : Memref sig .tc .vmem S1x512x256 .bf16) (harg2 : arg2.IsWhole)
    (arg3 : Memref sig .tc .vmem S1x512x384 .bf16) (harg3 : arg3.IsWhole)
    (arg4 : Memref sig .tc .vmem S1x512x384 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1x512x1024 .f32) (harg7 : arg7.IsWhole)
    (arg8 : Memref sig .tc .vmem S1x1x1024 .f32) (harg8 : arg8.IsWhole)
    (arg9 : Memref sig .tc .vmem S1x1x1024 .f32) (harg9 : arg9.IsWhole)
    (arg10 : Memref sig .tc .vmem S1x1x1024 .f32) (harg10 : arg10.IsWhole)
    (arg11 : Memref sig .tc .vmem S1x1024 .f32) (harg11 : arg11.IsWhole)
    (arg12 : Memref sig .tc .vmem S1024x256 .bf16) (harg12 : arg12.IsWhole)
    (arg13 : Memref sig .tc .vmem S1x128 .f32) (harg13 : arg13.IsWhole)
    (arg14 : Memref sig .tc .vmem S1x512x1024 .f32) (harg14 : arg14.IsWhole)
    (arg15 : Memref sig .tc .vmem S512x1024 .f32) (harg15 : arg15.IsWhole)
    (arg16 : Memref sig .tc .vmem S512x128 .i32) (harg16 : arg16.IsWhole)
    (arg17 : Memref sig .tc .vmem S1x8x512 .i32) (harg17 : arg17.IsWhole)
    (arg18 : Memref sig .tc .vmem S512x128 .f32) (harg18 : arg18.IsWhole)
    (arg19 : Memref sig .tc .vmem S1x1x128 .i32) (harg19 : arg19.IsWhole)
    (arg20 : Memref sig .tc .vmem S1x1x128 .i32) (harg20 : arg20.IsWhole)
    (arg21 : Memref sig .tc .vmem S1x1x128 .i32) (harg21 : arg21.IsWhole)
    (arg22 : Memref sig .tc .vmem S1x128 .i32) (harg22 : arg22.IsWhole)
    (arg23 : Memref sig .tc .vmem S1x128 .i32) (harg23 : arg23.IsWhole) (hc0 : ¬cond0_0 i)
    (x0 : Vec F S1x512x256 .bf16) (x1 : Vec F S1x512x384 .bf16) (x2 : Vec F S1x512x384 .bf16) (x3 : Vec F S1x1024 .f32) (x4 : Vec F S1024x1024 .bf16) (x5 : Vec F S1x512x1024 .f32) (x6 : Vec F S1x1x1024 .f32) (x7 : Vec F S1x1x1024 .f32) (x8 : Vec F S1x1x1024 .f32) (x9 : Vec F S1x1024 .f32) (x10 : Vec F S1024x256 .bf16) (x11 : Vec F S1x128 .f32) (xs0 : Vec F S1x128 .i32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0
      = k0_pay10 (tileY x0 x1 x2 x3 x4) (k0_pay6 x5) (k0_pay7 x6) x9 x7 x8 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 xs0)]
  unfold kernelRun0_B
  dsimp only
  sl_unfold_words
  rw [View.canon_unit_zero (S := S512x1024) zero2]
  simp only [View.readAt_eq_ld, harg2.read_unread, harg3.read_unread, harg4.read_unread, harg5.read_unread, harg6.read_unread,
    harg7.read_unread, harg8.read_unread, harg9.read_unread, harg10.read_unread, harg11.read_unread]
  simp only [View.ld_unit_zero (S := S1x512x256) zero3, View.ld_unit_zero (S := S1x512x384) zero3, View.ld_unit_zero (S := S1x512x1024) zero3,
    View.ld_unit_zero (S := S1x1x1024) zero3, View.ld_unit_zero (S := S1x1024) zero2]
  rfl

end Out

/-! ## At an entry -/

section Entry

variable (x0 : Vec Ideal S1x512x256 .bf16) (x1 x2 : Vec Ideal S1x512x384 .bf16) (x3 : Vec Ideal S1x1024 .f32) (x4 : Vec Ideal S1024x1024 .bf16)
  (x5 : Vec Ideal S1x512x1024 .f32) (x6 x7 x8 : Vec Ideal S1x1x1024 .f32) (x9 : Vec Ideal S1x1024 .f32) (r : Fin 512)

theorem g0_at (k : Fin 256) :
    View.ld x3 (Rect.unit (s := S1x1024) ![0, 0] S1x256.size inb_S1x1024_S1x256_0_0) (ix2 0 k) = x3 (ix2 0 ⟨0 + k, by omega⟩) := by
  show x3 _ = x3 _
  congr 1
  funext a
  apply Fin.ext
  match a with
  | ⟨0, _⟩ => show 0 + 1 * 0 = 0; omega
  | ⟨1, _⟩ => show 0 + 1 * (k : ℕ) = 0 + k; omega

theorem w0_at (k : Fin 256) (d : Fin 1024) :
    View.ld x4 (Rect.unit (s := S1024x1024) ![0, 0] S256x1024.size inb_S1024x1024_S256x1024_0_0) (ix2 k d) = x4 (ix2 ⟨0 + k, by omega⟩ d) := by
  show x4 _ = x4 _
  congr 1
  funext a
  apply Fin.ext
  match a with
  | ⟨0, _⟩ => show 0 + 1 * (k : ℕ) = 0 + k; omega
  | ⟨1, _⟩ => show 0 + 1 * (d : ℕ) = d; omega

theorem g256_at (k : Fin 384) :
    View.ld x3 (Rect.unit (s := S1x1024) ![0, 256] S1x384.size inb_S1x1024_S1x384_0_256) (ix2 0 k) = x3 (ix2 0 ⟨256 + k, by omega⟩) := by
  show x3 _ = x3 _
  congr 1
  funext a
  apply Fin.ext
  match a with
  | ⟨0, _⟩ => show 0 + 1 * 0 = 0; omega
  | ⟨1, _⟩ => show 256 + 1 * (k : ℕ) = 256 + k; omega

theorem w256_at (k : Fin 384) (d : Fin 1024) :
    View.ld x4 (Rect.unit (s := S1024x1024) ![256, 0] S384x1024.size inb_S1024x1024_S384x1024_256_0) (ix2 k d) = x4 (ix2 ⟨256 + k, by omega⟩ d) := by
  show x4 _ = x4 _
  congr 1
  funext a
  apply Fin.ext
  match a with
  | ⟨0, _⟩ => show 256 + 1 * (k : ℕ) = 256 + k; omega
  | ⟨1, _⟩ => show 0 + 1 * (d : ℕ) = d; omega

theorem g640_at (k : Fin 384) :
    View.ld x3 (Rect.unit (s := S1x1024) ![0, 640] S1x384.size inb_S1x1024_S1x384_0_640) (ix2 0 k) = x3 (ix2 0 ⟨640 + k, by omega⟩) := by
  show x3 _ = x3 _
  congr 1
  funext a
  apply Fin.ext
  match a with
  | ⟨0, _⟩ => show 0 + 1 * 0 = 0; omega
  | ⟨1, _⟩ => show 640 + 1 * (k : ℕ) = 640 + k; omega

theorem w640_at (k : Fin 384) (d : Fin 1024) :
    View.ld x4 (Rect.unit (s := S1024x1024) ![640, 0] S384x1024.size inb_S1024x1024_S384x1024_640_0) (ix2 k d) = x4 (ix2 ⟨640 + k, by omega⟩ d) := by
  show x4 _ = x4 _
  congr 1
  funext a
  apply Fin.ext
  match a with
  | ⟨0, _⟩ => show 640 + 1 * (k : ℕ) = 640 + k; omega
  | ⟨1, _⟩ => show 0 + 1 * (d : ℕ) = d; omega

theorem tileY_at (d : Fin 1024) : tileY x0 x1 x2 x3 x4 (ix2 r d)
    = mix (fun k => x0 (ix3 0 r k)) (fun k => x1 (ix3 0 r k)) (fun k => x2 (ix3 0 r k)) (fun k => x3 (ix2 0 k)) (fun k => x4 (ix2 k d)) := by
  unfold tileY mix
  rw [pay5_at, pay2_at]
  exact congrArg₂ (· + ·)
    (congrArg₂ (· + ·) (congrArg₂ (part _ _) (funext fun k => g0_at x3 k) (funext fun k => w0_at x4 k d))
      (congrArg₂ (part _ _) (funext fun k => g256_at x3 k) (funext fun k => w256_at x4 k d)))
    (congrArg₂ (part _ _) (funext fun k => g640_at x3 k) (funext fun k => w640_at x4 k d))

end Entry

end Cert.Kernel5Ideal.Op

end
-- ==== Proof.OpKernel.lean ====
/-
  The output projection's result arrays: the layer's sum at every entry, and the experts' rows.
-/
module

public import proofs.«01_k».proof.Proof.OpBody
public import proofs.«01_k».proof.Proof.Gen.Kernel5Ideal.Value
public import Idealize.ShloMosaic.Lib.Pipeline.Value

@[expose] public section

set_option maxRecDepth 16384

noncomputable section

namespace Cert.Kernel5Ideal.Op

open Cert.Kernel5Ideal Cert.Kernel5Ideal.Gen Idealize.ShloMosaic Idealize.ShloMosaic.TcCoe Idealize.SL.Sem
open Cert.Proj (hid)
open Cert.Outp

variable (m : (ℓ : Loc nD τ sig) → Buf (Elt Ideal) ℓ)

/-! ## What the host code leaves for the call -/

theorem V_v2 (c : Dev nD) : V m c main_v2 = packG (m ((c.tc : Thread nD τ).loc main_arg5)) := by
  unfold packG
  unfold V
  simp only [hostOps0, hostOps0_1, hostOps0_2, hostOps0_3, List.flatten_cons, List.flatten_nil, List.append_nil, List.cons_append,
    List.nil_append]
  after_results
  rfl

theorem V_v5 (c : Dev nD) : V m c main_v5 = packW (m ((c.tc : Thread nD τ).loc main_arg6)) := by
  unfold packW
  unfold V
  simp only [hostOps0, hostOps0_1, hostOps0_2, hostOps0_3, List.flatten_cons, List.flatten_nil, List.append_nil, List.cons_append,
    List.nil_append]
  after_results
  rfl

theorem V_v6 (c : Dev nD) : V m c main_v6 = packM (m ((c.tc : Thread nD τ).loc main_arg4)) := by
  unfold packM
  unfold V
  simp only [hostOps0, hostOps0_1, hostOps0_2, hostOps0_3, List.flatten_cons, List.flatten_nil, List.append_nil, List.cons_append,
    List.nil_append]
  after_results
  rfl

theorem V_v9 (c : Dev nD) : V m c main_v9 = packG (m ((c.tc : Thread nD τ).loc main_arg7)) := by
  unfold packG
  unfold V
  simp only [hostOps0, hostOps0_1, hostOps0_2, hostOps0_3, List.flatten_cons, List.flatten_nil, List.append_nil, List.cons_append,
    List.nil_append]
  after_results
  rfl

/-! ## A point's blocks -/

theorem index0 : ∀ t : Fin cfg0.N, win0_0.index t = ![(grid0.coords t 0 : ℕ), (grid0.coords t 1 : ℕ), 0] := by decide +kernel

theorem index1 : ∀ t : Fin cfg0.N, win0_1.index t = ![(grid0.coords t 0 : ℕ), (grid0.coords t 1 : ℕ), 0] := by decide +kernel

theorem index2 : ∀ t : Fin cfg0.N, win0_2.index t = ![(grid0.coords t 0 : ℕ), (grid0.coords t 1 : ℕ), 0] := by decide +kernel

theorem index3 : ∀ t : Fin cfg0.N, win0_3.index t = ![0, 0] := by decide +kernel

theorem index4 : ∀ t : Fin cfg0.N, win0_4.index t = ![0, 0] := by decide +kernel

theorem index5 : ∀ t : Fin cfg0.N, win0_5.index t = ![(grid0.coords t 0 : ℕ), (grid0.coords t 1 : ℕ), 0] := by decide +kernel

theorem index6 : ∀ t : Fin cfg0.N, win0_6.index t = ![(grid0.coords t 0 : ℕ), 0, 2] := by decide +kernel

theorem index7 : ∀ t : Fin cfg0.N, win0_7.index t = ![(grid0.coords t 0 : ℕ), 0, 4] := by decide +kernel

theorem index8 : ∀ t : Fin cfg0.N, win0_8.index t = ![(grid0.coords t 0 : ℕ), 0, 3] := by decide +kernel

theorem index9 : ∀ t : Fin cfg0.N, win0_9.index t = ![0, 0] := by decide +kernel

theorem index12 : ∀ t : Fin cfg0.N, win0_12.index t = ![(grid0.coords t 0 : ℕ), (grid0.coords t 1 : ℕ), 0] := by decide +kernel

theorem index13 : ∀ t : Fin cfg0.N, win0_13.index t = ![4 * (grid0.coords t 0 : ℕ) + (grid0.coords t 1 : ℕ), 0] := by decide +kernel

/-- A point's batch. -/
def bt (t : Fin cfg0.N) : Fin 16 := ⟨(grid0.coords t 0 : ℕ), (grid0.coords t 0).isLt⟩

/-- A row of a point's tile. -/
def rowOf (t : Fin cfg0.N) (r : Fin 512) : Fin 2048 :=
  ⟨512 * (grid0.coords t 1 : ℕ) + r, by have h : (grid0.coords t 1 : ℕ) < 4 := (grid0.coords t 1).isLt; omega⟩

/-- Every tile of rows is written back at some point. -/
theorem cover12 : ∀ (b : Fin 16) (j : Fin 4), ∃ t : Fin cfg0.N, (cfg0.win 12).flush t = true ∧ (grid0.coords t 0 : ℕ) = b
    ∧ (grid0.coords t 1 : ℕ) = j :=
  (by decide +kernel : ∀ (b : Fin 16) (j : Fin 4), ∃ t : Fin grid0.N, win0_12.flush t = true ∧ (grid0.coords t 0 : ℕ) = b
    ∧ (grid0.coords t 1 : ℕ) = j)

theorem cover13 : ∀ (b : Fin 16) (j : Fin 4), ∃ t : Fin cfg0.N, (cfg0.win 13).flush t = true ∧ (grid0.coords t 0 : ℕ) = b
    ∧ (grid0.coords t 1 : ℕ) = j :=
  (by decide +kernel : ∀ (b : Fin 16) (j : Fin 4), ∃ t : Fin grid0.N, win0_13.flush t = true ∧ (grid0.coords t 0 : ℕ) = b
    ∧ (grid0.coords t 1 : ℕ) = j)

theorem iblk0_at (c : Dev nD) (t : Fin cfg0.N) (r : Fin 512) (d : Fin 256) :
    (iblk m c 0 t : Vec Ideal S1x512x256 .bf16) (ix3 0 r d) = (m ((c.tc : Thread nD τ).loc main_arg0)) (ix3 (bt t) (rowOf t r) d) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 1 + 1 * 0 = (grid0.coords t 0 : ℕ); rw [index0]; simp
  | ⟨1, _⟩ => show win0_0.index t 1 * 512 + 1 * (r : ℕ) = 512 * (grid0.coords t 1 : ℕ) + r; rw [index0]; simp; omega
  | ⟨2, _⟩ => show win0_0.index t 2 * 256 + 1 * (d : ℕ) = d; rw [index0]; simp

theorem iblk1_at (c : Dev nD) (t : Fin cfg0.N) (r : Fin 512) (d : Fin 384) :
    (iblk m c 1 t : Vec Ideal S1x512x384 .bf16) (ix3 0 r d) = (m ((c.tc : Thread nD τ).loc main_arg1)) (ix3 (bt t) (rowOf t r) d) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 1 + 1 * 0 = (grid0.coords t 0 : ℕ); rw [index1]; simp
  | ⟨1, _⟩ => show win0_1.index t 1 * 512 + 1 * (r : ℕ) = 512 * (grid0.coords t 1 : ℕ) + r; rw [index1]; simp; omega
  | ⟨2, _⟩ => show win0_1.index t 2 * 384 + 1 * (d : ℕ) = d; rw [index1]; simp

theorem iblk2_at (c : Dev nD) (t : Fin cfg0.N) (r : Fin 512) (d : Fin 384) :
    (iblk m c 2 t : Vec Ideal S1x512x384 .bf16) (ix3 0 r d) = (m ((c.tc : Thread nD τ).loc main_arg2)) (ix3 (bt t) (rowOf t r) d) := by
  refine Eq.trans ?_ (congrFun (V_main_arg2 m c) _)
  unfold iblk
  rw [View.read_apply]
  show V m c main_arg2 _ = V m c main_arg2 _
  congr 1
  funext a
  apply Fin.ext
  match a with
  | ⟨0, _⟩ => show win0_2.index t 0 * 1 + 1 * 0 = (grid0.coords t 0 : ℕ); rw [index2]; simp
  | ⟨1, _⟩ => show win0_2.index t 1 * 512 + 1 * (r : ℕ) = 512 * (grid0.coords t 1 : ℕ) + r; rw [index2]; simp; omega
  | ⟨2, _⟩ => show win0_2.index t 2 * 384 + 1 * (d : ℕ) = d; rw [index2]; simp

theorem iblk3_at (c : Dev nD) (t : Fin cfg0.N) (d : Fin 1024) :
    (iblk m c 3 t : Vec Ideal S1x1024 .f32) (ix2 0 d) = (m ((c.tc : Thread nD τ).loc main_arg5)) (ix2 0 d) := by
  refine Eq.trans ?_ ((congrFun (V_v2 m c) _).trans (packG_at _ d))
  unfold iblk
  rw [View.read_apply]
  show V m c main_v2 _ = V m c main_v2 _
  congr 1
  funext a
  apply Fin.ext
  match a with
  | ⟨0, _⟩ => show win0_3.index t 0 * 1 + 1 * 0 = 0; rw [index3]; simp
  | ⟨1, _⟩ => show win0_3.index t 1 * 1024 + 1 * (d : ℕ) = (d : ℕ); rw [index3]; simp

theorem iblk4_at (c : Dev nD) (t : Fin cfg0.N) (k d : Fin 1024) :
    (iblk m c 4 t : Vec Ideal S1024x1024 .bf16) (ix2 k d) = (m ((c.tc : Thread nD τ).loc main_arg6)) (ix3 0 k d) := by
  refine Eq.trans ?_ ((congrFun (V_v5 m c) _).trans (packW_at _ k d))
  unfold iblk
  rw [View.read_apply]
  show V m c main_v5 _ = V m c main_v5 _
  congr 1
  funext a
  apply Fin.ext
  match a with
  | ⟨0, _⟩ => show win0_4.index t 0 * 1024 + 1 * (k : ℕ) = (k : ℕ); rw [index4]; simp
  | ⟨1, _⟩ => show win0_4.index t 1 * 1024 + 1 * (d : ℕ) = (d : ℕ); rw [index4]; simp

theorem iblk5_at (c : Dev nD) (t : Fin cfg0.N) (r : Fin 512) (d : Fin 1024) :
    (iblk m c 5 t : Vec Ideal S1x512x1024 .f32) (ix3 0 r d) = (m ((c.tc : Thread nD τ).loc main_arg3)) (ix3 (bt t) (rowOf t r) d) := by
  refine Eq.trans ?_ (congrFun (V_main_arg3 m c) _)
  unfold iblk
  rw [View.read_apply]
  show V m c main_arg3 _ = V m c main_arg3 _
  congr 1
  funext a
  apply Fin.ext
  match a with
  | ⟨0, _⟩ => show win0_5.index t 0 * 1 + 1 * 0 = (grid0.coords t 0 : ℕ); rw [index5]; simp
  | ⟨1, _⟩ => show win0_5.index t 1 * 512 + 1 * (r : ℕ) = 512 * (grid0.coords t 1 : ℕ) + r; rw [index5]; simp; omega
  | ⟨2, _⟩ => show win0_5.index t 2 * 1024 + 1 * (d : ℕ) = d; rw [index5]; simp

theorem iblk6_at (c : Dev nD) (t : Fin cfg0.N) (d : Fin 1024) :
    (iblk m c 6 t : Vec Ideal S1x1x1024 .f32) (ix3 0 0 d) = (m ((c.tc : Thread nD τ).loc main_arg4)) (ix2 (bt t) ⟨2048 + d, by omega⟩) := by
  refine Eq.trans ?_ ((congrFun (V_v6 m c) _).trans (packM_at _ (bt t) ⟨2048 + d, by omega⟩))
  unfold iblk
  rw [View.read_apply]
  show V m c main_v6 _ = V m c main_v6 _
  congr 1
  funext a
  apply Fin.ext
  match a with
  | ⟨0, _⟩ => show win0_6.index t 0 * 1 + 1 * 0 = (grid0.coords t 0 : ℕ); rw [index6]; simp
  | ⟨1, _⟩ => show win0_6.index t 1 * 1 + 1 * 0 = 0; rw [index6]; simp
  | ⟨2, _⟩ => show win0_6.index t 2 * 1024 + 1 * (d : ℕ) = 2048 + (d : ℕ); rw [index6]; simp

theorem iblk7_at (c : Dev nD) (t : Fin cfg0.N) (d : Fin 1024) :
    (iblk m c 7 t : Vec Ideal S1x1x1024 .f32) (ix3 0 0 d) = (m ((c.tc : Thread nD τ).loc main_arg4)) (ix2 (bt t) ⟨4096 + d, by omega⟩) := by
  refine Eq.trans ?_ ((congrFun (V_v6 m c) _).trans (packM_at _ (bt t) ⟨4096 + d, by omega⟩))
  unfold iblk
  rw [View.read_apply]
  show V m c main_v6 _ = V m c main_v6 _
  congr 1
  funext a
  apply Fin.ext
  match a with
  | ⟨0, _⟩ => show win0_7.index t 0 * 1 + 1 * 0 = (grid0.coords t 0 : ℕ); rw [index7]; simp
  | ⟨1, _⟩ => show win0_7.index t 1 * 1 + 1 * 0 = 0; rw [index7]; simp
  | ⟨2, _⟩ => show win0_7.index t 2 * 1024 + 1 * (d : ℕ) = 4096 + (d : ℕ); rw [index7]; simp

theorem iblk8_at (c : Dev nD) (t : Fin cfg0.N) (d : Fin 1024) :
    (iblk m c 8 t : Vec Ideal S1x1x1024 .f32) (ix3 0 0 d) = (m ((c.tc : Thread nD τ).loc main_arg4)) (ix2 (bt t) ⟨3072 + d, by omega⟩) := by
  refine Eq.trans ?_ ((congrFun (V_v6 m c) _).trans (packM_at _ (bt t) ⟨3072 + d, by omega⟩))
  unfold iblk
  rw [View.read_apply]
  show V m c main_v6 _ = V m c main_v6 _
  congr 1
  funext a
  apply Fin.ext
  match a with
  | ⟨0, _⟩ => show win0_8.index t 0 * 1 + 1 * 0 = (grid0.coords t 0 : ℕ); rw [index8]; simp
  | ⟨1, _⟩ => show win0_8.index t 1 * 1 + 1 * 0 = 0; rw [index8]; simp
  | ⟨2, _⟩ => show win0_8.index t 2 * 1024 + 1 * (d : ℕ) = 3072 + (d : ℕ); rw [index8]; simp

theorem iblk9_at (c : Dev nD) (t : Fin cfg0.N) (d : Fin 1024) :
    (iblk m c 9 t : Vec Ideal S1x1024 .f32) (ix2 0 d) = (m ((c.tc : Thread nD τ).loc main_arg7)) (ix2 0 d) := by
  refine Eq.trans ?_ ((congrFun (V_v9 m c) _).trans (packG_at _ d))
  unfold iblk
  rw [View.read_apply]
  show V m c main_v9 _ = V m c main_v9 _
  congr 1
  funext a
  apply Fin.ext
  match a with
  | ⟨0, _⟩ => show win0_9.index t 0 * 1 + 1 * 0 = 0; rw [index9]; simp
  | ⟨1, _⟩ => show win0_9.index t 1 * 1024 + 1 * (d : ℕ) = (d : ℕ); rw [index9]; simp

/-- An entry of the point's sum. -/
def srow (x0 : Vec Ideal S1x512x256 .bf16) (x1 x2 : Vec Ideal S1x512x384 .bf16) (x3 : Vec Ideal S1x1024 .f32) (x4 : Vec Ideal S1024x1024 .bf16)
    (x5 : Vec Ideal S1x512x1024 .f32) (x6 : Vec Ideal S1x1x1024 .f32) (r : Fin 512) (d : Fin 1024) : EReal :=
  x5 (ix3 0 r d) + x6 (ix3 0 0 d) * tileY x0 x1 x2 x3 x4 (ix2 r d)

theorem row_eq (c : Dev nD) (t : Fin cfg0.N) (r : Fin 512) (d : Fin 1024) :
    srow (iblk m c 0 t) (iblk m c 1 t) (iblk m c 2 t) (iblk m c 3 t) (iblk m c 4 t) (iblk m c 5 t) (iblk m c 6 t) r d
      = yrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (bt t) (rowOf t r) d := by
  unfold srow
  rw [tileY_at]
  unfold yrow
  simp only [iblk0_at, iblk1_at, iblk2_at, iblk3_at, iblk4_at, iblk5_at, iblk6_at]

theorem block12 (c : Dev nD) (t : Fin cfg0.N) (r : Fin 512) (d : Fin 1024) :
    k0_pay9 (tileY (iblk m c 0 t) (iblk m c 1 t) (iblk m c 2 t) (iblk m c 3 t) (iblk m c 4 t)) (k0_pay6 (iblk m c 5 t)) (k0_pay7 (iblk m c 6 t)) (ix3 0 r d)
      = yrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (bt t) (rowOf t r) d :=
  (pay9_at r d _ _ _).trans (row_eq m c t r d)

theorem block13 (c : Dev nD) (t : Fin cfg0.N) (r : Fin 512) (d : Fin 1024) :
    k0_pay10 (tileY (iblk m c 0 t) (iblk m c 1 t) (iblk m c 2 t) (iblk m c 3 t) (iblk m c 4 t)) (k0_pay6 (iblk m c 5 t)) (k0_pay7 (iblk m c 6 t)) (iblk m c 9 t) (iblk m c 7 t) (iblk m c 8 t) (ix2 r d)
      = hrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (bt t) (rowOf t r) d := by
  refine (pay10_at r d _ _ _ _ _ _).trans ?_
  unfold hrow
  rw [← funext (row_eq m c t r)]
  unfold srow
  simp only [iblk7_at, iblk8_at, iblk9_at]

theorem left12 (c : Dev nD) (t : Fin cfg0.N) : (dats m 0 c).flushed 12 t = (cfg0.win 12).cut (grid0.coords t)
    (k0_pay9 (tileY (iblk m c 0 t) (iblk m c 1 t) (iblk m c 2 t) (iblk m c 3 t) (iblk m c 4 t)) (k0_pay6 (iblk m c 5 t)) (k0_pay7 (iblk m c 6 t))) := by
  by_cases h0 : t.val % 64 = 0
  · rw [Cert.Kernel5Ideal.Value.flushed12_A m c t h0, outA12_eq]
  · rw [Cert.Kernel5Ideal.Value.flushed12_B m c t h0, outB12_eq]

theorem left13 (c : Dev nD) (t : Fin cfg0.N) : (dats m 0 c).flushed 13 t = (cfg0.win 13).cut (grid0.coords t)
    (k0_pay10 (tileY (iblk m c 0 t) (iblk m c 1 t) (iblk m c 2 t) (iblk m c 3 t) (iblk m c 4 t)) (k0_pay6 (iblk m c 5 t)) (k0_pay7 (iblk m c 6 t)) (iblk m c 9 t) (iblk m c 7 t) (iblk m c 8 t)) := by
  by_cases h0 : t.val % 64 = 0
  · rw [Cert.Kernel5Ideal.Value.flushed13_A m c t h0, outA13_eq]
  · rw [Cert.Kernel5Ideal.Value.flushed13_B m c t h0, outB13_eq]

/-! ## The result arrays -/

theorem back12 (c : Dev nD) (t : Fin cfg0.N) :
    (dats m 0 c).flushed 12 t = ((cfg0.win 12).blk t).view.read (Elt Ideal) (yRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  rw [left12]
  have eb := block12 m c t
  generalize (k0_pay9 (tileY (iblk m c 0 t) (iblk m c 1 t) (iblk m c 2 t) (iblk m c 3 t) (iblk m c 4 t)) (k0_pay6 (iblk m c 5 t)) (k0_pay7 (iblk m c 6 t))) = B at eb ⊢
  funext j
  have h1 : ((j 1 : Fin _) : ℕ) < 512 := (j 1).isLt
  have h2 : ((j 2 : Fin _) : ℕ) < 1024 := (j 2).isLt
  have h0 : ((j 0 : Fin _) : ℕ) < 1 := (j 0).isLt
  have e : (cfg0.win 12).cut (grid0.coords t) B j = B (ix3 (0 : Fin 1) (⟨j 1, h1⟩ : Fin 512) (⟨j 2, h2⟩ : Fin 1024)) := by
    show B _ = _
    congr 1
    funext a
    apply Fin.ext
    match a with
    | ⟨0, _⟩ => show ((j 0 : Fin _) : ℕ) = 0; omega
    | ⟨1, _⟩ => rfl
    | ⟨2, _⟩ => rfl
  rw [e, eb, View.read_apply]
  refine (yRes_at _ _ _ _ _ _ _ (bt t) (rowOf t ⟨j 1, h1⟩) _ _ ?_ ?_ ?_).symm
  · show win0_12.index t 0 * 1 + 1 * ((j 0 : Fin _) : ℕ) = (grid0.coords t 0 : ℕ)
    rw [index12]
    show (grid0.coords t 0 : ℕ) * 1 + 1 * ((j 0 : Fin _) : ℕ) = _
    omega
  · show win0_12.index t 1 * 512 + 1 * ((j 1 : Fin _) : ℕ) = 512 * (grid0.coords t 1 : ℕ) + ((j 1 : Fin _) : ℕ)
    rw [index12]
    show (grid0.coords t 1 : ℕ) * 512 + 1 * ((j 1 : Fin _) : ℕ) = _
    omega
  · show win0_12.index t 2 * 1024 + 1 * ((j 2 : Fin _) : ℕ) = ((j 2 : Fin _) : ℕ)
    rw [index12]
    show 0 * 1024 + 1 * ((j 2 : Fin _) : ℕ) = _
    omega

theorem sum_final (c : Dev nD) : (dats m 0 c).arrAt 12 cfg0.N = yRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (dats m 0 c).arrAt_eq_of_cover 12 _ (fun t _ => back12 m c t) fun i => by
    have h0 : ((i 0 : Fin _) : ℕ) < 16 := (i 0).isLt
    have h1 : ((i 1 : Fin _) : ℕ) < 2048 := (i 1).isLt
    have h2 : ((i 2 : Fin _) : ℕ) < 1024 := (i 2).isLt
    obtain ⟨t, hf, e0, e1⟩ := cover12 (⟨(i 0 : ℕ), h0⟩ : Fin 16) (⟨(i 1 : ℕ) / 512, by omega⟩ : Fin 4)
    refine ⟨t, hf, ?_⟩
    show i ∈ ((View.whole main_v22_0).slice (win0_12.rect t)).set
    rw [View.set_slice_whole, Rect.mem_set_unit]
    intro a
    match a with
    | ⟨0, _⟩ =>
      show win0_12.index t 0 * 1 ≤ (i 0 : ℕ) ∧ (i 0 : ℕ) < win0_12.index t 0 * 1 + 1
      rw [index12]
      show (grid0.coords t 0 : ℕ) * 1 ≤ (i 0 : ℕ) ∧ (i 0 : ℕ) < (grid0.coords t 0 : ℕ) * 1 + 1
      rw [e0]
      dsimp only
      omega
    | ⟨1, _⟩ =>
      show win0_12.index t 1 * 512 ≤ (i 1 : ℕ) ∧ (i 1 : ℕ) < win0_12.index t 1 * 512 + 512
      rw [index12]
      show (grid0.coords t 1 : ℕ) * 512 ≤ (i 1 : ℕ) ∧ (i 1 : ℕ) < (grid0.coords t 1 : ℕ) * 512 + 512
      rw [e1]
      dsimp only
      omega
    | ⟨2, _⟩ =>
      show win0_12.index t 2 * 1024 ≤ (i 2 : ℕ) ∧ (i 2 : ℕ) < win0_12.index t 2 * 1024 + 1024
      rw [index12]
      show 0 * 1024 ≤ (i 2 : ℕ) ∧ (i 2 : ℕ) < 0 * 1024 + 1024
      omega

theorem back13 (c : Dev nD) (t : Fin cfg0.N) :
    (dats m 0 c).flushed 13 t = ((cfg0.win 13).blk t).view.read (Elt Ideal) (hRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  rw [left13]
  have eb := block13 m c t
  generalize (k0_pay10 (tileY (iblk m c 0 t) (iblk m c 1 t) (iblk m c 2 t) (iblk m c 3 t) (iblk m c 4 t)) (k0_pay6 (iblk m c 5 t)) (k0_pay7 (iblk m c 6 t)) (iblk m c 9 t) (iblk m c 7 t) (iblk m c 8 t)) = B at eb ⊢
  funext j
  have h0 : ((j 0 : Fin _) : ℕ) < 512 := (j 0).isLt
  have h1 : ((j 1 : Fin _) : ℕ) < 1024 := (j 1).isLt
  have e : (cfg0.win 13).cut (grid0.coords t) B j = B (ix2 (⟨j 0, h0⟩ : Fin 512) (⟨j 1, h1⟩ : Fin 1024)) := by
    show B _ = _
    congr 1
    funext a
    apply Fin.ext
    match a with
    | ⟨0, _⟩ => rfl
    | ⟨1, _⟩ => rfl
  rw [e, eb, View.read_apply]
  refine (hRes_at _ _ _ _ _ _ _ _ (bt t) (rowOf t ⟨j 0, h0⟩) _ _ ?_ ?_).symm
  · show win0_13.index t 0 * 512 + 1 * ((j 0 : Fin _) : ℕ) = 2048 * (grid0.coords t 0 : ℕ) + (512 * (grid0.coords t 1 : ℕ) + ((j 0 : Fin _) : ℕ))
    rw [index13]
    show (4 * (grid0.coords t 0 : ℕ) + (grid0.coords t 1 : ℕ)) * 512 + 1 * ((j 0 : Fin _) : ℕ) = _
    omega
  · show win0_13.index t 1 * 1024 + 1 * ((j 1 : Fin _) : ℕ) = ((j 1 : Fin _) : ℕ)
    rw [index13]
    show 0 * 1024 + 1 * ((j 1 : Fin _) : ℕ) = _
    omega

theorem rows_final (c : Dev nD) : (dats m 0 c).arrAt 13 cfg0.N = hRes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (dats m 0 c).arrAt_eq_of_cover 13 _ (fun t _ => back13 m c t) fun i => by
    have h0 : ((i 0 : Fin _) : ℕ) < 32768 := (i 0).isLt
    have h1 : ((i 1 : Fin _) : ℕ) < 1024 := (i 1).isLt
    obtain ⟨t, hf, e0, e1⟩ := cover13 (⟨(i 0 : ℕ) / 2048, by omega⟩ : Fin 16) (⟨(i 0 : ℕ) % 2048 / 512, by omega⟩ : Fin 4)
    refine ⟨t, hf, ?_⟩
    show i ∈ ((View.whole main_v22_1).slice (win0_13.rect t)).set
    rw [View.set_slice_whole, Rect.mem_set_unit]
    intro a
    match a with
    | ⟨0, _⟩ =>
      show win0_13.index t 0 * 512 ≤ (i 0 : ℕ) ∧ (i 0 : ℕ) < win0_13.index t 0 * 512 + 512
      rw [index13]
      show (4 * (grid0.coords t 0 : ℕ) + (grid0.coords t 1 : ℕ)) * 512 ≤ (i 0 : ℕ)
        ∧ (i 0 : ℕ) < (4 * (grid0.coords t 0 : ℕ) + (grid0.coords t 1 : ℕ)) * 512 + 512
      rw [e0, e1]
      dsimp only
      omega
    | ⟨1, _⟩ =>
      show win0_13.index t 1 * 1024 ≤ (i 1 : ℕ) ∧ (i 1 : ℕ) < win0_13.index t 1 * 1024 + 1024
      rw [index13]
      show 0 * 1024 ≤ (i 1 : ℕ) ∧ (i 1 : ℕ) < 0 * 1024 + 1024
      omega

end Cert.Kernel5Ideal.Op

end
-- ==== Proof.OpRef.lean ====
/-
  The output projection as the mathematics writes it, read at an entry: the same sums as the kernel's.
-/
module

public import proofs.«01_k».proof.Proof.OpValue
public import proofs.«01_k».proof.Proof.Gen.Reference5Ideal.Read

@[expose] public section

set_option maxRecDepth 16384

noncomputable section

namespace Cert.Reference5Ideal.Op

open Cert.Reference5Ideal Cert.Reference5Ideal.Read Idealize.ShloMosaic Idealize.ShloMosaic.TcCoe Idealize.SL.Sem
open Cert.Proj (hid one_f32)
open Cert.Outp
open Cert.Kernel5Ideal.Op (yrow hrow)

variable (a : FVec Ideal S16x2048x256 .bf16) (b c : FVec Ideal S16x2048x384 .bf16) (x : FVec Ideal S16x2048x1024 .f32) (s : FVec Ideal S16x6144 .f32)
  (g : FVec Ideal S4x1024 .f32) (w : FVec Ideal S4x1024x1024 .f32) (h : FVec Ideal S4x1024 .f32) (n : Fin 16) (r : Fin 2048)

theorem ssa_at : val_main_v8 (F := Ideal) a (ix2 n r) = ∑ d : Fin 256, a (ix3 n r d) * a (ix3 n r d) := by
  rw [val_main_v8_apply]
  refine (congrArg₂ (· + ·) (show _ = (0 : EReal) from Ideal.ofBits_zero_f32) (Finset.sum_congr rfl fun d _ => ?_)).trans (zero_add _)
  rw [val_main_v7_apply]
  have e : idx_main_v8 (ix2 n r) d = ix3 n r d := by funext a; fin_cases a <;> rfl
  rw [e]
  rfl

theorem ssb_at : val_main_v19 (F := Ideal) b (ix2 n r) = ∑ d : Fin 384, b (ix3 n r d) * b (ix3 n r d) := by
  rw [val_main_v19_apply]
  refine (congrArg₂ (· + ·) (show _ = (0 : EReal) from Ideal.ofBits_zero_f32) (Finset.sum_congr rfl fun d _ => ?_)).trans (zero_add _)
  rw [val_main_v18_apply]
  have e : idx_main_v19 (ix2 n r) d = ix3 n r d := by funext a; fin_cases a <;> rfl
  rw [e]
  rfl

theorem ssc_at : val_main_v30 (F := Ideal) c (ix2 n r) = ∑ d : Fin 384, c (ix3 n r d) * c (ix3 n r d) := by
  rw [val_main_v30_apply]
  refine (congrArg₂ (· + ·) (show _ = (0 : EReal) from Ideal.ofBits_zero_f32) (Finset.sum_congr rfl fun d _ => ?_)).trans (zero_add _)
  rw [val_main_v29_apply]
  have e : idx_main_v30 (ix2 n r) d = ix3 n r d := by funext a; fin_cases a <;> rfl
  rw [e]
  rfl

theorem v16_at (k : Fin 256) : val_main_v16 (F := Ideal) a (ix3 n r k) = unit (Ideal.ofBits .f32 0x43800000#32) (fun k => a (ix3 n r k)) k := by
  unfold unit
  rw [← ssa_at]
  unfold val_main_v16 val_main_v15 val_main_v14 val_main_v13 val_main_v12 val_main_v11 val_main_v10 val_main_v9 val_main_v6 val_main_cst_0 val_main_cst_1
  pointwise

theorem v27_at (k : Fin 384) : val_main_v27 (F := Ideal) b (ix3 n r k) = unit (Ideal.ofBits .f32 0x43C00000#32) (fun k => b (ix3 n r k)) k := by
  unfold unit
  rw [← ssb_at]
  unfold val_main_v27 val_main_v26 val_main_v25 val_main_v24 val_main_v23 val_main_v22 val_main_v21 val_main_v20 val_main_v17 val_main_cst_3 val_main_cst_4
  pointwise

theorem v38_at (k : Fin 384) : val_main_v38 (F := Ideal) c (ix3 n r k) = unit (Ideal.ofBits .f32 0x43C00000#32) (fun k => c (ix3 n r k)) k := by
  unfold unit
  rw [← ssc_at]
  unfold val_main_v38 val_main_v37 val_main_v36 val_main_v35 val_main_v34 val_main_v33 val_main_v32 val_main_v31 val_main_v28 val_main_cst_6 val_main_cst_7
  pointwise

/-- The families' normalised rows side by side, times the norm's weight. -/
theorem v44_at (k : Fin 1024) : val_main_v44 (F := Ideal) a b c g (ix3 n r k)
    = (if h : (k : ℕ) < 256 then unit (Ideal.ofBits .f32 0x43800000#32) (fun k => a (ix3 n r k)) ⟨k, h⟩
      else if h' : (k : ℕ) - 256 < 384 then unit (Ideal.ofBits .f32 0x43C00000#32) (fun k => b (ix3 n r k)) ⟨k - 256, by omega⟩
      else unit (Ideal.ofBits .f32 0x43C00000#32) (fun k => c (ix3 n r k)) ⟨k - 256 - 384, by omega⟩) * g (ix2 0 k) := by
  unfold val_main_v44 val_main_v43 val_main_v42 val_main_v41 val_main_v40 val_main_v39
  pointwise
  simp only [v16_at, v27_at, v38_at]

theorem v47_at (d : Fin 1024) : val_main_v47 (F := Ideal) a b c g w (ix3 n r d)
    = mix (fun k => a (ix3 n r k)) (fun k => b (ix3 n r k)) (fun k => c (ix3 n r k)) (fun k => g (ix2 0 k)) (fun k => w (ix3 0 k d)) := by
  have e : val_main_v47 (F := Ideal) a b c g w (ix3 n r d) = ∑ k : Fin 1024, val_main_v44 (F := Ideal) a b c g (ix3 n r k) * w (ix3 0 k d) := by
    rw [val_main_v47_apply]
    refine Finset.sum_congr rfl fun k _ => ?_
    refine congrArg₂ (· * ·) (congrArg _ (by funext a; fin_cases a <;> rfl)) ?_
    rw [val_main_v46_apply, val_main_v45_apply]
    refine congrArg w ?_
    funext a
    fin_cases a <;> apply Fin.ext <;> simp <;> omega
  rw [e, sum_families]
  unfold mix part
  refine congrArg₂ (· + ·) (congrArg₂ (· + ·) ?_ ?_) ?_ <;> refine Finset.sum_congr rfl fun k _ => ?_ <;> rw [v44_at] <;>
    refine congrArg₂ (· * ·) (congrArg₂ (· * ·) ?_ rfl) rfl
  · rw [dif_pos (show 0 + (k : ℕ) < 256 by omega)]
    exact congrArg _ (Fin.ext (Nat.zero_add _))
  · rw [dif_neg (show ¬256 + (k : ℕ) < 256 by omega), dif_pos (show 256 + (k : ℕ) - 256 < 384 by omega)]
    exact congrArg _ (Fin.ext (Nat.add_sub_cancel_left ..))
  · rw [dif_neg (show ¬640 + (k : ℕ) < 256 by omega), dif_neg (show ¬640 + (k : ℕ) - 256 < 384 by omega)]
    exact congrArg _ (Fin.ext (show 640 + (k : ℕ) - 256 - 384 = k by omega))

theorem v50_at (d : Fin 1024) : val_main_v50 (F := Ideal) a b c x s g w (ix3 n r d) = yrow a b c x s g w n r d := by
  unfold yrow
  rw [← v47_at]
  unfold val_main_v50 val_main_v49 val_main_v48 val_main_v1 val_main_v0
  pointwise

theorem ss_at : val_main_v52 (F := Ideal) a b c x s g w (ix2 n r) = ∑ d : Fin 1024, yrow a b c x s g w n r d * yrow a b c x s g w n r d := by
  rw [val_main_v52_apply]
  refine (congrArg₂ (· + ·) (show _ = (0 : EReal) from Ideal.ofBits_zero_f32) (Finset.sum_congr rfl fun d _ => ?_)).trans (zero_add _)
  rw [val_main_v51_apply]
  have e : idx_main_v52 (ix2 n r) d = ix3 n r d := by funext a; fin_cases a <;> rfl
  rw [e, v50_at]
  rfl

theorem v71_at (d : Fin 1024) : val_main_v71 (F := Ideal) a b c x s g w h (ix3 n r d) = hrow a b c x s g w h n r d := by
  unfold hrow hid
  rw [← ss_at, one_f32]
  unfold val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v5 val_main_v4 val_main_v3 val_main_v2 val_main_cst_9 val_main_cst_10 val_main_cst_11
  pointwise
  rw [v50_at]

theorem v72_ix (R : Fin 32768) (d : Fin 1024) : val_main_v72 (F := Ideal) a b c x s g w h (ix2 R d)
    = hrow a b c x s g w h ⟨(R : ℕ) / 2048, by omega⟩ ⟨(R : ℕ) % 2048, Nat.mod_lt _ (by decide)⟩ d := by
  rw [← v71_at]
  unfold val_main_v72
  refine shapeCast_apply _ _ _ _ ?_
  rw [Shape.rowMajor_val_two, Shape.rowMajor_val_three]
  show ((R : ℕ) / 2048 * 2048 + (R : ℕ) % 2048) * 1024 + (d : ℕ) = (R : ℕ) * 1024 + (d : ℕ)
  omega

theorem v72_eq : val_main_v72 (F := Ideal) a b c x s g w h = Cert.Kernel5Ideal.Op.hRes a b c x s g w h := by
  funext i
  have e : i = ix2 (i 0 : Fin 32768) (i 1 : Fin 1024) := by funext a; fin_cases a <;> rfl
  exact (congrArg _ e).trans (v72_ix a b c x s g w h (i 0) (i 1))

theorem v50_eq : val_main_v50 (F := Ideal) a b c x s g w = Cert.Kernel5Ideal.Op.yRes a b c x s g w := by
  funext i
  have e : i = ix3 (i 0 : Fin 16) (i 1 : Fin 2048) (i 2 : Fin 1024) := by funext a; fin_cases a <;> rfl
  exact (congrArg _ e).trans (v50_at a b c x s g w (i 0) (i 1) (i 2))

end Cert.Reference5Ideal.Op

end
-- ==== Proof.MdKernel.lean ====
/-
  The modulation's result array: at every entry, a layer's weights applied to the activated conditioning, plus its bias.
-/
module

public import proofs.«01_k».proof.Proof.Gen.Kernel6Ideal.Value
public import Idealize.ShloMosaic.Lib.StableHlo.Run
public import Idealize.ShloMosaic.Lib.Pointwise
public import Idealize.ShloMosaic.Lib.ValueIdx
public import Idealize.ShloMosaic.Lib.Pipeline.Value

@[expose] public section

set_option maxRecDepth 16384

noncomputable section

namespace Cert.Kernel6Ideal.Md

open Cert.Kernel6Ideal Cert.Kernel6Ideal.Gen
open Idealize.ShloMosaic
open Idealize.ShloMosaic.TcCoe
open Idealize.SL.Sem

/-! ## The result -/

/-- The activated conditioning times a column of weights, plus a bias. -/
def shift (c w : Fin 1024 → EReal) (b : EReal) : EReal := (∑ d, c d * Ideal.logistic (c d) * w d) + b

/-- The modulation of every layer and sequence. -/
def res (x : FVec Ideal S16x1024 .f32) (w : FVec Ideal S4x1024x6144 .f32) (b : FVec Ideal S4x6144 .f32) : FVec Ideal S4x16x6144 .f32 := fun i =>
  shift (fun d => x (ix2 (i 1) d)) (fun d => w (ix3 (i 0) d (i 2))) (b (ix2 (i 0) (i 2)))

theorem res_at (x : FVec Ideal S16x1024 .f32) (w : FVec Ideal S4x1024x6144 .f32) (b : FVec Ideal S4x6144 .f32) (i : S4x16x6144.Idx)
    (l : Fin 4) (r : Fin 16) (j : Fin 6144) (h0 : ((i 0 : Fin _) : ℕ) = l) (h1 : ((i 1 : Fin _) : ℕ) = r) (h2 : ((i 2 : Fin _) : ℕ) = j) :
    res x w b i = shift (fun d => x (ix2 r d)) (fun d => w (ix3 l d j)) (b (ix2 l j)) := by
  obtain rfl : l = i 0 := Fin.ext h0.symm
  obtain rfl : r = i 1 := Fin.ext h1.symm
  obtain rfl : j = i 2 := Fin.ext h2.symm
  rfl

/-! ## The body's value at an entry -/

section Body

variable (x : Vec Ideal S16x1024 .f32) (w : Vec Ideal S1x1024x1536 .f32) (b : Vec Ideal S1x1x1536 .f32) (r : Fin 16) (j : Fin 1536)

theorem pay1_at : k0_pay1 (F := Ideal) x w b (ix3 0 r j) = shift (fun d => x (ix2 r d)) (fun d => w (ix3 0 d j)) (b (ix3 0 0 j)) := by
  unfold k0_pay1 shift
  pointwise [dot_S16x1024_S1024x1536_S16x1536_1_0_0_1_n_n]

theorem zero3 : (![0, 0, 0] : Fin 3 → ℕ) = fun _ => 0 := by decide

theorem zero2 : (![0, 0] : Fin 2 → ℕ) = fun _ => 0 := by decide

theorem out3_at : out0_3 x w b (ix3 0 r j) = shift (fun d => x (ix2 r d)) (fun d => w (ix3 0 d j)) (b (ix3 0 0 j)) := by
  unfold out0_3
  rw [View.canon_unit_zero zero3, View.ld_unit_zero zero2, View.ld_unit_zero zero3, View.ld_unit_zero zero3, pay1_at]

end Body

/-! ## A point's blocks -/

theorem index0 : ∀ t : Fin cfg0.N, win0_0.index t = ![0, 0] := by decide +kernel

theorem index1 : ∀ t : Fin cfg0.N, win0_1.index t = ![(grid0.coords t 0 : ℕ), 0, (grid0.coords t 1 : ℕ)] := by decide +kernel

theorem index2 : ∀ t : Fin cfg0.N, win0_2.index t = ![(grid0.coords t 0 : ℕ), 0, (grid0.coords t 1 : ℕ)] := by decide +kernel

theorem index3 : ∀ t : Fin cfg0.N, win0_3.index t = ![(grid0.coords t 0 : ℕ), 0, (grid0.coords t 1 : ℕ)] := by decide +kernel

variable (m : (ℓ : Loc nD τ sig) → Buf (Elt Ideal) ℓ)

/-- A point's layer. -/
def layer (t : Fin cfg0.N) : Fin 4 := ⟨(grid0.coords t 0 : ℕ), (grid0.coords t 0).isLt⟩

/-- A column of a point's tile. -/
def colOf (t : Fin cfg0.N) (j : Fin 1536) : Fin 6144 :=
  ⟨1536 * (grid0.coords t 1 : ℕ) + j, by have h : (grid0.coords t 1 : ℕ) < 4 := (grid0.coords t 1).isLt; omega⟩

/-- Every tile of columns is written back at some point. -/
theorem cover3 : ∀ (b : Fin 4) (j : Fin 4), ∃ t : Fin cfg0.N, (cfg0.win 3).flush t = true ∧ (grid0.coords t 0 : ℕ) = b
    ∧ (grid0.coords t 1 : ℕ) = j :=
  (by decide +kernel : ∀ (b : Fin 4) (j : Fin 4), ∃ t : Fin grid0.N, win0_3.flush t = true ∧ (grid0.coords t 0 : ℕ) = b
    ∧ (grid0.coords t 1 : ℕ) = j)

/-- The biases with an axis of one row. -/
def packB (b : FVec Ideal S4x6144 .f32) : FVec Ideal S4x1x6144 .f32 := shapeCast S4x1x6144 b shapeCasts_S4x6144_S4x1x6144

theorem V_v0 (c : Dev nD) : V m c main_v0 = packB (m ((c.tc : Thread nD τ).loc main_arg2)) := by
  unfold packB
  unfold V
  after_results
  rfl

theorem packB_at (b : FVec Ideal S4x6144 .f32) (l : Fin 4) (j : Fin 6144) : packB b (ix3 l 0 j) = b (ix2 l j) := by
  unfold packB
  refine shapeCast_apply _ _ (ix3 l 0 j) (ix2 l j) ?_
  rw [Shape.rowMajor_val_two, Shape.rowMajor_val_three]
  show (l : ℕ) * 6144 + j = (l * 1 + 0) * 6144 + j
  omega

theorem iblk0_at (c : Dev nD) (t : Fin cfg0.N) (r : Fin 16) (d : Fin 1024) :
    (iblk m c 0 t : Vec Ideal S16x1024 .f32) (ix2 r d) = (m ((c.tc : Thread nD τ).loc main_arg0)) (ix2 r d) := by
  refine Eq.trans ?_ (congrFun (V_main_arg0 m c) _)
  unfold iblk
  rw [View.read_apply]
  show V m c main_arg0 _ = V m c main_arg0 _
  congr 1
  funext a
  apply Fin.ext
  match a with
  | ⟨0, _⟩ => show win0_0.index t 0 * 16 + 1 * (r : ℕ) = r; rw [index0]; simp
  | ⟨1, _⟩ => show win0_0.index t 1 * 1024 + 1 * (d : ℕ) = d; rw [index0]; simp

theorem iblk1_at (c : Dev nD) (t : Fin cfg0.N) (d : Fin 1024) (j : Fin 1536) :
    (iblk m c 1 t : Vec Ideal S1x1024x1536 .f32) (ix3 0 d j) = (m ((c.tc : Thread nD τ).loc main_arg1)) (ix3 (layer t) d (colOf t j)) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 1 + 1 * 0 = (grid0.coords t 0 : ℕ); rw [index1]; simp
  | ⟨1, _⟩ => show win0_1.index t 1 * 1024 + 1 * (d : ℕ) = d; rw [index1]; simp
  | ⟨2, _⟩ => show win0_1.index t 2 * 1536 + 1 * (j : ℕ) = 1536 * (grid0.coords t 1 : ℕ) + j; rw [index1]; simp; omega

theorem iblk2_at (c : Dev nD) (t : Fin cfg0.N) (j : Fin 1536) :
    (iblk m c 2 t : Vec Ideal S1x1x1536 .f32) (ix3 0 0 j) = (m ((c.tc : Thread nD τ).loc main_arg2)) (ix2 (layer t) (colOf t j)) := by
  refine Eq.trans ?_ ((congrFun (V_v0 m c) _).trans (packB_at _ (layer t) (colOf t j)))
  unfold iblk
  rw [View.read_apply]
  show V m c main_v0 _ = V m c main_v0 _
  congr 1
  funext a
  apply Fin.ext
  match a with
  | ⟨0, _⟩ => show win0_2.index t 0 * 1 + 1 * 0 = (grid0.coords t 0 : ℕ); rw [index2]; simp
  | ⟨1, _⟩ => show win0_2.index t 1 * 1 + 1 * 0 = 0; rw [index2]; simp
  | ⟨2, _⟩ => show win0_2.index t 2 * 1536 + 1 * (j : ℕ) = 1536 * (grid0.coords t 1 : ℕ) + j; rw [index2]; simp; omega

/-! ## The result array -/

theorem block3 (c : Dev nD) (t : Fin cfg0.N) (r : Fin 16) (j : Fin 1536) :
    out0_3 (iblk m c 0 t) (iblk m c 1 t) (iblk m c 2 t) (ix3 0 r j)
      = shift (fun d => (m ((c.tc : Thread nD τ).loc main_arg0)) (ix2 r d)) (fun d => (m ((c.tc : Thread nD τ).loc main_arg1)) (ix3 (layer t) d (colOf t j))) ((m ((c.tc : Thread nD τ).loc main_arg2)) (ix2 (layer t) (colOf t j))) := by
  rw [out3_at]
  simp only [iblk0_at, iblk1_at, iblk2_at]

theorem flushed3_eq (c : Dev nD) (t : Fin cfg0.N) :
    (dats m 0 c).flushed 3 t = ((cfg0.win 3).blk t).view.read (Elt Ideal) (res (m ((c.tc : Thread nD τ).loc main_arg0)) (m ((c.tc : Thread nD τ).loc main_arg1)) (m ((c.tc : Thread nD τ).loc main_arg2))) := by
  rw [Cert.Kernel6Ideal.Value.flushed3]
  funext j
  have h1 : ((j 1 : Fin _) : ℕ) < 16 := (j 1).isLt
  have h2 : ((j 2 : Fin _) : ℕ) < 1536 := (j 2).isLt
  have h0 : ((j 0 : Fin _) : ℕ) < 1 := (j 0).isLt
  have e : (cfg0.win 3).cut (grid0.coords t) (out0_3 (iblk m c 0 t) (iblk m c 1 t) (iblk m c 2 t)) j = out0_3 (iblk m c 0 t) (iblk m c 1 t) (iblk m c 2 t) (ix3 (0 : Fin 1) (⟨j 1, h1⟩ : Fin 16) (⟨j 2, h2⟩ : Fin 1536)) := by
    show out0_3 (iblk m c 0 t) (iblk m c 1 t) (iblk m c 2 t) _ = _
    congr 1
    funext a
    apply Fin.ext
    match a with
    | ⟨0, _⟩ => show ((j 0 : Fin _) : ℕ) = 0; omega
    | ⟨1, _⟩ => rfl
    | ⟨2, _⟩ => rfl
  rw [e, block3, View.read_apply]
  refine (res_at _ _ _ _ (layer t) ⟨j 1, h1⟩ (colOf t ⟨j 2, h2⟩) ?_ ?_ ?_).symm
  · show win0_3.index t 0 * 1 + 1 * ((j 0 : Fin _) : ℕ) = (grid0.coords t 0 : ℕ)
    rw [index3]
    show (grid0.coords t 0 : ℕ) * 1 + 1 * ((j 0 : Fin _) : ℕ) = _
    omega
  · show win0_3.index t 1 * 16 + 1 * ((j 1 : Fin _) : ℕ) = ((j 1 : Fin _) : ℕ)
    rw [index3]
    show 0 * 16 + 1 * ((j 1 : Fin _) : ℕ) = _
    omega
  · show win0_3.index t 2 * 1536 + 1 * ((j 2 : Fin _) : ℕ) = 1536 * (grid0.coords t 1 : ℕ) + ((j 2 : Fin _) : ℕ)
    rw [index3]
    show (grid0.coords t 1 : ℕ) * 1536 + 1 * ((j 2 : Fin _) : ℕ) = _
    omega

theorem final3 (c : Dev nD) : (dats m 0 c).arrAt 3 cfg0.N = res (m ((c.tc : Thread nD τ).loc main_arg0)) (m ((c.tc : Thread nD τ).loc main_arg1)) (m ((c.tc : Thread nD τ).loc main_arg2)) :=
  (dats m 0 c).arrAt_eq_of_cover 3 _ (fun t _ => flushed3_eq m c t) fun i => by
    have h0 : ((i 0 : Fin _) : ℕ) < 4 := (i 0).isLt
    have h1 : ((i 1 : Fin _) : ℕ) < 16 := (i 1).isLt
    have h2 : ((i 2 : Fin _) : ℕ) < 6144 := (i 2).isLt
    obtain ⟨t, hf, e0, e1⟩ := cover3 (⟨(i 0 : ℕ), h0⟩ : Fin 4) (⟨(i 2 : ℕ) / 1536, by omega⟩ : Fin 4)
    refine ⟨t, hf, ?_⟩
    show i ∈ ((View.whole main_v1).slice (win0_3.rect t)).set
    rw [View.set_slice_whole, Rect.mem_set_unit]
    intro a
    match a with
    | ⟨0, _⟩ =>
      show win0_3.index t 0 * 1 ≤ (i 0 : ℕ) ∧ (i 0 : ℕ) < win0_3.index t 0 * 1 + 1
      rw [index3]
      show (grid0.coords t 0 : ℕ) * 1 ≤ (i 0 : ℕ) ∧ (i 0 : ℕ) < (grid0.coords t 0 : ℕ) * 1 + 1
      rw [e0]
      dsimp only
      omega
    | ⟨1, _⟩ =>
      show win0_3.index t 1 * 16 ≤ (i 1 : ℕ) ∧ (i 1 : ℕ) < win0_3.index t 1 * 16 + 16
      rw [index3]
      show 0 * 16 ≤ (i 1 : ℕ) ∧ (i 1 : ℕ) < 0 * 16 + 16
      omega
    | ⟨2, _⟩ =>
      show win0_3.index t 2 * 1536 ≤ (i 2 : ℕ) ∧ (i 2 : ℕ) < win0_3.index t 2 * 1536 + 1536
      rw [index3]
      show (grid0.coords t 1 : ℕ) * 1536 ≤ (i 2 : ℕ) ∧ (i 2 : ℕ) < (grid0.coords t 1 : ℕ) * 1536 + 1536
      rw [e1]
      dsimp only
      omega

end Cert.Kernel6Ideal.Md

end
-- ==== Proof.MdRef.lean ====
/-
  The modulation as the mathematics writes it, read at an entry: the same sums as the kernel's.
-/
module

public import proofs.«01_k».proof.Proof.MdKernel
public import proofs.«01_k».proof.Proof.IpValue
public import proofs.«01_k».proof.Proof.Gen.Reference6Ideal.Read

@[expose] public section

set_option maxRecDepth 16384

noncomputable section

namespace Cert.Reference6Ideal.Md

open Cert.Reference6Ideal Cert.Reference6Ideal.Read Idealize.ShloMosaic Idealize.ShloMosaic.TcCoe Idealize.SL.Sem
open Cert.Kernel6Ideal.Md (shift res)
open Cert.Proj (one_f32)

variable (x : FVec Ideal S16x1024 .f32) (w : FVec Ideal S4x1024x6144 .f32) (b : FVec Ideal S4x6144 .f32)

theorem v0_at (r : Fin 16) (d : Fin 1024) : val_main_v0 (F := Ideal) x (ix2 r d) = x (ix2 r d) * Ideal.logistic (x (ix2 r d)) := by
  unfold Ideal.logistic
  rw [← one_f32]
  unfold val_main_v0 val_main_call0_v5 val_main_call0_v4 val_main_call0_cst_0 val_main_call0_v3 val_main_call0_v2 val_main_call0_cst val_main_call0_v1 val_main_call0_v0
  pointwise

theorem v5_eq : val_main_v5 (F := Ideal) x w b = res x w b := by
  funext i
  rw [val_main_v5_apply, val_main_v2_apply, val_main_v1_apply, val_main_v4_apply, val_main_v3_apply]
  unfold res shift
  refine congrArg₂ (fun a b : EReal => a + b) (Finset.sum_congr rfl fun d _ => ?_) (congrArg b (eq_ix2 _))
  refine (mul_comm _ _).trans (congrArg₂ (fun a b : EReal => a * b) ?_ (congrArg w (eq_ix3 _)))
  exact (congrArg (val_main_v0 (F := Ideal) x) (eq_ix2 _)).trans (v0_at x (i 1) d)

end Cert.Reference6Ideal.Md

end
-- ==== Proof.ExRunIdeal.lean ====
/-
  What one block of the expert call does: the runs of its body in the three cases of a block.
-/
module

public import proofs.«01_k».proof.Proof.Gen.Kernel2Ideal.Skeleton
public import proofs.«01_k».proof.Proof.Gen.Kernel2Ideal.Launch
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Tactic

@[expose] public section

set_option maxRecDepth 16384

noncomputable section

namespace Cert.Kernel2Ideal.Ex

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev tabE : Memref sig .tc .smem S316 .i32 := Memref.whole main_arg0
abbrev tabN : Memref sig .tc .smem S1 .i32 := Memref.whole main_arg1
abbrev scrG : Memref sig .tc .vmem S1024x2048 .bf16 := Memref.whole cc0_scratch0
abbrev scrD : Memref sig .tc .vmem S1024x1024 .bf16 := Memref.whole cc0_scratch1

/-- The word of the second table: how many blocks are used. -/
abbrev wordN (N : S1.Idx → Elt F .i32) : BitVec 32 :=
  View.readAt (Elt F) tabN.view (Rect.unit (s := S1) ![0] S1.size inb_S1_S1_0).toLoadRect N
    (Shape.Idx.first (numel1_S1.symm ▸ Nat.one_pos))
/-- The expert of the block at the point, and of the block before it. -/
abbrev wordE (i : grid0.Coords) (E : S316.Idx → Elt F .i32) : BitVec 32 :=
  View.readAt (Elt F) tabE.view (Rect.unit (s := S316) (k0_off2 i) S1.size (k0_off2_inb i)).toLoadRect E
    (Shape.Idx.first (numel1_S1.symm ▸ Nat.one_pos))
abbrev wordP (i : grid0.Coords) (E : S316.Idx → Elt F .i32) : BitVec 32 :=
  View.readAt (Elt F) tabE.view (Rect.unit (s := S316) (k0_off3 i) S1.size (k0_off3_inb i)).toLoadRect E
    (Shape.Idx.first (numel1_S1.symm ▸ Nat.one_pos))

/-- Whether the point loads the expert's weights. -/
abbrev loads (i : grid0.Coords) (n e p : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne e p)))) 0#32

/-- One write over the whole shape leaves what it wrote. -/
theorem read_writes_full {κ : Kind} {sp : Space} {s : Shape} {e : EltTy} (v : View sig κ sp s e) (f : v.ty.Contents (Elt F))
    {off : Fin s.rank → ℕ} (inb : ∀ a, off a + s.size a ≤ s.size a) (w : s.Idx → Elt F e) :
    v.read (Elt F) (v.writes (Elt F) f [⟨Rect.unit off s.size inb, w⟩]) = w := by
  funext y
  have h : (Rect.unit off s.size inb).emb y = y := funext fun a => Fin.ext (by
    show off a + 1 * (y a).val = (y a).val
    have := inb a; omega)
  conv_lhs => rw [← h]
  exact View.read_writes_cons_emb v f (Rect.unit off s.size inb) w [] y

/-- A load of a view's own sizes reads the view. -/
theorem readAt_full {κ : Kind} {sp : Space} {s : Shape} {e : EltTy} (v : View sig κ sp s e) (f : v.ty.Contents (Elt F))
    {off : Fin s.rank → ℕ} (inb : ∀ a, off a + s.size a ≤ s.size a) :
    v.readAt (Elt F) (Rect.unit off s.size inb).toLoadRect f = v.read (Elt F) f := by
  funext y
  exact congrArg (v.read (Elt F) f) (funext fun a => Fin.ext (by
    show off a + 1 * (y a).val = (y a).val
    have := inb a; omega))

/-- And of what stands for `x` reads `x`. -/
theorem readAt_rep_full {κ : Kind} {sp : Space} {s : Shape} {e : EltTy} (v : View sig κ sp s e) (x : s.Idx → Elt F e)
    {off : Fin s.rank → ℕ} (inb : ∀ a, off a + s.size a ≤ s.size a) :
    v.readAt (Elt F) (Rect.unit off s.size inb).toLoadRect (v.rep x) = x := by
  rw [readAt_full, View.read_rep]

/-- A whole buffer is what it reads. -/
theorem whole_read (b : Ref sig .tc) (f : BufTy.Contents (Elt F) b.ty) :
    (Memref.whole b).view.read (Elt F) f = f := rfl

theorem held_gu_read (m4 : Memref sig .tc .vmem S1x1x1024x2048 .f32) (x1 : Vec F S1x1x1024x2048 .f32) :
    scrG.view.read (Elt F) (scrG.view.writes (Elt F) scrG.view.junk [⟨Rect.unit ![0, 0] S1024x2048.size inb_S1024x2048_S1024x2048_0_0,
        k0_pay2 (View.readAt (Elt F) m4.view
          (Rect.unit ![0, 0, 0, 0] S1x1x1024x2048.size inb_S1x1x1024x2048_S1x1x1024x2048_0_0_0_0).toLoadRect (m4.view.rep x1))⟩]) = k0_pay2 x1 := by
  have e := readAt_rep_full m4.view x1 inb_S1x1x1024x2048_S1x1x1024x2048_0_0_0_0
  refine (read_writes_full ..).trans ?_
  rw [e]
theorem held_gu' (m4 : Memref sig .tc .vmem S1x1x1024x2048 .f32) (x1 : Vec F S1x1x1024x2048 .f32) :
    scrG.view.readAt (Elt F) (Rect.unit ![0, 0] S1024x2048.size inb_S1024x2048_S1024x2048_0_0).toLoadRect
      (scrG.view.writes (Elt F) scrG.view.junk [⟨Rect.unit ![0, 0] S1024x2048.size inb_S1024x2048_S1024x2048_0_0,
        k0_pay2 (View.readAt (Elt F) m4.view
          (Rect.unit ![0, 0, 0, 0] S1x1x1024x2048.size inb_S1x1x1024x2048_S1x1x1024x2048_0_0_0_0).toLoadRect (m4.view.rep x1))⟩]) = k0_pay2 x1 :=
  (readAt_full ..).trans (held_gu_read m4 x1)
theorem held_gu (m4 : Memref sig .tc .vmem S1x1x1024x2048 .f32) (x1 : Vec F S1x1x1024x2048 .f32) :
    scrG.view.writes (Elt F) scrG.view.junk [⟨Rect.unit ![0, 0] S1024x2048.size inb_S1024x2048_S1024x2048_0_0,
        k0_pay2 (View.readAt (Elt F) m4.view
          (Rect.unit ![0, 0, 0, 0] S1x1x1024x2048.size inb_S1x1x1024x2048_S1x1x1024x2048_0_0_0_0).toLoadRect (m4.view.rep x1))⟩] = k0_pay2 x1 :=
  (whole_read _ _).symm.trans (held_gu_read m4 x1)
theorem held_dn_read (m6 : Memref sig .tc .vmem S1x1x1024x1024 .f32) (x3 : Vec F S1x1x1024x1024 .f32) :
    scrD.view.read (Elt F) (scrD.view.writes (Elt F) scrD.view.junk [⟨Rect.unit ![0, 0] S1024x1024.size inb_S1024x1024_S1024x1024_0_0,
        k0_pay3 (View.readAt (Elt F) m6.view
          (Rect.unit ![0, 0, 0, 0] S1x1x1024x1024.size inb_S1x1x1024x1024_S1x1x1024x1024_0_0_0_0).toLoadRect (m6.view.rep x3))⟩]) = k0_pay3 x3 := by
  have e := readAt_rep_full m6.view x3 inb_S1x1x1024x1024_S1x1x1024x1024_0_0_0_0
  refine (read_writes_full ..).trans ?_
  rw [e]
theorem held_dn' (m6 : Memref sig .tc .vmem S1x1x1024x1024 .f32) (x3 : Vec F S1x1x1024x1024 .f32) :
    scrD.view.readAt (Elt F) (Rect.unit ![0, 0] S1024x1024.size inb_S1024x1024_S1024x1024_0_0).toLoadRect
      (scrD.view.writes (Elt F) scrD.view.junk [⟨Rect.unit ![0, 0] S1024x1024.size inb_S1024x1024_S1024x1024_0_0,
        k0_pay3 (View.readAt (Elt F) m6.view
          (Rect.unit ![0, 0, 0, 0] S1x1x1024x1024.size inb_S1x1x1024x1024_S1x1x1024x1024_0_0_0_0).toLoadRect (m6.view.rep x3))⟩]) = k0_pay3 x3 :=
  (readAt_full ..).trans (held_dn_read m6 x3)
theorem held_dn (m6 : Memref sig .tc .vmem S1x1x1024x1024 .f32) (x3 : Vec F S1x1x1024x1024 .f32) :
    scrD.view.writes (Elt F) scrD.view.junk [⟨Rect.unit ![0, 0] S1024x1024.size inb_S1024x1024_S1024x1024_0_0,
        k0_pay3 (View.readAt (Elt F) m6.view
          (Rect.unit ![0, 0, 0, 0] S1x1x1024x1024.size inb_S1x1x1024x1024_S1x1x1024x1024_0_0_0_0).toLoadRect (m6.view.rep x3))⟩] = k0_pay3 x3 :=
  (whole_read _ _).symm.trans (held_dn_read m6 x3)

set_option maxHeartbeats 8000000 in
/-- Past the blocks in use: zeros. -/
theorem run_unused (c : Dev nD) (i : grid0.Coords) (arg3 : Memref sig .tc .vmem S512x1024 .f32) (harg3 : arg3.IsWhole)
    (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole)
    (arg8 : Memref sig .tc .vmem S512x1024 .f32) (harg8 : arg8.IsWhole) (E : S316.Idx → Elt F .i32) (N : S1.Idx → Elt F .i32)
    (x0 : Vec F S512x1024 .f32) (x1 : Vec F S1x1x1024x2048 .f32) (x2 : Vec F S1x1x1x2048 .f32) (x3 : Vec F S1x1x1024x1024 .f32) (x4 : Vec F S1x1x1x1024 .f32)
    (xa0 : Buf (Elt F) ((c : Thread nD τ).loc cc0_scratch0)) (xa1 : Buf (Elt F) ((c : Thread nD τ).loc cc0_scratch1))
    (h1 : k0_cond1 i (wordN N) = 1#1) (h2 : ¬ (loads i (wordN N) (wordE i E) (wordP i E) = 1#1)) (h3 : ¬ (k0_cond3 i (wordN N) = 1#1))
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (tabE.view.loc (c : Thread nD τ) ↦{fullShare.right} E)
        ∗ (tabN.view.loc (c : Thread nD τ) ↦{fullShare.right} N)
        ∗ (∃ d, owns (c : Thread nD τ) arg8 fullShare d)
        ∗ (scrG.view.loc (c : Thread nD τ) ↦{fullShare} xa0) ∗ (scrD.view.loc (c : Thread nD τ) ↦{fullShare} xa1)
        ∗ (iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (tabE.view.loc (c : Thread nD τ) ↦{fullShare.right} E)
        ∗ (tabN.view.loc (c : Thread nD τ) ↦{fullShare.right} N)
        ∗ owns (c : Thread nD τ) arg8 fullShare (k0_pay1 (F := F))
        ∗ (scrG.view.loc (c : Thread nD τ) ↦{fullShare} xa0) ∗ (scrD.view.loc (c : Thread nD τ) ↦{fullShare} xa1)) -∗ K ⟨⟩))
      ⊢ wp frame (wpE (defs₀ (F := F)) Variants.none c none) Set.univ
          (cc0_expert_ffn i tabE (Memref.isWhole_whole _) tabN (Memref.isWhole_whole _) arg3 harg3 arg4 harg4 arg5 harg5 arg6 harg6 arg7 harg7 arg8 harg8 scrG (Memref.isWhole_whole _) scrD (Memref.isWhole_whole _)) K := by
  unfold owns
  rw [cc0_expert_ffn_eq_skeleton]; unfold cc0_expert_ffn_skel
  iintro ⟨H0, H1, H2, H3, H4, HT0, HT1, ⟨%d5, %f5, -, HO5⟩, HS0, HS1, Hk⟩
  have hS0 : scrG.IsWhole := Memref.isWhole_whole _
  have hS1 : scrD.IsWhole := Memref.isWhole_whole _
  have hT0 : tabE.IsWhole := Memref.isWhole_whole _
  have hT1 : tabN.IsWhole := Memref.isWhole_whole _
  sl_exec! (disch := first | exact h1 | exact h2 | exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _
    isplitr
    swap; · iexact HO5
    ipureintro
    unfold run_unused.sl.HO5_1
    exact read_writes_full ..
  isplitl [HS0]; · iexact HS0
  iexact HS1
set_option maxHeartbeats 8000000 in
/-- A block in use, the first of its expert's run: the weights are rounded into the scratches. -/
theorem run_load (c : Dev nD) (i : grid0.Coords) (arg3 : Memref sig .tc .vmem S512x1024 .f32) (harg3 : arg3.IsWhole)
    (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole)
    (arg8 : Memref sig .tc .vmem S512x1024 .f32) (harg8 : arg8.IsWhole) (E : S316.Idx → Elt F .i32) (N : S1.Idx → Elt F .i32)
    (x0 : Vec F S512x1024 .f32) (x1 : Vec F S1x1x1024x2048 .f32) (x2 : Vec F S1x1x1x2048 .f32) (x3 : Vec F S1x1x1024x1024 .f32) (x4 : Vec F S1x1x1x1024 .f32)
    (xa0 : Buf (Elt F) ((c : Thread nD τ).loc cc0_scratch0)) (xa1 : Buf (Elt F) ((c : Thread nD τ).loc cc0_scratch1))
    (h1 : ¬ (k0_cond1 i (wordN N) = 1#1)) (h2 : loads i (wordN N) (wordE i E) (wordP i E) = 1#1) (h3 : k0_cond3 i (wordN N) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (tabE.view.loc (c : Thread nD τ) ↦{fullShare.right} E)
        ∗ (tabN.view.loc (c : Thread nD τ) ↦{fullShare.right} N)
        ∗ (∃ d, owns (c : Thread nD τ) arg8 fullShare d)
        ∗ (scrG.view.loc (c : Thread nD τ) ↦{fullShare} xa0) ∗ (scrD.view.loc (c : Thread nD τ) ↦{fullShare} xa1)
        ∗ (iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (tabE.view.loc (c : Thread nD τ) ↦{fullShare.right} E)
        ∗ (tabN.view.loc (c : Thread nD τ) ↦{fullShare.right} N)
        ∗ owns (c : Thread nD τ) arg8 fullShare (k0_pay4 x0 (k0_pay2 x1) x2 (k0_pay3 x3) x4)
        ∗ (scrG.view.loc (c : Thread nD τ) ↦{fullShare} (k0_pay2 x1)) ∗ (scrD.view.loc (c : Thread nD τ) ↦{fullShare} (k0_pay3 x3))) -∗ K ⟨⟩))
      ⊢ wp frame (wpE (defs₀ (F := F)) Variants.none c none) Set.univ
          (cc0_expert_ffn i tabE (Memref.isWhole_whole _) tabN (Memref.isWhole_whole _) arg3 harg3 arg4 harg4 arg5 harg5 arg6 harg6 arg7 harg7 arg8 harg8 scrG (Memref.isWhole_whole _) scrD (Memref.isWhole_whole _)) K := by
  unfold owns
  rw [cc0_expert_ffn_eq_skeleton]; unfold cc0_expert_ffn_skel
  iintro ⟨H0, H1, H2, H3, H4, HT0, HT1, ⟨%d5, %f5, -, HO5⟩, HS0, HS1, Hk⟩
  have hS0 : scrG.IsWhole := Memref.isWhole_whole _
  have hS1 : scrD.IsWhole := Memref.isWhole_whole _
  have hT0 : tabE.IsWhole := Memref.isWhole_whole _
  have hT1 : tabN.IsWhole := Memref.isWhole_whole _
  sl_exec! (disch := first | exact h1 | exact h2 | exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _
    isplitr
    swap; · iexact HO5
    ipureintro
    unfold run_load.sl.HO5_1
    unfold run_load.sl.v21 run_load.sl.v43
    refine (read_writes_full ..).trans ?_
    have e0 := readAt_rep_full arg3.view x0 inb_S512x1024_S512x1024_0_0
    have e2 := readAt_rep_full arg5.view x2 inb_S1x1x1x2048_S1x1x1x2048_0_0_0_0
    have e4 := readAt_rep_full arg7.view x4 inb_S1x1x1x1024_S1x1x1x1024_0_0_0_0
    have e1 : scrG.view.readCov (run_load.sl.HS0_1 arg4 x1)
        (Rect.unit ![0, 0] S1024x2048.size inb_S1024x2048_S1024x2048_0_0).toLoadRect = k0_pay2 x1 := by
      unfold View.readCov run_load.sl.HS0_1
      exact held_gu' arg4 x1
    have e3 : scrD.view.readCov (run_load.sl.HS1_1 arg6 x3)
        (Rect.unit ![0, 0] S1024x1024.size inb_S1024x1024_S1024x1024_0_0).toLoadRect = k0_pay3 x3 := by
      unfold View.readCov run_load.sl.HS1_1
      exact held_dn' arg6 x3
    rw [e0, e2, e4, e1, e3]
  have e0 : scrG.view.writes (Elt F) scrG.view.junk (run_load.sl.HS0_1 arg4 x1) = k0_pay2 x1 := by
    unfold run_load.sl.HS0_1
    exact held_gu arg4 x1
  have e1 : scrD.view.writes (Elt F) scrD.view.junk (run_load.sl.HS1_1 arg6 x3) = k0_pay3 x3 := by
    unfold run_load.sl.HS1_1
    exact held_dn arg6 x3
  rw [e0, e1]
  isplitl [HS0]; · iexact HS0
  iexact HS1
set_option maxHeartbeats 8000000 in
/-- A block in use whose expert's weights are in the scratches. -/
theorem run_keep (c : Dev nD) (i : grid0.Coords) (arg3 : Memref sig .tc .vmem S512x1024 .f32) (harg3 : arg3.IsWhole)
    (arg4 : Memref sig .tc .vmem S1x1x1024x2048 .f32) (harg4 : arg4.IsWhole) (arg5 : Memref sig .tc .vmem S1x1x1x2048 .f32) (harg5 : arg5.IsWhole)
    (arg6 : Memref sig .tc .vmem S1x1x1024x1024 .f32) (harg6 : arg6.IsWhole) (arg7 : Memref sig .tc .vmem S1x1x1x1024 .f32) (harg7 : arg7.IsWhole)
    (arg8 : Memref sig .tc .vmem S512x1024 .f32) (harg8 : arg8.IsWhole) (E : S316.Idx → Elt F .i32) (N : S1.Idx → Elt F .i32)
    (x0 : Vec F S512x1024 .f32) (x1 : Vec F S1x1x1024x2048 .f32) (x2 : Vec F S1x1x1x2048 .f32) (x3 : Vec F S1x1x1024x1024 .f32) (x4 : Vec F S1x1x1x1024 .f32)
    (xa0 : Buf (Elt F) ((c : Thread nD τ).loc cc0_scratch0)) (xa1 : Buf (Elt F) ((c : Thread nD τ).loc cc0_scratch1))
    (h1 : ¬ (k0_cond1 i (wordN N) = 1#1)) (h2 : ¬ (loads i (wordN N) (wordE i E) (wordP i E) = 1#1)) (h3 : k0_cond3 i (wordN N) = 1#1)
    (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (tabE.view.loc (c : Thread nD τ) ↦{fullShare.right} E)
        ∗ (tabN.view.loc (c : Thread nD τ) ↦{fullShare.right} N)
        ∗ (∃ d, owns (c : Thread nD τ) arg8 fullShare d)
        ∗ (scrG.view.loc (c : Thread nD τ) ↦{fullShare} xa0) ∗ (scrD.view.loc (c : Thread nD τ) ↦{fullShare} xa1)
        ∗ (iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (arg7.view.loc (c : Thread nD τ) ↦[arg7.view.set]{fullShare} arg7.view.rep x4)
        ∗ (tabE.view.loc (c : Thread nD τ) ↦{fullShare.right} E)
        ∗ (tabN.view.loc (c : Thread nD τ) ↦{fullShare.right} N)
        ∗ owns (c : Thread nD τ) arg8 fullShare (k0_pay4 x0 xa0 x2 xa1 x4)
        ∗ (scrG.view.loc (c : Thread nD τ) ↦{fullShare} xa0) ∗ (scrD.view.loc (c : Thread nD τ) ↦{fullShare} xa1)) -∗ K ⟨⟩))
      ⊢ wp frame (wpE (defs₀ (F := F)) Variants.none c none) Set.univ
          (cc0_expert_ffn i tabE (Memref.isWhole_whole _) tabN (Memref.isWhole_whole _) arg3 harg3 arg4 harg4 arg5 harg5 arg6 harg6 arg7 harg7 arg8 harg8 scrG (Memref.isWhole_whole _) scrD (Memref.isWhole_whole _)) K := by
  unfold owns
  rw [cc0_expert_ffn_eq_skeleton]; unfold cc0_expert_ffn_skel
  iintro ⟨H0, H1, H2, H3, H4, HT0, HT1, ⟨%d5, %f5, -, HO5⟩, HS0, HS1, Hk⟩
  have hS0 : scrG.IsWhole := Memref.isWhole_whole _
  have hS1 : scrD.IsWhole := Memref.isWhole_whole _
  have hT0 : tabE.IsWhole := Memref.isWhole_whole _
  have hT1 : tabN.IsWhole := Memref.isWhole_whole _
  sl_exec! (disch := first | exact h1 | exact h2 | exact h3)
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _
    isplitr
    swap; · iexact HO5
    ipureintro
    unfold run_keep.sl.HO5_1
    refine (read_writes_full ..).trans ?_
    have e0 := readAt_rep_full arg3.view x0 inb_S512x1024_S512x1024_0_0
    have e2 := readAt_rep_full arg5.view x2 inb_S1x1x1x2048_S1x1x1x2048_0_0_0_0
    have e4 := readAt_rep_full arg7.view x4 inb_S1x1x1x1024_S1x1x1x1024_0_0_0_0
    have e1 : View.readAt (Elt F) scrG.view (Rect.unit ![0, 0] S1024x2048.size inb_S1024x2048_S1024x2048_0_0).toLoadRect xa0 = xa0 := readAt_full ..
    have e3 : View.readAt (Elt F) scrD.view (Rect.unit ![0, 0] S1024x1024.size inb_S1024x1024_S1024x1024_0_0).toLoadRect xa1 = xa1 := readAt_full ..
    rw [e0, e2, e4, e1, e3]
  isplitl [HS0]; · iexact HS0
  iexact HS1
end Cert.Kernel2Ideal.Ex
end
-- ==== Proof.ExTabIdeal.lean ====
/-
  The prefetched block table and the count of used blocks, as the index maps of the expert call read them.
-/
module

public import proofs.«01_k».proof.Proof.ExRunIdeal
public import Idealize.ShloMosaic.Lib.WordCmp
public import Idealize.ShloMosaic.Lib.Pointwise.Index

@[expose] public section

set_option maxRecDepth 16384

noncomputable section

namespace Cert.Kernel2Ideal.Ex

open Cert.Kernel2Ideal Cert.Kernel2Ideal.Gen
open Idealize.ShloMosaic Idealize.ShloMosaic.WordCmp
open Idealize.ShloMosaic.TcCoe Idealize.ShloMosaic.Tactic

variable {F : FTy → Type} [FloatOps F]

/-! ## The two tables -/

theorem pt_lt (i : grid0.Coords) : (i 0).val < 316 := (i 0).isLt

/-- The expert of block `n`, and how many blocks are used. -/
def ew (pf : pre0.Contents (Elt F)) (n : ℕ) (h : n < 316) : BitVec 32 := pf 0 (ix1 ⟨n, h⟩)
def nw (pf : pre0.Contents (Elt F)) : BitVec 32 := pf 1 (ix1 0)

/-- What the claims assume of the tables. -/
structure Good (pf : pre0.Contents (Elt F)) : Prop where
  ew_lt : ∀ n h, (ew pf n h).toNat < 32
  one_le : 1 ≤ (nw pf).toInt

theorem ew_congr (pf : pre0.Contents (Elt F)) {n n' : ℕ} (e : n = n') (h : n < 316) (h' : n' < 316) : ew pf n h = ew pf n' h' := by
  subst e; rfl

theorem at1_eq (pf : pre0.Contents (Elt F)) :
    pf.at 1 (Rect.unit (s := S1) ![0] S1.size inb_S1_S1_0) numel1_S1 = nw pf := by
  refine congrArg (pf 1) ((eq_ix1 _).trans (congrArg ix1 (Subsingleton.elim (α := Fin 1) _ _)))

theorem pt_toNat (i : grid0.Coords) : (BitVec.ofNat 32 (i 0).val).toNat = (i 0).val :=
  toNat_ofNat_of_lt (by have := pt_lt i; omega)

theorem idx316 (pf : pre0.Contents (Elt F)) (x : S316.Idx) : (pf 0 x : BitVec 32) = ew pf (x 0).val (x 0).isLt := by
  exact congrArg (pf 0) (eq_ix1 x)

theorem at0_eq (pf : pre0.Contents (Elt F)) (i : grid0.Coords) :
    pf.at 0 (Rect.unit (s := S316) (k0_off1 i) S1.size (k0_off1_inb i)) numel1_S1 = ew pf (i 0).val (pt_lt i) := by
  refine (idx316 pf _).trans (ew_congr pf ?_ _ _)
  show (BitVec.ofNat 32 (i 0).val).toNat + 1 * 0 = _
  rw [pt_toNat]; omega

theorem wordN_eq (pf : pre0.Contents (Elt F)) : wordN (F := F) (pf 1) = nw pf := at1_eq pf

theorem wordE_eq (pf : pre0.Contents (Elt F)) (i : grid0.Coords) : wordE i (F := F) (pf 0) = ew pf (i 0).val (pt_lt i) := by
  refine (idx316 pf _).trans (ew_congr pf ?_ _ _)
  show (BitVec.ofNat 32 (i 0).val).toNat + 1 * 0 = _
  rw [pt_toNat]; omega

theorem off3_val (n : ℕ) (h : n < 316) :
    (Scalar.maxsi (Scalar.subi (BitVec.ofNat 32 n) 1#32) 0#32).toNat = n - 1 := by
  show (if (0#32).slt (BitVec.ofNat 32 n - 1#32) then (BitVec.ofNat 32 n - 1#32) else 0#32).toNat = n - 1
  rcases Nat.eq_zero_or_pos n with h0 | h0
  · subst h0; decide
  · have e : BitVec.ofNat 32 n - 1#32 = BitVec.ofNat 32 (n - 1) := by
      apply BitVec.eq_of_toNat_eq
      simp only [BitVec.toNat_sub, BitVec.toNat_ofNat]
      omega
    rw [e]
    split
    · exact toNat_ofNat_of_lt (by omega)
    · rename_i hh
      have h6 : (BitVec.ofNat 32 (n - 1)).toInt = ((n - 1 : ℕ) : ℤ) := toInt_ofNat_of_lt (by omega)
      have h7 : (0#32).toInt = 0 := by decide
      rw [BitVec.slt_iff_toInt_lt, h6, h7] at hh
      have h8 : (0#32).toNat = 0 := by decide
      rw [h8]
      omega

theorem wordP_eq (pf : pre0.Contents (Elt F)) (i : grid0.Coords) :
    wordP i (F := F) (pf 0) = ew pf ((i 0).val - 1) (by have := pt_lt i; omega) := by
  refine (idx316 pf _).trans (ew_congr pf ?_ _ _)
  show (Scalar.maxsi (Scalar.subi (BitVec.ofNat 32 (i 0).val) 1#32) 0#32).toNat + 1 * 0 = _
  rw [off3_val _ (pt_lt i)]; omega

/-- Whether block `n` is in use. -/
def used (pf : pre0.Contents (Elt F)) (n : ℕ) : Prop := (n : ℤ) < (nw pf).toInt
instance (pf : pre0.Contents (Elt F)) (n : ℕ) : Decidable (used pf n) := by unfold used; infer_instance

theorem slt_iff (pf : pre0.Contents (Elt F)) (i : grid0.Coords) :
    Scalar.cmpi .slt (BitVec.ofNat 32 (i 0).val) (nw pf) = 1#1 ↔ used pf (i 0).val := by
  show IntOp.cmpi .slt _ _ = 1#1 ↔ _
  rw [cmpi_slt_eq, ofBool_decide_eq_one_iff, toInt_ofNat_of_lt (by have := pt_lt i; omega)]
  rfl

theorem bit_not : ∀ b : BitVec 1, Scalar.cmpi .ne (Scalar.extui (Scalar.xori b 1#1)) 0#32 = 1#1 ↔ ¬ b = 1#1 := by decide
theorem bit_id : ∀ b : BitVec 1, Scalar.cmpi .ne (Scalar.extui b) 0#32 = 1#1 ↔ b = 1#1 := by decide
theorem bit_and_or : ∀ a b d : BitVec 1, Scalar.andi a (Scalar.ori b d) = 1#1 ↔ a = 1#1 ∧ (b = 1#1 ∨ d = 1#1) := by decide

theorem cond1_iff (pf : pre0.Contents (Elt F)) (i : grid0.Coords) :
    k0_cond1 i (nw pf) = 1#1 ↔ ¬ used pf (i 0).val := by
  rw [← slt_iff]; exact bit_not _
theorem cond3_iff (pf : pre0.Contents (Elt F)) (i : grid0.Coords) :
    k0_cond3 i (nw pf) = 1#1 ↔ used pf (i 0).val := by
  rw [← slt_iff]; exact bit_id _

theorem cmpi_eq_iff (x y : BitVec 32) : Scalar.cmpi .eq x y = 1#1 ↔ x = y := by
  show IntOp.cmpi .eq _ _ = 1#1 ↔ _
  rw [cmpi_eq_eq, ofBool_decide_eq_one_iff]
theorem cmpi_ne_iff (x y : BitVec 32) : Scalar.cmpi .ne x y = 1#1 ↔ x ≠ y := by
  show IntOp.cmpi .ne _ _ = 1#1 ↔ _
  rw [cmpi_ne_eq, ofBool_decide_eq_one_iff]

theorem loads_iff (pf : pre0.Contents (Elt F)) (i : grid0.Coords) :
    loads i (nw pf) (wordE i (F := F) (pf 0)) (wordP i (F := F) (pf 0)) = 1#1 ↔
      used pf (i 0).val ∧ ((i 0).val = 0 ∨ ew pf (i 0).val (pt_lt i) ≠ ew pf ((i 0).val - 1) (by have := pt_lt i; omega)) := by
  rw [wordE_eq, wordP_eq]
  refine (bit_id _).trans ((bit_and_or _ _ _).trans ?_)
  rw [slt_iff, cmpi_eq_iff, cmpi_ne_iff]
  have : BitVec.ofNat 32 (i 0).val = 0#32 ↔ (i 0).val = 0 := by
    rw [← BitVec.toNat_inj, pt_toNat]; simp
  rw [this]

/-! ## The windows' index maps at the tables -/

theorem tr0_eq (pf : pre0.Contents (Elt F)) (g : Good pf) (i : grid0.Coords) :
    cc0_transform_0 inb_S1_S1_0 numel1_S1 pf i = ![min (i 0).val ((nw pf).toInt.toNat - 1), 0] := by
  have hp := pt_lt i
  have hn := g.one_le
  have e : (Scalar.minsi (BitVec.ofNat 32 (i 0).val) (Scalar.subi (nw pf) 1#32)).toNat = min (i 0).val ((nw pf).toInt.toNat - 1) := by
    have h1 : (nw pf).toInt = ((nw pf).toNat : ℤ) := by
      rw [BitVec.toInt_eq_toNat_cond] at hn ⊢
      have := (nw pf).isLt
      split at hn <;> simp_all <;> omega
    have h2 : (nw pf).toNat < 2 ^ 31 := by
      have := (nw pf).toInt_lt
      omega
    have h3 : (nw pf - 1#32).toNat = (nw pf).toNat - 1 := by
      simp only [BitVec.toNat_sub, BitVec.toNat_ofNat]; omega
    have h4 : (nw pf - 1#32).toInt = ((nw pf).toNat - 1 : ℕ) := by
      rw [toInt_eq_toNat_of_lt_half (by omega), h3]
    show (if (BitVec.ofNat 32 (i 0).val).slt (nw pf - 1#32) then BitVec.ofNat 32 (i 0).val else nw pf - 1#32).toNat = _
    have h5 := pt_toNat i
    have h6 : (BitVec.ofNat 32 (i 0).val).toInt = ((i 0).val : ℤ) := toInt_ofNat_of_lt (by omega)
    split
    · rename_i hh
      rw [BitVec.slt_iff_toInt_lt, h6, h4] at hh
      omega
    · rename_i hh
      rw [BitVec.slt_iff_toInt_lt, h6, h4] at hh
      omega
  have e1 := at1_eq pf
  show ![(Scalar.minsi (BitVec.ofNat 32 (i 0).val) (Scalar.subi (pf.at 1 (Rect.unit (s := S1) ![0] S1.size inb_S1_S1_0) numel1_S1) 1#32)).toNat, 0] = _
  rw [e1, e]

theorem tr1_eq (pf : pre0.Contents (Elt F)) (i : grid0.Coords) :
    cc0_transform_1 k0_off1_inb numel1_S1 pf i = ![0, (ew pf (i 0).val (pt_lt i)).toNat, 0, 0] := by
  rw [← at0_eq pf i]; rfl
theorem tr2_eq (pf : pre0.Contents (Elt F)) (i : grid0.Coords) :
    cc0_transform_2 k0_off1_inb numel1_S1 pf i = ![0, (ew pf (i 0).val (pt_lt i)).toNat, 0, 0] := by
  rw [← at0_eq pf i]; rfl
theorem tr3_eq (pf : pre0.Contents (Elt F)) (i : grid0.Coords) :
    cc0_transform_3 k0_off1_inb numel1_S1 pf i = ![0, (ew pf (i 0).val (pt_lt i)).toNat, 0, 0] := by
  rw [← at0_eq pf i]; rfl
theorem tr4_eq (pf : pre0.Contents (Elt F)) (i : grid0.Coords) :
    cc0_transform_4 k0_off1_inb numel1_S1 pf i = ![0, (ew pf (i 0).val (pt_lt i)).toNat, 0, 0] := by
  rw [← at0_eq pf i]; rfl
theorem tr5_eq (i : grid0.Coords) : cc0_transform_5 i = ![(i 0).val, 0] := by
  show ![(BitVec.ofNat 32 (i 0).val).toNat, 0] = _
  rw [pt_toNat]

/-- Under `Good` every block of every window lies in its array. -/
theorem ok_of_good (pf : pre0.Contents (Elt F)) (g : Good pf) : ok0 pf := by
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  · rw [tr0_eq pf g i]
    have hp := pt_lt i
    have : min (i 0).val ((nw pf).toInt.toNat - 1) < 316 := by omega
    generalize min (i 0).val ((nw pf).toInt.toNat - 1) = q at this
    fin_cases a <;> simp [S512x1024, S161792x1024] <;> omega
  all_goals
    first | rw [tr1_eq pf i] | rw [tr2_eq pf i] | rw [tr3_eq pf i] | rw [tr4_eq pf i]
    have : (ew pf (i 0).val (pt_lt i)).toNat < 32 := g.ew_lt _ _
    generalize (ew pf (i 0).val (pt_lt i)).toNat = q at this
    fin_cases a <;> simp [S1x1x1024x2048, S4x32x1024x2048, S1x1x1x2048, S4x32x1x2048, S1x1x1024x1024, S4x32x1024x1024, S1x1x1x1024, S4x32x1x1024] <;> omega

/-- The tables' contents, admissible. -/
def adm (pf : pre0.Contents (Elt F)) (g : Good pf) : (pcfg0 (F := F)).Adm := ⟨pf, ok_of_good pf g⟩

end Cert.Kernel2Ideal.Ex

end
-- ==== Proof.ExBlkIdeal.lean ====
/-
  Which blocks of the arguments the steps of the expert call read and write.
-/
module

public import proofs.«01_k».proof.Proof.ExTabIdeal
public import Idealize.ShloMosaic.Lib.Pipeline.Kit
public import Idealize.ShloMosaic.Lib.Pipeline.Quiescent

@[expose] public section

set_option maxRecDepth 16384

noncomputable section

namespace Cert.Kernel2Ideal.Ex

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The tables as launched. -/
def tabs : pre0.Contents (Elt F) := fun k => m (((0 : Dev nD) : Thread nD τ).loc (pre0.ref k))

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

theorem V_of_ne (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

variable (g : Good (tabs m))

abbrev cfgA : Cfg sig Λ₀ := cfg0 (F := F) (adm (tabs m) g)
abbrev pcs : Fin 1 → Cfg sig Λ₀ := Pipeline.pin (pcfgs (F := F)) fun _ => adm (tabs m) g

abbrev crd (t : Fin (cfgA m g).N) : (cfgA m g).grid.Coords := (cfgA m g).grid.coords t

theorem t_lt (t : Fin (cfgA m g).N) : t.val < 316 := lt_of_lt_of_eq t.isLt (show (cfgA m g).N = 316 from N_0)

theorem crd_val (t : Fin (cfgA m g).N) : (crd m g t 0).val = t.val := by
  have h := t_lt m g t
  have e : grid0.stride 0 = 1 := by decide
  show t.val / grid0.stride 0 % 316 = t.val
  rw [e]; omega

abbrev ms0_0 (t : Fin (cfgA m g).N) : Memref sig .tc .vmem S512x1024 .f32 := spec0_0.stage ((cfgA m g).slots t (0 : Fin 6))
abbrev hs0_0 (t : Fin (cfgA m g).N) : (ms0_0 m g t).IsWhole := hstage0_0 (((cfgA m g).slots t (0 : Fin 6)).cast nbuf0_0)
abbrev ms0_1 (t : Fin (cfgA m g).N) : Memref sig .tc .vmem S1x1x1024x2048 .f32 := spec0_1.stage ((cfgA m g).slots t (1 : Fin 6))
abbrev hs0_1 (t : Fin (cfgA m g).N) : (ms0_1 m g t).IsWhole := hstage0_1 (((cfgA m g).slots t (1 : Fin 6)).cast nbuf0_1)
abbrev ms0_2 (t : Fin (cfgA m g).N) : Memref sig .tc .vmem S1x1x1x2048 .f32 := spec0_2.stage ((cfgA m g).slots t (2 : Fin 6))
abbrev hs0_2 (t : Fin (cfgA m g).N) : (ms0_2 m g t).IsWhole := hstage0_2 (((cfgA m g).slots t (2 : Fin 6)).cast nbuf0_2)
abbrev ms0_3 (t : Fin (cfgA m g).N) : Memref sig .tc .vmem S1x1x1024x1024 .f32 := spec0_3.stage ((cfgA m g).slots t (3 : Fin 6))
abbrev hs0_3 (t : Fin (cfgA m g).N) : (ms0_3 m g t).IsWhole := hstage0_3 (((cfgA m g).slots t (3 : Fin 6)).cast nbuf0_3)
abbrev ms0_4 (t : Fin (cfgA m g).N) : Memref sig .tc .vmem S1x1x1x1024 .f32 := spec0_4.stage ((cfgA m g).slots t (4 : Fin 6))
abbrev hs0_4 (t : Fin (cfgA m g).N) : (ms0_4 m g t).IsWhole := hstage0_4 (((cfgA m g).slots t (4 : Fin 6)).cast nbuf0_4)
abbrev ms0_5 (t : Fin (cfgA m g).N) : Memref sig .tc .vmem S512x1024 .f32 := spec0_5.stage ((cfgA m g).slots t (5 : Fin 6))
abbrev hs0_5 (t : Fin (cfgA m g).N) : (ms0_5 m g t).IsWhole := hstage0_5 (((cfgA m g).slots t (5 : Fin 6)).cast nbuf0_5)

/-- Window `w`'s block at point `t`. -/
def iblk (c : Dev nD) (w : Fin (cfgA m g).W) (t : Fin (cfgA m g).N) :
    (((cfgA m g).win w).xblock (crd m g t)).Idx → Elt F ((cfgA m g).win w).elt :=
  (((cfgA m g).win w).blk t).view.read (Elt F) (V m c (Pipeline.arrRef (cfgA m g).spec w))

/-- The five input blocks, as the body takes them. -/
abbrev bX (c : Dev nD) (t : Fin (cfgA m g).N) : Vec F S512x1024 .f32 := iblk m g c (0 : Fin 6) t
abbrev bG (c : Dev nD) (t : Fin (cfgA m g).N) : Vec F S1x1x1024x2048 .f32 := iblk m g c (1 : Fin 6) t
abbrev bGb (c : Dev nD) (t : Fin (cfgA m g).N) : Vec F S1x1x1x2048 .f32 := iblk m g c (2 : Fin 6) t
abbrev bD (c : Dev nD) (t : Fin (cfgA m g).N) : Vec F S1x1x1024x1024 .f32 := iblk m g c (3 : Fin 6) t
abbrev bDb (c : Dev nD) (t : Fin (cfgA m g).N) : Vec F S1x1x1x1024 .f32 := iblk m g c (4 : Fin 6) t

/-- The expert of the block at `t`. -/
def ex (t : Fin (cfgA m g).N) : Fin 32 := ⟨(ew (tabs m) t.val (t_lt m g t)).toNat, g.ew_lt _ _⟩

theorem ex_eq (t : Fin (cfgA m g).N) : (ew (tabs m) (crd m g t 0).val (pt_lt _)).toNat = (ex m g t).val := by
  have h := ew_congr (tabs m) (crd_val m g t) (pt_lt _) (t_lt m g t)
  rw [h]; rfl

theorem bG_at (c : Dev nD) (t : Fin (cfgA m g).N) (j : S1x1x1024x2048.Idx) :
    bG m g c t j = V m c main_arg3 (ix4 (0 : Fin 4) (ex m g t) (j 2) (j 3)) := by
  show V m c main_arg3 _ = V m c main_arg3 _
  refine congrArg (V m c main_arg3) (funext fun a => Fin.ext ?_)
  show cc0_transform_1 k0_off1_inb numel1_S1 (tabs m) (crd m g t) a * S1x1x1024x2048.size a + 1 * (j a).val = _
  rw [tr1_eq, ex_eq]
  have h0 : (j 0).val = 0 := Nat.lt_one_iff.mp (j 0).isLt
  have h1 : (j 1).val = 0 := Nat.lt_one_iff.mp (j 1).isLt
  fin_cases a
  · show 0 * 1 + 1 * (j 0).val = 0; omega
  · show (ex m g t).val * 1 + 1 * (j 1).val = (ex m g t).val; omega
  · show 0 * 1024 + 1 * (j 2).val = (j 2).val; omega
  · show 0 * 2048 + 1 * (j 3).val = (j 3).val; omega

theorem bD_at (c : Dev nD) (t : Fin (cfgA m g).N) (j : S1x1x1024x1024.Idx) :
    bD m g c t j = V m c main_arg5 (ix4 (0 : Fin 4) (ex m g t) (j 2) (j 3)) := by
  show V m c main_arg5 _ = V m c main_arg5 _
  refine congrArg (V m c main_arg5) (funext fun a => Fin.ext ?_)
  show cc0_transform_3 k0_off1_inb numel1_S1 (tabs m) (crd m g t) a * S1x1x1024x1024.size a + 1 * (j a).val = _
  rw [tr3_eq, ex_eq]
  have h0 : (j 0).val = 0 := Nat.lt_one_iff.mp (j 0).isLt
  have h1 : (j 1).val = 0 := Nat.lt_one_iff.mp (j 1).isLt
  fin_cases a
  · show 0 * 1 + 1 * (j 0).val = 0; omega
  · show (ex m g t).val * 1 + 1 * (j 1).val = (ex m g t).val; omega
  · show 0 * 1024 + 1 * (j 2).val = (j 2).val; omega
  · show 0 * 1024 + 1 * (j 3).val = (j 3).val; omega

theorem bGb_at (c : Dev nD) (t : Fin (cfgA m g).N) (j : S1x1x1x2048.Idx) :
    bGb m g c t j = V m c main_v0 (ix4 (0 : Fin 4) (ex m g t) (j 2) (j 3)) := by
  show V m c main_v0 _ = V m c main_v0 _
  refine congrArg (V m c main_v0) (funext fun a => Fin.ext ?_)
  show cc0_transform_2 k0_off1_inb numel1_S1 (tabs m) (crd m g t) a * S1x1x1x2048.size a + 1 * (j a).val = _
  rw [tr2_eq, ex_eq]
  have h0 : (j 0).val = 0 := Nat.lt_one_iff.mp (j 0).isLt
  have h1 : (j 1).val = 0 := Nat.lt_one_iff.mp (j 1).isLt
  fin_cases a
  · show 0 * 1 + 1 * (j 0).val = 0; omega
  · show (ex m g t).val * 1 + 1 * (j 1).val = (ex m g t).val; omega
  · show 0 * 1 + 1 * (j 2).val = (j 2).val; omega
  · show 0 * 2048 + 1 * (j 3).val = (j 3).val; omega

theorem bDb_at (c : Dev nD) (t : Fin (cfgA m g).N) (j : S1x1x1x1024.Idx) :
    bDb m g c t j = V m c main_v1 (ix4 (0 : Fin 4) (ex m g t) (j 2) (j 3)) := by
  show V m c main_v1 _ = V m c main_v1 _
  refine congrArg (V m c main_v1) (funext fun a => Fin.ext ?_)
  show cc0_transform_4 k0_off1_inb numel1_S1 (tabs m) (crd m g t) a * S1x1x1x1024.size a + 1 * (j a).val = _
  rw [tr4_eq, ex_eq]
  have h0 : (j 0).val = 0 := Nat.lt_one_iff.mp (j 0).isLt
  have h1 : (j 1).val = 0 := Nat.lt_one_iff.mp (j 1).isLt
  fin_cases a
  · show 0 * 1 + 1 * (j 0).val = 0; omega
  · show (ex m g t).val * 1 + 1 * (j 1).val = (ex m g t).val; omega
  · show 0 * 1 + 1 * (j 2).val = (j 2).val; omega
  · show 0 * 1024 + 1 * (j 3).val = (j 3).val; omega

/-- A used block's rows are its own. -/
theorem bX_at (c : Dev nD) (t : Fin (cfgA m g).N) (hu : used (tabs m) t.val) (j : S512x1024.Idx) :
    bX m g c t j = V m c main_arg2 (ix2 (⟨t.val * 512 + (j 0).val, by have := t_lt m g t; have : (j 0).val < 512 := (j 0).isLt; omega⟩ : Fin 161792) (j 1)) := by
  show V m c main_arg2 _ = V m c main_arg2 _
  refine congrArg (V m c main_arg2) (funext fun a => Fin.ext ?_)
  show cc0_transform_0 inb_S1_S1_0 numel1_S1 (tabs m) (crd m g t) a * S512x1024.size a + 1 * (j a).val = _
  have hmin : min (crd m g t 0).val ((nw (tabs m)).toInt.toNat - 1) = t.val := by
    rw [crd_val]
    unfold used at hu
    omega
  rw [tr0_eq _ g, hmin]
  fin_cases a
  · show t.val * 512 + 1 * (j 0).val = t.val * 512 + (j 0).val; omega
  · show 0 * 1024 + 1 * (j 1).val = (j 1).val; omega

/-- Two blocks of one expert see the same weights. -/
theorem bG_eq (c : Dev nD) {t s : Fin (cfgA m g).N} (h : ew (tabs m) t.val (t_lt m g t) = ew (tabs m) s.val (t_lt m g s)) :
    bG m g c t = bG m g c s := by
  have e : ex m g t = ex m g s := by unfold ex; simp only [h]
  funext j; exact (bG_at m g c t j).trans (by rw [e]; exact (bG_at m g c s j).symm)
theorem bD_eq (c : Dev nD) {t s : Fin (cfgA m g).N} (h : ew (tabs m) t.val (t_lt m g t) = ew (tabs m) s.val (t_lt m g s)) :
    bD m g c t = bD m g c s := by
  have e : ex m g t = ex m g s := by unfold ex; simp only [h]
  funext j; exact (bD_at m g c t j).trans (by rw [e]; exact (bD_at m g c s j).symm)

/-- What point `t` leaves in the output's block. -/
def outB (c : Dev nD) (t : Fin (cfgA m g).N) : Vec F S512x1024 .f32 :=
  if used (tabs m) t.val then k0_pay4 (bX m g c t) (k0_pay2 (bG m g c t)) (bGb m g c t) (k0_pay3 (bD m g c t)) (bDb m g c t)
  else k0_pay1 (F := F)

end Cert.Kernel2Ideal.Ex

end
-- ==== Proof.ExFrameIdeal.lean ====
/-
  The pipeline of the expert call, step by step, with what the two weight buffers hold.
-/
module

public import proofs.«01_k».proof.Proof.ExBlkIdeal
public import Idealize.ShloMosaic.Lib.Pipeline.Frame
public import Idealize.ShloMosaic.Lib.Claim
public import Idealize.ShloMosaic.Adequacy
public import Idealize.ShloMosaic.Init

@[expose] public section

set_option maxRecDepth 16384

noncomputable section

namespace Cert.Kernel2Ideal.Ex

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (g : Good (tabs m))

/-- What the scratches hold before point `t` once the block before was used: its expert's weights. -/
def Held (c : Dev nD) (n : ℕ) (a0 : Buf (Elt F) ((c : Thread nD τ).loc cc0_scratch0)) (a1 : Buf (Elt F) ((c : Thread nD τ).loc cc0_scratch1)) : Prop :=
  ∀ s : Fin (cfgA m g).N, s.val + 1 = n → used (tabs m) s.val → a0 = k0_pay2 (bG m g c s) ∧ a1 = k0_pay3 (bD m g c s)

/-- The invariant between points: the scratches, the body's halves of the tables, the register. -/
def Phi (c : Dev nD) (n : ℕ) : sProp 𝕄 :=
  iprop((∃ a0 a1, ⌜Held m g c n a0 a1⌝ ∗ (scrG.view.loc (c : Thread nD τ) ↦{fullShare} a0) ∗ (scrD.view.loc (c : Thread nD τ) ↦{fullShare} a1))
    ∗ (tabE.view.loc (c : Thread nD τ) ↦{fullShare.right} tabs m 0) ∗ (tabN.view.loc (c : Thread nD τ) ↦{fullShare.right} tabs m 1)
    ∗ (∃ r, prngReg c r))

/-- The proof data. -/
def dats (_ : Fin 1) (c : Dev nD) : Dat τ (Elt F) Unit ℕ (UR sig nD τ) ℕ (cfgA m g) c where
  A w := V m c (Pipeline.arrRef (cfgA m g).spec w)
  after w t := match w with
    | ⟨0, _⟩ => bX m g c t
    | ⟨1, _⟩ => bG m g c t
    | ⟨2, _⟩ => bGb m g c t
    | ⟨3, _⟩ => bD m g c t
    | ⟨4, _⟩ => bDb m g c t
    | ⟨5, _⟩ => outB m g c t
  Φ t := Phi m g c t.val
  q _ := fullShare
  owed _ := 0

theorem after0_0 (c : Dev nD) (t : Fin (cfgA m g).N) : (dats m g 0 c).after (0 : Fin 6) t = bX m g c t := rfl
theorem after0_1 (c : Dev nD) (t : Fin (cfgA m g).N) : (dats m g 0 c).after (1 : Fin 6) t = bG m g c t := rfl
theorem after0_2 (c : Dev nD) (t : Fin (cfgA m g).N) : (dats m g 0 c).after (2 : Fin 6) t = bGb m g c t := rfl
theorem after0_3 (c : Dev nD) (t : Fin (cfgA m g).N) : (dats m g 0 c).after (3 : Fin 6) t = bD m g c t := rfl
theorem after0_4 (c : Dev nD) (t : Fin (cfgA m g).N) : (dats m g 0 c).after (4 : Fin 6) t = bDb m g c t := rfl
theorem after0_5 (c : Dev nD) (t : Fin (cfgA m g).N) : (dats m g 0 c).after (5 : Fin 6) t = outB m g c t := rfl

theorem before0_0 (c : Dev nD) (t : Fin (cfgA m g).N) (d) : (dats m g 0 c).before (0 : Fin 6) t d = bX m g c t :=
  ((dats m g 0 c).before_in_eq_fetched (0 : Fin 6) rfl (fun _ => rfl) (fun _ _ _ => rfl) (fun t => by rw [after0_0]; unfold Dat.blockOf bX iblk; rfl) t d).trans
    (by unfold Dat.fetched Dat.blockOf bX iblk; rfl)
theorem before0_1 (c : Dev nD) (t : Fin (cfgA m g).N) (d) : (dats m g 0 c).before (1 : Fin 6) t d = bG m g c t :=
  ((dats m g 0 c).before_in_eq_fetched (1 : Fin 6) rfl (fun _ => rfl) (fun _ _ _ => rfl) (fun t => by rw [after0_1]; unfold Dat.blockOf bG iblk; rfl) t d).trans
    (by unfold Dat.fetched Dat.blockOf bG iblk; rfl)
theorem before0_2 (c : Dev nD) (t : Fin (cfgA m g).N) (d) : (dats m g 0 c).before (2 : Fin 6) t d = bGb m g c t :=
  ((dats m g 0 c).before_in_eq_fetched (2 : Fin 6) rfl (fun _ => rfl) (fun _ _ _ => rfl) (fun t => by rw [after0_2]; unfold Dat.blockOf bGb iblk; rfl) t d).trans
    (by unfold Dat.fetched Dat.blockOf bGb iblk; rfl)
theorem before0_3 (c : Dev nD) (t : Fin (cfgA m g).N) (d) : (dats m g 0 c).before (3 : Fin 6) t d = bD m g c t :=
  ((dats m g 0 c).before_in_eq_fetched (3 : Fin 6) rfl (fun _ => rfl) (fun _ _ _ => rfl) (fun t => by rw [after0_3]; unfold Dat.blockOf bD iblk; rfl) t d).trans
    (by unfold Dat.fetched Dat.blockOf bD iblk; rfl)
theorem before0_4 (c : Dev nD) (t : Fin (cfgA m g).N) (d) : (dats m g 0 c).before (4 : Fin 6) t d = bDb m g c t :=
  ((dats m g 0 c).before_in_eq_fetched (4 : Fin 6) rfl (fun _ => rfl) (fun _ _ _ => rfl) (fun t => by rw [after0_4]; unfold Dat.blockOf bDb iblk; rfl) t d).trans
    (by unfold Dat.fetched Dat.blockOf bDb iblk; rfl)

/-! ## The body obligation -/

/-- The body at point `t` on its staging memrefs. -/
abbrev bodyAt0 (t : Fin (cfgA m g).N) : Prog (TpuEff nD τ sig (Elt F) Λ₀ .tc) PUnit :=
  cc0_expert_ffn (crd m g t) tabE (Memref.isWhole_whole _) tabN (Memref.isWhole_whole _) (ms0_0 m g t) (hs0_0 m g t) (ms0_1 m g t) (hs0_1 m g t) (ms0_2 m g t) (hs0_2 m g t) (ms0_3 m g t) (hs0_3 m g t) (ms0_4 m g t) (hs0_4 m g t) (ms0_5 m g t) (hs0_5 m g t) scrG (Memref.isWhole_whole _) scrD (Memref.isWhole_whole _)

theorem idle5 (t : Fin (cfgA m g).N) : (cfgA m g).idle (5 : Fin 6) ((cfgA m g).grid.coords t) = false := by
  show (!(k0_cond1 (crd m g t) ((tabs m).atD 1 ![0]) == 1#1) && !(k0_cond3 (crd m g t) ((tabs m).atD 1 ![0]) == 1#1)) = false
  have e : ((tabs m).atD 1 ![0] : BitVec 32) = nw (tabs m) := by
    unfold Pipeline.Prefetch.Contents.atD nw
    refine (dif_pos (show ∀ a : Fin 1, (![0] : Fin 1 → ℕ) a + 1 ≤ S1.size a by decide)).trans ?_
    exact congrArg (tabs m 1) ((eq_ix1 _).trans (congrArg ix1 (Subsingleton.elim (α := Fin 1) _ _)))
  rw [e]
  by_cases h : used (tabs m) (crd m g t 0).val
  · rw [(cond3_iff (tabs m) (crd m g t)).mpr h]; simp
  · rw [(cond1_iff (tabs m) (crd m g t)).mpr h]; simp

/-- The obligation from a run of the body: what each path leaves is what the data say. -/
theorem sound_of (c : Dev nD) (t : Fin (cfgA m g).N)
    (run : ∀ (a0 : Buf (Elt F) ((c : Thread nD τ).loc cc0_scratch0)) (a1 : Buf (Elt F) ((c : Thread nD τ).loc cc0_scratch1)), Held m g c t.val a0 a1 →
      ∃ (b0 : Buf (Elt F) ((c : Thread nD τ).loc cc0_scratch0)) (b1 : Buf (Elt F) ((c : Thread nD τ).loc cc0_scratch1)), Held m g c (t.val + 1) b0 b1 ∧
        ∀ K : PUnit → sProp 𝕄,
    iprop(((ms0_0 m g t).view.loc (c : Thread nD τ) ↦[(ms0_0 m g t).view.set]{fullShare} (ms0_0 m g t).view.rep (bX m g c t))
        ∗ ((ms0_1 m g t).view.loc (c : Thread nD τ) ↦[(ms0_1 m g t).view.set]{fullShare} (ms0_1 m g t).view.rep (bG m g c t))
        ∗ ((ms0_2 m g t).view.loc (c : Thread nD τ) ↦[(ms0_2 m g t).view.set]{fullShare} (ms0_2 m g t).view.rep (bGb m g c t))
        ∗ ((ms0_3 m g t).view.loc (c : Thread nD τ) ↦[(ms0_3 m g t).view.set]{fullShare} (ms0_3 m g t).view.rep (bD m g c t))
        ∗ ((ms0_4 m g t).view.loc (c : Thread nD τ) ↦[(ms0_4 m g t).view.set]{fullShare} (ms0_4 m g t).view.rep (bDb m g c t))
        ∗ (tabE.view.loc (c : Thread nD τ) ↦{fullShare.right} tabs m 0)
        ∗ (tabN.view.loc (c : Thread nD τ) ↦{fullShare.right} tabs m 1)
        ∗ (∃ d, owns (c : Thread nD τ) (ms0_5 m g t) fullShare d)
        ∗ (scrG.view.loc (c : Thread nD τ) ↦{fullShare} a0) ∗ (scrD.view.loc (c : Thread nD τ) ↦{fullShare} a1)
        ∗ (iprop(((ms0_0 m g t).view.loc (c : Thread nD τ) ↦[(ms0_0 m g t).view.set]{fullShare} (ms0_0 m g t).view.rep (bX m g c t))
        ∗ ((ms0_1 m g t).view.loc (c : Thread nD τ) ↦[(ms0_1 m g t).view.set]{fullShare} (ms0_1 m g t).view.rep (bG m g c t))
        ∗ ((ms0_2 m g t).view.loc (c : Thread nD τ) ↦[(ms0_2 m g t).view.set]{fullShare} (ms0_2 m g t).view.rep (bGb m g c t))
        ∗ ((ms0_3 m g t).view.loc (c : Thread nD τ) ↦[(ms0_3 m g t).view.set]{fullShare} (ms0_3 m g t).view.rep (bD m g c t))
        ∗ ((ms0_4 m g t).view.loc (c : Thread nD τ) ↦[(ms0_4 m g t).view.set]{fullShare} (ms0_4 m g t).view.rep (bDb m g c t))
        ∗ (tabE.view.loc (c : Thread nD τ) ↦{fullShare.right} tabs m 0)
        ∗ (tabN.view.loc (c : Thread nD τ) ↦{fullShare.right} tabs m 1)
        ∗ owns (c : Thread nD τ) (ms0_5 m g t) fullShare (outB m g c t)
        ∗ (scrG.view.loc (c : Thread nD τ) ↦{fullShare} b0) ∗ (scrD.view.loc (c : Thread nD τ) ↦{fullShare} b1)) -∗ K ⟨⟩))
      ⊢ wp frame (wpE (defs₀ (F := F)) Variants.none c none) Set.univ (bodyAt0 m g t) K) :
    iprop((dats m g 0 c).Φ t.castSucc ∗ (dats m g 0 c).owesAt () t.castSucc
        ∗ (∃ d, owns (c : Thread nD τ) (ms0_0 m g t) fullShare ((dats m g 0 c).before (0 : Fin 6) t d))
        ∗ (∃ d, owns (c : Thread nD τ) (ms0_1 m g t) fullShare ((dats m g 0 c).before (1 : Fin 6) t d))
        ∗ (∃ d, owns (c : Thread nD τ) (ms0_2 m g t) fullShare ((dats m g 0 c).before (2 : Fin 6) t d))
        ∗ (∃ d, owns (c : Thread nD τ) (ms0_3 m g t) fullShare ((dats m g 0 c).before (3 : Fin 6) t d))
        ∗ (∃ d, owns (c : Thread nD τ) (ms0_4 m g t) fullShare ((dats m g 0 c).before (4 : Fin 6) t d))
        ∗ (∃ d, owns (c : Thread nD τ) (ms0_5 m g t) fullShare ((dats m g 0 c).before (5 : Fin 6) t d)))
      ⊢ wp frame (wpE (defs₀ (F := F)) Variants.none c none) Set.univ (bodyAt0 m g t) fun _ =>
          iprop((dats m g 0 c).Φ t.succ ∗ (dats m g 0 c).owesAt () t.succ
            ∗ bigSep Finset.univ fun w : Fin (cfgA m g).W =>
                match (cfgA m g).idle w ((cfgA m g).grid.coords t) with
                | true =>
                  match ((cfgA m g).win w).flush t with
                  | false => iprop(∃ d, owns (c : Thread nD τ) (((cfgA m g).win w).stage ((cfgA m g).slots t w)) fullShare ((dats m g 0 c).before w t d))
                  | true => owns (c : Thread nD τ) (((cfgA m g).win w).stage ((cfgA m g).slots t w)) fullShare ((dats m g 0 c).after w t)
                | false => owns (c : Thread nD τ) (((cfgA m g).win w).stage ((cfgA m g).slots t w)) fullShare ((dats m g 0 c).after w t)) := by
  rw [bigSep_W0]
  rewrite [idle5 m g t]
  simp only [before0_0, before0_1, before0_2, before0_3, before0_4, after0_0, after0_1, after0_2, after0_3, after0_4, after0_5]
  rewrite [show (dats m g 0 c).Φ t.succ = Phi m g c (t.val + 1) from rfl, show (dats m g 0 c).Φ t.castSucc = Phi m g c t.val from rfl,
    show (dats m g 0 c).owesAt () t.succ = (dats m g 0 c).owesAt () t.castSucc from rfl]
  unfold Phi
  iintro ⟨⟨⟨%a0, %a1, %ha, HS0, HS1⟩, HT0, HT1, HP⟩, Ho, ⟨%d0, H0⟩, ⟨%d1, H1⟩, ⟨%d2, H2⟩, ⟨%d3, H3⟩, ⟨%d4, H4⟩, ⟨%d5, H5⟩⟩
  obtain ⟨b0, b1, hb, hrun⟩ := run a0 a1 ha
  iapply (hrun _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  isplitl [HS0]; · iexact HS0
  isplitl [HS1]; · iexact HS1
  iintro ⟨H0, H1, H2, H3, H4, HT0, HT1, H5, HS0, HS1⟩
  isplitl [HS0 HS1 HT0 HT1 HP]
  · isplitl [HS0 HS1]
    · iexists b0, b1
      isplitr
      · ipureintro; exact hb
      isplitl [HS0]; · iexact HS0
      iexact HS1
    isplitl [HT0]; · iexact HT0
    isplitl [HT1]; · iexact HT1
    iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

/-- The body obligation, at every point, by the three paths. -/
theorem body_obligation (c : Dev nD) : BodyObligation (dats m g 0 c) (defs₀ (F := F)) Variants.none () Set.univ := fun t => by
  rw [bigSep_W0]
  refine sound_of m g c t ?_
  · intro a0 a1 ha
    have hc := crd_val m g t
    by_cases hu : used (tabs m) t.val
    · have huc : used (tabs m) (crd m g t 0).val := by rw [hc]; exact hu
      have h1 : ¬ (k0_cond1 (crd m g t) (wordN (F := F) (tabs m 1)) = 1#1) := by
        rw [wordN_eq, cond1_iff]; exact fun h => h huc
      have h3 : k0_cond3 (crd m g t) (wordN (F := F) (tabs m 1)) = 1#1 := by
        rw [wordN_eq, cond3_iff]; exact huc
      by_cases hl : loads (crd m g t) (wordN (F := F) (tabs m 1)) (wordE (crd m g t) (F := F) (tabs m 0)) (wordP (crd m g t) (F := F) (tabs m 0)) = 1#1
      · refine ⟨k0_pay2 (bG m g c t), k0_pay3 (bD m g c t), ?_, ?_⟩
        · intro s hs _
          have : s = t := Fin.ext (by omega)
          subst this; exact ⟨rfl, rfl⟩
        · intro K
          have e : outB m g c t = k0_pay4 (bX m g c t) (k0_pay2 (bG m g c t)) (bGb m g c t) (k0_pay3 (bD m g c t)) (bDb m g c t) := by
            unfold outB; exact if_pos hu
          rw [e]
          exact run_load c (crd m g t) _ _ _ _ _ _ _ _ _ _ _ _ (tabs m 0) (tabs m 1) (bX m g c t) (bG m g c t) (bGb m g c t) (bD m g c t) (bDb m g c t) a0 a1 h1 hl h3 K
      · have hl' := hl
        rw [wordN_eq, loads_iff] at hl'
        have h0 : t.val ≠ 0 := fun h => hl' ⟨huc, .inl (hc.trans h)⟩
        have heq : ew (tabs m) t.val (t_lt m g t) = ew (tabs m) (t.val - 1) (by have := t_lt m g t; omega) := by
          by_contra hne
          refine hl' ⟨huc, .inr fun h => hne ?_⟩
          rw [ew_congr (tabs m) hc.symm (t_lt m g t) (pt_lt _), ew_congr (tabs m) (congrArg (· - 1) hc.symm) _ (by have := pt_lt (crd m g t); omega)]
          exact h
        have hs : used (tabs m) (t.val - 1) := by unfold used at hu ⊢; omega
        obtain ⟨e0, e1⟩ := ha ⟨t.val - 1, by have := t.isLt; omega⟩ (by show t.val - 1 + 1 = t.val; omega) hs
        have e0' : a0 = k0_pay2 (bG m g c t) := e0.trans (congrArg _ (bG_eq m g c heq).symm)
        have e1' : a1 = k0_pay3 (bD m g c t) := e1.trans (congrArg _ (bD_eq m g c heq).symm)
        refine ⟨a0, a1, ?_, ?_⟩
        · intro s hs _
          have : s = t := Fin.ext (by omega)
          subst this; exact ⟨e0', e1'⟩
        · intro K
          have e : outB m g c t = k0_pay4 (bX m g c t) a0 (bGb m g c t) a1 (bDb m g c t) := by
            rw [e0', e1']; unfold outB; exact if_pos hu
          rw [e]
          exact run_keep c (crd m g t) _ _ _ _ _ _ _ _ _ _ _ _ (tabs m 0) (tabs m 1) (bX m g c t) (bG m g c t) (bGb m g c t) (bD m g c t) (bDb m g c t) a0 a1 h1 hl h3 K
    · have huc : ¬ used (tabs m) (crd m g t 0).val := by rw [hc]; exact hu
      have h1 : k0_cond1 (crd m g t) (wordN (F := F) (tabs m 1)) = 1#1 := by
        rw [wordN_eq, cond1_iff]; exact huc
      have h3 : ¬ (k0_cond3 (crd m g t) (wordN (F := F) (tabs m 1)) = 1#1) := by
        rw [wordN_eq, cond3_iff]; exact huc
      have hl : ¬ (loads (crd m g t) (wordN (F := F) (tabs m 1)) (wordE (crd m g t) (F := F) (tabs m 0)) (wordP (crd m g t) (F := F) (tabs m 0)) = 1#1) := by
        rw [wordN_eq, loads_iff]; exact fun h => huc h.1
      refine ⟨a0, a1, ?_, ?_⟩
      · intro s hs hus
        have : s = t := Fin.ext (by omega)
        subst this; exact absurd hus hu
      · intro K
        have e : outB m g c t = k0_pay1 (F := F) := by unfold outB; exact if_neg hu
        rw [e]
        exact run_unused c (crd m g t) _ _ _ _ _ _ _ _ _ _ _ _ (tabs m 0) (tabs m 1) (bX m g c t) (bG m g c t) (bGb m g c t) (bD m g c t) (bDb m g c t) a0 a1 h1 hl h3 K

/-! ## The launch -/

theorem share_eq (c : Dev nD) (w : Fin (cfgA m g).W) : (dats m g 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi_enter (c : Dev nD) :
    iprop(Pipeline.ΦA (cfgA m g).spec c ∗ Pipeline.ΦT pre0 (tabs m) c) ⊢ (dats m g 0 c).Φ 0 := by
  rw [show (dats m g 0 c).Φ 0 = Phi m g c 0 from rfl]
  unfold Pipeline.ΦA Pipeline.ΦT Phi
  rw [prefHeld_eq, scopedRest0_eq]
  iintro ⟨⟨⟨⟨%a0, HS0⟩, ⟨%a1, HS1⟩⟩, HP⟩, ⟨HT0, HT1⟩⟩
  isplitl [HS0 HS1]
  · iexists a0, a1
    isplitr
    · ipureintro; intro s hs; exact absurd hs (Nat.succ_ne_zero _)
    isplitl [HS0]; · iexact HS0
    iexact HS1
  isplitl [HT0]; · iexact HT0
  isplitl [HT1]; · iexact HT1
  iexact HP

theorem phi_leave (c : Dev nD) : (dats m g 0 c).Φ (Fin.last (cfgA m g).N) ⊢ (Pipeline.ΦA (cfgA m g).spec c : sProp 𝕄) := by
  rw [show (dats m g 0 c).Φ (Fin.last (cfgA m g).N) = Phi m g c (cfgA m g).N from rfl]
  unfold Pipeline.ΦA Phi
  rw [scopedRest0_eq]
  iintro ⟨⟨%a0, %a1, -, HS0, HS1⟩, -, -, HP⟩
  isplitl [HS0 HS1]
  · isplitl [HS0]
    · iexists a0; iexact HS0
    iexists a1; iexact HS1
  iexact HP

theorem V_pre (c : Dev nD) (k : Fin 2) : V m c (pre0.ref k) = tabs m k := by
  have hc : c = 0 := Subsingleton.elim (α := Fin 1) _ _
  subst hc
  fin_cases k
  · exact V_of_ne m 0 main_arg0 (by decide) (by decide)
  · exact V_of_ne m 0 main_arg1 (by decide) (by decide)

set_option backward.isDefEq.respectTransparency.types false in
/-- THE LAUNCH. -/
theorem run_main : θ_run (defs (F := F)) (onTc (τ := τ) (main (F := F))) (s₀ m ρ)
    (fun r => Pipeline.FramePost (pcs m g) (dats m g) 0 (V m) r ∧ r.2.sem = fun _ => 0) :=
  Pipeline.θ_run_frameP_track (Q' := _) (pcfgs (F := F)) (fun _ => adm (tabs m) g) (dats m g) (0 : Fin 1) launch0 defs₀ Variants.none m ρ main
    (hbody := fun c => (body_obligation m g c).loose) (hshare := share_eq m g) (howed := fun _ _ => rfl) (V := V m)
    (hmain := Pipeline.hmainP_prefix (pcfgs (F := F)) 0 defs₀ Variants.none m main hostOps0 hostOps0_sub hostOps0_fresh main_chain)
    (hA := fun _ _ => rfl) (hpf := V_pre m) (hin := phi_enter m g) (hout := phi_leave m g)

end Cert.Kernel2Ideal.Ex

end
-- ==== Proof.ExEndIdeal.lean ====
/-
  The end of the expert call: its result block by block, and that nothing else changes.
-/
module

public import proofs.«01_k».proof.Proof.ExFrameIdeal
public import Idealize.ShloMosaic.Lib.Pipeline.Value

@[expose] public section

set_option maxRecDepth 16384

noncomputable section

namespace Cert.Kernel2Ideal.Ex

open Cert.Kernel2Ideal Cert.Kernel2Ideal.Gen
open Idealize.ShloMosaic
open Idealize.ShloMosaic.TcCoe Idealize.ShloMosaic.Tactic
open Idealize.SL.Sem
open Idealize.ShloMosaic.Rounds
open Idealize.ShloMosaic.Pipeline (Dat Cfg Window)

variable {F : FTy → Type} [FloatOps F]

variable (m : (ℓ : Loc nD τ sig) → Buf (Elt F) ℓ) (ρ : Dev nD → PrngReg) (g : Good (tabs m))

/-! ## The output array -/

theorem index5 (t : Fin (cfgA m g).N) : ((cfgA m g).win (5 : Fin 6)).index t = ![t.val, 0] := by
  show cc0_transform_5 (crd m g t) = _
  rw [tr5_eq, crd_val]

theorem index5_inj {t s : Fin (cfgA m g).N} (h : ((cfgA m g).win (5 : Fin 6)).index t = ((cfgA m g).win (5 : Fin 6)).index s) : t = s := by
  rw [index5, index5] at h
  exact Fin.ext (congrFun h 0)

theorem flush5 (t : Fin (cfgA m g).N) : ((cfgA m g).win (5 : Fin 6)).flush t = true := by
  unfold Pipeline.Window.flush
  have ho : ((cfgA m g).win (5 : Fin 6)).isOut = true := rfl
  rw [ho, Bool.true_and, Bool.or_eq_true]
  by_cases h : t.val + 1 = (cfgA m g).grid.N
  · left; exact decide_eq_true h
  · right
    have hlt : t.val + 1 < (cfgA m g).grid.N := lt_of_le_of_ne (Nat.succ_le_of_lt t.isLt) h
    refine decide_eq_true ⟨hlt, fun e => ?_⟩
    have := congrArg Fin.val (index5_inj m g (t := ⟨t.val + 1, hlt⟩) (s := t) e)
    exact absurd this (Nat.succ_ne_self _)

theorem disjoint5 : ∀ t t' : Fin (cfgA m g).N, ((cfgA m g).win (5 : Fin 6)).flush t = true → ((cfgA m g).win (5 : Fin 6)).flush t' = true → t ≠ t' →
    Disjoint (((cfgA m g).win (5 : Fin 6)).blk t).view.set (((cfgA m g).win (5 : Fin 6)).blk t').view.set :=
  fun t t' _ _ hne => ((cfgA m g).win (5 : Fin 6)).disjoint_blk fun h => hne (index5_inj m g h)

/-- The output array: block by block what the body leaves. -/
def res (c : Dev nD) : FVec F S161792x1024 .f32 := fun j =>
  outB m g c ⟨(j 0).val / 512, lt_of_lt_of_eq (by have h : (j 0).val < 161792 := (j 0).isLt; omega) (show 316 = (cfgA m g).N from N_0.symm)⟩
    (ix2 (⟨(j 0).val % 512, Nat.mod_lt _ (by decide)⟩ : Fin 512) (j 1))

theorem flushed5 (c : Dev nD) (t : Fin (cfgA m g).N) : (dats m g 0 c).flushed (5 : Fin 6) t = outB m g c t := by
  show ((cfgA m g).win (5 : Fin 6)).cut ((cfgA m g).grid.coords t) ((dats m g 0 c).after (5 : Fin 6) t) = _
  rw [after0_5]
  rfl

theorem emb5 (t : Fin (cfgA m g).N) (j : S161792x1024.Idx) (y : S512x1024.Idx) (h0 : (j 0).val = t.val * 512 + (y 0).val) (h1 : (j 1).val = (y 1).val) :
    (((cfgA m g).win (5 : Fin 6)).blk t).view.emb y = j := by
  refine funext fun a => Fin.ext ?_
  show cc0_transform_5 (crd m g t) a * S512x1024.size a + 1 * (y a).val = _
  rw [tr5_eq, crd_val]
  fin_cases a
  · show t.val * 512 + 1 * (y 0).val = (j 0).val; omega
  · show 0 * 1024 + 1 * (y 1).val = (j 1).val; omega

theorem arr5_at (c : Dev nD) (t : Fin (cfgA m g).N) (j : S161792x1024.Idx) (y : S512x1024.Idx) (h0 : (j 0).val = t.val * 512 + (y 0).val) (h1 : (j 1).val = (y 1).val) :
    (dats m g 0 c).arrAt (5 : Fin 6) (cfgA m g).N j = outB m g c t y := by
  have h := (dats m g 0 c).arrAt_emb_eq_flushed (5 : Fin 6) (disjoint5 m g) t (flush5 m g t) y
  rw [emb5 m g t j y h0 h1, flushed5] at h
  exact h

theorem arr5 (c : Dev nD) : (dats m g 0 c).arrAt (5 : Fin 6) (cfgA m g).N = res m g c := by
  funext j
  exact arr5_at m g c _ j _ (Nat.div_add_mod' _ _).symm rfl

/-! ## What every run ends in -/

theorem kept (r : PUnit × MemSt nD τ sig (Elt F)) (h : Pipeline.FramePost (pcs m g) (dats m g) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (show ∀ w : Fin 6, (spec0 w).arr.view.ref ≠ main_arg0 by decide))).trans (V_of_ne m c _ (by decide) (by decide)),
   ((h c).2 main_arg1 (Pipeline.mem_restRefs_of main_arg1 (by decide) (show ∀ w : Fin 6, (spec0 w).arr.view.ref ≠ main_arg1 by decide))).trans (V_of_ne m c _ (by decide) (by decide)),
   (((h c).1 (0 : Fin 6)).trans ((dats m g 0 c).arrAt_in (0 : Fin 6) rfl _)).trans (V_of_ne m c main_arg2 (by decide) (by decide)),
   (((h c).1 (1 : Fin 6)).trans ((dats m g 0 c).arrAt_in (1 : Fin 6) rfl _)).trans (V_of_ne m c main_arg3 (by decide) (by decide)),
   ((h c).2 main_arg4 (Pipeline.mem_restRefs_of main_arg4 (by decide) (show ∀ w : Fin 6, (spec0 w).arr.view.ref ≠ main_arg4 by decide))).trans (V_of_ne m c _ (by decide) (by decide)),
   (((h c).1 (3 : Fin 6)).trans ((dats m g 0 c).arrAt_in (3 : Fin 6) rfl _)).trans (V_of_ne m c main_arg5 (by decide) (by decide)),
   ((h c).2 main_arg6 (Pipeline.mem_restRefs_of main_arg6 (by decide) (show ∀ w : Fin 6, (spec0 w).arr.view.ref ≠ main_arg6 by decide))).trans (V_of_ne m c _ (by decide) (by decide))⟩

include g in
/-- Every run ends with the arguments as they were and no counter raised. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨kept m g r h.1, h.2⟩) (run_main m ρ g)

/-- Every run ends with the output array at `res` and the arguments as they were. -/
theorem run_res : θ_run (defs (F := F)) (onTc (τ := τ) (main (F := F))) ⟨m, fun _ => 0, ρ⟩ (fun r => ∀ c : Dev nD,
      r.2.mem ((c.tc : Thread nD τ).loc main_v2) = res m g c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 (5 : Fin 6)).trans (arr5 m g c), kept m g r h.1 c⟩) (run_main m ρ g)

end Cert.Kernel2Ideal.Ex

end
-- ==== Proof.ExValue.lean ====
/-
  The expert network's result at the extended reals, read at an entry.
-/
module

public import proofs.«01_k».proof.Proof.ExEndIdeal
public import Idealize.ShloMosaic.Lib.StableHlo.Run
public import Idealize.ShloMosaic.Lib.Pointwise
public import Idealize.ShloMosaic.Lib.ValueIdx

@[expose] public section

set_option maxRecDepth 16384

noncomputable section

/-! ## The network on one row -/

namespace Cert.Ffn

open Idealize.ShloMosaic

/-- The activation: the gate is cut at seven from above, the linear part at seven on both sides. -/
def act (gt up : EReal) : EReal :=
  (min (Ideal.ofBits .f32 0x40E00000#32) (max (Ideal.ofBits .f32 0xC0E00000#32) up) + Ideal.ofBits .f32 0x3F800000#32) *
    (min gt (Ideal.ofBits .f32 0x40E00000#32) * Ideal.logistic (Ideal.ofBits .f32 0x3FD9DB23#32 * min gt (Ideal.ofBits .f32 0x40E00000#32)))

/-- The first product's column `f` with its bias. -/
def pre (x : Fin 1024 → EReal) (wg : Fin 1024 → Fin 2048 → EReal) (bg : Fin 2048 → EReal) (f : Fin 2048) : EReal :=
  ∑ d, x d * wg d f + bg f

/-- The network's column `j`. -/
def ffn (x : Fin 1024 → EReal) (wg : Fin 1024 → Fin 2048 → EReal) (bg : Fin 2048 → EReal) (wd : Fin 1024 → Fin 1024 → EReal)
    (bd : Fin 1024 → EReal) (j : Fin 1024) : EReal :=
  ∑ f : Fin 1024, act (pre x wg bg ⟨f.val, lt_of_lt_of_le f.isLt (by decide)⟩)
    (pre x wg bg ⟨1024 + f.val, lt_of_lt_of_eq (Nat.add_lt_add_left f.isLt 1024) (by decide)⟩) * wd f j + bd j

theorem one_f32 : Ideal.ofBits .f32 0x3F800000#32 = 1 := by
  simp [Ideal.ofBits, Ideal.ieee]
  rw [← EReal.coe_mul, ← EReal.coe_one]
  norm_num

end Cert.Ffn

namespace Cert.Kernel2Ideal.Ex

open Cert.Kernel2Ideal Cert.Kernel2Ideal.Gen
open Idealize.ShloMosaic
open Idealize.ShloMosaic.TcCoe
open Idealize.SL.Sem
open Cert.Ffn

theorem pay4_at (x : Vec Ideal S512x1024 .f32) (wg : Vec Ideal S1x1x1024x2048 .f32) (bg : Vec Ideal S1x1x1x2048 .f32)
    (wd : Vec Ideal S1x1x1024x1024 .f32) (bd : Vec Ideal S1x1x1x1024 .f32) (r : Fin 512) (j : Fin 1024) :
    k0_pay4 (F := Ideal) x (k0_pay2 wg) bg (k0_pay3 wd) bd (ix2 r j)
      = ffn (fun d => x (ix2 r d)) (fun d f => wg (ix4 0 0 d f)) (fun f => bg (ix4 0 0 0 f)) (fun f j => wd (ix4 0 0 f j))
          (fun j => bd (ix4 0 0 0 j)) j := by
  unfold k0_pay4 k0_pay2 k0_pay3 ffn act pre
  rw [one_f32]
  pointwise [dot_S512x1024_S1024x2048_S512x2048_1_0_0_1_n_n, dot_S512x1024_S1024x1024_S512x1024_1_0_0_1_n_n]

theorem pay1_at (j : S512x1024.Idx) : k0_pay1 (F := Ideal) j = 0 := by
  unfold k0_pay1
  exact Ideal.ofBits_zero_f32

variable (m : (ℓ : Loc nD τ sig) → Buf (Elt Ideal) ℓ)

theorem V_v0 (c : Dev nD) (a : Fin 4) (e : Fin 32) (u : Fin 1) (f : Fin 2048) :
    V m c main_v0 (ix4 a e u f) = m ((c.tc : Thread nD τ).loc main_arg4) (ix3 a e f) := by
  have h : V m c main_v0 = broadcastInDim S4x32x1x2048 ![0, 1, 3] bcast_S4x32x2048_S4x32x1x2048_0_1_3 (m ((c.tc : Thread nD τ).loc main_arg4)) := by
    unfold V hostOps0
    after_results_simp
  rw [h]
  pointwise

theorem V_v1 (c : Dev nD) (a : Fin 4) (e : Fin 32) (u : Fin 1) (f : Fin 1024) :
    V m c main_v1 (ix4 a e u f) = m ((c.tc : Thread nD τ).loc main_arg6) (ix3 a e f) := by
  have h : V m c main_v1 = broadcastInDim S4x32x1x1024 ![0, 1, 3] bcast_S4x32x1024_S4x32x1x1024_0_1_3 (m ((c.tc : Thread nD τ).loc main_arg6)) := by
    unfold V hostOps0
    after_results_simp
  rw [h]
  pointwise

variable (g : Good (tabs m))

/-- The expert of block `n`. -/
def expert (n : Fin 316) : Fin 32 := ⟨(ew (tabs m) n.val n.isLt).toNat, g.ew_lt _ _⟩

theorem res_at (c : Dev nD) (n : Fin 316) (r : Fin 512) (i : Fin 161792) (hi : i.val = n.val * 512 + r.val) (j : Fin 1024) :
    res m g c (ix2 i j) = if used (tabs m) n.val then
      ffn (fun d => m ((c.tc : Thread nD τ).loc main_arg2) (ix2 i d))
        (fun d f => m ((c.tc : Thread nD τ).loc main_arg3) (ix4 0 (expert m g n) d f))
        (fun f => m ((c.tc : Thread nD τ).loc main_arg4) (ix3 0 (expert m g n) f))
        (fun f j => m ((c.tc : Thread nD τ).loc main_arg5) (ix4 0 (expert m g n) f j))
        (fun j => m ((c.tc : Thread nD τ).loc main_arg6) (ix3 0 (expert m g n) j)) j
      else 0 := by
  have ht : n.val < (cfgA m g).N := lt_of_lt_of_eq n.isLt (show 316 = (cfgA m g).N from N_0.symm)
  have h : res m g c (ix2 i j) = outB m g c ⟨n.val, ht⟩ (ix2 r j) := by
    refine congr (congrArg (outB m g c) (Fin.ext ?_)) (congrArg (fun r => ix2 r j) (Fin.ext ?_))
    · show i.val / 512 = n.val
      have := r.isLt; omega
    · show i.val % 512 = r.val
      have := r.isLt; omega
  rw [h]
  unfold outB
  by_cases hu : used (tabs m) n.val
  · rw [if_pos hu, if_pos hu, pay4_at]
    have e : ex m g ⟨n.val, ht⟩ = expert m g n := rfl
    simp only [bX_at m g c ⟨n.val, ht⟩ hu, bG_at, bD_at, bGb_at, bDb_at, e]
    rw [V_of_ne m c main_arg2 (by decide) (by decide), V_of_ne m c main_arg3 (by decide) (by decide), V_of_ne m c main_arg5 (by decide) (by decide)]
    have ei : (⟨n.val * 512 + r.val, by rw [← hi]; exact i.isLt⟩ : Fin 161792) = i := Fin.ext hi.symm
    refine congr (congr (congr (congr (congr (congrArg ffn ?_) ?_) ?_) ?_) ?_) rfl
    · funext d
      exact congrArg (fun i => m ((c.tc : Thread nD τ).loc main_arg2) (ix2 i d)) ei
    · rfl
    · funext f; exact V_v0 m c _ _ _ _
    · rfl
    · funext f; exact V_v1 m c _ _ _ _
  · rw [if_neg hu, if_neg hu, pay1_at]

end Cert.Kernel2Ideal.Ex

end
-- ==== Proof.ExRef.lean ====
/-
  The reference's expert network, read at an entry: the same sums as the kernel's.
-/
module

public import proofs.«01_k».proof.Proof.ExValue
public import proofs.«01_k».proof.Proof.Gen.Reference2Ideal.Read

@[expose] public section

set_option maxRecDepth 16384

noncomputable section

namespace Cert.Reference2Ideal.Ex

open Cert.Reference2Ideal Cert.Reference2Ideal.Read Idealize.ShloMosaic Idealize.ShloMosaic.TcCoe Idealize.SL.Sem
open Cert.Ffn

/-! ## A gather of whole slices along the first axis -/

section Take
variable {α : Type}

/-- The dimension numbers of taking planes. -/
abbrev planes (N R A B : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

theorem planes_at {N R A B w : Nat} (hN : 0 < N) (wf) (x : (⟨3, ![N, A, B]⟩ : Shape).Idx → α) (idx : IVec ⟨2, ![R, 1]⟩ w)
    (r : Fin R) (a : Fin A) (b : Fin B) (n : Fin N) (hn : min (idx (ix2 r 0)).toInt.toNat (N - 1) = n.val) :
    Host.gather (planes N R A B wf) x idx (ix3 r a b) = x (ix3 n a b) := by
  unfold Host.gather
  congr 1
  funext k
  refine Fin.ext ?_
  show (planes N R A B wf).start (ix3 r a b) idx k + (planes N R A B wf).batchCoord (ix3 r a b) k + (planes N R A B wf).offCoord (ix3 r a b) k = _
  rw [GatherDims.batchCoord_eq_zero _ _ _ (List.not_mem_nil), Nat.add_zero]
  match k with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ [(0 : Fin 3)] from List.mem_singleton.mpr rfl)).trans ?_
    refine Eq.trans (congrArg (fun i => min (idx i).toInt.toNat (N - 1)) ?_) hn
    funext l; refine Fin.ext ?_
    match l with
    | ⟨0, _⟩ => rfl
    | ⟨1, _⟩ => rfl
  | ⟨1, _⟩ =>
    unfold GatherDims.start GatherDims.offCoord
    rw [dif_neg (by simp), dif_pos ((GatherDims.mem_sKept _ _).mpr ⟨by simp, by simp⟩), Nat.zero_add]
    rfl
  | ⟨2, _⟩ =>
    unfold GatherDims.start GatherDims.offCoord
    rw [dif_neg (by simp), dif_pos ((GatherDims.mem_sKept _ _).mpr ⟨by simp, by simp⟩), Nat.zero_add]
    rfl

/-- The dimension numbers of taking rows. -/
abbrev rows (N R A : Nat) (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

theorem rows_at {N R A w : Nat} (hN : 0 < N) (wf) (x : (⟨2, ![N, A]⟩ : Shape).Idx → α) (idx : IVec ⟨2, ![R, 1]⟩ w)
    (r : Fin R) (a : Fin A) (n : Fin N) (hn : min (idx (ix2 r 0)).toInt.toNat (N - 1) = n.val) :
    Host.gather (rows N R A wf) x idx (ix2 r a) = x (ix2 n a) := by
  unfold Host.gather
  congr 1
  funext k
  refine Fin.ext ?_
  show (rows N R A wf).start (ix2 r a) idx k + (rows N R A wf).batchCoord (ix2 r a) k + (rows N R A wf).offCoord (ix2 r a) k = _
  rw [GatherDims.batchCoord_eq_zero _ _ _ (List.not_mem_nil), Nat.add_zero]
  match k with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ [(0 : Fin 2)] from List.mem_singleton.mpr rfl)).trans ?_
    refine Eq.trans (congrArg (fun i => min (idx i).toInt.toNat (N - 1)) ?_) hn
    funext l; refine Fin.ext ?_
    match l with
    | ⟨0, _⟩ => rfl
    | ⟨1, _⟩ => rfl
  | ⟨1, _⟩ =>
    unfold GatherDims.start GatherDims.offCoord
    rw [dif_neg (by simp), dif_pos ((GatherDims.mem_sKept _ _).mpr ⟨by simp, by simp⟩), Nat.zero_add]
    rfl

end Take

/-! ## The reference's operations at an entry -/

variable (x0 : (⟨S316, .i32⟩ : BufTy).Contents (Elt Ideal)) (x1 : (⟨S1, .i32⟩ : BufTy).Contents (Elt Ideal))
  (x2 : (⟨S161792x1024, .f32⟩ : BufTy).Contents (Elt Ideal)) (x3 : (⟨S4x32x1024x2048, .f32⟩ : BufTy).Contents (Elt Ideal))
  (x4 : (⟨S4x32x2048, .f32⟩ : BufTy).Contents (Elt Ideal)) (x5 : (⟨S4x32x1024x1024, .f32⟩ : BufTy).Contents (Elt Ideal))
  (x6 : (⟨S4x32x1024, .f32⟩ : BufTy).Contents (Elt Ideal))

theorem v2_at (e : Fin 32) (d : Fin 1024) (f : Fin 2048) : val_main_v2 (F := Ideal) x3 (ix3 e d f) = x3 (ix4 0 e d f) := by
  rw [val_main_v2_apply, val_main_v1_apply]
  have he := e.isLt; have hd := d.isLt; have hf := f.isLt
  refine congrArg x3 (funext fun a => Fin.ext ?_)
  match a with
  | ⟨0, _⟩ => rfl
  | ⟨1, _⟩ => show ((e.val * 1024 + d.val) * 2048 + f.val) / 2097152 % 32 = e.val; omega
  | ⟨2, _⟩ => show ((e.val * 1024 + d.val) * 2048 + f.val) / 2048 % 1024 = d.val; omega
  | ⟨3, _⟩ => show ((e.val * 1024 + d.val) * 2048 + f.val) % 2048 = f.val; omega

theorem v6_at (e : Fin 32) (f : Fin 2048) : val_main_v6 (F := Ideal) x4 (ix2 e f) = x4 (ix3 0 e f) := by
  rw [val_main_v6_apply, val_main_v5_apply]
  have he := e.isLt; have hf := f.isLt
  refine congrArg x4 (funext fun a => Fin.ext ?_)
  match a with
  | ⟨0, _⟩ => rfl
  | ⟨1, _⟩ => show (e.val * 2048 + f.val) / 2048 % 32 = e.val; omega
  | ⟨2, _⟩ => show (e.val * 2048 + f.val) % 2048 = f.val; omega

theorem v29_at (e : Fin 32) (d : Fin 1024) (f : Fin 1024) : val_main_v29 (F := Ideal) x5 (ix3 e d f) = x5 (ix4 0 e d f) := by
  rw [val_main_v29_apply, val_main_v28_apply]
  have he := e.isLt; have hd := d.isLt; have hf := f.isLt
  refine congrArg x5 (funext fun a => Fin.ext ?_)
  match a with
  | ⟨0, _⟩ => rfl
  | ⟨1, _⟩ => show ((e.val * 1024 + d.val) * 1024 + f.val) / 1048576 % 32 = e.val; omega
  | ⟨2, _⟩ => show ((e.val * 1024 + d.val) * 1024 + f.val) / 1024 % 1024 = d.val; omega
  | ⟨3, _⟩ => show ((e.val * 1024 + d.val) * 1024 + f.val) % 1024 = f.val; omega

theorem v33_at (e : Fin 32) (f : Fin 1024) : val_main_v33 (F := Ideal) x6 (ix2 e f) = x6 (ix3 0 e f) := by
  rw [val_main_v33_apply, val_main_v32_apply]
  have he := e.isLt; have hf := f.isLt
  refine congrArg x6 (funext fun a => Fin.ext ?_)
  match a with
  | ⟨0, _⟩ => rfl
  | ⟨1, _⟩ => show (e.val * 1024 + f.val) / 1024 % 32 = e.val; omega
  | ⟨2, _⟩ => show (e.val * 1024 + f.val) % 1024 = f.val; omega

section Block

variable (n : Fin 316) (e : Fin 32) (he : (x0 (ix1 n) : BitVec 32).toNat = e.val)

include he in
theorem clamp : min (x0 (ix1 n) : BitVec 32).toInt.toNat (32 - 1) = e.val := by
  have h1 := e.isLt
  have h2 : (x0 (ix1 n) : BitVec 32).toInt = ((x0 (ix1 n) : BitVec 32).toNat : ℤ) :=
    BitVec.toInt_eq_toNat_of_lt (by omega)
  rw [h2, he, Int.toNat_natCast]; omega

include he in
theorem v3_at (d : Fin 1024) (f : Fin 2048) : val_main_v3 (F := Ideal) x0 x3 (ix3 n d f) = x3 (ix4 0 e d f) := by
  unfold val_main_v3
  refine (planes_at (by decide) _ _ _ n d f e ?_).trans (v2_at x3 e d f)
  rw [val_main_call0_v0_apply]
  exact (congrArg (fun i => min (x0 i : BitVec 32).toInt.toNat (32 - 1)) (eq_ix1 _)).trans (clamp x0 n e he)

include he in
theorem v7_at (f : Fin 2048) : val_main_v7 (F := Ideal) x0 x4 (ix2 n f) = x4 (ix3 0 e f) := by
  unfold val_main_v7
  refine (rows_at (by decide) _ _ _ n f e ?_).trans (v6_at x4 e f)
  rw [val_main_call1_v0_apply]
  exact (congrArg (fun i => min (x0 i : BitVec 32).toInt.toNat (32 - 1)) (eq_ix1 _)).trans (clamp x0 n e he)

include he in
theorem v30_at (d : Fin 1024) (f : Fin 1024) : val_main_v30 (F := Ideal) x0 x5 (ix3 n d f) = x5 (ix4 0 e d f) := by
  unfold val_main_v30
  refine (planes_at (by decide) _ _ _ n d f e ?_).trans (v29_at x5 e d f)
  rw [val_main_call3_v0_apply]
  exact (congrArg (fun i => min (x0 i : BitVec 32).toInt.toNat (32 - 1)) (eq_ix1 _)).trans (clamp x0 n e he)

include he in
theorem v34_at (f : Fin 1024) : val_main_v34 (F := Ideal) x0 x6 (ix2 n f) = x6 (ix3 0 e f) := by
  unfold val_main_v34
  refine (rows_at (by decide) _ _ _ n f e ?_).trans (v33_at x6 e f)
  rw [val_main_call4_v0_apply]
  exact (congrArg (fun i => min (x0 i : BitVec 32).toInt.toNat (32 - 1)) (eq_ix1 _)).trans (clamp x0 n e he)

variable (r : Fin 512) (i : Fin 161792) (hi : i.val = n.val * 512 + r.val)

include hi in
theorem v0_at (d : Fin 1024) : val_main_v0 (F := Ideal) x2 (ix3 n r d) = x2 (ix2 i d) := by
  rw [val_main_v0_apply]
  have hr := r.isLt; have hd := d.isLt
  refine congrArg x2 (funext fun a => Fin.ext ?_)
  match a with
  | ⟨0, _⟩ => show ((n.val * 512 + r.val) * 1024 + d.val) / 1024 = i.val; omega
  | ⟨1, _⟩ => show ((n.val * 512 + r.val) * 1024 + d.val) % 1024 = d.val; omega

include he hi in
theorem v10_at (f : Fin 2048) : val_main_v10 (F := Ideal) x0 x2 x3 x4 (ix3 n r f)
    = pre (fun d => x2 (ix2 i d)) (fun d f => x3 (ix4 0 e d f)) (fun f => x4 (ix3 0 e f)) f := by
  rw [val_main_v10_apply, val_main_v4_apply, val_main_v9_apply, val_main_v8_apply]
  unfold pre
  refine congrArg₂ (fun a b : EReal => a + b) (Finset.sum_congr rfl fun d _ => congrArg₂ (fun a b : EReal => a * b) ?_ ?_) ?_
  · exact (congrArg (val_main_v0 (F := Ideal) x2) (eq_ix3 _)).trans (v0_at x2 n r i hi d)
  · exact (congrArg (val_main_v3 (F := Ideal) x0 x3) (eq_ix3 _)).trans (v3_at x0 x3 n e he d f)
  · exact (congrArg (val_main_v7 (F := Ideal) x0 x4) (eq_ix2 _)).trans (v7_at x0 x4 n e he f)

include he hi in
theorem v27_at (f : Fin 1024) : val_main_v27 (F := Ideal) x0 x2 x3 x4 (ix3 n r f)
    = act (pre (fun d => x2 (ix2 i d)) (fun d f => x3 (ix4 0 e d f)) (fun f => x4 (ix3 0 e f)) ⟨f.val, lt_of_lt_of_le f.isLt (by decide)⟩)
        (pre (fun d => x2 (ix2 i d)) (fun d f => x3 (ix4 0 e d f)) (fun f => x4 (ix3 0 e f))
          ⟨1024 + f.val, lt_of_lt_of_eq (Nat.add_lt_add_left f.isLt 1024) (by decide)⟩) := by
  have hg : val_main_v11 (F := Ideal) x0 x2 x3 x4 (ix3 n r f) = _ :=
    ((val_main_v11_apply _ _ _ _ _).trans (congrArg (val_main_v10 (F := Ideal) x0 x2 x3 x4) (eq_ix3 _))).trans
      (v10_at x0 x2 x3 x4 n e he r i hi ⟨f.val, lt_of_lt_of_le f.isLt (by decide)⟩)
  have hup : val_main_v12 (F := Ideal) x0 x2 x3 x4 (ix3 n r f) = _ :=
    ((val_main_v12_apply _ _ _ _ _).trans (congrArg (val_main_v10 (F := Ideal) x0 x2 x3 x4) (eq_ix3 _))).trans
      (v10_at x0 x2 x3 x4 n e he r i hi ⟨1024 + f.val, lt_of_lt_of_eq (Nat.add_lt_add_left f.isLt 1024) (by decide)⟩)
  rw [val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, val_main_call2_v4_apply, val_main_call2_v3_apply, val_main_call2_v2_apply, val_main_call2_v1_apply,
    val_main_call2_v0_apply, val_main_v14_apply, val_main_v13_apply, hg, hup]
  unfold act Ideal.logistic
  conv_rhs => rw [← one_f32]
  rfl

include he hi in
theorem v37_at (j : Fin 1024) : val_main_v37 (F := Ideal) x0 x2 x3 x4 x5 x6 (ix3 n r j)
    = ffn (fun d => x2 (ix2 i d)) (fun d f => x3 (ix4 0 e d f)) (fun f => x4 (ix3 0 e f)) (fun f j => x5 (ix4 0 e f j)) (fun j => x6 (ix3 0 e j)) j := by
  rw [val_main_v37_apply, val_main_v31_apply, val_main_v36_apply, val_main_v35_apply]
  unfold ffn
  refine congrArg₂ (fun a b : EReal => a + b) (Finset.sum_congr rfl fun f _ => congrArg₂ (fun a b : EReal => a * b) ?_ ?_) ?_
  · exact (congrArg (val_main_v27 (F := Ideal) x0 x2 x3 x4) (eq_ix3 _)).trans (v27_at x0 x2 x3 x4 n e he r i hi f)
  · exact (congrArg (val_main_v30 (F := Ideal) x0 x5) (eq_ix3 _)).trans (v30_at x0 x5 n e he f j)
  · exact (congrArg (val_main_v34 (F := Ideal) x0 x6) (eq_ix2 _)).trans (v34_at x0 x6 n e he j)

theorem v39_at (k : S_.Idx) : val_main_v39 (F := Ideal) x1 k = x1 (ix1 0) := by
  unfold val_main_v39 shapeCast
  exact congrArg x1 ((eq_ix1 _).trans (congrArg ix1 (Subsingleton.elim (α := Fin 1) _ _)))

theorem used_at (r : Fin 512) (j : Fin 1024) : val_main_call5_v1 (F := Ideal) x1 (ix3 n r j) = 1#1 ↔ (n.val : ℤ) < (x1 (ix1 0) : BitVec 32).toInt := by
  have hn := n.isLt
  rw [val_main_call5_v1_apply, val_main_v42_apply, val_main_v41_apply, val_main_v40_apply, val_main_v38_apply, v39_at]
  show IntOp.cmpi .slt (BitVec.ofNat 32 n.val) (x1 (ix1 0) : BitVec 32) = 1#1 ↔ _
  rw [WordCmp.cmpi_slt_eq, WordCmp.ofBool_decide_eq_one_iff, WordCmp.toInt_ofNat_of_lt (by omega)]

include he hi in
theorem v44_at (j : Fin 1024) : val_main_v44 (F := Ideal) x0 x1 x2 x3 x4 x5 x6 (ix2 i j)
    = if (n.val : ℤ) < (x1 (ix1 0) : BitVec 32).toInt then
        ffn (fun d => x2 (ix2 i d)) (fun d f => x3 (ix4 0 e d f)) (fun f => x4 (ix3 0 e f)) (fun f j => x5 (ix4 0 e f j)) (fun j => x6 (ix3 0 e j)) j
      else 0 := by
  rw [val_main_v44_apply]
  have hr := r.isLt; have hj := j.isLt
  have e0 : idx_main_v44 (ix2 i j) = ix3 n r j := by
    refine funext fun a => Fin.ext ?_
    match a with
    | ⟨0, _⟩ => show (i.val * 1024 + j.val) / 524288 = n.val; omega
    | ⟨1, _⟩ => show (i.val * 1024 + j.val) / 1024 % 512 = r.val; omega
    | ⟨2, _⟩ => show (i.val * 1024 + j.val) % 1024 = j.val; omega
  rw [e0, val_main_v43_apply]
  by_cases hu : (n.val : ℤ) < (x1 (ix1 0) : BitVec 32).toInt
  · rw [if_pos hu, (used_at x1 n r j).mpr hu]
    exact v37_at x0 x2 x3 x4 x5 x6 n e he r i hi j
  · rw [if_neg hu, ValueIdx.eq_zero_of_ne_one (mt (used_at x1 n r j).mp hu), val_main_call5_v2_apply, val_main_call5_v0_apply, val_main_cst_6_apply]
    exact Ideal.ofBits_zero_f32

end Block

end Cert.Reference2Ideal.Ex

end
-- ==== Proof.lean ====
/-
  The claims of the stick-breaking attention, of the experts, of the input projection, of the forgetting attention, of the output
  projection and of the modulation: their frames, that idealizing preserves them, and that kernel and reference have one value over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_grouped
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Loops
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Loops
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.IpRef
public import proofs.«01_k».proof.Proof.SbRef
public import proofs.«01_k».proof.Proof.FxRef
public import proofs.«01_k».proof.Proof.OpKernel
public import proofs.«01_k».proof.Proof.OpRef
public import proofs.«01_k».proof.Proof.MdRef
public import proofs.«01_k».proof.Proof.ExEnd
public import proofs.«01_k».proof.Proof.ExRef
public import Idealize.ShloMosaic.Adequacy
public import Idealize.ShloMosaic.Init

@[expose] public section

noncomputable section

namespace Cert.Proof

open Idealize.ShloMosaic Idealize.SL.Sem Cert.Kernel

/-- An array whose entries are all below infinity in absolute value holds reals. -/
theorem real_of_lt {x : EReal} (h : max x (-x) < ⊤) : (x.toReal : EReal) = x := by
  refine EReal.coe_toReal ?_ ?_
  · rintro rfl; simp at h
  · rintro rfl; simp at h

theorem inf_f32 : Ideal.ofBits .f32 0x7F800000#32 = ⊤ := by
  simp [Ideal.ofBits, Ideal.ieee]

theorem and_one {a b : BitVec 1} (h : a &&& b = 1#1) : a = 1#1 ∧ b = 1#1 := by
  revert h; revert a b; decide

theorem real_of_cmp {x : EReal} (h : FloatOps.cmpf (F := Ideal) (φ := .f32) .olt (max x (-x) : EReal) (Ideal.ofBits .f32 0x7F800000#32) = 1#1) :
    (x.toReal : EReal) = x := by
  rw [inf_f32] at h
  refine real_of_lt ?_
  by_contra hn
  rw [Ideal.cmpf_def] at h
  simp [Ideal.cmp, hn] at h

theorem reals (m : (ℓ : Loc Cert.KernelIdeal.nD Cert.KernelIdeal.τ Cert.KernelIdeal.sig) → Buf (Elt Ideal) ℓ)
    (h : Pre_KernelIdeal_finite (hPre_finite := Cert.Pre_finite.Gen.facts) m) (c : Dev Cert.KernelIdeal.nD) :
    Cert.KernelIdeal.Sb.Real' (m ((c.tc : Thread Cert.KernelIdeal.nD Cert.KernelIdeal.τ).loc Cert.KernelIdeal.main_arg0))
    ∧ Cert.KernelIdeal.Sb.Real' (m ((c.tc : Thread Cert.KernelIdeal.nD Cert.KernelIdeal.τ).loc Cert.KernelIdeal.main_arg1))
    ∧ Cert.KernelIdeal.Sb.Real' (m ((c.tc : Thread Cert.KernelIdeal.nD Cert.KernelIdeal.τ).loc Cert.KernelIdeal.main_arg2)) := by
  have hi := fun i => and_one (congrFun (h c) i)
  exact ⟨fun i => real_of_cmp (and_one (hi i).1).1, fun i => real_of_cmp (and_one (hi i).1).2, fun i => real_of_cmp (hi i).2⟩

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hr := reals m hpre
  refine ⟨fun c => Cert.KernelIdeal.Sb.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run (Cert.KernelIdeal.defs (F := Ideal)) _ _).mono (fun r h c => ?_) (Cert.KernelIdeal.Value.run_blocks m g)
    exact ⟨(h c).1.trans (Cert.KernelIdeal.Sb.final m (fun c => (hr c).1) (fun c => (hr c).2.1) (fun c => (hr c).2.2) c), (h c).2⟩
  · refine (θ_run (Cert.ReferenceIdeal.defs (F := Ideal)) _ _).mono (fun r h c => ?_) (Cert.ReferenceIdeal.Value.run m' g')
    refine ⟨(h c).1.trans ?_, (h c).2⟩
    obtain ⟨e0, e1, e2⟩ := hargs c
    rw [Cert.ReferenceIdeal.Read.val_main_v27_eq, e0, e1, e2]
    exact Cert.ReferenceIdeal.Sb.value (hr c).1 (hr c).2.1 (hr c).2.2

theorem reference_frame : Cert.quiescent_ReferenceIdeal (hReferenceIdeal := Cert.ReferenceIdeal.Gen.facts) := fun m ρ _ =>
  (θ_run (Cert.ReferenceIdeal.defs (F := Ideal)) _ _).mono (fun r h => ⟨fun c => (h c).2,
    Idealize.ShloMosaic.sem_eq_zero_of_no_sems (by decide) r.2⟩) (Cert.ReferenceIdeal.Value.run (F := Ideal) m ρ)

theorem reference_frame_finite : Cert.quiescent_ReferenceIdeal_pre_finite (hReferenceIdeal := Cert.ReferenceIdeal.Gen.facts)
    (hPre_finite := Cert.Pre_finite.Gen.facts) := fun m ρ _ =>
  (θ_run (Cert.ReferenceIdeal.defs (F := Ideal)) _ _).mono (fun r h => ⟨fun c => (h c).2,
    Idealize.ShloMosaic.sem_eq_zero_of_no_sems (by decide) r.2⟩) (Cert.ReferenceIdeal.Value.run (F := Ideal) m ρ)

/-! ## The expert network -/

/-- What the precondition says of the two tables. -/
theorem tables {F : FTy → Type} [FloatOps F] (x0 : IVec Cert.Pre_grouped.S316 32) (x1 : IVec Cert.Pre_grouped.S1 32) (x2 x3 x4 x5 x6)
    (h : Cert.Pre_grouped.fn (F := F) x0 x1 x2 x3 x4 x5 x6 = fun _ => 1#1) :
    (∀ n : Fin 316, (x0 (ix1 n)).toNat < 32) ∧ 1 ≤ (x1 (ix1 0)).toInt := by
  have at_ : ∀ n : Fin 316, (0 ≤ (x0 (ix1 n)).toInt ∧ (x0 (ix1 n)).toInt < 32) ∧ 1 ≤ (x1 (ix1 0)).toInt := by
    intro n
    have hn := congrFun h (ix1 n)
    unfold Cert.Pre_grouped.fn at hn
    obtain ⟨h1, h2⟩ := and_one hn
    obtain ⟨h3, h4⟩ := and_one h1
    have a0 : (0#32).sle (x0 (ix1 n)) = true := by
      have : BitVec.ofBool ((0#32).sle (x0 (ix1 n))) = 1#1 := h3
      revert this; generalize (0#32).sle (x0 (ix1 n)) = b; revert b; decide
    have a1 : (x0 (ix1 n)).slt 32#32 = true := by
      have : BitVec.ofBool ((x0 (ix1 n)).slt 32#32) = 1#1 := h4
      revert this; generalize (x0 (ix1 n)).slt 32#32 = b; revert b; decide
    have a2 : (1#32).sle (x1 (ix1 0)) = true := by
      obtain ⟨k, hk⟩ : ∃ k : Cert.Pre_grouped.S1.Idx, BitVec.ofBool ((1#32).sle (x1 k)) = 1#1 := ⟨_, h2⟩
      have e : k = ix1 0 := (eq_ix1 _).trans (congrArg ix1 (Subsingleton.elim (α := Fin 1) _ _))
      have this := hk
      rw [e] at this
      revert this; generalize (1#32).sle (x1 (ix1 0)) = b; revert b; decide
    rw [BitVec.sle_iff_toInt_le] at a0 a2
    rw [BitVec.slt_iff_toInt_lt] at a1
    exact ⟨⟨a0, a1⟩, a2⟩
  refine ⟨fun n => ?_, (at_ 0).2⟩
  have h1 := (at_ n).1
  have h2 := (x0 (ix1 n)).isLt
  rw [BitVec.toInt_eq_toNat_cond] at h1
  split at h1 <;> omega

theorem good2 (m : (ℓ : Loc Cert.Kernel2.nD Cert.Kernel2.τ Cert.Kernel2.sig) → Buf (Elt Bits) ℓ)
    (h : Cert.Pre_Kernel2 (hPre_grouped := Cert.Pre_grouped.Gen.facts) m) : Cert.Kernel2.Ex.Good (Cert.Kernel2.Ex.tabs m) :=
  ⟨fun n hn => (tables _ _ _ _ _ _ _ (h 0)).1 ⟨n, hn⟩, (tables _ _ _ _ _ _ _ (h 0)).2⟩

theorem good2Ideal (m : (ℓ : Loc Cert.Kernel2Ideal.nD Cert.Kernel2Ideal.τ Cert.Kernel2Ideal.sig) → Buf (Elt Ideal) ℓ)
    (h : Cert.Pre_Kernel2Ideal (hPre_grouped := Cert.Pre_grouped.Gen.facts) m) : Cert.Kernel2Ideal.Ex.Good (Cert.Kernel2Ideal.Ex.tabs m) :=
  ⟨fun n hn => (tables _ _ _ _ _ _ _ (h 0)).1 ⟨n, hn⟩, (tables _ _ _ _ _ _ _ (h 0)).2⟩

theorem frame2 : Cert.quiescent_Kernel2 (hKernel2 := Cert.Kernel2.Gen.facts) (hPre_grouped := Cert.Pre_grouped.Gen.facts) :=
  fun m ρ h => Cert.Kernel2.Ex.frame m ρ (good2 m h)

theorem frame2Ideal : Cert.quiescent_Kernel2Ideal (hKernel2Ideal := Cert.Kernel2Ideal.Gen.facts) (hPre_grouped := Cert.Pre_grouped.Gen.facts) :=
  fun m ρ h => Cert.Kernel2Ideal.Ex.frame m ρ (good2Ideal m h)

theorem reference2_frame : Cert.quiescent_Reference2Ideal (hReference2Ideal := Cert.Reference2Ideal.Gen.facts) := fun m ρ _ =>
  (θ_run (Cert.Reference2Ideal.defs (F := Ideal)) _ _).mono (fun r h => ⟨fun c => (h c).2,
    Idealize.ShloMosaic.sem_eq_zero_of_no_sems (by decide) r.2⟩) (Cert.Reference2Ideal.Value.run (F := Ideal) m ρ)

theorem reference2_frame_grouped : Cert.quiescent_Reference2Ideal_pre_grouped (hReference2Ideal := Cert.Reference2Ideal.Gen.facts)
    (hPre_grouped := Cert.Pre_grouped.Gen.facts) := fun m ρ _ =>
  (θ_run (Cert.Reference2Ideal.defs (F := Ideal)) _ _).mono (fun r h => ⟨fun c => (h c).2,
    Idealize.ShloMosaic.sem_eq_zero_of_no_sems (by decide) r.2⟩) (Cert.Reference2Ideal.Value.run (F := Ideal) m ρ)

theorem algebraic2 : Cert.algebraic_Kernel2Ideal_Reference2Ideal (hKernel2Ideal := Cert.Kernel2Ideal.Gen.facts)
    (hReference2Ideal := Cert.Reference2Ideal.Gen.facts) (hPre_grouped := Cert.Pre_grouped.Gen.facts) := by
  intro m ρ m' ρ' hpre hargs
  have g := good2Ideal m hpre
  refine ⟨fun c => Cert.Kernel2Ideal.Ex.res m g c, Cert.Kernel2Ideal.Ex.run_res m ρ g, ?_⟩
  refine (θ_run (Cert.Reference2Ideal.defs (F := Ideal)) _ _).mono (fun r h c => ?_) (Cert.Reference2Ideal.Value.run m' ρ')
  refine ⟨(h c).1.trans ?_, (h c).2⟩
  obtain ⟨e0, e1, e2, e3, e4, e5, e6⟩ := hargs c
  rw [Cert.Reference2Ideal.Read.val_main_v44_eq, e0, e1, e2, e3, e4, e5, e6]
  obtain rfl : c = 0 := Subsingleton.elim (α := Fin 1) _ _
  funext i
  have h0 : (i 0).val < 161792 := (i 0).isLt
  have hq : (i 0).val / 512 < 316 := by omega
  have hi : (i 0).val = (⟨(i 0).val / 512, hq⟩ : Fin 316).val * 512 + (⟨(i 0).val % 512, Nat.mod_lt _ (by decide)⟩ : Fin 512).val :=
    (Nat.div_add_mod' _ _).symm
  rw [ValueIdx.eq_ix2 i]
  refine (Cert.Reference2Ideal.Ex.v44_at _ _ _ _ _ _ _ ⟨(i 0).val / 512, hq⟩ (Cert.Kernel2Ideal.Ex.expert m g ⟨(i 0).val / 512, hq⟩) rfl _ (i 0) hi (i 1)).trans
    (Eq.trans ?_ (Cert.Kernel2Ideal.Ex.res_at m g 0 ⟨(i 0).val / 512, hq⟩ _ (i 0) hi (i 1)).symm)
  rfl

/-! ## The input projection -/

theorem reference3_frame : Cert.quiescent_Reference3Ideal (hReference3Ideal := Cert.Reference3Ideal.Gen.facts) := fun m ρ _ =>
  (θ_run (Cert.Reference3Ideal.defs (F := Ideal)) _ _).mono (fun r h => ⟨fun c => (h c).2.2.2.2,
    Idealize.ShloMosaic.sem_eq_zero_of_no_sems (by decide) r.2⟩) (Cert.Reference3Ideal.Value.run (F := Ideal) m ρ)

theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Ip.famRes (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) 768 256 0,
    fun c => Cert.Kernel3Ideal.Ip.famRes (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) 1152 384 256,
    fun c => Cert.Kernel3Ideal.Ip.famRes (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) 1152 384 640,
    fun c => Cert.Kernel3Ideal.Ip.gateRes (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)), ?_, ?_⟩
  · refine (θ_run (Cert.Kernel3Ideal.defs (F := Ideal)) _ _).mono (fun r h c => ?_) (Cert.Kernel3Ideal.Value.run_blocks m g)
    obtain ⟨h0, h1, h2, h3, hk⟩ := h c
    exact ⟨h0.trans (Cert.Kernel3Ideal.Ip.final7 m c), h1.trans (Cert.Kernel3Ideal.Ip.final8 m c),
      h2.trans (Cert.Kernel3Ideal.Ip.final9 m c), h3.trans (Cert.Kernel3Ideal.Ip.final10 m c), hk⟩
  · refine (θ_run (Cert.Reference3Ideal.defs (F := Ideal)) _ _).mono (fun r h c => ?_) (Cert.Reference3Ideal.Value.run m' g')
    obtain ⟨h0, h1, h2, h3, hk⟩ := h c
    obtain ⟨e0, e1, e2, e3, e4⟩ := hargs c
    rw [Cert.Reference3Ideal.Read.val_main_v45_eq, e0, e1, e2, e3] at h0
    rw [Cert.Reference3Ideal.Read.val_main_v50_eq, e0, e1, e2, e3] at h1
    rw [Cert.Reference3Ideal.Read.val_main_v55_eq, e0, e1, e2, e3] at h2
    rw [Cert.Reference3Ideal.Read.val_main_v40_eq, e0, e1, e2, e3, e4] at h3
    refine ⟨h0.trans (funext fun i => ?_), h1.trans (funext fun i => ?_), h2.trans (funext fun i => ?_), h3.trans (funext fun i => ?_), hk⟩
    · rw [ValueIdx.eq_ix3 i]
      exact Cert.Reference3Ideal.Ip.v45_at _ _ _ _ (i 0) (i 1) (i 2)
    · rw [ValueIdx.eq_ix3 i]
      exact Cert.Reference3Ideal.Ip.v50_at _ _ _ _ (i 0) (i 1) (i 2)
    · rw [ValueIdx.eq_ix3 i]
      exact Cert.Reference3Ideal.Ip.v55_at _ _ _ _ (i 0) (i 1) (i 2)
    · rw [ValueIdx.eq_ix3 i]
      exact Cert.Reference3Ideal.Ip.v40_at _ _ _ _ _ (i 0) (i 1) (i 2)

/-! ## The forgetting attention -/

/-- The running sums as the precondition spreads them over a head's lanes. -/
theorem spread_at (x : FVec Ideal Cert.Pre_finite4.S16x2048x6 .f32) (b : Fin 16) (r : Fin 2048) (h : Fin 6) :
    shapeCast Cert.Pre_finite4.S16x2048x384 (broadcastInDim Cert.Pre_finite4.S16x2048x6x64 ![0, 1, 2]
        Cert.Pre_finite4.Gen.bcast_S16x2048x6_S16x2048x6x64_0_1_2 x) Cert.Pre_finite4.Gen.shapeCasts_S16x2048x6x64_S16x2048x384
      (ix3 b r ⟨64 * h, by omega⟩) = x (ix3 b r h) := by
  refine (shapeCast_apply _ _ _ (ix4 b r h (0 : Fin 64)) ?_).trans ?_
  · rw [Shape.rowMajor_val_four, Shape.rowMajor_val_three]
    show (((b : ℕ) * 2048 + r) * 6 + h) * 64 + 0 = ((b : ℕ) * 2048 + r) * 384 + 64 * h
    omega
  · exact broadcastInDim_apply _ _ x _ (ix3 b r h) (fun a => match a with
      | ⟨0, _⟩ => by show (b : ℕ) = if (16 : Nat) = 1 then 0 else (b : ℕ); rw [if_neg (by decide)]
      | ⟨1, _⟩ => by show (r : ℕ) = if (2048 : Nat) = 1 then 0 else (r : ℕ); rw [if_neg (by decide)]
      | ⟨2, _⟩ => by show (h : ℕ) = if (6 : Nat) = 1 then 0 else (h : ℕ); rw [if_neg (by decide)])

theorem reals4 (m : (ℓ : Loc Cert.Kernel4Ideal.nD Cert.Kernel4Ideal.τ Cert.Kernel4Ideal.sig) → Buf (Elt Ideal) ℓ)
    (h : Pre_Kernel4Ideal_finite4 (hPre_finite4 := Cert.Pre_finite4.Gen.facts) m) (c : Dev Cert.Kernel4Ideal.nD) :
    Cert.Kernel4Ideal.Fx.Finite (s := Cert.Kernel4Ideal.S16x2048x384) (m ((c.tc : Thread Cert.Kernel4Ideal.nD Cert.Kernel4Ideal.τ).loc Cert.Kernel4Ideal.main_arg0))
    ∧ Cert.Kernel4Ideal.Fx.Finite (s := Cert.Kernel4Ideal.S16x2048x384) (m ((c.tc : Thread Cert.Kernel4Ideal.nD Cert.Kernel4Ideal.τ).loc Cert.Kernel4Ideal.main_arg1))
    ∧ Cert.Kernel4Ideal.Fx.Finite (s := Cert.Kernel4Ideal.S16x2048x384) (m ((c.tc : Thread Cert.Kernel4Ideal.nD Cert.Kernel4Ideal.τ).loc Cert.Kernel4Ideal.main_arg2))
    ∧ Cert.Kernel4Ideal.Fx.Finite (s := Cert.Kernel4Ideal.S16x2048x6) (m ((c.tc : Thread Cert.Kernel4Ideal.nD Cert.Kernel4Ideal.τ).loc Cert.Kernel4Ideal.main_arg3)) := by
  have hi := fun i => and_one (congrFun (h c) i)
  have hj := fun i => and_one (hi i).1
  refine ⟨fun i => real_of_cmp (and_one (hj i).1).1, fun i => real_of_cmp (and_one (hj i).1).2, fun i => real_of_cmp (hj i).2, fun i => ?_⟩
  have h2 : (i 2 : ℕ) < 6 := (i 2).isLt
  have e := real_of_cmp (hi (ix3 (i 0) (i 1) (⟨64 * (i 2 : ℕ), by omega⟩ : Fin 384))).2
  rw [spread_at _ (i 0) (i 1) (i 2)] at e
  rw [ValueIdx.eq_ix3 i]
  exact e

theorem algebraic4 : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hpre hargs
  have hr := reals4 m hpre
  refine ⟨fun c => Cert.Kernel4Ideal.Fx.result (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3)), ?_, ?_⟩
  · refine (θ_run (Cert.Kernel4Ideal.defs (F := Ideal)) _ _).mono (fun r h c => ?_) (Cert.Kernel4Ideal.Value.run_blocks m g)
    exact ⟨(h c).1.trans (Cert.Kernel4Ideal.Fx.final m (fun c => (hr c).1) (fun c => (hr c).2.1) (fun c => (hr c).2.2.1)
      (fun c => (hr c).2.2.2) c), (h c).2⟩
  · refine (θ_run (Cert.Reference4Ideal.defs (F := Ideal)) _ _).mono (fun r h c => ?_) (Cert.Reference4Ideal.Value.run m' g')
    refine ⟨(h c).1.trans ?_, (h c).2⟩
    obtain ⟨e0, e1, e2, e3⟩ := hargs c
    rw [Cert.Reference4Ideal.Read.val_main_v37_eq, e0, e1, e2, e3]
    exact Cert.Reference4Ideal.Fx.value (hr c).1 (hr c).2.1 (hr c).2.2.1 (hr c).2.2.2

theorem reference4_frame : Cert.quiescent_Reference4Ideal (hReference4Ideal := Cert.Reference4Ideal.Gen.facts) := fun m ρ _ =>
  (θ_run (Cert.Reference4Ideal.defs (F := Ideal)) _ _).mono (fun r h => ⟨fun c => (h c).2,
    Idealize.ShloMosaic.sem_eq_zero_of_no_sems (by decide) r.2⟩) (Cert.Reference4Ideal.Value.run (F := Ideal) m ρ)

theorem reference4_frame_finite : Cert.quiescent_Reference4Ideal_pre_finite4 (hReference4Ideal := Cert.Reference4Ideal.Gen.facts)
    (hPre_finite4 := Cert.Pre_finite4.Gen.facts) := fun m ρ _ =>
  (θ_run (Cert.Reference4Ideal.defs (F := Ideal)) _ _).mono (fun r h => ⟨fun c => (h c).2,
    Idealize.ShloMosaic.sem_eq_zero_of_no_sems (by decide) r.2⟩) (Cert.Reference4Ideal.Value.run (F := Ideal) m ρ)

theorem preserves4 : Cert.preserves_Kernel4_Kernel4Ideal :=
  IdealRules.named_const.statement Cert.Kernel4Ideal.κ "mask" .f32 0xF149F2CA#32 ⊥ rfl

/-! ## The output projection -/

theorem reference5_frame : Cert.quiescent_Reference5Ideal (hReference5Ideal := Cert.Reference5Ideal.Gen.facts) := fun m ρ _ =>
  (θ_run (Cert.Reference5Ideal.defs (F := Ideal)) _ _).mono (fun r h => ⟨fun c => (h c).2.2,
    Idealize.ShloMosaic.sem_eq_zero_of_no_sems (by decide) r.2⟩) (Cert.Reference5Ideal.Value.run (F := Ideal) m ρ)

theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Op.yRes (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)),
    fun c => Cert.Kernel5Ideal.Op.hRes (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)), ?_, ?_⟩
  · refine (θ_run (Cert.Kernel5Ideal.defs (F := Ideal)) _ _).mono (fun r h c => ?_) (Cert.Kernel5Ideal.Value.run_blocks m g)
    obtain ⟨h0, h1, -, -, -, -, -, -, -, hk⟩ := h c
    exact ⟨h0.trans (Cert.Kernel5Ideal.Op.sum_final m c), h1.trans (Cert.Kernel5Ideal.Op.rows_final m c), hk⟩
  · refine (θ_run (Cert.Reference5Ideal.defs (F := Ideal)) _ _).mono (fun r h c => ?_) (Cert.Reference5Ideal.Value.run m' g')
    obtain ⟨h0, h1, hk⟩ := h c
    obtain ⟨e0, e1, e2, e3, e4, e5, e6, e7, e8, e9⟩ := hargs c
    rw [Cert.Reference5Ideal.Read.val_main_v50_eq, e0, e1, e2, e3, e4, e5, e6] at h0
    rw [Cert.Reference5Ideal.Read.val_main_v72_eq, e0, e1, e2, e3, e4, e5, e6, e7] at h1
    exact ⟨h0.trans (Cert.Reference5Ideal.Op.v50_eq _ _ _ _ _ _ _), h1.trans (Cert.Reference5Ideal.Op.v72_eq _ _ _ _ _ _ _ _), hk⟩

theorem reference6_frame : Cert.quiescent_Reference6Ideal (hReference6Ideal := Cert.Reference6Ideal.Gen.facts) := fun m ρ _ =>
  (θ_run (Cert.Reference6Ideal.defs (F := Ideal)) _ _).mono (fun r h => ⟨fun c => (h c).2,
    Idealize.ShloMosaic.sem_eq_zero_of_no_sems (by decide) r.2⟩) (Cert.Reference6Ideal.Value.run (F := Ideal) m ρ)

theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Md.res (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · refine (θ_run (Cert.Kernel6Ideal.defs (F := Ideal)) _ _).mono (fun r h c => ?_) (Cert.Kernel6Ideal.Value.run_blocks m g)
    obtain ⟨h0, hk⟩ := h c
    exact ⟨h0.trans (Cert.Kernel6Ideal.Md.final3 m c), hk⟩
  · refine (θ_run (Cert.Reference6Ideal.defs (F := Ideal)) _ _).mono (fun r h c => ?_) (Cert.Reference6Ideal.Value.run m' g')
    obtain ⟨h0, hk⟩ := h c
    obtain ⟨e0, e1, e2⟩ := hargs c
    rw [Cert.Reference6Ideal.Read.val_main_v5_eq, e0, e1, e2] at h0
    exact ⟨h0.trans (Cert.Reference6Ideal.Md.v5_eq _ _ _), hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_grouped.Gen.facts, Cert.Pre_finite4.Gen.facts,
  fun m ρ _ => Cert.Kernel.Gen.frame m ρ,
  fun m ρ _ => Cert.KernelIdeal.Gen.frame m ρ,
  fun m ρ _ => Cert.KernelIdeal.Gen.frame m ρ,
  reference_frame, reference_frame_finite,
  frame2, frame2Ideal, reference2_frame, reference2_frame_grouped,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  fun m ρ _ => Cert.Kernel4Ideal.Gen.frame m ρ,
  reference4_frame, reference4_frame_finite,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  reference6_frame,
  trivial, algebraic, trivial, algebraic2, trivial, algebraic3, preserves4, algebraic4, trivial, algebraic5, trivial, algebraic6⟩

end Cert.Proof

end
